-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8_0) = v0 c
          ∧ r.2.mem ((c.tc : Thread Cert.ReferenceIdeal.nD Cert.ReferenceIdeal.τ).loc Cert.ReferenceIdeal.main_v8_1) = v1 c
          ∧ r.2.mem ((c.tc : Thread Cert.ReferenceIdeal.nD Cert.ReferenceIdeal.τ).loc Cert.ReferenceIdeal.main_v8_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S48x3136x256 : Shape := ⟨3, ![48, 3136, 256]⟩
abbrev S_ : Shape := ⟨0, ![]⟩
abbrev S256 : Shape := ⟨1, ![256]⟩
abbrev S1 : Shape := ⟨1, ![1]⟩
abbrev S1x256 : Shape := ⟨2, ![1, 256]⟩
abbrev S150528x256 : Shape := ⟨2, ![150528, 256]⟩
abbrev S55x1536x256 : Shape := ⟨3, ![55, 1536, 256]⟩
abbrev S98x1536x256 : Shape := ⟨3, ![98, 1536, 256]⟩
abbrev S8x1536x256 : Shape := ⟨3, ![8, 1536, 256]⟩
abbrev S3x1536x256 : Shape := ⟨3, ![3, 1536, 256]⟩
abbrev S16x128 : Shape := ⟨2, ![16, 128]⟩
abbrev S16x256 : Shape := ⟨2, ![16, 256]⟩
abbrev S8x256 : Shape := ⟨2, ![8, 256]⟩
abbrev S55 : Shape := ⟨1, ![55]⟩
abbrev S8 : Shape := ⟨1, ![8]⟩
abbrev S3 : Shape := ⟨1, ![3]⟩
abbrev S1x1536x256 : Shape := ⟨3, ![1, 1536, 256]⟩
abbrev S1536x256 : Shape := ⟨2, ![1536, 256]⟩
abbrev S1x768x256 : Shape := ⟨3, ![1, 768, 256]⟩
abbrev S768x256 : Shape := ⟨2, ![768, 256]⟩
abbrev S768x128 : Shape := ⟨2, ![768, 128]⟩
abbrev S1x768x128 : Shape := ⟨3, ![1, 768, 128]⟩
abbrev S48x16x128 : Shape := ⟨3, ![48, 16, 128]⟩
abbrev S1x16x128 : Shape := ⟨3, ![1, 16, 128]⟩

abbrev nBuf : Space → Nat
  | .hbm => 19
  | .vmem => 13
  | .smem => 2
  | _ => 0

abbrev bufTy : (tb : Table) → Fin (tcTables nBuf tb) → BufTy
  | .hbm, ⟨0, _⟩ => ⟨S48x3136x256, .fp8e4m3⟩
  | .hbm, ⟨1, _⟩ => ⟨S_, .f32⟩
  | .hbm, ⟨2, _⟩ => ⟨S48x3136x256, .fp8e5m2⟩
  | .hbm, ⟨3, _⟩ => ⟨S_, .f32⟩
  | .hbm, ⟨4, _⟩ => ⟨S48x3136x256, .i8⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S1, .f32⟩
  | .hbm, ⟨9, _⟩ => ⟨S1, .f32⟩
  | .hbm, ⟨10, _⟩ => ⟨S1x256, .f32⟩
  | .hbm, ⟨11, _⟩ => ⟨S1x256, .f32⟩
  | .hbm, ⟨12, _⟩ => ⟨S1x256, .f32⟩
  | .hbm, ⟨13, _⟩ => ⟨S150528x256, .fp8e4m3⟩
  | .hbm, ⟨14, _⟩ => ⟨S150528x256, .fp8e5m2⟩
  | .hbm, ⟨15, _⟩ => ⟨S150528x256, .i8⟩
  | .hbm, ⟨16, _⟩ => ⟨S150528x256, .bf16⟩
  | .hbm, ⟨17, _⟩ => ⟨S1x256, .f32⟩
  | .hbm, ⟨18, _⟩ => ⟨S1x256, .f32⟩
  | .local _ .vmem, ⟨0, _⟩ => ⟨S1x256, .f32⟩
  | .local _ .vmem, ⟨1, _⟩ => ⟨S1x256, .f32⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S55x1536x256, .fp8e4m3⟩
  | .local _ .vmem, ⟨6, _⟩ => ⟨S98x1536x256, .fp8e5m2⟩
  | .local _ .vmem, ⟨7, _⟩ => ⟨S8x1536x256, .i8⟩
  | .local _ .vmem, ⟨8, _⟩ => ⟨S3x1536x256, .bf16⟩
  | .local _ .vmem, ⟨9, _⟩ => ⟨S16x128, .bf16⟩
  | .local _ .vmem, ⟨10, _⟩ => ⟨S16x256, .f32⟩
  | .local _ .vmem, ⟨11, _⟩ => ⟨S16x256, .f32⟩
  | .local _ .vmem, ⟨12, _⟩ => ⟨S8x256, .f32⟩
  | .local _ .smem, ⟨0, _⟩ => ⟨S1, .f32⟩
  | .local _ .smem, ⟨1, _⟩ => ⟨S1, .f32⟩
  | _, _ => ⟨S48x3136x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 81 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | _ => false

abbrev sig : RefSig :=
  ofTc nBuf bufTy 0 81 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_scratch6 : Ref sig .tc := ⟨.vmem, 11, rfl⟩
abbrev cc0_scratch7 : Ref sig .tc := ⟨.vmem, 12, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

def k0_mult1 : BitVec 32 :=
  let c0_i32 : BitVec 32 := 0#32
  let c98_i32 : BitVec 32 := 98#32
  let v12 : BitVec 32 := Scalar.remsi c0_i32 c98_i32
  let c1536_i32 : BitVec 32 := 1536#32
  let v14 : BitVec 32 := Scalar.muli v12 c1536_i32
  v14
def k0_off1 (c0_i32_7 : BitVec 32) : Fin 1 → Nat :=
  let c55_i32 : BitVec 32 := 55#32
  let v13 : BitVec 32 := Scalar.remsi c0_i32_7 c55_i32
  ![v13.toNat]
def k0_off2 (c0_i32_7 : BitVec 32) : Fin 3 → Nat :=
  let c55_i32 : BitVec 32 := 55#32
  let v13 : BitVec 32 := Scalar.remsi c0_i32_7 c55_i32
  let c0_i32_8 : BitVec 32 := 0#32
  let c0_i32_9 : BitVec 32 := 0#32
  ![v13.toNat, 0, 0]
def k0_off3 (c0_i32 : BitVec 32) : Fin 2 → Nat :=
  let c98_i32 : BitVec 32 := 98#32
  let v12 : BitVec 32 := Scalar.remsi c0_i32 c98_i32
  let c1536_i32 : BitVec 32 := 1536#32
  let v14 : BitVec 32 := Scalar.muli v12 c1536_i32
  let v15 : BitVec 32 := v14
  let c0_i32_10 : BitVec 32 := 0#32
  ![v15.toNat, 0]
def k0_mult2 : BitVec 32 :=
  let c0_i32_11 : BitVec 32 := 0#32
  let c1536_i32_12 : BitVec 32 := 1536#32
  let v21 : BitVec 32 := Scalar.muli c0_i32_11 c1536_i32_12
  v21
def k0_off4 (c0_i32_13 : BitVec 32) : Fin 1 → Nat :=
  let c8_i32 : BitVec 32 := 8#32
  let v23 : BitVec 32 := Scalar.remsi c0_i32_13 c8_i32
  ![v23.toNat]
def k0_off5 (c0_i32_11 : BitVec 32) : Fin 2 → Nat :=
  let c1536_i32_12 : BitVec 32 := 1536#32
  let v21 : BitVec 32 := Scalar.muli c0_i32_11 c1536_i32_12
  let v22 : BitVec 32 := v21
  let c0_i32_17 : BitVec 32 := 0#32
  ![v22.toNat, 0]
def k0_mult3 : BitVec 32 :=
  let c0_i32_20 : BitVec 32 := 0#32
  let c1536_i32_21 : BitVec 32 := 1536#32
  let v30 : BitVec 32 := Scalar.muli c0_i32_20 c1536_i32_21
  v30
def k0_off6 (c0_i32_18 : BitVec 32) : Fin 3 → Nat :=
  let c8_i32_19 : BitVec 32 := 8#32
  let v29 : BitVec 32 := Scalar.remsi c0_i32_18 c8_i32_19
  let c0_i32_22 : BitVec 32 := 0#32
  let c0_i32_23 : BitVec 32 := 0#32
  ![v29.toNat, 0, 0]
def k0_mult4 : BitVec 32 :=
  let c1_i32 : BitVec 32 := 1#32
  let c98_i32_25 : BitVec 32 := 98#32
  let v37 : BitVec 32 := Scalar.remsi c1_i32 c98_i32_25
  let c1536_i32_28 : BitVec 32 := 1536#32
  let v39 : BitVec 32 := Scalar.muli v37 c1536_i32_28
  v39
def k0_mult5 : BitVec 32 :=
  let c1_i32_32 : BitVec 32 := 1#32
  let c1536_i32_33 : BitVec 32 := 1536#32
  let v46 : BitVec 32 := Scalar.muli c1_i32_32 c1536_i32_33
  v46
def k0_mult6 : BitVec 32 :=
  let c1_i32_42 : BitVec 32 := 1#32
  let c1536_i32_43 : BitVec 32 := 1536#32
  let v55 : BitVec 32 := Scalar.muli c1_i32_42 c1536_i32_43
  v55
def k0_mult7 : BitVec 32 :=
  let c2_i32 : BitVec 32 := 2#32
  let c98_i32_47 : BitVec 32 := 98#32
  let v62 : BitVec 32 := Scalar.remsi c2_i32 c98_i32_47
  let c1536_i32_50 : BitVec 32 := 1536#32
  let v64 : BitVec 32 := Scalar.muli v62 c1536_i32_50
  v64
def k0_mult8 : BitVec 32 :=
  let c2_i32_54 : BitVec 32 := 2#32
  let c1536_i32_55 : BitVec 32 := 1536#32
  let v71 : BitVec 32 := Scalar.muli c2_i32_54 c1536_i32_55
  v71
def k0_mult9 : BitVec 32 :=
  let c2_i32_64 : BitVec 32 := 2#32
  let c1536_i32_65 : BitVec 32 := 1536#32
  let v80 : BitVec 32 := Scalar.muli c2_i32_64 c1536_i32_65
  v80
def k0_mult10 : BitVec 32 :=
  let c3_i32 : BitVec 32 := 3#32
  let c98_i32_69 : BitVec 32 := 98#32
  let v87 : BitVec 32 := Scalar.remsi c3_i32 c98_i32_69
  let c1536_i32_72 : BitVec 32 := 1536#32
  let v89 : BitVec 32 := Scalar.muli v87 c1536_i32_72
  v89
def k0_mult11 : BitVec 32 :=
  let c3_i32_76 : BitVec 32 := 3#32
  let c1536_i32_77 : BitVec 32 := 1536#32
  let v96 : BitVec 32 := Scalar.muli c3_i32_76 c1536_i32_77
  v96
def k0_mult12 : BitVec 32 :=
  let c3_i32_86 : BitVec 32 := 3#32
  let c1536_i32_87 : BitVec 32 := 1536#32
  let v105 : BitVec 32 := Scalar.muli c3_i32_86 c1536_i32_87
  v105
def k0_mult13 : BitVec 32 :=
  let c4_i32 : BitVec 32 := 4#32
  let c98_i32_91 : BitVec 32 := 98#32
  let v112 : BitVec 32 := Scalar.remsi c4_i32 c98_i32_91
  let c1536_i32_94 : BitVec 32 := 1536#32
  let v114 : BitVec 32 := Scalar.muli v112 c1536_i32_94
  v114
def k0_mult14 : BitVec 32 :=
  let c4_i32_98 : BitVec 32 := 4#32
  let c1536_i32_99 : BitVec 32 := 1536#32
  let v121 : BitVec 32 := Scalar.muli c4_i32_98 c1536_i32_99
  v121
def k0_mult15 : BitVec 32 :=
  let c4_i32_108 : BitVec 32 := 4#32
  let c1536_i32_109 : BitVec 32 := 1536#32
  let v130 : BitVec 32 := Scalar.muli c4_i32_108 c1536_i32_109
  v130
def k0_mult16 : BitVec 32 :=
  let c5_i32 : BitVec 32 := 5#32
  let c98_i32_113 : BitVec 32 := 98#32
  let v137 : BitVec 32 := Scalar.remsi c5_i32 c98_i32_113
  let c1536_i32_116 : BitVec 32 := 1536#32
  let v139 : BitVec 32 := Scalar.muli v137 c1536_i32_116
  v139
def k0_mult17 : BitVec 32 :=
  let c5_i32_120 : BitVec 32 := 5#32
  let c1536_i32_121 : BitVec 32 := 1536#32
  let v146 : BitVec 32 := Scalar.muli c5_i32_120 c1536_i32_121
  v146
def k0_mult18 : BitVec 32 :=
  let c5_i32_130 : BitVec 32 := 5#32
  let c1536_i32_131 : BitVec 32 := 1536#32
  let v155 : BitVec 32 := Scalar.muli c5_i32_130 c1536_i32_131
  v155
def k0_mult19 : BitVec 32 :=
  let c6_i32 : BitVec 32 := 6#32
  let c98_i32_135 : BitVec 32 := 98#32
  let v162 : BitVec 32 := Scalar.remsi c6_i32 c98_i32_135
  let c1536_i32_138 : BitVec 32 := 1536#32
  let v164 : BitVec 32 := Scalar.muli v162 c1536_i32_138
  v164
def k0_mult20 : BitVec 32 :=
  let c6_i32_142 : BitVec 32 := 6#32
  let c1536_i32_143 : BitVec 32 := 1536#32
  let v171 : BitVec 32 := Scalar.muli c6_i32_142 c1536_i32_143
  v171
def k0_mult21 : BitVec 32 :=
  let c6_i32_152 : BitVec 32 := 6#32
  let c1536_i32_153 : BitVec 32 := 1536#32
  let v180 : BitVec 32 := Scalar.muli c6_i32_152 c1536_i32_153
  v180
@[reducible] def k0_t1_loop : Scf.Loop 32 :=
  let c0_i32_157 : BitVec 32 := 0#32
  let c98_i32_158 : BitVec 32 := 98#32
  let v187 : BitVec 32 := Scalar.addi c0_i32_157 c98_i32_158
  let c1_i32_159 : BitVec 32 := 1#32
  ⟨c0_i32_157, v187, c1_i32_159⟩
def k0_cond1 (k0_t1 : Fin k0_t1_loop.trips) : BitVec 1 :=
  let c0_i32_157 : BitVec 32 := 0#32
  let c1_i32_159 : BitVec 32 := 1#32
  let arg23 : BitVec 32 := Scf.iv c0_i32_157 c1_i32_159 k0_t1
  let c7_i32 : BitVec 32 := 7#32
  let v269 : BitVec 32 := Scalar.addi arg23 c7_i32
  let c98_i32_213 : BitVec 32 := 98#32
  let v270 : BitVec 1 := Scalar.cmpi .slt v269 c98_i32_213
  let v271 : BitVec 32 := Scalar.extui v270
  let c0_i32_214 : BitVec 32 := 0#32
  let v272 : BitVec 1 := Scalar.cmpi .ne v271 c0_i32_214
  v272

def k0_mult22 (k0_t1 : Fin k0_t1_loop.trips) : BitVec 32 :=
  let c0_i32_157 : BitVec 32 := 0#32
  let c1_i32_159 : BitVec 32 := 1#32
  let arg23 : BitVec 32 := Scf.iv c0_i32_157 c1_i32_159 k0_t1
  let c7_i32_237 : BitVec 32 := 7#32
  let v301 : BitVec 32 := Scalar.addi arg23 c7_i32_237
  let c98_i32_238 : BitVec 32 := 98#32
  let v302 : BitVec 32 := Scalar.remsi v301 c98_i32_238
  let c1536_i32_240 : BitVec 32 := 1536#32
  let v304 : BitVec 32 := Scalar.muli v302 c1536_i32_240
  v304
def k0_off7 (k0_t1 : Fin k0_t1_loop.trips) : Fin 1 → Nat :=
  let c0_i32_157 : BitVec 32 := 0#32
  let c1_i32_159 : BitVec 32 := 1#32
  let arg23 : BitVec 32 := Scf.iv c0_i32_157 c1_i32_159 k0_t1
  let c7_i32_237 : BitVec 32 := 7#32
  let v301 : BitVec 32 := Scalar.addi arg23 c7_i32_237
  let c55_i32_239 : BitVec 32 := 55#32
  let v303 : BitVec 32 := Scalar.remsi v301 c55_i32_239
  ![v303.toNat]
def k0_off8 (k0_t1 : Fin k0_t1_loop.trips) : Fin 3 → Nat :=
  let c0_i32_157 : BitVec 32 := 0#32
  let c1_i32_159 : BitVec 32 := 1#32
  let arg23 : BitVec 32 := Scf.iv c0_i32_157 c1_i32_159 k0_t1
  let c7_i32_237 : BitVec 32 := 7#32
  let v301 : BitVec 32 := Scalar.addi arg23 c7_i32_237
  let c55_i32_239 : BitVec 32 := 55#32
  let v303 : BitVec 32 := Scalar.remsi v301 c55_i32_239
  let c0_i32_241 : BitVec 32 := 0#32
  let c0_i32_242 : BitVec 32 := 0#32
  ![v303.toNat, 0, 0]
def k0_off9 (k0_t1 : Fin k0_t1_loop.trips) : Fin 2 → Nat :=
  let c0_i32_157 : BitVec 32 := 0#32
  let c1_i32_159 : BitVec 32 := 1#32
  let arg23 : BitVec 32 := Scf.iv c0_i32_157 c1_i32_159 k0_t1
  let c7_i32_237 : BitVec 32 := 7#32
  let v301 : BitVec 32 := Scalar.addi arg23 c7_i32_237
  let c98_i32_238 : BitVec 32 := 98#32
  let v302 : BitVec 32 := Scalar.remsi v301 c98_i32_238
  let c1536_i32_240 : BitVec 32 := 1536#32
  let v304 : BitVec 32 := Scalar.muli v302 c1536_i32_240
  let v305 : BitVec 32 := v304
  let c0_i32_243 : BitVec 32 := 0#32
  ![v305.toNat, 0]
def k0_mult23 (k0_t1 : Fin k0_t1_loop.trips) : BitVec 32 :=
  let c0_i32_157 : BitVec 32 := 0#32
  let c1_i32_159 : BitVec 32 := 1#32
  let arg23 : BitVec 32 := Scf.iv c0_i32_157 c1_i32_159 k0_t1
  let c7_i32_237 : BitVec 32 := 7#32
  let v301 : BitVec 32 := Scalar.addi arg23 c7_i32_237
  let c1536_i32_244 : BitVec 32 := 1536#32
  let v311 : BitVec 32 := Scalar.muli v301 c1536_i32_244
  v311
def k0_off10 (k0_t1 : Fin k0_t1_loop.trips) : Fin 1 → Nat :=
  let c0_i32_157 : BitVec 32 := 0#32
  let c1_i32_159 : BitVec 32 := 1#32
  let arg23 : BitVec 32 := Scf.iv c0_i32_157 c1_i32_159 k0_t1
  let c7_i32_237 : BitVec 32 := 7#32
  let v301 : BitVec 32 := Scalar.addi arg23 c7_i32_237
  let c8_i32_245 : BitVec 32 := 8#32
  let v313 : BitVec 32 := Scalar.remsi v301 c8_i32_245
  ![v313.toNat]
def k0_off11 (k0_t1 : Fin k0_t1_loop.trips) : Fin 3 → Nat :=
  let c0_i32_157 : BitVec 32 := 0#32
  let c1_i32_159 : BitVec 32 := 1#32
  let arg23 : BitVec 32 := Scf.iv c0_i32_157 c1_i32_159 k0_t1
  let c7_i32_237 : BitVec 32 := 7#32
  let v301 : BitVec 32 := Scalar.addi arg23 c7_i32_237
  let c0_i32_246 : BitVec 32 := 0#32
  let c0_i32_247 : BitVec 32 := 0#32
  ![v301.toNat, 0, 0]
def k0_off12 (k0_t1 : Fin k0_t1_loop.trips) : Fin 2 → Nat :=
  let c0_i32_157 : BitVec 32 := 0#32
  let c1_i32_159 : BitVec 32 := 1#32
  let arg23 : BitVec 32 := Scf.iv c0_i32_157 c1_i32_159 k0_t1
  let c7_i32_237 : BitVec 32 := 7#32
  let v301 : BitVec 32 := Scalar.addi arg23 c7_i32_237
  let c1536_i32_244 : BitVec 32 := 1536#32
  let v311 : BitVec 32 := Scalar.muli v301 c1536_i32_244
  let v312 : BitVec 32 := v311
  let c0_i32_248 : BitVec 32 := 0#32
  ![v312.toNat, 0]
def k0_mult24 (k0_t1 : Fin k0_t1_loop.trips) : BitVec 32 :=
  let c0_i32_157 : BitVec 32 := 0#32
  let c1_i32_159 : BitVec 32 := 1#32
  let arg23 : BitVec 32 := Scf.iv c0_i32_157 c1_i32_159 k0_t1
  let c7_i32_237 : BitVec 32 := 7#32
  let v301 : BitVec 32 := Scalar.addi arg23 c7_i32_237
  let c1536_i32_250 : BitVec 32 := 1536#32
  let v320 : BitVec 32 := Scalar.muli v301 c1536_i32_250
  v320
def k0_off13 (k0_t1 : Fin k0_t1_loop.trips) : Fin 3 → Nat :=
  let c0_i32_157 : BitVec 32 := 0#32
  let c1_i32_159 : BitVec 32 := 1#32
  let arg23 : BitVec 32 := Scf.iv c0_i32_157 c1_i32_159 k0_t1
  let c7_i32_237 : BitVec 32 := 7#32
  let v301 : BitVec 32 := Scalar.addi arg23 c7_i32_237
  let c8_i32_249 : BitVec 32 := 8#32
  let v319 : BitVec 32 := Scalar.remsi v301 c8_i32_249
  let c0_i32_251 : BitVec 32 := 0#32
  let c0_i32_252 : BitVec 32 := 0#32
  ![v319.toNat, 0, 0]
def k0_mult25 (k0_t1 : Fin k0_t1_loop.trips) : BitVec 32 :=
  let c0_i32_157 : BitVec 32 := 0#32
  let c1_i32_159 : BitVec 32 := 1#32
  let arg23 : BitVec 32 := Scf.iv c0_i32_157 c1_i32_159 k0_t1
  let c98_i32_215 : BitVec 32 := 98#32
  let v273 : BitVec 32 := Scalar.remsi arg23 c98_i32_215
  let c1536_i32_217 : BitVec 32 := 1536#32
  let v275 : BitVec 32 := Scalar.muli v273 c1536_i32_217
  v275
def k0_off14 (k0_t1 : Fin k0_t1_loop.trips) : Fin 1 → Nat :=
  let c0_i32_157 : BitVec 32 := 0#32
  let c1_i32_159 : BitVec 32 := 1#32
  let arg23 : BitVec 32 := Scf.iv c0_i32_157 c1_i32_159 k0_t1
  let c55_i32_216 : BitVec 32 := 55#32
  let v274 : BitVec 32 := Scalar.remsi arg23 c55_i32_216
  ![v274.toNat]
def k0_off15 (k0_t1 : Fin k0_t1_loop.trips) : Fin 3 → Nat :=
  let c0_i32_157 : BitVec 32 := 0#32
  let c1_i32_159 : BitVec 32 := 1#32
  let arg23 : BitVec 32 := Scf.iv c0_i32_157 c1_i32_159 k0_t1
  let c55_i32_216 : BitVec 32 := 55#32
  let v274 : BitVec 32 := Scalar.remsi arg23 c55_i32_216
  let c0_i32_218 : BitVec 32 := 0#32
  let c0_i32_219 : BitVec 32 := 0#32
  ![v274.toNat, 0, 0]
def k0_off16 (k0_t1 : Fin k0_t1_loop.trips) : Fin 2 → Nat :=
  let c0_i32_157 : BitVec 32 := 0#32
  let c1_i32_159 : BitVec 32 := 1#32
  let arg23 : BitVec 32 := Scf.iv c0_i32_157 c1_i32_159 k0_t1
  let c98_i32_215 : BitVec 32 := 98#32
  let v273 : BitVec 32 := Scalar.remsi arg23 c98_i32_215
  let c1536_i32_217 : BitVec 32 := 1536#32
  let v275 : BitVec 32 := Scalar.muli v273 c1536_i32_217
  let v276 : BitVec 32 := v275
  let c0_i32_220 : BitVec 32 := 0#32
  ![v276.toNat, 0]
def k0_mult26 (k0_t1 : Fin k0_t1_loop.trips) : BitVec 32 :=
  let c0_i32_157 : BitVec 32 := 0#32
  let c1_i32_159 : BitVec 32 := 1#32
  let arg23 : BitVec 32 := Scf.iv c0_i32_157 c1_i32_159 k0_t1
  let c1536_i32_221 : BitVec 32 := 1536#32
  let v282 : BitVec 32 := Scalar.muli arg23 c1536_i32_221
  v282
def k0_off17 (k0_t1 : Fin k0_t1_loop.trips) : Fin 1 → Nat :=
  let c0_i32_157 : BitVec 32 := 0#32
  let c1_i32_159 : BitVec 32 := 1#32
  let arg23 : BitVec 32 := Scf.iv c0_i32_157 c1_i32_159 k0_t1
  let c8_i32_222 : BitVec 32 := 8#32
  let v284 : BitVec 32 := Scalar.remsi arg23 c8_i32_222
  ![v284.toNat]
def k0_off18 (k0_t1 : Fin k0_t1_loop.trips) : Fin 3 → Nat :=
  let c0_i32_157 : BitVec 32 := 0#32
  let c1_i32_159 : BitVec 32 := 1#32
  let arg23 : BitVec 32 := Scf.iv c0_i32_157 c1_i32_159 k0_t1
  let c0_i32_223 : BitVec 32 := 0#32
  let c0_i32_224 : BitVec 32 := 0#32
  ![arg23.toNat, 0, 0]
def k0_off19 (k0_t1 : Fin k0_t1_loop.trips) : Fin 2 → Nat :=
  let c0_i32_157 : BitVec 32 := 0#32
  let c1_i32_159 : BitVec 32 := 1#32
  let arg23 : BitVec 32 := Scf.iv c0_i32_157 c1_i32_159 k0_t1
  let c1536_i32_221 : BitVec 32 := 1536#32
  let v282 : BitVec 32 := Scalar.muli arg23 c1536_i32_221
  let v283 : BitVec 32 := v282
  let c0_i32_225 : BitVec 32 := 0#32
  ![v283.toNat, 0]
def k0_mult27 (k0_t1 : Fin k0_t1_loop.trips) : BitVec 32 :=
  let c0_i32_157 : BitVec 32 := 0#32
  let c1_i32_159 : BitVec 32 := 1#32
  let arg23 : BitVec 32 := Scf.iv c0_i32_157 c1_i32_159 k0_t1
  let c1536_i32_227 : BitVec 32 := 1536#32
  let v291 : BitVec 32 := Scalar.muli arg23 c1536_i32_227
  v291
def k0_off20 (k0_t1 : Fin k0_t1_loop.trips) : Fin 3 → Nat :=
  let c0_i32_157 : BitVec 32 := 0#32
  let c1_i32_159 : BitVec 32 := 1#32
  let arg23 : BitVec 32 := Scf.iv c0_i32_157 c1_i32_159 k0_t1
  let c8_i32_226 : BitVec 32 := 8#32
  let v290 : BitVec 32 := Scalar.remsi arg23 c8_i32_226
  let c0_i32_228 : BitVec 32 := 0#32
  let c0_i32_229 : BitVec 32 := 0#32
  ![v290.toNat, 0, 0]
@[reducible] def k0_t2_loop : Scf.Loop 32 :=
  let c0_i32_233 : BitVec 32 := 0#32
  let c2_i32_234 : BitVec 32 := 2#32
  let v300 : BitVec 32 := Scalar.addi c0_i32_233 c2_i32_234
  let c1_i32_235 : BitVec 32 := 1#32
  ⟨c0_i32_233, v300, c1_i32_235⟩
def k0_mult28 (k0_t2 : Fin k0_t2_loop.trips) : BitVec 32 :=
  let c0_i32_233 : BitVec 32 := 0#32
  let c1_i32_235 : BitVec 32 := 1#32
  let arg24 : BitVec 32 := Scf.iv c0_i32_233 c1_i32_235 k0_t2
  let c768_i32 : BitVec 32 := 768#32
  let v301 : BitVec 32 := Scalar.muli arg24 c768_i32
  v301
def k0_off21 (k0_t1 : Fin k0_t1_loop.trips) (k0_t2 : Fin k0_t2_loop.trips) : Fin 3 → Nat :=
  let c0_i32_157 : BitVec 32 := 0#32
  let c1_i32_159 : BitVec 32 := 1#32
  let arg23 : BitVec 32 := Scf.iv c0_i32_157 c1_i32_159 k0_t1
  let c0_i32_233 : BitVec 32 := 0#32
  let c1_i32_235 : BitVec 32 := 1#32
  let arg24 : BitVec 32 := Scf.iv c0_i32_233 c1_i32_235 k0_t2
  let c768_i32 : BitVec 32 := 768#32
  let v301 : BitVec 32 := Scalar.muli arg24 c768_i32
  let v302 : BitVec 32 := v301
  let c0_i32_239 : BitVec 32 := 0#32
  ![arg23.toNat, v302.toNat, 0]
def k0_off22 (k0_t1 : Fin k0_t1_loop.trips) (k0_t2 : Fin k0_t2_loop.trips) : Fin 3 → Nat :=
  let c0_i32_157 : BitVec 32 := 0#32
  let c1_i32_159 : BitVec 32 := 1#32
  let arg23 : BitVec 32 := Scf.iv c0_i32_157 c1_i32_159 k0_t1
  let c8_i32_232 : BitVec 32 := 8#32
  let v299 : BitVec 32 := Scalar.remsi arg23 c8_i32_232
  let c0_i32_233 : BitVec 32 := 0#32
  let c1_i32_235 : BitVec 32 := 1#32
  let arg24 : BitVec 32 := Scf.iv c0_i32_233 c1_i32_235 k0_t2
  let c768_i32 : BitVec 32 := 768#32
  let v301 : BitVec 32 := Scalar.muli arg24 c768_i32
  let v302 : BitVec 32 := v301
  let c0_i32_242 : BitVec 32 := 0#32
  ![v299.toNat, v302.toNat, 0]
def k0_off23 (k0_t1 : Fin k0_t1_loop.trips) (k0_t2 : Fin k0_t2_loop.trips) : Fin 3 → Nat :=
  let c0_i32_157 : BitVec 32 := 0#32
  let c1_i32_159 : BitVec 32 := 1#32
  let arg23 : BitVec 32 := Scf.iv c0_i32_157 c1_i32_159 k0_t1
  let c0_i32_233 : BitVec 32 := 0#32
  let c1_i32_235 : BitVec 32 := 1#32
  let arg24 : BitVec 32 := Scf.iv c0_i32_233 c1_i32_235 k0_t2
  let c768_i32 : BitVec 32 := 768#32
  let v301 : BitVec 32 := Scalar.muli arg24 c768_i32
  let v302 : BitVec 32 := v301
  let c0_i32_246 : BitVec 32 := 0#32
  ![arg23.toNat, v302.toNat, 0]
def k0_off24 (k0_t1 : Fin k0_t1_loop.trips) (k0_t2 : Fin k0_t2_loop.trips) : Fin 3 → Nat :=
  let c0_i32_157 : BitVec 32 := 0#32
  let c1_i32_159 : BitVec 32 := 1#32
  let arg23 : BitVec 32 := Scf.iv c0_i32_157 c1_i32_159 k0_t1
  let c55_i32_231 : BitVec 32 := 55#32
  let v298 : BitVec 32 := Scalar.remsi arg23 c55_i32_231
  let c0_i32_233 : BitVec 32 := 0#32
  let c1_i32_235 : BitVec 32 := 1#32
  let arg24 : BitVec 32 := Scf.iv c0_i32_233 c1_i32_235 k0_t2
  let c768_i32 : BitVec 32 := 768#32
  let v301 : BitVec 32 := Scalar.muli arg24 c768_i32
  let v302 : BitVec 32 := v301
  let c0_i32_249 : BitVec 32 := 0#32
  ![v298.toNat, v302.toNat, 0]
def k0_off25 (k0_t1 : Fin k0_t1_loop.trips) (k0_t2 : Fin k0_t2_loop.trips) : Fin 3 → Nat :=
  let c0_i32_157 : BitVec 32 := 0#32
  let c1_i32_159 : BitVec 32 := 1#32
  let arg23 : BitVec 32 := Scf.iv c0_i32_157 c1_i32_159 k0_t1
  let c0_i32_233 : BitVec 32 := 0#32
  let c1_i32_235 : BitVec 32 := 1#32
  let arg24 : BitVec 32 := Scf.iv c0_i32_233 c1_i32_235 k0_t2
  let c768_i32 : BitVec 32 := 768#32
  let v301 : BitVec 32 := Scalar.muli arg24 c768_i32
  let v302 : BitVec 32 := v301
  ![arg23.toNat, v302.toNat, 128]
@[reducible] def k0_t3_loop : Scf.Loop 32 :=
  let c0_i32_186 : BitVec 32 := 0#32
  let c98_i32_187 : BitVec 32 := 98#32
  let v238 : BitVec 32 := Scalar.addi c0_i32_186 c98_i32_187
  let c1_i32_188 : BitVec 32 := 1#32
  ⟨c0_i32_186, v238, c1_i32_188⟩
def k0_cond2 (k0_t3 : Fin k0_t3_loop.trips) : BitVec 1 :=
  let c0_i32_186 : BitVec 32 := 0#32
  let c1_i32_188 : BitVec 32 := 1#32
  let arg23 : BitVec 32 := Scf.iv c0_i32_186 c1_i32_188 k0_t3
  let c0_i32_218 : BitVec 32 := 0#32
  let v274 : BitVec 1 := Scalar.cmpi .sgt arg23 c0_i32_218
  let c43_i32_219 : BitVec 32 := 43#32
  let v275 : BitVec 1 := Scalar.cmpi .sle arg23 c43_i32_219
  let v276 : BitVec 1 := Scalar.andi v274 v275
  let v277 : BitVec 32 := Scalar.extui v276
  let c0_i32_220 : BitVec 32 := 0#32
  let v278 : BitVec 1 := Scalar.cmpi .ne v277 c0_i32_220
  v278

def k0_mult29 (k0_t3 : Fin k0_t3_loop.trips) : BitVec 32 :=
  let c98_i32_236 : BitVec 32 := 98#32
  let c0_i32_186 : BitVec 32 := 0#32
  let c1_i32_188 : BitVec 32 := 1#32
  let arg23 : BitVec 32 := Scf.iv c0_i32_186 c1_i32_188 k0_t3
  let v296 : BitVec 32 := Scalar.addi c98_i32_236 arg23
  let c1_i32_237 : BitVec 32 := 1#32
  let v297 : BitVec 32 := Scalar.subi v296 c1_i32_237
  let c98_i32_238 : BitVec 32 := 98#32
  let v298 : BitVec 32 := Scalar.remsi v297 c98_i32_238
  let c1536_i32_240 : BitVec 32 := 1536#32
  let v300 : BitVec 32 := Scalar.muli v298 c1536_i32_240
  v300
def k0_off26 (k0_t3 : Fin k0_t3_loop.trips) : Fin 1 → Nat :=
  let c98_i32_236 : BitVec 32 := 98#32
  let c0_i32_186 : BitVec 32 := 0#32
  let c1_i32_188 : BitVec 32 := 1#32
  let arg23 : BitVec 32 := Scf.iv c0_i32_186 c1_i32_188 k0_t3
  let v296 : BitVec 32 := Scalar.addi c98_i32_236 arg23
  let c1_i32_237 : BitVec 32 := 1#32
  let v297 : BitVec 32 := Scalar.subi v296 c1_i32_237
  let c55_i32_239 : BitVec 32 := 55#32
  let v299 : BitVec 32 := Scalar.remsi v297 c55_i32_239
  ![v299.toNat]
def k0_off27 (k0_t3 : Fin k0_t3_loop.trips) : Fin 3 → Nat :=
  let c98_i32_236 : BitVec 32 := 98#32
  let c0_i32_186 : BitVec 32 := 0#32
  let c1_i32_188 : BitVec 32 := 1#32
  let arg23 : BitVec 32 := Scf.iv c0_i32_186 c1_i32_188 k0_t3
  let v296 : BitVec 32 := Scalar.addi c98_i32_236 arg23
  let c1_i32_237 : BitVec 32 := 1#32
  let v297 : BitVec 32 := Scalar.subi v296 c1_i32_237
  let c55_i32_239 : BitVec 32 := 55#32
  let v299 : BitVec 32 := Scalar.remsi v297 c55_i32_239
  let c0_i32_241 : BitVec 32 := 0#32
  let c0_i32_242 : BitVec 32 := 0#32
  ![v299.toNat, 0, 0]
def k0_off28 (k0_t3 : Fin k0_t3_loop.trips) : Fin 2 → Nat :=
  let c98_i32_236 : BitVec 32 := 98#32
  let c0_i32_186 : BitVec 32 := 0#32
  let c1_i32_188 : BitVec 32 := 1#32
  let arg23 : BitVec 32 := Scf.iv c0_i32_186 c1_i32_188 k0_t3
  let v296 : BitVec 32 := Scalar.addi c98_i32_236 arg23
  let c1_i32_237 : BitVec 32 := 1#32
  let v297 : BitVec 32 := Scalar.subi v296 c1_i32_237
  let c98_i32_238 : BitVec 32 := 98#32
  let v298 : BitVec 32 := Scalar.remsi v297 c98_i32_238
  let c1536_i32_240 : BitVec 32 := 1536#32
  let v300 : BitVec 32 := Scalar.muli v298 c1536_i32_240
  let v301 : BitVec 32 := v300
  let c0_i32_243 : BitVec 32 := 0#32
  ![v301.toNat, 0]
def k0_cond3 (k0_t3 : Fin k0_t3_loop.trips) : BitVec 1 :=
  let c0_i32_186 : BitVec 32 := 0#32
  let c1_i32_188 : BitVec 32 := 1#32
  let arg23 : BitVec 32 := Scf.iv c0_i32_186 c1_i32_188 k0_t3
  let c3_i32_221 : BitVec 32 := 3#32
  let v279 : BitVec 1 := Scalar.cmpi .sge arg23 c3_i32_221
  let v280 : BitVec 32 := Scalar.extui v279
  let c0_i32_222 : BitVec 32 := 0#32
  let v281 : BitVec 1 := Scalar.cmpi .ne v280 c0_i32_222
  v281

def k0_mult30 (k0_t3 : Fin k0_t3_loop.trips) : BitVec 32 :=
  let c43_i32_238 : BitVec 32 := 43#32
  let c0_i32_186 : BitVec 32 := 0#32
  let c1_i32_188 : BitVec 32 := 1#32
  let arg23 : BitVec 32 := Scf.iv c0_i32_186 c1_i32_188 k0_t3
  let c3_i32_236 : BitVec 32 := 3#32
  let v296 : BitVec 32 := Scalar.subi arg23 c3_i32_236
  let v298 : BitVec 32 := Scalar.addi c43_i32_238 v296
  let c98_i32_239 : BitVec 32 := 98#32
  let v299 : BitVec 32 := Scalar.remsi v298 c98_i32_239
  let c1536_i32_240 : BitVec 32 := 1536#32
  let v300 : BitVec 32 := Scalar.muli v299 c1536_i32_240
  v300
def k0_off29 (k0_t3 : Fin k0_t3_loop.trips) : Fin 1 → Nat :=
  let c0_i32_186 : BitVec 32 := 0#32
  let c1_i32_188 : BitVec 32 := 1#32
  let arg23 : BitVec 32 := Scf.iv c0_i32_186 c1_i32_188 k0_t3
  let c3_i32_236 : BitVec 32 := 3#32
  let v296 : BitVec 32 := Scalar.subi arg23 c3_i32_236
  let c3_i32_237 : BitVec 32 := 3#32
  let v297 : BitVec 32 := Scalar.remsi v296 c3_i32_237
  ![v297.toNat]
def k0_off30 (k0_t3 : Fin k0_t3_loop.trips) : Fin 2 → Nat :=
  let c43_i32_238 : BitVec 32 := 43#32
  let c0_i32_186 : BitVec 32 := 0#32
  let c1_i32_188 : BitVec 32 := 1#32
  let arg23 : BitVec 32 := Scf.iv c0_i32_186 c1_i32_188 k0_t3
  let c3_i32_236 : BitVec 32 := 3#32
  let v296 : BitVec 32 := Scalar.subi arg23 c3_i32_236
  let v298 : BitVec 32 := Scalar.addi c43_i32_238 v296
  let c98_i32_239 : BitVec 32 := 98#32
  let v299 : BitVec 32 := Scalar.remsi v298 c98_i32_239
  let c1536_i32_240 : BitVec 32 := 1536#32
  let v300 : BitVec 32 := Scalar.muli v299 c1536_i32_240
  let v301 : BitVec 32 := v300
  let c0_i32_241 : BitVec 32 := 0#32
  ![v301.toNat, 0]
def k0_off31 (k0_t3 : Fin k0_t3_loop.trips) : Fin 3 → Nat :=
  let c0_i32_186 : BitVec 32 := 0#32
  let c1_i32_188 : BitVec 32 := 1#32
  let arg23 : BitVec 32 := Scf.iv c0_i32_186 c1_i32_188 k0_t3
  let c3_i32_236 : BitVec 32 := 3#32
  let v296 : BitVec 32 := Scalar.subi arg23 c3_i32_236
  let c3_i32_237 : BitVec 32 := 3#32
  let v297 : BitVec 32 := Scalar.remsi v296 c3_i32_237
  let c0_i32_242 : BitVec 32 := 0#32
  let c0_i32_243 : BitVec 32 := 0#32
  ![v297.toNat, 0, 0]
def k0_cond4 (k0_t3 : Fin k0_t3_loop.trips) : BitVec 1 :=
  let c0_i32_186 : BitVec 32 := 0#32
  let c1_i32_188 : BitVec 32 := 1#32
  let arg23 : BitVec 32 := Scf.iv c0_i32_186 c1_i32_188 k0_t3
  let c55_i32_223 : BitVec 32 := 55#32
  let v282 : BitVec 1 := Scalar.cmpi .sge arg23 c55_i32_223
  let v283 : BitVec 32 := Scalar.extui v282
  let c0_i32_224 : BitVec 32 := 0#32
  let v284 : BitVec 1 := Scalar.cmpi .ne v283 c0_i32_224
  v284

def k0_mult31 (k0_t3 : Fin k0_t3_loop.trips) : BitVec 32 :=
  let c43_i32_215 : BitVec 32 := 43#32
  let c0_i32_186 : BitVec 32 := 0#32
  let c1_i32_188 : BitVec 32 := 1#32
  let arg23 : BitVec 32 := Scf.iv c0_i32_186 c1_i32_188 k0_t3
  let v271 : BitVec 32 := Scalar.addi c43_i32_215 arg23
  let c98_i32_236 : BitVec 32 := 98#32
  let v296 : BitVec 32 := Scalar.remsi v271 c98_i32_236
  let c1536_i32_238 : BitVec 32 := 1536#32
  let v298 : BitVec 32 := Scalar.muli v296 c1536_i32_238
  v298
def k0_off32 (k0_t3 : Fin k0_t3_loop.trips) : Fin 1 → Nat :=
  let c43_i32_215 : BitVec 32 := 43#32
  let c0_i32_186 : BitVec 32 := 0#32
  let c1_i32_188 : BitVec 32 := 1#32
  let arg23 : BitVec 32 := Scf.iv c0_i32_186 c1_i32_188 k0_t3
  let v271 : BitVec 32 := Scalar.addi c43_i32_215 arg23
  let c55_i32_237 : BitVec 32 := 55#32
  let v297 : BitVec 32 := Scalar.remsi v271 c55_i32_237
  ![v297.toNat]
def k0_off33 (k0_t3 : Fin k0_t3_loop.trips) : Fin 3 → Nat :=
  let c43_i32_215 : BitVec 32 := 43#32
  let c0_i32_186 : BitVec 32 := 0#32
  let c1_i32_188 : BitVec 32 := 1#32
  let arg23 : BitVec 32 := Scf.iv c0_i32_186 c1_i32_188 k0_t3
  let v271 : BitVec 32 := Scalar.addi c43_i32_215 arg23
  let c55_i32_237 : BitVec 32 := 55#32
  let v297 : BitVec 32 := Scalar.remsi v271 c55_i32_237
  let c0_i32_239 : BitVec 32 := 0#32
  let c0_i32_240 : BitVec 32 := 0#32
  ![v297.toNat, 0, 0]
def k0_off34 (k0_t3 : Fin k0_t3_loop.trips) : Fin 2 → Nat :=
  let c43_i32_215 : BitVec 32 := 43#32
  let c0_i32_186 : BitVec 32 := 0#32
  let c1_i32_188 : BitVec 32 := 1#32
  let arg23 : BitVec 32 := Scf.iv c0_i32_186 c1_i32_188 k0_t3
  let v271 : BitVec 32 := Scalar.addi c43_i32_215 arg23
  let c98_i32_236 : BitVec 32 := 98#32
  let v296 : BitVec 32 := Scalar.remsi v271 c98_i32_236
  let c1536_i32_238 : BitVec 32 := 1536#32
  let v298 : BitVec 32 := Scalar.muli v296 c1536_i32_238
  let v299 : BitVec 32 := v298
  let c0_i32_241 : BitVec 32 := 0#32
  ![v299.toNat, 0]
@[reducible] def k0_t4_loop : Scf.Loop 32 :=
  let c0_i32_225 : BitVec 32 := 0#32
  let c2_i32_226 : BitVec 32 := 2#32
  let v285 : BitVec 32 := Scalar.addi c0_i32_225 c2_i32_226
  let c1_i32_227 : BitVec 32 := 1#32
  ⟨c0_i32_225, v285, c1_i32_227⟩
def k0_mult32 (k0_t4 : Fin k0_t4_loop.trips) : BitVec 32 :=
  let c0_i32_225 : BitVec 32 := 0#32
  let c1_i32_227 : BitVec 32 := 1#32
  let arg24 : BitVec 32 := Scf.iv c0_i32_225 c1_i32_227 k0_t4
  let c768_i32 : BitVec 32 := 768#32
  let v296 : BitVec 32 := Scalar.muli arg24 c768_i32
  v296
def k0_off35 (k0_t3 : Fin k0_t3_loop.trips) (k0_t4 : Fin k0_t4_loop.trips) : Fin 3 → Nat :=
  let c43_i32_215 : BitVec 32 := 43#32
  let c0_i32_186 : BitVec 32 := 0#32
  let c1_i32_188 : BitVec 32 := 1#32
  let arg23 : BitVec 32 := Scf.iv c0_i32_186 c1_i32_188 k0_t3
  let v271 : BitVec 32 := Scalar.addi c43_i32_215 arg23
  let c55_i32_216 : BitVec 32 := 55#32
  let v272 : BitVec 32 := Scalar.remsi v271 c55_i32_216
  let v301 : Index := Scalar.indexCast v272
  let c0_i32_225 : BitVec 32 := 0#32
  let c1_i32_227 : BitVec 32 := 1#32
  let arg24 : BitVec 32 := Scf.iv c0_i32_225 c1_i32_227 k0_t4
  let c768_i32 : BitVec 32 := 768#32
  let v296 : BitVec 32 := Scalar.muli arg24 c768_i32
  let v297 : BitVec 32 := v296
  let v302 : Index := Scalar.indexCast v297
  let c0_242 : Index := 0#32
  ![v301.toNat, v302.toNat, 0]
def k0_off36 (k0_t3 : Fin k0_t3_loop.trips) (k0_t4 : Fin k0_t4_loop.trips) : Fin 3 → Nat :=
  let c43_i32_213 : BitVec 32 := 43#32
  let c0_i32_186 : BitVec 32 := 0#32
  let c1_i32_188 : BitVec 32 := 1#32
  let arg23 : BitVec 32 := Scf.iv c0_i32_186 c1_i32_188 k0_t3
  let v269 : BitVec 32 := Scalar.addi c43_i32_213 arg23
  let c98_i32_214 : BitVec 32 := 98#32
  let v270 : BitVec 32 := Scalar.remsi v269 c98_i32_214
  let v306 : Index := Scalar.indexCast v270
  let c0_i32_225 : BitVec 32 := 0#32
  let c1_i32_227 : BitVec 32 := 1#32
  let arg24 : BitVec 32 := Scf.iv c0_i32_225 c1_i32_227 k0_t4
  let c768_i32 : BitVec 32 := 768#32
  let v296 : BitVec 32 := Scalar.muli arg24 c768_i32
  let v297 : BitVec 32 := v296
  let v307 : Index := Scalar.indexCast v297
  let c0_243 : Index := 0#32
  ![v306.toNat, v307.toNat, 0]
def k0_off37 (k0_t3 : Fin k0_t3_loop.trips) (k0_t4 : Fin k0_t4_loop.trips) : Fin 3 → Nat :=
  let c0_i32_186 : BitVec 32 := 0#32
  let c1_i32_188 : BitVec 32 := 1#32
  let arg23 : BitVec 32 := Scf.iv c0_i32_186 c1_i32_188 k0_t3
  let c3_i32_217 : BitVec 32 := 3#32
  let v273 : BitVec 32 := Scalar.remsi arg23 c3_i32_217
  let v319 : Index := Scalar.indexCast v273
  let c0_i32_225 : BitVec 32 := 0#32
  let c1_i32_227 : BitVec 32 := 1#32
  let arg24 : BitVec 32 := Scf.iv c0_i32_225 c1_i32_227 k0_t4
  let c768_i32 : BitVec 32 := 768#32
  let v296 : BitVec 32 := Scalar.muli arg24 c768_i32
  let v297 : BitVec 32 := v296
  let v320 : Index := Scalar.indexCast v297
  let c0_244 : Index := 0#32
  ![v319.toNat, v320.toNat, 0]
def k0_mult33 (k0_t3 : Fin k0_t3_loop.trips) : BitVec 32 :=
  let c43_i32_230 : BitVec 32 := 43#32
  let c0_i32_186 : BitVec 32 := 0#32
  let c1_i32_188 : BitVec 32 := 1#32
  let arg23 : BitVec 32 := Scf.iv c0_i32_186 c1_i32_188 k0_t3
  let v287 : BitVec 32 := Scalar.addi c43_i32_230 arg23
  let c98_i32_231 : BitVec 32 := 98#32
  let v288 : BitVec 32 := Scalar.remsi v287 c98_i32_231
  let c1536_i32_232 : BitVec 32 := 1536#32
  let v289 : BitVec 32 := Scalar.muli v288 c1536_i32_232
  v289
def k0_off38 (k0_t3 : Fin k0_t3_loop.trips) : Fin 1 → Nat :=
  let c0_i32_186 : BitVec 32 := 0#32
  let c1_i32_188 : BitVec 32 := 1#32
  let arg23 : BitVec 32 := Scf.iv c0_i32_186 c1_i32_188 k0_t3
  let c3_i32_229 : BitVec 32 := 3#32
  let v286 : BitVec 32 := Scalar.remsi arg23 c3_i32_229
  ![v286.toNat]
def k0_off39 (k0_t3 : Fin k0_t3_loop.trips) : Fin 2 → Nat :=
  let c43_i32_230 : BitVec 32 := 43#32
  let c0_i32_186 : BitVec 32 := 0#32
  let c1_i32_188 : BitVec 32 := 1#32
  let arg23 : BitVec 32 := Scf.iv c0_i32_186 c1_i32_188 k0_t3
  let v287 : BitVec 32 := Scalar.addi c43_i32_230 arg23
  let c98_i32_231 : BitVec 32 := 98#32
  let v288 : BitVec 32 := Scalar.remsi v287 c98_i32_231
  let c1536_i32_232 : BitVec 32 := 1536#32
  let v289 : BitVec 32 := Scalar.muli v288 c1536_i32_232
  let v290 : BitVec 32 := v289
  let c0_i32_233 : BitVec 32 := 0#32
  ![v290.toNat, 0]
def k0_off40 (k0_t3 : Fin k0_t3_loop.trips) : Fin 3 → Nat :=
  let c0_i32_186 : BitVec 32 := 0#32
  let c1_i32_188 : BitVec 32 := 1#32
  let arg23 : BitVec 32 := Scf.iv c0_i32_186 c1_i32_188 k0_t3
  let c3_i32_229 : BitVec 32 := 3#32
  let v286 : BitVec 32 := Scalar.remsi arg23 c3_i32_229
  let c0_i32_234 : BitVec 32 := 0#32
  let c0_i32_235 : BitVec 32 := 0#32
  ![v286.toNat, 0, 0]
def k0_mult34 : BitVec 32 :=
  let c43_i32 : BitVec 32 := 43#32
  let c95_i32_191 : BitVec 32 := 95#32
  let v240 : BitVec 32 := Scalar.addi c43_i32 c95_i32_191
  let c98_i32_192 : BitVec 32 := 98#32
  let v241 : BitVec 32 := Scalar.remsi v240 c98_i32_192
  let c1536_i32_193 : BitVec 32 := 1536#32
  let v242 : BitVec 32 := Scalar.muli v241 c1536_i32_193
  v242
def k0_off41 (c95_i32 : BitVec 32) : Fin 1 → Nat :=
  let c3_i32_190 : BitVec 32 := 3#32
  let v239 : BitVec 32 := Scalar.remsi c95_i32 c3_i32_190
  ![v239.toNat]
def k0_off42 (c95_i32_191 : BitVec 32) : Fin 2 → Nat :=
  let c43_i32 : BitVec 32 := 43#32
  let v240 : BitVec 32 := Scalar.addi c43_i32 c95_i32_191
  let c98_i32_192 : BitVec 32 := 98#32
  let v241 : BitVec 32 := Scalar.remsi v240 c98_i32_192
  let c1536_i32_193 : BitVec 32 := 1536#32
  let v242 : BitVec 32 := Scalar.muli v241 c1536_i32_193
  let v243 : BitVec 32 := v242
  let c0_i32_194 : BitVec 32 := 0#32
  ![v243.toNat, 0]
def k0_off43 (c95_i32 : BitVec 32) : Fin 3 → Nat :=
  let c3_i32_190 : BitVec 32 := 3#32
  let v239 : BitVec 32 := Scalar.remsi c95_i32 c3_i32_190
  let c0_i32_195 : BitVec 32 := 0#32
  let c0_i32_196 : BitVec 32 := 0#32
  ![v239.toNat, 0, 0]
def k0_mult35 : BitVec 32 :=
  let c43_i32_198 : BitVec 32 := 43#32
  let c96_i32_199 : BitVec 32 := 96#32
  let v250 : BitVec 32 := Scalar.addi c43_i32_198 c96_i32_199
  let c98_i32_200 : BitVec 32 := 98#32
  let v251 : BitVec 32 := Scalar.remsi v250 c98_i32_200
  let c1536_i32_201 : BitVec 32 := 1536#32
  let v252 : BitVec 32 := Scalar.muli v251 c1536_i32_201
  v252
def k0_mult36 : BitVec 32 :=
  let c43_i32_206 : BitVec 32 := 43#32
  let c97_i32_207 : BitVec 32 := 97#32
  let v260 : BitVec 32 := Scalar.addi c43_i32_206 c97_i32_207
  let c98_i32_208 : BitVec 32 := 98#32
  let v261 : BitVec 32 := Scalar.remsi v260 c98_i32_208
  let c1536_i32_209 : BitVec 32 := 1536#32
  let v262 : BitVec 32 := Scalar.muli v261 c1536_i32_209
  v262
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceIdeal.lean ====
abbrev S48x3136x256 : Shape := ⟨3, ![48, 3136, 256]⟩
abbrev S_ : Shape := ⟨0, ![]⟩
abbrev S256 : Shape := ⟨1, ![256]⟩
abbrev S150528x256 : Shape := ⟨2, ![150528, 256]⟩
abbrev S1 : Shape := ⟨1, ![1]⟩
abbrev S1x256 : Shape := ⟨2, ![1, 256]⟩

abbrev nBuf : Space → Nat
  | .hbm => 19
  | .vmem => 9
  | .smem => 2
  | _ => 0

abbrev bufTy : (tb : Table) → Fin (tcTables nBuf tb) → BufTy
  | .hbm, ⟨0, _⟩ => ⟨S48x3136x256, .fp8e4m3⟩
  | .hbm, ⟨1, _⟩ => ⟨S_, .f32⟩
  | .hbm, ⟨2, _⟩ => ⟨S48x3136x256, .fp8e5m2⟩
  | .hbm, ⟨3, _⟩ => ⟨S_, .f32⟩
  | .hbm, ⟨4, _⟩ => ⟨S48x3136x256, .i8⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S150528x256, .fp8e4m3⟩
  | .hbm, ⟨9, _⟩ => ⟨S1, .f32⟩
  | .hbm, ⟨10, _⟩ => ⟨S150528x256, .fp8e5m2⟩
  | .hbm, ⟨11, _⟩ => ⟨S1, .f32⟩
  | .hbm, ⟨12, _⟩ => ⟨S150528x256, .i8⟩
  | .hbm, ⟨13, _⟩ => ⟨S1x256, .f32⟩
  | .hbm, ⟨14, _⟩ => ⟨S1x256, .f32⟩
  | .hbm, ⟨15, _⟩ => ⟨S1x256, .f32⟩
  | .hbm, ⟨16, _⟩ => ⟨S150528x256, .bf16⟩
  | .hbm, ⟨17, _⟩ => ⟨S1x256, .f32⟩
  | .hbm, ⟨18, _⟩ => ⟨S1x256, .f32⟩
  | .local _ .vmem, ⟨0, _⟩ => ⟨S150528x256, .fp8e4m3⟩
  | .local _ .vmem, ⟨1, _⟩ => ⟨S150528x256, .fp8e5m2⟩
  | .local _ .vmem, ⟨2, _⟩ => ⟨S150528x256, .i8⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S150528x256, .bf16⟩
  | .local _ .vmem, ⟨7, _⟩ => ⟨S1x256, .f32⟩
  | .local _ .vmem, ⟨8, _⟩ => ⟨S1x256, .f32⟩
  | .local _ .smem, ⟨0, _⟩ => ⟨S1, .f32⟩
  | .local _ .smem, ⟨1, _⟩ => ⟨S1, .f32⟩
  | _, _ => ⟨S48x3136x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev cc0_stg0_0 : Ref sig .tc := ⟨.vmem, 0, rfl⟩
abbrev cc0_stg2_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg7_0 : Ref sig .tc := ⟨.vmem, 5, rfl⟩
abbrev cc0_stg8_0 : Ref sig .tc := ⟨.vmem, 6, rfl⟩
abbrev cc0_stg9_0 : Ref sig .tc := ⟨.vmem, 7, rfl⟩
abbrev cc0_stg10_0 : Ref sig .tc := ⟨.vmem, 8, rfl⟩
abbrev cc0_stg1_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S150528x256 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S150528x256 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S150528x256 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S150528x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Ring.lean ====
/-
  Plain arithmetic of the two schedules, and of the blocks every transfer moves.

  A ring of `N` slots carries the transfers numbered 0, 1, 2, …: transfer `p` uses slot `p % N`. `rst N n w` is the
  state of the slots once `n` transfers are issued and `w` of them waited for. A row of blocks each handed out once is
  `sst n w`: blocks below `w` are finished, those from `w` to `n` are away, the rest untouched.
-/
module

public import Idealize.ShloMosaic.Lib.ValueIdx
public import Idealize.ShloMosaic.Lib.ValueLayout
public import Idealize.ShloMosaic.Lib.Ring
public import Idealize.ShloMosaic.Lib.Tactic

@[expose] public section

noncomputable section

namespace Cert.Geo

open Idealize.ShloMosaic Idealize.ShloMosaic.ValueIdx

/-- The slot of transfer `p`. -/
abbrev slot (N : ℕ) [NeZero N] (p : ℕ) : Fin N := Fin.ofNat N p

/-- The ring's slots after `n` issues and `w` waits: never used; in flight with transfer `p`; holding what `p` brought. -/
def rst (N n w : ℕ) (s : Fin N) : Option (Bool × ℕ) :=
  if n ≤ s.val then none
  else some (decide (w ≤ n - 1 - (n - 1 - s.val) % N), n - 1 - (n - 1 - s.val) % N)

/-- The ring sizes of the kernel. -/
def RingSize (N : ℕ) : Prop := N = 55 ∨ N = 8 ∨ N = 3

section
variable {N : ℕ} [NeZero N]

theorem lst_self (hN : RingSize N) (n : ℕ) : n + 1 - 1 - (n + 1 - 1 - n % N) % N = n := by
  rcases hN with rfl | rfl | rfl <;> omega
theorem lst_ne (hN : RingSize N) {n : ℕ} {s : ℕ} (hs : s < N) (hv : s ≠ n % N) (hn : s < n) :
    n + 1 - 1 - (n + 1 - 1 - s) % N = n - 1 - (n - 1 - s) % N := by
  rcases hN with rfl | rfl | rfl <;> omega
theorem lst_prev (hN : RingSize N) {n : ℕ} (hn : n % N < n) : n - 1 - (n - 1 - n % N) % N = n - N ∧ N ≤ n := by
  rcases hN with rfl | rfl | rfl <;> omega
theorem lst_of (hN : RingSize N) {n w : ℕ} (h : w < n) (h' : n ≤ w + N) : n - 1 - (n - 1 - w % N) % N = w ∧ w % N < n := by
  rcases hN with rfl | rfl | rfl <;> omega
theorem lst_other (hN : RingSize N) {n w s : ℕ} (hs : s < N) (hv : s ≠ w % N) (hn : s < n) : n - 1 - (n - 1 - s) % N ≠ w := by
  rcases hN with rfl | rfl | rfl <;> omega
theorem lt_issue (hN : RingSize N) {n s : ℕ} (hs : s < N) (hv : s ≠ n % N) (hn : n ≤ s) : n + 1 ≤ s := by
  rcases hN with rfl | rfl | rfl <;> omega
theorem mod_lt_succ (hN : RingSize N) (n : ℕ) : n % N < n + 1 := Nat.lt_succ_of_le (Nat.mod_le _ _)

theorem rst_issue (hN : RingSize N) {n w : ℕ} (h : w ≤ n) :
    rst N (n + 1) w = Function.update (rst N n w) (slot N n) (some (true, n)) := by
  funext s
  by_cases hs : s = slot N n
  · subst hs
    rw [Function.update_self]
    unfold rst
    have hv : (slot N n).val = n % N := rfl
    have hm := mod_lt_succ hN n
    rw [hv, if_neg (by omega), lst_self hN, decide_eq_true h]
  · rw [Function.update_of_ne hs]
    have hv : s.val ≠ n % N := fun h => hs (Fin.ext h)
    unfold rst
    by_cases hn : n ≤ s.val
    · rw [if_pos hn, if_pos (lt_issue hN s.isLt hv hn)]
    · rw [if_neg hn, if_neg (by omega), lst_ne hN s.isLt hv (by omega)]

theorem rst_free (hN : RingSize N) {n w : ℕ} (h : n < w + N) :
    rst N n w (slot N n) = none ∨ rst N n w (slot N n) = some (false, n - N) := by
  unfold rst
  have hv : (slot N n).val = n % N := rfl
  rw [hv]
  by_cases hn : n ≤ n % N
  · left; rw [if_pos hn]
  · right
    have e := lst_prev hN (n := n) (by omega)
    rw [if_neg hn, e.1, decide_eq_false (by omega)]

theorem rst_flight (hN : RingSize N) {n w : ℕ} (h : w < n) (h' : n ≤ w + N) : rst N n w (slot N w) = some (true, w) := by
  unfold rst
  have hv : (slot N w).val = w % N := rfl
  have e := lst_of hN h h'
  rw [hv, if_neg (by omega), e.1, decide_eq_true (le_refl w)]

theorem rst_wait (hN : RingSize N) {n w : ℕ} (h : w < n) (h' : n ≤ w + N) :
    rst N n (w + 1) = Function.update (rst N n w) (slot N w) (some (false, w)) := by
  funext s
  by_cases hs : s = slot N w
  · subst hs
    rw [Function.update_self]
    unfold rst
    have hv : (slot N w).val = w % N := rfl
    have e := lst_of hN h h'
    rw [hv, if_neg (by omega), e.1, decide_eq_false (by omega)]
  · rw [Function.update_of_ne hs]
    have hv : s.val ≠ w % N := fun h => hs (Fin.ext h)
    unfold rst
    by_cases hn : n ≤ s.val
    · rw [if_pos hn, if_pos hn]
    · rw [if_neg hn, if_neg hn]
      have e := lst_other hN (n := n) (w := w) s.isLt hv (by omega)
      congr 2
      rw [decide_eq_decide]; omega

theorem rst_landed (hN : RingSize N) {n w p : ℕ} (h : p < w) (hn : p < n) (h' : n ≤ p + N) :
    rst N n w (slot N p) = some (false, p) := by
  unfold rst
  have hv : (slot N p).val = p % N := rfl
  have e := lst_of hN hn h'
  rw [hv, if_neg (by omega), e.1, decide_eq_false (by omega)]

/-- When all issued transfers are waited for, no slot is in flight. -/
theorem rst_idle {N : ℕ} {n : ℕ} (s : Fin N) : rst N n n s = none ∨ ∃ p, rst N n n s = some (false, p) := by
  unfold rst
  by_cases hn : n ≤ s.val
  · left; rw [if_pos hn]
  · right; rw [if_neg hn]
    refine ⟨n - 1 - (n - 1 - s.val) % N, ?_⟩
    rw [decide_eq_false]
    omega

end

theorem rst_zero {N : ℕ} (s : Fin N) (w : ℕ) : rst N 0 w s = none := by unfold rst; rw [if_pos (Nat.zero_le _)]

/-- A row of blocks: untouched (0), away (1), finished (2). -/
def sst (n w : ℕ) (j : Fin 98) : ℕ := if j.val < w then 2 else if j.val < n then 1 else 0

theorem sst_issue {n w : ℕ} (h : w ≤ n) (hn : n < 98) : sst (n + 1) w = Function.update (sst n w) ⟨n, hn⟩ 1 := by
  funext j
  by_cases hj : j = ⟨n, hn⟩
  · subst hj; rw [Function.update_self]; unfold sst; dsimp only; rw [if_neg (by omega), if_pos (by omega)]
  · rw [Function.update_of_ne hj]
    have hv : j.val ≠ n := fun h => hj (Fin.ext h)
    unfold sst
    split
    · rfl
    · split <;> split <;> first | rfl | omega
theorem sst_raw {n w : ℕ} (h : w ≤ n) (hn : n < 98) : sst n w ⟨n, hn⟩ = 0 := by
  unfold sst; dsimp only; rw [if_neg (by omega), if_neg (by omega)]
theorem sst_done {n w : ℕ} (h : w < n) (hw : w < 98) : sst n (w + 1) = Function.update (sst n w) ⟨w, hw⟩ 2 := by
  funext j
  by_cases hj : j = ⟨w, hw⟩
  · subst hj; rw [Function.update_self]; unfold sst; dsimp only; rw [if_pos (by omega)]
  · rw [Function.update_of_ne hj]
    have hv : j.val ≠ w := fun h => hj (Fin.ext h)
    unfold sst
    by_cases h1 : j.val < w
    · rw [if_pos h1, if_pos (by omega)]
    · rw [if_neg h1, if_neg (by omega)]
theorem sst_away {n w : ℕ} (h : w < n) (hw : w < 98) : sst n w ⟨w, hw⟩ = 1 := by
  unfold sst; dsimp only; rw [if_neg (by omega), if_pos (by omega)]
theorem sst_fin {n w : ℕ} (j : Fin 98) (h : j.val < w) : sst n w j = 2 := by unfold sst; rw [if_pos h]
theorem sst_zero (j : Fin 98) : sst 0 0 j = 0 := by unfold sst; simp

/-! ## The blocks -/

abbrev Sh2 : Shape := ⟨2, ![150528, 256]⟩
abbrev Sh3 (n : ℕ) : Shape := ⟨3, ![n, 1536, 256]⟩

/-- Slab `s` of a three-axis buffer. -/
def slab (n s : ℕ) : Finset (Sh3 n).Idx := Finset.univ.filter fun i => (i 0).val = s
/-- The rows of chunk `p`. -/
def rows (p : ℕ) : Finset Sh2.Idx := Finset.univ.filter fun i => (i 0).val / 1536 = p

theorem mem_slab {n s : ℕ} {i : (Sh3 n).Idx} : i ∈ slab n s ↔ (i 0).val = s := by simp [slab]
theorem mem_rows {p : ℕ} {i : Sh2.Idx} : i ∈ rows p ↔ (i 0).val / 1536 = p := by simp [rows]

/-- Row `r` of chunk `p`. -/
abbrev rowN (p r : ℕ) : Fin 150528 := Fin.ofNat 150528 (1536 * p + r)
theorem rowN_val {p r : ℕ} (hp : p < 98) (hr : r < 1536) : (rowN p r).val = 1536 * p + r :=
  Nat.mod_eq_of_lt (by omega)

/-- What a slab holds once chunk `p` of `f` was copied into it. -/
def land {α : Type} (n : ℕ) (f : Sh2.Idx → α) (p : ℕ) : (Sh3 n).Idx → α := fun i => f (ix2 (rowN p (i 1).val) (i 2))

/-- Position of an index of one slab in the buffer. -/
theorem emb_slab {n s : ℕ} (hs : s < n) {off : Fin 3 → ℕ} (hoff : off = ![s, 0, 0])
    (inb : ∀ a, off a + (![1, 1536, 256] : Fin 3 → ℕ) a ≤ (Sh3 n).size a)
    (h : (⟨2, ![1536, 256]⟩ : Shape).numel = (⟨3, ![1, 1536, 256]⟩ : Shape).numel) (j : (⟨2, ![1536, 256]⟩ : Shape).Idx) :
    (Rect.unit (s := Sh3 n) off ![1, 1536, 256] inb).emb (Shape.reshapeEquiv h j) = ix3 ⟨s, hs⟩ (j 0) (j 1) := by
  subst hoff
  obtain ⟨a, b, rfl⟩ : ∃ a b, j = ix2 a b := ⟨j 0, j 1, eq_ix2 j⟩
  rw [reshapeEquiv_ix2_1ab]
  funext d
  apply Fin.ext
  rw [Rect.emb_apply]
  match d with
  | ⟨0, _⟩ => simp
  | ⟨1, _⟩ => simp
  | ⟨2, _⟩ => simp

theorem emb_rows {p : ℕ} (hp : p < 98) {off : Fin 2 → ℕ} (hoff : off = ![1536 * p, 0])
    (inb : ∀ a, off a + (![1536, 256] : Fin 2 → ℕ) a ≤ Sh2.size a) (j : (⟨2, ![1536, 256]⟩ : Shape).Idx) :
    (Rect.unit (s := Sh2) off ![1536, 256] inb).emb j = ix2 (rowN p (j 0).val) (j 1) := by
  subst hoff
  funext d
  apply Fin.ext
  rw [Rect.emb_apply]
  match d with
  | ⟨0, _⟩ =>
    have := rowN_val hp (show (j 0).val < 1536 from (j 0).isLt)
    simpa using this.symm
  | ⟨1, _⟩ => simp

theorem set_slab {n s : ℕ} {off : Fin 3 → ℕ} (hoff : off = ![s, 0, 0])
    (inb : ∀ a, off a + (![1, 1536, 256] : Fin 3 → ℕ) a ≤ (Sh3 n).size a) :
    (Rect.unit (s := Sh3 n) off ![1, 1536, 256] inb).set = slab n s := by
  subst hoff
  ext i
  rw [Rect.mem_set_unit, mem_slab]
  have h1 : (i 1).val < 1536 := (i 1).isLt
  have h2 : (i 2).val < 256 := (i 2).isLt
  constructor
  · intro h; have := h 0; simp at this; omega
  · intro h a
    match a with
    | ⟨0, _⟩ => simp; omega
    | ⟨1, _⟩ => simpa using h1
    | ⟨2, _⟩ => simpa using h2

theorem set_rows {p : ℕ} {off : Fin 2 → ℕ} (hoff : off = ![1536 * p, 0])
    (inb : ∀ a, off a + (![1536, 256] : Fin 2 → ℕ) a ≤ Sh2.size a) :
    (Rect.unit (s := Sh2) off ![1536, 256] inb).set = rows p := by
  subst hoff
  ext i
  rw [Rect.mem_set_unit, mem_rows]
  have h2 : (i 1).val < 256 := (i 1).isLt
  constructor
  · intro h; have := h 0; simp at this; omega
  · intro h a
    match a with
    | ⟨0, _⟩ => simp; omega
    | ⟨1, _⟩ => simpa using h2

/-- A write of a whole view, by its values on the view and off it. -/
theorem write_eq {sig : RefSig} {κ : Kind} {sp : Space} {s : Shape} {e : EltTy} {Val : EltTy → Type} (v : View sig κ sp s e)
    (f g : v.ty.Contents Val) (w : s.Idx → Val e) (S : Finset v.ty.Idx)
    (hon : ∀ x, v.emb x ∈ S → g (v.emb x) = _root_.cast (congrArg Val v.elt_eq.symm) (w x))
    (hoff : ∀ i ∈ S, i ∉ v.set → f i = g i) : ∀ i ∈ S, v.write Val f w Finset.univ i = g i := by
  intro i hi
  by_cases hm : i ∈ v.set
  · obtain ⟨x, -, rfl⟩ := Finset.mem_map.mp hm
    rw [View.write_emb_of_mem _ _ (Finset.mem_univ x), hon x hi]
  · rw [View.write_of_not_mem _ _ _ (by rwa [View.setOn_univ]), hoff i hi hm]

end Cert.Geo

end
-- ==== Proof.Tiles.lean ====
/-
  Where the tiles a trip works on lie in the rings, and what they hold: half chunks of 768 rows, columns of 128 lanes.
-/
module

public import proofs.«01_k».proof.Proof.Ring

@[expose] public section

set_option maxRecDepth 16384

noncomputable section

namespace Cert.Geo

open Idealize.ShloMosaic Idealize.ShloMosaic.ValueIdx

/-- Lane `b` of lane column `l`. -/
def colN (l b : ℕ) : Fin 256 := ⟨(128 * l + b) % 256, Nat.mod_lt _ (by decide)⟩
/-- Row `r` of half `j` of a chunk. -/
def rowI (j r : ℕ) : Fin 1536 := ⟨(768 * j + r) % 1536, Nat.mod_lt _ (by decide)⟩
/-- Row `r` of half chunk `H` of an array. -/
def rowH (H r : ℕ) : Fin 150528 := ⟨(768 * H + r) % 150528, Nat.mod_lt _ (by decide)⟩

theorem colN_val {l b : ℕ} (hl : l < 2) (hb : b < 128) : (colN l b).val = 128 * l + b := by unfold colN; dsimp only; omega
theorem rowI_val {j r : ℕ} (hj : j < 2) (hr : r < 768) : (rowI j r).val = 768 * j + r := by unfold rowI; dsimp only; omega
theorem rowH_val {H r : ℕ} (hH : H < 196) (hr : r < 768) : (rowH H r).val = 768 * H + r := by unfold rowH; dsimp only; omega
theorem rowN_rowI {p j r : ℕ} (hp : p < 98) (hj : j < 2) (hr : r < 768) : rowN p (rowI j r).val = rowH (2 * p + j) r := by
  apply Fin.ext
  have h1 := rowI_val hj hr
  rw [rowN_val hp (rowI j r).isLt, rowH_val (by omega) hr, h1]
  omega

abbrev T768x128 : Shape := ⟨2, ![768, 128]⟩
abbrev T768x256 : Shape := ⟨2, ![768, 256]⟩

theorem emb_tile {n s j l : ℕ} (hs : s < n) (hj : j < 2) (hl : l < 2) {off : Fin 3 → ℕ} (hoff : off = ![s, 768 * j, 0])
    (inb : ∀ a, off a + (![1, 768, 256] : Fin 3 → ℕ) a ≤ (Sh3 n).size a) (h : T768x256.numel = (⟨3, ![1, 768, 256]⟩ : Shape).numel)
    {off2 : Fin 2 → ℕ} (h2 : off2 = ![0, 128 * l]) (inb2 : ∀ a, off2 a + (![768, 128] : Fin 2 → ℕ) a ≤ T768x256.size a) (x : T768x128.Idx) :
    (Rect.unit (s := Sh3 n) off ![1, 768, 256] inb).emb (Shape.reshapeEquiv h ((Rect.unit (s := T768x256) off2 ![768, 128] inb2).emb x))
      = ix3 ⟨s, hs⟩ (rowI j (x 0).val) (colN l (x 1).val) := by
  subst hoff h2
  have hx0 : (x 0).val < 768 := (x 0).isLt
  have hx1 : (x 1).val < 128 := (x 1).isLt
  have e : (Rect.unit (s := T768x256) ![0, 128 * l] ![768, 128] inb2).emb x = ix2 ⟨(x 0).val, hx0⟩ ⟨128 * l + (x 1).val, by omega⟩ := by
    funext d; apply Fin.ext; rw [Rect.emb_apply]
    match d with
    | ⟨0, _⟩ => simp
    | ⟨1, _⟩ => simp
  rw [e, reshapeEquiv_ix2_1ab]
  funext d; apply Fin.ext; rw [Rect.emb_apply]
  match d with
  | ⟨0, _⟩ => simp
  | ⟨1, _⟩ => have := rowI_val hj hx0; simpa using this.symm
  | ⟨2, _⟩ => have := colN_val hl hx1; simpa using this.symm

theorem emb_st {n s j l : ℕ} (hs : s < n) (hj : j < 2) (hl : l < 2) {off : Fin 3 → ℕ} (hoff : off = ![s, 768 * j, 128 * l])
    (inb : ∀ a, off a + (![1, 768, 128] : Fin 3 → ℕ) a ≤ (Sh3 n).size a) (x : (⟨3, ![1, 768, 128]⟩ : Shape).Idx) :
    (Rect.unit (s := Sh3 n) off ![1, 768, 128] inb).emb x = ix3 ⟨s, hs⟩ (rowI j (x 1).val) (colN l (x 2).val) := by
  subst hoff
  have hx0 : (x 0).val < 1 := (x 0).isLt
  have hx1 : (x 1).val < 768 := (x 1).isLt
  have hx2 : (x 2).val < 128 := (x 2).isLt
  funext d; apply Fin.ext; rw [Rect.emb_apply]
  match d with
  | ⟨0, _⟩ => simpa using hx0
  | ⟨1, _⟩ => have := rowI_val hj hx1; simpa using this.symm
  | ⟨2, _⟩ => have := colN_val hl hx2; simpa using this.symm

theorem emb_half {n s j : ℕ} (hs : s < n) (hj : j < 2) {off : Fin 3 → ℕ} (hoff : off = ![s, 768 * j, 0])
    (inb : ∀ a, off a + (![1, 768, 256] : Fin 3 → ℕ) a ≤ (Sh3 n).size a) (x : (⟨3, ![1, 768, 256]⟩ : Shape).Idx) :
    (Rect.unit (s := Sh3 n) off ![1, 768, 256] inb).emb x = ix3 ⟨s, hs⟩ (rowI j (x 1).val) (x 2) := by
  subst hoff
  have hx0 : (x 0).val < 1 := (x 0).isLt
  have hx1 : (x 1).val < 768 := (x 1).isLt
  funext d; apply Fin.ext; rw [Rect.emb_apply]
  match d with
  | ⟨0, _⟩ => simpa using hx0
  | ⟨1, _⟩ => have := rowI_val hj hx1; simpa using this.symm
  | ⟨2, _⟩ => simp

theorem emb_col {l : ℕ} (hl : l < 2) {off : Fin 2 → ℕ} (hoff : off = ![0, 128 * l])
    (inb : ∀ a, off a + (![16, 128] : Fin 2 → ℕ) a ≤ (⟨2, ![16, 256]⟩ : Shape).size a) (x : (⟨2, ![16, 128]⟩ : Shape).Idx) :
    (Rect.unit (s := ⟨2, ![16, 256]⟩) off ![16, 128] inb).emb x = ix2 (x 0) (colN l (x 1).val) := by
  subst hoff
  have hx1 : (x 1).val < 128 := (x 1).isLt
  funext d; apply Fin.ext; rw [Rect.emb_apply]
  match d with
  | ⟨0, _⟩ => simp
  | ⟨1, _⟩ => have := colN_val hl hx1; simpa using this.symm

theorem emb_row {n r : ℕ} (hr : r < n) {off : Fin 2 → ℕ} (hoff : off = ![r, 0])
    (inb : ∀ a, off a + (![1, 256] : Fin 2 → ℕ) a ≤ (⟨2, ![n, 256]⟩ : Shape).size a) (x : (⟨2, ![1, 256]⟩ : Shape).Idx) :
    (Rect.unit (s := ⟨2, ![n, 256]⟩) off ![1, 256] inb).emb x = ix2 ⟨r, hr⟩ (x 1) := by
  subst hoff
  have hx0 : (x 0).val < 1 := (x 0).isLt
  funext d; apply Fin.ext; rw [Rect.emb_apply]
  match d with
  | ⟨0, _⟩ => simpa using hx0
  | ⟨1, _⟩ => simp

theorem emb_full {a b : ℕ} (inb : ∀ d, (![0, 0] : Fin 2 → ℕ) d + (![a, b] : Fin 2 → ℕ) d ≤ (⟨2, ![a, b]⟩ : Shape).size d) (x : (⟨2, ![a, b]⟩ : Shape).Idx) :
    (Rect.unit (s := ⟨2, ![a, b]⟩) ![0, 0] ![a, b] inb).emb x = x := by
  funext d; apply Fin.ext; rw [Rect.emb_apply]
  match d with
  | ⟨0, _⟩ => simp
  | ⟨1, _⟩ => simp

variable {α : Type}

/-- Lane column `l` of half chunk `H`. -/
def tile (f : Sh2.Idx → α) (H l : ℕ) : T768x128.Idx → α := fun x => f (ix2 (rowH H (x 0).val) (colN l (x 1).val))
/-- Half chunk `H`. -/
def half (f : Sh2.Idx → α) (H : ℕ) : (⟨3, ![1, 768, 256]⟩ : Shape).Idx → α := fun x => f (ix2 (rowH H (x 1).val) (x 2))
/-- A whole array's contents, slab by slab. -/
def slabs (f : Sh2.Idx → α) : (Sh3 98).Idx → α := fun i => f (ix2 (rowN (i 0).val (i 1).val) (i 2))
/-- Slab `k` once the tiles before `(j, l)` are replaced. -/
def gC (g f : Sh2.Idx → α) (k j l : ℕ) : (Sh3 98).Idx → α := fun i =>
  if (i 1).val < 768 * j ∨ ((i 1).val < 768 * (j + 1) ∧ (i 2).val < 128 * l) then g (ix2 (rowN k (i 1).val) (i 2)) else f (ix2 (rowN k (i 1).val) (i 2))
/-- Lane column `l` of an accumulator, read and replaced. -/
def colR (l : ℕ) (f : (⟨2, ![16, 256]⟩ : Shape).Idx → α) : (⟨2, ![16, 128]⟩ : Shape).Idx → α := fun x => f (ix2 (x 0) (colN l (x 1).val))
def colW (l : ℕ) (w : (⟨2, ![16, 128]⟩ : Shape).Idx → α) (f : (⟨2, ![16, 256]⟩ : Shape).Idx → α) : (⟨2, ![16, 256]⟩ : Shape).Idx → α :=
  fun i => if (i 1).val / 128 = l then w (ix2 (i 0) ⟨(i 1).val % 128, Nat.mod_lt _ (by decide)⟩) else f i

theorem land_tile {n p j l : ℕ} (f : Sh2.Idx → α) (s : Fin n) (hp : p < 98) (hj : j < 2) (x : T768x128.Idx) :
    land n f p (ix3 s (rowI j (x 0).val) (colN l (x 1).val)) = tile f (2 * p + j) l x := by
  show f (ix2 (rowN p (rowI j (x 0).val).val) (colN l (x 1).val)) = _
  rw [rowN_rowI hp hj (x 0).isLt]; rfl
theorem land_half {n p j : ℕ} (f : Sh2.Idx → α) (s : Fin n) (hp : p < 98) (hj : j < 2) (x : (⟨3, ![1, 768, 256]⟩ : Shape).Idx) :
    land n f p (ix3 s (rowI j (x 1).val) (x 2)) = half f (2 * p + j) x := by
  show f (ix2 (rowN p (rowI j (x 1).val).val) (x 2)) = _
  rw [rowN_rowI hp hj (x 1).isLt]; rfl
theorem slabs_half {p j : ℕ} (f : Sh2.Idx → α) (hp : p < 98) (hj : j < 2) (x : (⟨3, ![1, 768, 256]⟩ : Shape).Idx) :
    slabs f (ix3 ⟨p, hp⟩ (rowI j (x 1).val) (x 2)) = half f (2 * p + j) x := by
  show f (ix2 (rowN p (rowI j (x 1).val).val) (x 2)) = _
  rw [rowN_rowI hp hj (x 1).isLt]; rfl
theorem gC_raw {k j l : ℕ} (g f : Sh2.Idx → α) (s : Fin 98) (hk : k < 98) (hj : j < 2) (hl : l < 2) (x : T768x128.Idx) :
    gC g f k j l (ix3 s (rowI j (x 0).val) (colN l (x 1).val)) = tile f (2 * k + j) l x := by
  have h0 := rowI_val hj (show (x 0).val < 768 from (x 0).isLt)
  have h1 := colN_val hl (show (x 1).val < 128 from (x 1).isLt)
  unfold gC
  rw [if_neg (by show ¬((rowI j (x 0).val).val < _ ∨ ((rowI j (x 0).val).val < _ ∧ (colN l (x 1).val).val < _)); omega)]
  exact land_tile (n := 98) f s hk hj x
theorem gC_new {k j l : ℕ} (g f : Sh2.Idx → α) (s : Fin 98) (hk : k < 98) (hj : j < 2) (hl : l < 2) (x : T768x128.Idx) :
    gC g f k j (l + 1) (ix3 s (rowI j (x 0).val) (colN l (x 1).val)) = tile g (2 * k + j) l x := by
  have hx0 : (x 0).val < 768 := (x 0).isLt
  have hx1 : (x 1).val < 128 := (x 1).isLt
  have h0 := rowI_val hj hx0
  have h1 := colN_val hl hx1
  unfold gC
  rw [if_pos (by show ((rowI j (x 0).val).val < _ ∨ ((rowI j (x 0).val).val < _ ∧ (colN l (x 1).val).val < _)); omega)]
  exact land_tile (n := 98) g s hk hj x
theorem gC_old {k j l : ℕ} (g f : Sh2.Idx → α) (hk : k < 98) (hj : j < 2) (hl : l < 2) (i : (Sh3 98).Idx) (hi : (i 0).val = k)
    (hn : ∀ x : (⟨3, ![1, 768, 128]⟩ : Shape).Idx, i ≠ ix3 ⟨k, hk⟩ (rowI j (x 1).val) (colN l (x 2).val)) : gC g f k j l i = gC g f k j (l + 1) i := by
  have h1 : (i 1).val < 1536 := (i 1).isLt
  have h2 : (i 2).val < 256 := (i 2).isLt
  by_cases hin : 768 * j ≤ (i 1).val ∧ (i 1).val < 768 * (j + 1) ∧ 128 * l ≤ (i 2).val ∧ (i 2).val < 128 * (l + 1)
  · refine absurd ?_ (hn (ix3 ⟨0, by decide⟩ ⟨(i 1).val - 768 * j, by omega⟩ ⟨(i 2).val - 128 * l, by omega⟩))
    funext d; apply Fin.ext
    match d with
    | ⟨0, _⟩ => exact hi
    | ⟨1, _⟩ => exact (show (i 1).val = (rowI j ((i 1).val - 768 * j)).val by rw [rowI_val hj (by omega)]; omega)
    | ⟨2, _⟩ => exact (show (i 2).val = (colN l ((i 2).val - 128 * l)).val by rw [colN_val hl (by omega)]; omega)
  · unfold gC
    by_cases hc : (i 1).val < 768 * j ∨ ((i 1).val < 768 * (j + 1) ∧ (i 2).val < 128 * l)
    · rw [if_pos hc, if_pos (by omega)]
    · rw [if_neg hc, if_neg (by omega)]
theorem gC_zero (g f : Sh2.Idx → α) (k : ℕ) : gC g f k 0 0 = land 98 f k := by
  funext i; unfold gC; rw [if_neg (by omega)]; rfl
theorem gC_step (g f : Sh2.Idx → α) (k j : ℕ) : gC g f k j 2 = gC g f k (j + 1) 0 := by
  funext i
  have h2 : (i 2).val < 256 := (i 2).isLt
  unfold gC
  by_cases hc : (i 1).val < 768 * (j + 1)
  · rw [if_pos (by omega), if_pos (by omega)]
  · rw [if_neg (by omega), if_neg (by omega)]
theorem gC_full (g f : Sh2.Idx → α) (k : ℕ) : ∀ i ∈ slab 98 k, gC g f k 2 0 i = slabs g i := by
  intro i hi
  have h1 : (i 1).val < 1536 := (i 1).isLt
  unfold gC slabs
  have e : (i 0).val = k := mem_slab.mp hi
  rw [if_pos (by omega), e]

theorem colW_on {l : ℕ} (hl : l < 2) (w : (⟨2, ![16, 128]⟩ : Shape).Idx → α) (f : (⟨2, ![16, 256]⟩ : Shape).Idx → α) (x : (⟨2, ![16, 128]⟩ : Shape).Idx) :
    colW l w f (ix2 (x 0) (colN l (x 1).val)) = w x := by
  have hx1 : (x 1).val < 128 := (x 1).isLt
  have h1 := colN_val hl hx1
  unfold colW
  rw [if_pos (by show (colN l (x 1).val).val / 128 = l; omega)]
  congr 1
  funext d
  match d with
  | ⟨0, _⟩ => rfl
  | ⟨1, _⟩ => apply Fin.ext; show (colN l (x 1).val).val % 128 = (x 1).val; omega
theorem colW_off {l : ℕ} (hl : l < 2) (w : (⟨2, ![16, 128]⟩ : Shape).Idx → α) (f : (⟨2, ![16, 256]⟩ : Shape).Idx → α) (i : (⟨2, ![16, 256]⟩ : Shape).Idx)
    (hn : ∀ x : (⟨2, ![16, 128]⟩ : Shape).Idx, i ≠ ix2 (x 0) (colN l (x 1).val)) : f i = colW l w f i := by
  have h2 : (i 1).val < 256 := (i 1).isLt
  unfold colW
  rw [if_neg]
  intro h
  refine hn (ix2 (i 0) ⟨(i 1).val % 128, Nat.mod_lt _ (by decide)⟩) ?_
  funext d
  match d with
  | ⟨0, _⟩ => rfl
  | ⟨1, _⟩ => apply Fin.ext; show (i 1).val = (colN l ((i 1).val % 128)).val; rw [colN_val hl (Nat.mod_lt _ (by decide))]; omega

end Cert.Geo

end
-- ==== Proof.KBase.lean ====
/-
  The streaming pieces of the kernel: what each ring slot, semaphore and block of rows is worth in each state, and what
  one copy's start and one wait do to them.
-/
module

public import proofs.«01_k».proof.Proof.Ring
public import proofs.«01_k».proof.Proof.Gen.Kernel.Launch
public import proofs.«01_k».proof.Proof.Gen.Kernel.Skeleton
public import Idealize.ShloMosaic.Lib.Pipeline.FrameBody
public import Idealize.ShloMosaic.Lib.Ring
public import Idealize.ShloMosaic.Lib.Tactic

@[expose] public section

set_option maxRecDepth 16384

noncomputable section

namespace Cert.Kernel.Hand

open Cert.Kernel Cert.Kernel.Gen Cert.Geo
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (AtW AtW_focus restW)

variable {F : FTy → Type} [FloatOps F]

local notation "𝕄" => MT nD τ sig Unit (Elt F) ℕ (Pipeline.UD sig nD τ) ℕ

/-- The kernel's run at one core. -/
abbrev WP (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

abbrev EC : UEmb Counters 𝕄 := countersEmb (U := Pipeline.UD sig nD τ)

/-! ## The semaphores -/

abbrev xSem (s : Fin 55) : DmaSem sig := cc0_scratch8.ix (ix1 s)
abbrev gSem (s : Fin 8) : DmaSem sig := cc0_scratch9.ix (ix1 s)
abbrev mSem (s : Fin 8) : DmaSem sig := cc0_scratch10.ix (ix1 s)
abbrev oSem (s : Fin 3) : DmaSem sig := cc0_scratch11.ix (ix1 s)

theorem sem_at {N : ℕ} (a : SemArray (DmaSem sig) ⟨1, ![N]⟩) {off : Fin 1 → ℕ} {s : ℕ} (hs : s < N) (hoff : off = ![s])
    (inb : ∀ d, off d + S1.size d ≤ (⟨1, ![N]⟩ : Shape).size d) :
    ((a.slice (Rect.unit (s := ⟨1, ![N]⟩) off S1.size inb)).squeeze S_ squeezes_S1_S_).sem = a.ix (ix1 ⟨s, hs⟩) := by
  subst hoff
  show a.ix _ = _
  congr 1
  funext d
  match d with
  | ⟨0, _⟩ =>
    apply Fin.ext
    show s + 1 * _ = s
    have : ∀ x : S1.Idx, (x ⟨0, Nat.one_pos⟩).val = 0 := fun x => Nat.lt_one_iff.mp (x ⟨0, Nat.one_pos⟩).isLt
    exact (congrArg (s + 1 * ·) (this _)).trans (by simp)

/-! ## One copy's start, one wait -/

theorem issue_core (c : Dev nD) {sp sp' : Space} {s : Shape} {e : EltTy} {src : Memref sig .tc sp s e} {dst : Memref sig .tc sp' s e}
    {sem : DmaSem sig} {h1 : src.view.WordExact} {h2 : dst.view.WordExact} {h3 : DmaTarget.Typed (nD := nD) sp (.dma sem) (.here (p := .tc) dst)}
    {q : PosShare TreeShare} {fs : Buf (Elt F) (src.view.loc (c : Thread nD τ))} {fd g : Buf (Elt F) (dst.view.loc (c : Thread nD τ))}
    {Rs : Finset (Idx (src.view.loc (c : Thread nD τ)))} {Sd : Finset (Idx (dst.view.loc (c : Thread nD τ)))} {Q : PUnit → sProp 𝕄}
    (N : ℕ) (hN : dst.view.dmaCredit = N) (hN0 : 0 < N)
    (hs : src.view.set = Rs) (hd : dst.view.set = Sd)
    (hland : ∀ i ∈ Sd, dst.view.write (Elt F) fd (src.view.read (Elt F) fs) Finset.univ i = g i) :
    iprop((src.view.loc (c : Thread nD τ) ↦[Rs]{q} fs) ∗ (dst.view.loc (c : Thread nD τ) ↦[Sd]{fullShare} fd) ∗ semVal ((c : Thread nD τ), .dma sem) 0)
      ⊢ iprop((Transfers.Flight EC (c : Thread nD τ) (.dma sem) () N iprop((dst.view.loc (c : Thread nD τ) ↦[Sd]{fullShare} g) ∗ (src.view.loc (c : Thread nD τ) ↦[Rs]{q} fs)) -∗ Q ⟨⟩)
          -∗ WP (F := F) c (Prog.lift (.enqueueDma src (.here dst) (.dma sem) h1 h2 h3)) Q) := by
  subst hs hd
  iintro ⟨Hs, Hd, Hv⟩ HQ
  iapply (Transfers.wp_dmaLocal EC Variants.none (c : Thread nD τ) none () N (sm := .dma sem) hN hN0 (Finset.Subset.refl _)) $$ [Hs Hd Hv]
  · isplitl [Hs]; · iexact Hs
    isplitl [Hd]; · iexact Hd
    iexact Hv
  iintro HF
  rw [wp_ret]
  iapply fupd_intro
  iapply HQ
  rw [← pointsTo_congr hland]
  iexact HF

theorem issue_gen (c : Dev nD) {sp sp' : Space} {s : Shape} {e : EltTy} {src : Memref sig .tc sp s e} {dst : Memref sig .tc sp' s e}
    {sem : DmaSem sig} {h1 : src.view.WordExact} {h2 : dst.view.WordExact} {h3 : DmaTarget.Typed (nD := nD) sp (.dma sem) (.here (p := .tc) dst)}
    {q : PosShare TreeShare} {fs : Buf (Elt F) (src.view.loc (c : Thread nD τ))} {fd g : Buf (Elt F) (dst.view.loc (c : Thread nD τ))}
    {Rs : Finset (Idx (src.view.loc (c : Thread nD τ)))} {Sd : Finset (Idx (dst.view.loc (c : Thread nD τ)))} {Q : PUnit → sProp 𝕄}
    (N : ℕ) (hN : dst.view.dmaCredit = N) (hN0 : 0 < N)
    (hs : src.view.set = Rs) (hd : dst.view.set = Sd)
    (hland : ∀ i ∈ Sd, dst.view.write (Elt F) fd (src.view.read (Elt F) fs) Finset.univ i = g i) :
    iprop((src.view.loc (c : Thread nD τ) ↦[Finset.univ]{q} fs) ∗ (dst.view.loc (c : Thread nD τ) ↦[Sd]{fullShare} fd) ∗ semVal ((c : Thread nD τ), .dma sem) 0)
      ⊢ iprop((iprop(Transfers.Flight EC (c : Thread nD τ) (.dma sem) () N iprop((dst.view.loc (c : Thread nD τ) ↦[Sd]{fullShare} g) ∗ (src.view.loc (c : Thread nD τ) ↦[Rs]{q} fs))
            ∗ (src.view.loc (c : Thread nD τ) ↦[Finset.univ \ Rs]{q} fs)) -∗ Q ⟨⟩)
          -∗ WP (F := F) c (Prog.lift (.enqueueDma src (.here dst) (.dma sem) h1 h2 h3)) Q) := by
  subst hs hd
  iintro ⟨Hs, Hd, Hv⟩ HQ
  ihave Hs := (pointsTo_split_subset (Finset.subset_univ src.view.set)).1 $$ Hs
  icases Hs with ⟨Hs, Hr⟩
  iapply (Transfers.wp_dmaLocal EC Variants.none (c : Thread nD τ) none () N (sm := .dma sem) hN hN0 (Finset.Subset.refl _)) $$ [Hs Hd Hv]
  · isplitl [Hs]; · iexact Hs
    isplitl [Hd]; · iexact Hd
    iexact Hv
  iintro HF
  rw [wp_ret]
  iapply fupd_intro
  iapply HQ
  isplitl [HF]
  · rw [← pointsTo_congr hland]
    iexact HF
  · iexact Hr

theorem wait_gen (c : Dev nD) {sp sp' : Space} {s s' : Shape} {e e' : EltTy} {src : Memref sig .tc sp' s' e'} {dst : Memref sig .tc sp s e}
    {sem : DmaSem sig} {h1 : src.view.WordExact} {h2 : dst.view.WordExact} {D : sProp 𝕄} {Q : PUnit → sProp 𝕄}
    (N : ℕ) (hN : dst.view.dmaCredit = N) :
    iprop(Transfers.Flight EC (c : Thread nD τ) (.dma sem) () N D ∗ (∃ W, owes (c : Thread nD τ) 0 W))
      ⊢ iprop((iprop(D ∗ semVal ((c : Thread nD τ), .dma sem) 0 ∗ (∃ W, owes (c : Thread nD τ) 0 W)) -∗ Q ⟨⟩)
          -∗ WP (F := F) c (Prog.lift (.waitDma2 sem src dst h1 h2)) Q) := by
  iintro ⟨HF, ⟨%W, HW⟩⟩ HQ
  iapply (Transfers.wp_waitLocal EC Variants.none (c : Thread nD τ) none () hN) $$ [HF HW]
  · isplitl [HF]; · iexact HF
    iexact HW
  iintro ⟨HD, Hv, HW⟩
  rw [wp_ret]
  iapply fupd_intro
  iapply HQ
  isplitl [HD]; · iexact HD
  isplitl [Hv]; · iexact Hv
  iexists _
  iexact HW

/-! ## The buffers -/

abbrev XB : Memref sig .tc .vmem S55x1536x256 .fp8e4m3 := Memref.whole cc0_scratch0
abbrev GB : Memref sig .tc .vmem S98x1536x256 .fp8e5m2 := Memref.whole cc0_scratch1
abbrev MB : Memref sig .tc .vmem S8x1536x256 .i8 := Memref.whole cc0_scratch2
abbrev OB : Memref sig .tc .vmem S3x1536x256 .bf16 := Memref.whole cc0_scratch3
abbrev XH : Memref sig .tc .hbm S150528x256 .fp8e4m3 := Memref.whole main_v5
abbrev GH : Memref sig .tc .hbm S150528x256 .fp8e5m2 := Memref.whole main_v6
abbrev MH : Memref sig .tc .hbm S150528x256 .i8 := Memref.whole main_v7
abbrev OH : Memref sig .tc .hbm S150528x256 .bf16 := Memref.whole main_v8_0

abbrev BufX : Type := S150528x256.Idx → Elt F .fp8e4m3
abbrev BufG : Type := S150528x256.Idx → Elt F .fp8e5m2
abbrev BufM : Type := S150528x256.Idx → Elt F .i8
abbrev BufO : Type := S150528x256.Idx → Elt F .bf16

/-- Slab `off` of the ring and the rows of the array, as the program names them. -/
abbrev slotX (off : Fin 3 → ℕ) (inb : ∀ a, off a + S1x1536x256.size a ≤ S55x1536x256.size a) : Memref sig .tc .vmem S1536x256 .fp8e4m3 :=
  (XB.slice (Rect.unit (s := S55x1536x256) off S1x1536x256.size inb) (fun _ => rfl)).squeeze S1536x256 squeezes_S1x1536x256_S1536x256
abbrev rowsX (off : Fin 2 → ℕ) (inb : ∀ a, off a + S1536x256.size a ≤ S150528x256.size a) : Memref sig .tc .hbm S1536x256 .fp8e4m3 :=
  XH.slice (Rect.unit (s := S150528x256) off S1536x256.size inb) (fun _ => rfl)

theorem slotX_set {off : Fin 3 → ℕ} {s : ℕ} (hoff : off = ![s, 0, 0]) (inb) : (slotX off inb).view.set = (slab 55 s : Finset S55x1536x256.Idx) :=
  (View.set_reshape _ _).trans ((View.set_slice_whole _ _).trans (set_slab hoff inb))
theorem rowsX_set {off : Fin 2 → ℕ} {p : ℕ} (hoff : off = ![1536 * p, 0]) (inb) : (rowsX off inb).view.set = (rows p : Finset S150528x256.Idx) :=
  (View.set_slice_whole _ _).trans (set_rows hoff inb)

theorem landX {off : Fin 3 → ℕ} {off' : Fin 2 → ℕ} {s p : ℕ} (hs : s < 55) (hp : p < 98) (hoff : off = ![s, 0, 0]) (hoff' : off' = ![1536 * p, 0])
    (inb) (inb') (fd : S55x1536x256.Idx → Elt F .fp8e4m3) (fx : BufX (F := F)) :
    ∀ i ∈ (slab 55 s : Finset S55x1536x256.Idx), (slotX off inb).view.write (Elt F) fd ((rowsX off' inb').view.read (Elt F) fx) Finset.univ i = land 55 fx p i :=
  write_eq (slotX off inb).view fd (land 55 fx p) _ (slab 55 s) (fun x _ => by
    have e1 : (slotX off inb).view.emb x = ix3 ⟨s, hs⟩ (x 0) (x 1) := emb_slab hs hoff inb _ x
    have e2 : (rowsX off' inb').view.emb x = ix2 (rowN p (x 0).val) (x 1) := emb_rows hp hoff' inb' x
    rw [e1]
    show _ = fx ((rowsX off' inb').view.emb x)
    rw [e2]; rfl) (fun i hi hn => absurd (by rw [slotX_set hoff]; exact hi) hn)

abbrev xSlab (c : Dev nD) (s : ℕ) (f : S55x1536x256.Idx → Elt F .fp8e4m3) : sProp 𝕄 :=
  XB.view.loc (c : Thread nD τ) ↦[slab 55 s]{fullShare} f
abbrev xPart (c : Dev nD) (s : Fin 55) (S : Finset S150528x256.Idx) (f : BufX (F := F)) : sProp 𝕄 :=
  XH.view.loc (c : Thread nD τ) ↦[S]{Transfers.shareTok fullShare 55 s} f
abbrev NX : ℕ := (slotX ![0, 0, 0] (by decide)).view.dmaCredit

/-- Slab `off` of the ring and the rows of the array, as the program names them. -/
abbrev slotG (off : Fin 3 → ℕ) (inb : ∀ a, off a + S1x1536x256.size a ≤ S98x1536x256.size a) : Memref sig .tc .vmem S1536x256 .fp8e5m2 :=
  (GB.slice (Rect.unit (s := S98x1536x256) off S1x1536x256.size inb) (fun _ => rfl)).squeeze S1536x256 squeezes_S1x1536x256_S1536x256
abbrev rowsG (off : Fin 2 → ℕ) (inb : ∀ a, off a + S1536x256.size a ≤ S150528x256.size a) : Memref sig .tc .hbm S1536x256 .fp8e5m2 :=
  GH.slice (Rect.unit (s := S150528x256) off S1536x256.size inb) (fun _ => rfl)

theorem slotG_set {off : Fin 3 → ℕ} {s : ℕ} (hoff : off = ![s, 0, 0]) (inb) : (slotG off inb).view.set = (slab 98 s : Finset S98x1536x256.Idx) :=
  (View.set_reshape _ _).trans ((View.set_slice_whole _ _).trans (set_slab hoff inb))
theorem rowsG_set {off : Fin 2 → ℕ} {p : ℕ} (hoff : off = ![1536 * p, 0]) (inb) : (rowsG off inb).view.set = (rows p : Finset S150528x256.Idx) :=
  (View.set_slice_whole _ _).trans (set_rows hoff inb)

theorem landG {off : Fin 3 → ℕ} {off' : Fin 2 → ℕ} {s p : ℕ} (hs : s < 98) (hp : p < 98) (hoff : off = ![s, 0, 0]) (hoff' : off' = ![1536 * p, 0])
    (inb) (inb') (fd : S98x1536x256.Idx → Elt F .fp8e5m2) (fx : BufG (F := F)) :
    ∀ i ∈ (slab 98 s : Finset S98x1536x256.Idx), (slotG off inb).view.write (Elt F) fd ((rowsG off' inb').view.read (Elt F) fx) Finset.univ i = land 98 fx p i :=
  write_eq (slotG off inb).view fd (land 98 fx p) _ (slab 98 s) (fun x _ => by
    have e1 : (slotG off inb).view.emb x = ix3 ⟨s, hs⟩ (x 0) (x 1) := emb_slab hs hoff inb _ x
    have e2 : (rowsG off' inb').view.emb x = ix2 (rowN p (x 0).val) (x 1) := emb_rows hp hoff' inb' x
    rw [e1]
    show _ = fx ((rowsG off' inb').view.emb x)
    rw [e2]; rfl) (fun i hi hn => absurd (by rw [slotG_set hoff]; exact hi) hn)

abbrev gSlab (c : Dev nD) (s : ℕ) (f : S98x1536x256.Idx → Elt F .fp8e5m2) : sProp 𝕄 :=
  GB.view.loc (c : Thread nD τ) ↦[slab 98 s]{fullShare} f
abbrev gPart (c : Dev nD) (s : Fin 8) (S : Finset S150528x256.Idx) (f : BufG (F := F)) : sProp 𝕄 :=
  GH.view.loc (c : Thread nD τ) ↦[S]{Transfers.shareTok fullShare 8 s} f
abbrev NG : ℕ := (slotG ![0, 0, 0] (by decide)).view.dmaCredit

/-- Slab `off` of the ring and the rows of the array, as the program names them. -/
abbrev slotM (off : Fin 3 → ℕ) (inb : ∀ a, off a + S1x1536x256.size a ≤ S8x1536x256.size a) : Memref sig .tc .vmem S1536x256 .i8 :=
  (MB.slice (Rect.unit (s := S8x1536x256) off S1x1536x256.size inb) (fun _ => rfl)).squeeze S1536x256 squeezes_S1x1536x256_S1536x256
abbrev rowsM (off : Fin 2 → ℕ) (inb : ∀ a, off a + S1536x256.size a ≤ S150528x256.size a) : Memref sig .tc .hbm S1536x256 .i8 :=
  MH.slice (Rect.unit (s := S150528x256) off S1536x256.size inb) (fun _ => rfl)

theorem slotM_set {off : Fin 3 → ℕ} {s : ℕ} (hoff : off = ![s, 0, 0]) (inb) : (slotM off inb).view.set = (slab 8 s : Finset S8x1536x256.Idx) :=
  (View.set_reshape _ _).trans ((View.set_slice_whole _ _).trans (set_slab hoff inb))
theorem rowsM_set {off : Fin 2 → ℕ} {p : ℕ} (hoff : off = ![1536 * p, 0]) (inb) : (rowsM off inb).view.set = (rows p : Finset S150528x256.Idx) :=
  (View.set_slice_whole _ _).trans (set_rows hoff inb)

theorem landM {off : Fin 3 → ℕ} {off' : Fin 2 → ℕ} {s p : ℕ} (hs : s < 8) (hp : p < 98) (hoff : off = ![s, 0, 0]) (hoff' : off' = ![1536 * p, 0])
    (inb) (inb') (fd : S8x1536x256.Idx → Elt F .i8) (fx : BufM (F := F)) :
    ∀ i ∈ (slab 8 s : Finset S8x1536x256.Idx), (slotM off inb).view.write (Elt F) fd ((rowsM off' inb').view.read (Elt F) fx) Finset.univ i = land 8 fx p i :=
  write_eq (slotM off inb).view fd (land 8 fx p) _ (slab 8 s) (fun x _ => by
    have e1 : (slotM off inb).view.emb x = ix3 ⟨s, hs⟩ (x 0) (x 1) := emb_slab hs hoff inb _ x
    have e2 : (rowsM off' inb').view.emb x = ix2 (rowN p (x 0).val) (x 1) := emb_rows hp hoff' inb' x
    rw [e1]
    show _ = fx ((rowsM off' inb').view.emb x)
    rw [e2]; rfl) (fun i hi hn => absurd (by rw [slotM_set hoff]; exact hi) hn)

abbrev mSlab (c : Dev nD) (s : ℕ) (f : S8x1536x256.Idx → Elt F .i8) : sProp 𝕄 :=
  MB.view.loc (c : Thread nD τ) ↦[slab 8 s]{fullShare} f
abbrev mPart (c : Dev nD) (s : Fin 8) (S : Finset S150528x256.Idx) (f : BufM (F := F)) : sProp 𝕄 :=
  MH.view.loc (c : Thread nD τ) ↦[S]{Transfers.shareTok fullShare 8 s} f
abbrev NM : ℕ := (slotM ![0, 0, 0] (by decide)).view.dmaCredit

/-- Slab `off` of the ring and the rows of the array, as the program names them. -/
abbrev slotO (off : Fin 3 → ℕ) (inb : ∀ a, off a + S1x1536x256.size a ≤ S3x1536x256.size a) : Memref sig .tc .vmem S1536x256 .bf16 :=
  (OB.slice (Rect.unit (s := S3x1536x256) off S1x1536x256.size inb) (fun _ => rfl)).squeeze S1536x256 squeezes_S1x1536x256_S1536x256
abbrev rowsO (off : Fin 2 → ℕ) (inb : ∀ a, off a + S1536x256.size a ≤ S150528x256.size a) : Memref sig .tc .hbm S1536x256 .bf16 :=
  OH.slice (Rect.unit (s := S150528x256) off S1536x256.size inb) (fun _ => rfl)

theorem slotO_set {off : Fin 3 → ℕ} {s : ℕ} (hoff : off = ![s, 0, 0]) (inb) : (slotO off inb).view.set = (slab 3 s : Finset S3x1536x256.Idx) :=
  (View.set_reshape _ _).trans ((View.set_slice_whole _ _).trans (set_slab hoff inb))
theorem rowsO_set {off : Fin 2 → ℕ} {p : ℕ} (hoff : off = ![1536 * p, 0]) (inb) : (rowsO off inb).view.set = (rows p : Finset S150528x256.Idx) :=
  (View.set_slice_whole _ _).trans (set_rows hoff inb)

abbrev oSlab (c : Dev nD) (s : ℕ) (f : S3x1536x256.Idx → Elt F .bf16) : sProp 𝕄 :=
  OB.view.loc (c : Thread nD τ) ↦[slab 3 s]{fullShare} f
abbrev oRows (c : Dev nD) (p : ℕ) (f : BufO (F := F)) : sProp 𝕄 :=
  OH.view.loc (c : Thread nD τ) ↦[rows p]{fullShare} f
abbrev NO : ℕ := (rowsO ![0, 0] (by decide)).view.dmaCredit

/-! ## The ring of `x` -/

/-- What ring slot `s` is worth: at rest and never filled; a copy of block `p` away; block `p` in it, its wait done. -/
def XΦ (c : Dev nD) (fx : BufX (F := F)) (s : Fin 55) : Option (Bool × ℕ) → sProp 𝕄
  | none => iprop((∃ f, xSlab c s.val f) ∗ semVal ((c : Thread nD τ), .dma (xSem s)) 0 ∗ xPart c s Finset.univ fx)
  | some (true, p) => iprop(Transfers.Flight EC (c : Thread nD τ) (.dma (xSem s)) () NX iprop(xSlab c s.val (land 55 fx (p % 98)) ∗ xPart c s (rows (p % 98)) fx)
      ∗ xPart c s (Finset.univ \ rows (p % 98)) fx)
  | some (false, p) => iprop(xSlab c s.val (land 55 fx (p % 98)) ∗ semVal ((c : Thread nD τ), .dma (xSem s)) 0 ∗ xPart c s Finset.univ fx)

theorem XΦ_free (c : Dev nD) (fx : BufX (F := F)) (s : Fin 55) (p : ℕ) : XΦ c fx s (some (false, p)) ⊢ XΦ c fx s none := by
  unfold XΦ
  iintro ⟨H, Hr⟩
  isplitl [H]
  · iexists _; iexact H
  · iexact Hr

theorem issueX (c : Dev nD) (fx : BufX (F := F)) {n w : ℕ} (hwn : w ≤ n) (hn : n < w + 55) {off : Fin 3 → ℕ} {off' : Fin 2 → ℕ}
    {inb} {inb'} {sem : DmaSem sig} (ho : off = ![n % 55, 0, 0]) (ho' : off' = ![1536 * (n % 98), 0]) (hsem : sem = xSem (slot 55 n))
    {h1 : (rowsX off' inb').view.WordExact} {h2 : (slotX off inb).view.WordExact} {h3 : DmaTarget.Typed (nD := nD) .hbm (.dma sem) (.here (p := .tc) (slotX off inb))}
    {Q : PUnit → sProp 𝕄} :
    AtW (XΦ c fx) (rst 55 n w) ⊢ iprop((AtW (XΦ c fx) (rst 55 (n + 1) w) -∗ Q ⟨⟩)
      -∗ WP (F := F) c (Prog.lift (.enqueueDma (rowsX off' inb') (.here (slotX off inb)) (.dma sem) h1 h2 h3)) Q) := by
  subst hsem
  have hfree : XΦ c fx (slot 55 n) (rst 55 n w (slot 55 n)) ⊢ XΦ c fx (slot 55 n) none := by
    rcases rst_free (N := 55) (n := n) (w := w) (by unfold RingSize; decide) hn with h | h
    · rw [h]
    · rw [h]; exact XΦ_free c fx _ _
  rw [AtW_focus (XΦ c fx) (rst 55 n w) (slot 55 n), rst_issue (N := 55) (by unfold RingSize; decide) hwn]
  iintro ⟨Hf, Hrest⟩ HQ
  ihave Hf := hfree $$ Hf
  unfold XΦ
  icases Hf with ⟨⟨%f, Hd⟩, Hv, Ht⟩
  iapply (issue_gen c (src := rowsX off' inb') (dst := slotX off inb) (fs := fx) (fd := f) (Rs := rows (n % 98)) (Sd := slab 55 (n % 55)) (g := land 55 fx (n % 98)) NX rfl (View.dmaCredit_pos _ (by decide))
    (rowsX_set ho' inb') (slotX_set ho inb) (landX (Nat.mod_lt _ (by decide)) (Nat.mod_lt _ (by decide)) ho ho' inb inb' f fx)) $$ [Hd Hv Ht]
  · isplitl [Ht]; · iexact Ht
    isplitl [Hd]; · iexact Hd
    iexact Hv
  iintro HF
  iapply HQ
  iapply (Ring.AtW_update (XΦ c fx) (rst 55 n w) (slot 55 n) (some (true, n)))
  isplitl [HF]
  · unfold XΦ; iexact HF
  · iexact Hrest

theorem waitX (c : Dev nD) (fx : BufX (F := F)) {n w : ℕ} (hw : w < n) (hn : n ≤ w + 55) {sp sp' : Space} {s s' : Shape} {e e' : EltTy}
    {src : Memref sig .tc sp' s' e'} {dst : Memref sig .tc sp s e} {sem : DmaSem sig} (hsem : sem = xSem (slot 55 w)) (hN : dst.view.dmaCredit = NX)
    {h1 : src.view.WordExact} {h2 : dst.view.WordExact} {Q : PUnit → sProp 𝕄} :
    iprop(AtW (XΦ c fx) (rst 55 n w) ∗ (∃ W, owes (c : Thread nD τ) 0 W)) ⊢ iprop((iprop(AtW (XΦ c fx) (rst 55 n (w + 1)) ∗ (∃ W, owes (c : Thread nD τ) 0 W)) -∗ Q ⟨⟩)
      -∗ WP (F := F) c (Prog.lift (.waitDma2 sem src dst h1 h2)) Q) := by
  subst hsem
  rw [AtW_focus (XΦ c fx) (rst 55 n w) (slot 55 w), rst_wait (N := 55) (by unfold RingSize; decide) hw hn,
    rst_flight (N := 55) (by unfold RingSize; decide) hw hn]
  iintro ⟨⟨Hf, Hrest⟩, HO⟩ HQ
  ihave Hf := (show XΦ c fx (slot 55 w) (some (true, w)) ⊢ iprop(Transfers.Flight EC (c : Thread nD τ) (.dma (xSem (slot 55 w))) () NX iprop(xSlab c (w % 55) (land 55 fx (w % 98)) ∗ xPart c (slot 55 w) (rows (w % 98)) fx)
      ∗ xPart c (slot 55 w) (Finset.univ \ rows (w % 98)) fx) from .rfl) $$ Hf
  icases Hf with ⟨HF, Hr⟩
  iapply (wait_gen c NX hN) $$ [HF HO]
  · isplitl [HF]; · iexact HF
    iexact HO
  iintro ⟨⟨Hd, Ht⟩, Hv, HO⟩
  iapply HQ
  isplitr [HO]
  · iapply (Ring.AtW_update (XΦ c fx) (rst 55 n w) (slot 55 w) (some (false, w)))
    isplitr [Hrest]
    · unfold XΦ
      isplitl [Hd]; · iexact Hd
      isplitl [Hv]; · iexact Hv
      iapply (pointsTo_split_subset (Finset.subset_univ (rows (w % 98)))).2
      isplitl [Ht]; · iexact Ht
      iexact Hr
    · iexact Hrest
  · iexact HO

/-! ## The ring of `m` -/

/-- What ring slot `s` is worth: at rest and never filled; a copy of block `p` away; block `p` in it, its wait done. -/
def MΦ (c : Dev nD) (fx : BufM (F := F)) (s : Fin 8) : Option (Bool × ℕ) → sProp 𝕄
  | none => iprop((∃ f, mSlab c s.val f) ∗ semVal ((c : Thread nD τ), .dma (mSem s)) 0 ∗ mPart c s Finset.univ fx)
  | some (true, p) => iprop(Transfers.Flight EC (c : Thread nD τ) (.dma (mSem s)) () NM iprop(mSlab c s.val (land 8 fx (p % 98)) ∗ mPart c s (rows (p % 98)) fx)
      ∗ mPart c s (Finset.univ \ rows (p % 98)) fx)
  | some (false, p) => iprop(mSlab c s.val (land 8 fx (p % 98)) ∗ semVal ((c : Thread nD τ), .dma (mSem s)) 0 ∗ mPart c s Finset.univ fx)

theorem MΦ_free (c : Dev nD) (fx : BufM (F := F)) (s : Fin 8) (p : ℕ) : MΦ c fx s (some (false, p)) ⊢ MΦ c fx s none := by
  unfold MΦ
  iintro ⟨H, Hr⟩
  isplitl [H]
  · iexists _; iexact H
  · iexact Hr

theorem issueM (c : Dev nD) (fx : BufM (F := F)) {n w : ℕ} (hwn : w ≤ n) (hn : n < w + 8) {off : Fin 3 → ℕ} {off' : Fin 2 → ℕ}
    {inb} {inb'} {sem : DmaSem sig} (ho : off = ![n % 8, 0, 0]) (ho' : off' = ![1536 * (n % 98), 0]) (hsem : sem = mSem (slot 8 n))
    {h1 : (rowsM off' inb').view.WordExact} {h2 : (slotM off inb).view.WordExact} {h3 : DmaTarget.Typed (nD := nD) .hbm (.dma sem) (.here (p := .tc) (slotM off inb))}
    {Q : PUnit → sProp 𝕄} :
    AtW (MΦ c fx) (rst 8 n w) ⊢ iprop((AtW (MΦ c fx) (rst 8 (n + 1) w) -∗ Q ⟨⟩)
      -∗ WP (F := F) c (Prog.lift (.enqueueDma (rowsM off' inb') (.here (slotM off inb)) (.dma sem) h1 h2 h3)) Q) := by
  subst hsem
  have hfree : MΦ c fx (slot 8 n) (rst 8 n w (slot 8 n)) ⊢ MΦ c fx (slot 8 n) none := by
    rcases rst_free (N := 8) (n := n) (w := w) (by unfold RingSize; decide) hn with h | h
    · rw [h]
    · rw [h]; exact MΦ_free c fx _ _
  rw [AtW_focus (MΦ c fx) (rst 8 n w) (slot 8 n), rst_issue (N := 8) (by unfold RingSize; decide) hwn]
  iintro ⟨Hf, Hrest⟩ HQ
  ihave Hf := hfree $$ Hf
  unfold MΦ
  icases Hf with ⟨⟨%f, Hd⟩, Hv, Ht⟩
  iapply (issue_gen c (src := rowsM off' inb') (dst := slotM off inb) (fs := fx) (fd := f) (Rs := rows (n % 98)) (Sd := slab 8 (n % 8)) (g := land 8 fx (n % 98)) NM rfl (View.dmaCredit_pos _ (by decide))
    (rowsM_set ho' inb') (slotM_set ho inb) (landM (Nat.mod_lt _ (by decide)) (Nat.mod_lt _ (by decide)) ho ho' inb inb' f fx)) $$ [Hd Hv Ht]
  · isplitl [Ht]; · iexact Ht
    isplitl [Hd]; · iexact Hd
    iexact Hv
  iintro HF
  iapply HQ
  iapply (Ring.AtW_update (MΦ c fx) (rst 8 n w) (slot 8 n) (some (true, n)))
  isplitl [HF]
  · unfold MΦ; iexact HF
  · iexact Hrest

theorem waitM (c : Dev nD) (fx : BufM (F := F)) {n w : ℕ} (hw : w < n) (hn : n ≤ w + 8) {sp sp' : Space} {s s' : Shape} {e e' : EltTy}
    {src : Memref sig .tc sp' s' e'} {dst : Memref sig .tc sp s e} {sem : DmaSem sig} (hsem : sem = mSem (slot 8 w)) (hN : dst.view.dmaCredit = NM)
    {h1 : src.view.WordExact} {h2 : dst.view.WordExact} {Q : PUnit → sProp 𝕄} :
    iprop(AtW (MΦ c fx) (rst 8 n w) ∗ (∃ W, owes (c : Thread nD τ) 0 W)) ⊢ iprop((iprop(AtW (MΦ c fx) (rst 8 n (w + 1)) ∗ (∃ W, owes (c : Thread nD τ) 0 W)) -∗ Q ⟨⟩)
      -∗ WP (F := F) c (Prog.lift (.waitDma2 sem src dst h1 h2)) Q) := by
  subst hsem
  rw [AtW_focus (MΦ c fx) (rst 8 n w) (slot 8 w), rst_wait (N := 8) (by unfold RingSize; decide) hw hn,
    rst_flight (N := 8) (by unfold RingSize; decide) hw hn]
  iintro ⟨⟨Hf, Hrest⟩, HO⟩ HQ
  ihave Hf := (show MΦ c fx (slot 8 w) (some (true, w)) ⊢ iprop(Transfers.Flight EC (c : Thread nD τ) (.dma (mSem (slot 8 w))) () NM iprop(mSlab c (w % 8) (land 8 fx (w % 98)) ∗ mPart c (slot 8 w) (rows (w % 98)) fx)
      ∗ mPart c (slot 8 w) (Finset.univ \ rows (w % 98)) fx) from .rfl) $$ Hf
  icases Hf with ⟨HF, Hr⟩
  iapply (wait_gen c NM hN) $$ [HF HO]
  · isplitl [HF]; · iexact HF
    iexact HO
  iintro ⟨⟨Hd, Ht⟩, Hv, HO⟩
  iapply HQ
  isplitr [HO]
  · iapply (Ring.AtW_update (MΦ c fx) (rst 8 n w) (slot 8 w) (some (false, w)))
    isplitr [Hrest]
    · unfold MΦ
      isplitl [Hd]; · iexact Hd
      isplitl [Hv]; · iexact Hv
      iapply (pointsTo_split_subset (Finset.subset_univ (rows (w % 98)))).2
      isplitl [Ht]; · iexact Ht
      iexact Hr
    · iexact Hrest
  · iexact HO

/-! ## The slabs of `g` and the cells that fill them -/

/-- What semaphore `s` of the `g` copies is worth: at rest; a copy of chunk `p` away. -/
def GΦ (c : Dev nD) (fg : BufG (F := F)) (s : Fin 8) : Option (Bool × ℕ) → sProp 𝕄
  | none => iprop(semVal ((c : Thread nD τ), .dma (gSem s)) 0 ∗ gPart c s Finset.univ fg)
  | some (true, p) => iprop(Transfers.Flight EC (c : Thread nD τ) (.dma (gSem s)) () NG iprop(gSlab c (p % 98) (land 98 fg (p % 98)) ∗ gPart c s (rows (p % 98)) fg)
      ∗ gPart c s (Finset.univ \ rows (p % 98)) fg)
  | some (false, p) => iprop(semVal ((c : Thread nD τ), .dma (gSem s)) 0 ∗ gPart c s Finset.univ fg)

/-- What slab `j` of the `g` buffer is worth: never filled; lent to a copy or set apart; masked. -/
def SΦ (c : Dev nD) (fM : S98x1536x256.Idx → Elt F .fp8e5m2) (j : Fin 98) : ℕ → sProp 𝕄
  | 0 => iprop(∃ f, gSlab c j.val f)
  | 1 => iprop(emp)
  | _ => gSlab c j.val fM

theorem issueG (c : Dev nD) (fg : BufG (F := F)) (fM : S98x1536x256.Idx → Elt F .fp8e5m2) {n w v : ℕ} (hwn : w ≤ n) (hn : n < w + 8) (hv : v ≤ n) (h98 : n < 98)
    {off : Fin 3 → ℕ} {off' : Fin 2 → ℕ}
    {inb} {inb'} {sem : DmaSem sig} (ho : off = ![n, 0, 0]) (ho' : off' = ![1536 * n, 0]) (hsem : sem = gSem (slot 8 n))
    {h1 : (rowsG off' inb').view.WordExact} {h2 : (slotG off inb).view.WordExact} {h3 : DmaTarget.Typed (nD := nD) .hbm (.dma sem) (.here (p := .tc) (slotG off inb))}
    {Q : PUnit → sProp 𝕄} :
    iprop(AtW (GΦ c fg) (rst 8 n w) ∗ AtW (SΦ c fM) (sst n v)) ⊢ iprop((iprop(AtW (GΦ c fg) (rst 8 (n + 1) w) ∗ AtW (SΦ c fM) (sst (n + 1) v)) -∗ Q ⟨⟩)
      -∗ WP (F := F) c (Prog.lift (.enqueueDma (rowsG off' inb') (.here (slotG off inb)) (.dma sem) h1 h2 h3)) Q) := by
  subst hsem
  have e98 : n % 98 = n := Nat.mod_eq_of_lt h98
  have hfree : GΦ c fg (slot 8 n) (rst 8 n w (slot 8 n)) = GΦ c fg (slot 8 n) none := by
    rcases rst_free (N := 8) (n := n) (w := w) (by unfold RingSize; decide) hn with h | h
    · rw [h]
    · rw [h]; rfl
  rw [AtW_focus (GΦ c fg) (rst 8 n w) (slot 8 n), rst_issue (N := 8) (by unfold RingSize; decide) hwn, hfree,
    AtW_focus (SΦ c fM) (sst n v) ⟨n, h98⟩, sst_raw hv h98, sst_issue hv h98]
  iintro ⟨⟨Hf, Hrest⟩, Hs, Hsrest⟩ HQ
  ihave Hs := (show SΦ c fM ⟨n, h98⟩ 0 ⊢ iprop(∃ f, gSlab c n f) from .rfl) $$ Hs
  unfold GΦ
  icases Hf with ⟨Hv, Ht⟩
  icases Hs with ⟨%f, Hd⟩
  iapply (issue_gen c (src := rowsG off' inb') (dst := slotG off inb) (fs := fg) (fd := f) (Rs := rows n) (Sd := slab 98 n) (g := land 98 fg n) NG rfl (View.dmaCredit_pos _ (by decide))
    (rowsG_set ho' inb') (slotG_set ho inb) (landG h98 h98 ho ho' inb inb' f fg)) $$ [Hd Hv Ht]
  · isplitl [Ht]; · iexact Ht
    isplitl [Hd]; · iexact Hd
    iexact Hv
  iintro HF
  iapply HQ
  isplitl [HF Hrest]
  · iapply (Ring.AtW_update (GΦ c fg) (rst 8 n w) (slot 8 n) (some (true, n)))
    isplitl [HF]
    · iapply (show iprop(Transfers.Flight EC (c : Thread nD τ) (.dma (gSem (slot 8 n))) () NG iprop(gSlab c n (land 98 fg n) ∗ gPart c (slot 8 n) (rows n) fg)
          ∗ gPart c (slot 8 n) (Finset.univ \ rows n) fg) ⊢ GΦ c fg (slot 8 n) (some (true, n)) from by unfold GΦ; dsimp only; rw [e98])
      iexact HF
    · iexact Hrest
  · iapply (Ring.AtW_update (SΦ c fM) (sst n v) ⟨n, h98⟩ 1)
    isplitr
    · unfold SΦ; iempintro
    · iexact Hsrest

theorem waitG (c : Dev nD) (fg : BufG (F := F)) {n w : ℕ} (hw : w < n) (hn : n ≤ w + 8) (h98 : w < 98) {sp sp' : Space} {s s' : Shape} {e e' : EltTy}
    {src : Memref sig .tc sp' s' e'} {dst : Memref sig .tc sp s e} {sem : DmaSem sig} (hsem : sem = gSem (slot 8 w)) (hN : dst.view.dmaCredit = NG)
    {h1 : src.view.WordExact} {h2 : dst.view.WordExact} {Q : PUnit → sProp 𝕄} :
    iprop(AtW (GΦ c fg) (rst 8 n w) ∗ (∃ W, owes (c : Thread nD τ) 0 W))
      ⊢ iprop((iprop(AtW (GΦ c fg) (rst 8 n (w + 1)) ∗ gSlab c w (land 98 fg w) ∗ (∃ W, owes (c : Thread nD τ) 0 W)) -∗ Q ⟨⟩)
      -∗ WP (F := F) c (Prog.lift (.waitDma2 sem src dst h1 h2)) Q) := by
  subst hsem
  have e98 : w % 98 = w := Nat.mod_eq_of_lt h98
  rw [AtW_focus (GΦ c fg) (rst 8 n w) (slot 8 w), rst_wait (N := 8) (by unfold RingSize; decide) hw hn,
    rst_flight (N := 8) (by unfold RingSize; decide) hw hn]
  iintro ⟨⟨Hf, Hrest⟩, HO⟩ HQ
  ihave Hf := (show GΦ c fg (slot 8 w) (some (true, w)) ⊢ iprop(Transfers.Flight EC (c : Thread nD τ) (.dma (gSem (slot 8 w))) () NG iprop(gSlab c (w % 98) (land 98 fg (w % 98)) ∗ gPart c (slot 8 w) (rows (w % 98)) fg)
      ∗ gPart c (slot 8 w) (Finset.univ \ rows (w % 98)) fg) from .rfl) $$ Hf
  rw [e98]
  icases Hf with ⟨HF, Hr⟩
  iapply (wait_gen c NG hN) $$ [HF HO]
  · isplitl [HF]; · iexact HF
    iexact HO
  iintro ⟨⟨Hd, Ht⟩, Hv, HO⟩
  iapply HQ
  isplitr [Hd HO]
  · iapply (Ring.AtW_update (GΦ c fg) (rst 8 n w) (slot 8 w) (some (false, w)))
    isplitr [Hrest]
    · unfold GΦ
      isplitl [Hv]; · iexact Hv
      iapply (pointsTo_split_subset (Finset.subset_univ (rows w))).2
      isplitl [Ht]; · iexact Ht
      iexact Hr
    · iexact Hrest
  · isplitl [Hd]; · iexact Hd
    iexact HO

/-! ## The result's ring and its blocks of rows -/

/-- What output slot `s` is worth: at rest; block `j` (in the order of the second pass) on its way out. -/
def OΦ (c : Dev nD) (fD : BufO (F := F)) (s : Fin 3) : Option (Bool × ℕ) → sProp 𝕄
  | none => iprop((∃ f, oSlab c s.val f) ∗ semVal ((c : Thread nD τ), .dma (oSem s)) 0)
  | some (true, j) => Transfers.Flight EC (c : Thread nD τ) (.dma (oSem s)) () NO iprop(oRows c ((j + 43) % 98) fD ∗ (∃ f, oSlab c s.val f))
  | some (false, j) => iprop((∃ f, oSlab c s.val f) ∗ semVal ((c : Thread nD τ), .dma (oSem s)) 0)

/-- What the rows the second pass's trip `j` writes are worth: not yet written; lent to a copy; the result's. -/
def DΦ (c : Dev nD) (fD : BufO (F := F)) (j : Fin 98) : ℕ → sProp 𝕄
  | 0 => iprop(∃ f, oRows c ((j.val + 43) % 98) f)
  | 1 => iprop(emp)
  | _ => oRows c ((j.val + 43) % 98) fD

theorem landO {off : Fin 3 → ℕ} {off' : Fin 2 → ℕ} {s p : ℕ} (hs : s < 3) (hp : p < 98) (hoff : off = ![s, 0, 0]) (hoff' : off' = ![1536 * p, 0])
    (inb) (inb') (fo : S3x1536x256.Idx → Elt F .bf16) (fD : BufO (F := F)) (f : BufO (F := F))
    (hfo : ∀ (a : Fin 1536) (b : Fin 256), fo (ix3 ⟨s, hs⟩ a b) = fD (ix2 (rowN p a.val) b)) :
    ∀ i ∈ (rows p : Finset S150528x256.Idx), (rowsO off' inb').view.write (Elt F) f ((slotO off inb).view.read (Elt F) fo) Finset.univ i = fD i :=
  write_eq (rowsO off' inb').view f fD _ (rows p) (fun x _ => by
    have e1 : (slotO off inb).view.emb x = ix3 ⟨s, hs⟩ (x 0) (x 1) := emb_slab hs hoff inb _ x
    have e2 : (rowsO off' inb').view.emb x = ix2 (rowN p (x 0).val) (x 1) := emb_rows hp hoff' inb' x
    rw [e2]
    show _ = fo ((slotO off inb).view.emb x)
    rw [e1]; exact (hfo (x 0) (x 1)).symm) (fun i hi hn => absurd (by rw [rowsO_set hoff']; exact hi) hn)

/-- The output slot of trip `n` set apart. -/
def oOpen (c : Dev nD) (fD : BufO (F := F)) (n w : ℕ) : sProp 𝕄 :=
  iprop(semVal ((c : Thread nD τ), .dma (oSem (slot 3 n))) 0 ∗ restW (OΦ c fD) (rst 3 n w) (slot 3 n))

theorem takeO (c : Dev nD) (fD : BufO (F := F)) {n w : ℕ} (hn : n < w + 3) :
    AtW (OΦ c fD) (rst 3 n w) ⊢ iprop((∃ f, oSlab c (n % 3) f) ∗ oOpen c fD n w) := by
  have hfree : OΦ c fD (slot 3 n) (rst 3 n w (slot 3 n)) = OΦ c fD (slot 3 n) none := by
    rcases rst_free (N := 3) (n := n) (w := w) (by unfold RingSize; decide) hn with h | h
    · rw [h]
    · rw [h]; rfl
  rw [AtW_focus (OΦ c fD) (rst 3 n w) (slot 3 n), hfree]
  unfold OΦ oOpen
  iintro ⟨⟨Hf, Hv⟩, Hrest⟩
  isplitl [Hf]; · iexact Hf
  isplitl [Hv]; · iexact Hv
  unfold OΦ
  iexact Hrest

theorem issueO (c : Dev nD) (fD : BufO (F := F)) {n w v : ℕ} (hwn : w ≤ n) (hv : v ≤ n) (h98 : n < 98)
    {off : Fin 3 → ℕ} {off' : Fin 2 → ℕ} {inb} {inb'} {sem : DmaSem sig} (ho : off = ![n % 3, 0, 0]) (ho' : off' = ![1536 * ((n + 43) % 98), 0]) (hsem : sem = oSem (slot 3 n))
    {h1 : (slotO off inb).view.WordExact} {h2 : (rowsO off' inb').view.WordExact} {h3 : DmaTarget.Typed (nD := nD) .vmem (.dma sem) (.here (p := .tc) (rowsO off' inb'))}
    (fo : S3x1536x256.Idx → Elt F .bf16)
    (hfo : ∀ (a : Fin 1536) (b : Fin 256), fo (ix3 ⟨n % 3, Nat.mod_lt _ (by decide)⟩ a b) = fD (ix2 (rowN ((n + 43) % 98) a.val) b))
    {Q : PUnit → sProp 𝕄} :
    iprop(oSlab c (n % 3) fo ∗ oOpen c fD n w ∗ AtW (DΦ c fD) (sst n v))
      ⊢ iprop((iprop(AtW (OΦ c fD) (rst 3 (n + 1) w) ∗ AtW (DΦ c fD) (sst (n + 1) v)) -∗ Q ⟨⟩)
      -∗ WP (F := F) c (Prog.lift (.enqueueDma (slotO off inb) (.here (rowsO off' inb')) (.dma sem) h1 h2 h3)) Q) := by
  subst hsem
  rw [rst_issue (N := 3) (by unfold RingSize; decide) hwn,
    AtW_focus (DΦ c fD) (sst n v) ⟨n, h98⟩, sst_raw hv h98, sst_issue hv h98]
  unfold oOpen
  iintro ⟨Ho, ⟨Hv, Hrest⟩, Hs, Hsrest⟩ HQ
  ihave Hs := (show DΦ c fD ⟨n, h98⟩ 0 ⊢ iprop(∃ f, oRows c ((n + 43) % 98) f) from .rfl) $$ Hs
  icases Hs with ⟨%f, Hd⟩
  iapply (issue_core c (src := slotO off inb) (dst := rowsO off' inb') (fs := fo) (fd := f) (q := fullShare) (Rs := slab 3 (n % 3)) (Sd := rows ((n + 43) % 98)) (g := fD) NO rfl (View.dmaCredit_pos _ (by decide))
    (slotO_set ho inb) (rowsO_set ho' inb') (landO (Nat.mod_lt _ (by decide)) (Nat.mod_lt _ (by decide)) ho ho' inb inb' fo fD f hfo)) $$ [Hd Hv Ho]
  · isplitl [Ho]; · iexact Ho
    isplitl [Hd]; · iexact Hd
    iexact Hv
  iintro HF
  iapply HQ
  isplitl [HF Hrest]
  · iapply (Ring.AtW_update (OΦ c fD) (rst 3 n w) (slot 3 n) (some (true, n)))
    isplitl [HF]
    · unfold OΦ
      iapply (Transfers.Flight_mono EC (c : Thread nD τ) (D := iprop(oRows c ((n + 43) % 98) fD ∗ oSlab c (n % 3) fo)) (by
        iintro ⟨H1, H2⟩
        isplitl [H1]; · iexact H1
        iexists fo; iexact H2))
      iexact HF
    · iexact Hrest
  · iapply (Ring.AtW_update (DΦ c fD) (sst n v) ⟨n, h98⟩ 1)
    isplitr
    · unfold DΦ; iempintro
    · iexact Hsrest

theorem waitO (c : Dev nD) (fD : BufO (F := F)) {n w : ℕ} (hw : w < n) (hn : n ≤ w + 3) (h98 : w < 98) {sp sp' : Space} {s s' : Shape} {e e' : EltTy}
    {src : Memref sig .tc sp' s' e'} {dst : Memref sig .tc sp s e} {sem : DmaSem sig} (hsem : sem = oSem (slot 3 w)) (hN : dst.view.dmaCredit = NO)
    {h1 : src.view.WordExact} {h2 : dst.view.WordExact} {Q : PUnit → sProp 𝕄} :
    iprop(AtW (OΦ c fD) (rst 3 n w) ∗ AtW (DΦ c fD) (sst n w) ∗ (∃ W, owes (c : Thread nD τ) 0 W))
      ⊢ iprop((iprop(AtW (OΦ c fD) (rst 3 n (w + 1)) ∗ AtW (DΦ c fD) (sst n (w + 1)) ∗ (∃ W, owes (c : Thread nD τ) 0 W)) -∗ Q ⟨⟩)
      -∗ WP (F := F) c (Prog.lift (.waitDma2 sem src dst h1 h2)) Q) := by
  subst hsem
  rw [AtW_focus (OΦ c fD) (rst 3 n w) (slot 3 w), rst_wait (N := 3) (by unfold RingSize; decide) hw hn,
    rst_flight (N := 3) (by unfold RingSize; decide) hw hn, AtW_focus (DΦ c fD) (sst n w) ⟨w, h98⟩, sst_done hw h98]
  iintro ⟨⟨HF, Hrest⟩, ⟨-, Hsrest⟩, HO⟩ HQ
  ihave HF := (show OΦ c fD (slot 3 w) (some (true, w)) ⊢ Transfers.Flight EC (c : Thread nD τ) (.dma (oSem (slot 3 w))) () NO iprop(oRows c ((w + 43) % 98) fD ∗ (∃ f, oSlab c (w % 3) f)) from .rfl) $$ HF
  iapply (wait_gen c NO hN) $$ [HF HO]
  · isplitl [HF]; · iexact HF
    iexact HO
  iintro ⟨⟨Hd, Ht⟩, Hv, HO⟩
  iapply HQ
  isplitl [Ht Hv Hrest]
  · iapply (Ring.AtW_update (OΦ c fD) (rst 3 n w) (slot 3 w) (some (false, w)))
    isplitr [Hrest]
    · unfold OΦ
      isplitl [Ht]; · iexact Ht
      iexact Hv
    · iexact Hrest
  isplitl [Hd Hsrest]
  · iapply (Ring.AtW_update (DΦ c fD) (sst n w) ⟨w, h98⟩ 2)
    isplitl [Hd]
    · unfold DΦ; iexact Hd
    · iexact Hsrest
  · iexact HO

end Cert.Kernel.Hand

end
-- ==== Proof.KInner.lean ====
/-
  The inner loop of the first pass: what the two half chunks of a trip read, mask and add up.
-/
module

public import proofs.«01_k».proof.Proof.Tiles
public import proofs.«01_k».proof.Proof.KBase
public import Idealize.ShloMosaic.Lib.Pipeline.FrameBody
public import Idealize.ShloMosaic.Lib.Pipeline.Value
public import Idealize.ShloMosaic.Lib.Ring
public import Idealize.ShloMosaic.Lib.Tactic

@[expose] public section

set_option maxRecDepth 16384

noncomputable section

namespace Cert.Kernel.Hand

open Cert.Kernel Cert.Kernel.Gen Cert.Geo
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (AtW AtW_focus restW)

variable {F : FTy → Type} [FloatOps F]

local notation "𝕄" => MT nD τ sig Unit (Elt F) ℕ (Pipeline.UD sig nD τ) ℕ

/-- A load, by what the view reads. -/
theorem load_gen (c : Dev nD) {cs : CoreSpace} {s : Shape} {e : EltTy} (M : Memref sig .tc cs s e) (r : Rect s) (hl : M.view.LoadsAt r.toLoadRect)
    (S : Finset (Idx ((M.access r).loc (c : Thread nD τ)))) {q : PosShare TreeShare} (f : Buf (Elt F) ((M.access r).loc (c : Thread nD τ)))
    (T : r.shape.Idx → Elt F e) (hS : (M.access r).set ⊆ S) (hT : (M.access r).read (Elt F) f = T) {Q : (r.shape.Idx → Elt F e) → sProp 𝕄} :
    ((M.access r).loc (c : Thread nD τ) ↦[S]{q} f)
      ⊢ iprop((((M.access r).loc (c : Thread nD τ) ↦[S]{q} f) -∗ Q T) -∗ WP (F := F) c (Prog.lift (.load M r.toLoadRect hl)) Q) := by
  subst hT
  iintro H HQ
  iapply (wp_load_rect Variants.none (c : Thread nD τ) none Set.univ hS) $$ H
  iintro H
  rw [wp_ret]
  iapply fupd_intro
  iapply HQ
  iexact H

/-- A store, by what the buffer holds after it. -/
theorem store_gen (c : Dev nD) {cs : CoreSpace} {s : Shape} {e : EltTy} (M : Memref sig .tc cs s e) (r : Rect s) (w : r.shape.Idx → Elt F e)
    {hx : (M.access r).Stores Finset.univ} {hm : (Finset.univ : Finset r.shape.Idx) = Finset.univ ∨ ∀ a, r.stride a = 1}
    (S : Finset (Idx ((M.access r).loc (c : Thread nD τ)))) (f : Buf (Elt F) ((M.access r).loc (c : Thread nD τ)))
    (g : Buf (Elt F) ((M.access r).loc (c : Thread nD τ))) (hS : (M.access r).set ⊆ S)
    (hw : ∀ i ∈ S, (M.access r).write (Elt F) f w Finset.univ i = g i) {Q : PUnit → sProp 𝕄} :
    ((M.access r).loc (c : Thread nD τ) ↦[S]{fullShare} f)
      ⊢ iprop((((M.access r).loc (c : Thread nD τ) ↦[S]{fullShare} g) -∗ Q ⟨⟩) -∗ WP (F := F) c (Prog.lift (.store M r w Finset.univ hx hm)) Q) := by
  rw [← pointsTo_congr hw]
  iintro H HQ
  iapply (wp_store Variants.none (c : Thread nD τ) none Set.univ (by rwa [View.setOn_univ])) $$ H
  iintro H
  rw [wp_ret]
  iapply fupd_intro
  iapply HQ
  iexact H

theorem set_sub {κ : Kind} {sp : Space} {s : Shape} {e : EltTy} (v : View sig κ sp s e) (S : Finset v.ty.Idx) (h : ∀ x, v.emb x ∈ S) : v.set ⊆ S := by
  intro i hi
  obtain ⟨x, -, rfl⟩ := Finset.mem_map.mp hi
  exact h x

abbrev NB : Memref sig .tc .vmem S16x128 .bf16 := Memref.whole cc0_scratch4
abbrev A0 : Memref sig .tc .vmem S16x256 .f32 := Memref.whole cc0_scratch5
abbrev A1 : Memref sig .tc .vmem S16x256 .f32 := Memref.whole cc0_scratch6
abbrev CB : Memref sig .tc .vmem S8x256 .f32 := Memref.whole cc0_scratch7

theorem loadX (c : Dev nD) {s j l : ℕ} (hs : s < 55) (hj : j < 2) (hl : l < 2) {off : Fin 3 → ℕ} (hoff : off = ![s, 768 * j, 0]) {inb}
    {off2 : Fin 2 → ℕ} (h2 : off2 = ![0, 128 * l]) {inb2} {f : S55x1536x256.Idx → Elt F .fp8e4m3} (T : S768x128.Idx → Elt F .fp8e4m3)
    (hT : ∀ x : S768x128.Idx, f (ix3 ⟨s, hs⟩ (rowI j (x 0).val) (colN l (x 1).val)) = T x) {hld} {Q : (S768x128.Idx → Elt F .fp8e4m3) → sProp 𝕄} :
    xSlab c s f ⊢ iprop((xSlab c s f -∗ Q T) -∗ WP (F := F) c (Prog.lift (.load ((XB.slice (Rect.unit (s := S55x1536x256) off S1x768x256.size inb) (fun _ => rfl)).squeeze S768x256 squeezes_S1x768x256_S768x256)
      (Rect.unit (s := S768x256) off2 S768x128.size inb2).toLoadRect hld)) Q) :=
  have e : ∀ x : S768x128.Idx, ((((XB.slice (Rect.unit (s := S55x1536x256) off S1x768x256.size inb) (fun _ => rfl)).squeeze S768x256 squeezes_S1x768x256_S768x256).access
      (Rect.unit (s := S768x256) off2 S768x128.size inb2)).emb x : S55x1536x256.Idx) = ix3 ⟨s, hs⟩ (rowI j (x 0).val) (colN l (x 1).val) :=
    fun x => emb_tile hs hj hl hoff inb _ h2 inb2 x
  load_gen c ((XB.slice (Rect.unit (s := S55x1536x256) off S1x768x256.size inb) (fun _ => rfl)).squeeze S768x256 squeezes_S1x768x256_S768x256)
    (Rect.unit (s := S768x256) off2 S768x128.size inb2) hld (slab 55 s) f T (set_sub _ _ fun x => by rw [e x]; exact mem_slab.mpr rfl) (funext fun x => (congrArg f (e x)).trans (hT x))

theorem loadG (c : Dev nD) {s j l : ℕ} (hs : s < 98) (hj : j < 2) (hl : l < 2) {off : Fin 3 → ℕ} (hoff : off = ![s, 768 * j, 0]) {inb}
    {off2 : Fin 2 → ℕ} (h2 : off2 = ![0, 128 * l]) {inb2} {f : S98x1536x256.Idx → Elt F .fp8e5m2} (T : S768x128.Idx → Elt F .fp8e5m2)
    (hT : ∀ x : S768x128.Idx, f (ix3 ⟨s, hs⟩ (rowI j (x 0).val) (colN l (x 1).val)) = T x) {hld} {Q : (S768x128.Idx → Elt F .fp8e5m2) → sProp 𝕄} :
    gSlab c s f ⊢ iprop((gSlab c s f -∗ Q T) -∗ WP (F := F) c (Prog.lift (.load ((GB.slice (Rect.unit (s := S98x1536x256) off S1x768x256.size inb) (fun _ => rfl)).squeeze S768x256 squeezes_S1x768x256_S768x256)
      (Rect.unit (s := S768x256) off2 S768x128.size inb2).toLoadRect hld)) Q) :=
  have e : ∀ x : S768x128.Idx, ((((GB.slice (Rect.unit (s := S98x1536x256) off S1x768x256.size inb) (fun _ => rfl)).squeeze S768x256 squeezes_S1x768x256_S768x256).access
      (Rect.unit (s := S768x256) off2 S768x128.size inb2)).emb x : S98x1536x256.Idx) = ix3 ⟨s, hs⟩ (rowI j (x 0).val) (colN l (x 1).val) :=
    fun x => emb_tile hs hj hl hoff inb _ h2 inb2 x
  load_gen c ((GB.slice (Rect.unit (s := S98x1536x256) off S1x768x256.size inb) (fun _ => rfl)).squeeze S768x256 squeezes_S1x768x256_S768x256)
    (Rect.unit (s := S768x256) off2 S768x128.size inb2) hld (slab 98 s) f T (set_sub _ _ fun x => by rw [e x]; exact mem_slab.mpr rfl) (funext fun x => (congrArg f (e x)).trans (hT x))

theorem loadM (c : Dev nD) {s j l : ℕ} (hs : s < 8) (hj : j < 2) (hl : l < 2) {off : Fin 3 → ℕ} (hoff : off = ![s, 768 * j, 0]) {inb}
    {off2 : Fin 2 → ℕ} (h2 : off2 = ![0, 128 * l]) {inb2} {f : S8x1536x256.Idx → Elt F .i8} (T : S768x128.Idx → Elt F .i8)
    (hT : ∀ x : S768x128.Idx, f (ix3 ⟨s, hs⟩ (rowI j (x 0).val) (colN l (x 1).val)) = T x) {hld} {Q : (S768x128.Idx → Elt F .i8) → sProp 𝕄} :
    mSlab c s f ⊢ iprop((mSlab c s f -∗ Q T) -∗ WP (F := F) c (Prog.lift (.load ((MB.slice (Rect.unit (s := S8x1536x256) off S1x768x256.size inb) (fun _ => rfl)).squeeze S768x256 squeezes_S1x768x256_S768x256)
      (Rect.unit (s := S768x256) off2 S768x128.size inb2).toLoadRect hld)) Q) :=
  have e : ∀ x : S768x128.Idx, ((((MB.slice (Rect.unit (s := S8x1536x256) off S1x768x256.size inb) (fun _ => rfl)).squeeze S768x256 squeezes_S1x768x256_S768x256).access
      (Rect.unit (s := S768x256) off2 S768x128.size inb2)).emb x : S8x1536x256.Idx) = ix3 ⟨s, hs⟩ (rowI j (x 0).val) (colN l (x 1).val) :=
    fun x => emb_tile hs hj hl hoff inb _ h2 inb2 x
  load_gen c ((MB.slice (Rect.unit (s := S8x1536x256) off S1x768x256.size inb) (fun _ => rfl)).squeeze S768x256 squeezes_S1x768x256_S768x256)
    (Rect.unit (s := S768x256) off2 S768x128.size inb2) hld (slab 8 s) f T (set_sub _ _ fun x => by rw [e x]; exact mem_slab.mpr rfl) (funext fun x => (congrArg f (e x)).trans (hT x))

theorem storeG (c : Dev nD) {k j l : ℕ} (hk : k < 98) (hj : j < 2) (hl : l < 2) {off : Fin 3 → ℕ} (hoff : off = ![k, 768 * j, 128 * l]) {inb}
    (g f : BufG (F := F)) (w : S1x768x128.Idx → Elt F .fp8e5m2) (hw : ∀ x : S1x768x128.Idx, tile g (2 * k + j) l (ix2 (x 1) (x 2)) = w x) {hx} {hm} {Q : PUnit → sProp 𝕄} :
    gSlab c k (gC g f k j l) ⊢ iprop((gSlab c k (gC g f k j (l + 1)) -∗ Q ⟨⟩) -∗ WP (F := F) c (Prog.lift (.store GB (Rect.unit (s := S98x1536x256) off S1x768x128.size inb) w Finset.univ hx hm)) Q) :=
  have e : ∀ x : S1x768x128.Idx, ((GB.access (Rect.unit (s := S98x1536x256) off S1x768x128.size inb)).emb x : S98x1536x256.Idx) = ix3 ⟨k, hk⟩ (rowI j (x 1).val) (colN l (x 2).val) :=
    fun x => emb_st hk hj hl hoff inb x
  store_gen c GB (Rect.unit (s := S98x1536x256) off S1x768x128.size inb) w (slab 98 k) (gC g f k j l) (gC g f k j (l + 1)) (set_sub _ _ fun x => by rw [e x]; exact mem_slab.mpr rfl)
    (write_eq (GB.access (Rect.unit (s := S98x1536x256) off S1x768x128.size inb)) (gC g f k j l) (gC g f k j (l + 1)) w (slab 98 k)
      (fun x _ => (congrArg (gC g f k j (l + 1)) (e x)).trans ((gC_new g f ⟨k, hk⟩ hk hj hl (ix2 (x 1) (x 2))).trans (hw x)))
      (fun i hi hn => gC_old g f hk hj hl i (mem_slab.mp hi) fun x hx => hn (by rw [hx, ← e x]; exact View.emb_mem_set _ x)))

abbrev bufA0 (c : Dev nD) (f : S16x256.Idx → Elt F .f32) : sProp 𝕄 := A0.view.loc (c : Thread nD τ) ↦[Finset.univ]{fullShare} f
abbrev bufA1 (c : Dev nD) (f : S16x256.Idx → Elt F .f32) : sProp 𝕄 := A1.view.loc (c : Thread nD τ) ↦[Finset.univ]{fullShare} f
abbrev bufN (c : Dev nD) (f : S16x128.Idx → Elt F .bf16) : sProp 𝕄 := NB.view.loc (c : Thread nD τ) ↦[Finset.univ]{fullShare} f

theorem loadN (c : Dev nD) {inb} {f : S16x128.Idx → Elt F .bf16} {hld} {Q : (S16x128.Idx → Elt F .bf16) → sProp 𝕄} :
    bufN c f ⊢ iprop((bufN c f -∗ Q f) -∗ WP (F := F) c (Prog.lift (.load NB (Rect.unit (s := S16x128) ![0, 0] S16x128.size inb).toLoadRect hld)) Q) :=
  load_gen c NB (Rect.unit (s := S16x128) ![0, 0] S16x128.size inb) hld Finset.univ f f (Finset.subset_univ _) (funext fun x => congrArg f (emb_full inb x))
theorem loadA0 (c : Dev nD) {l : ℕ} (hl : l < 2) {off : Fin 2 → ℕ} (hoff : off = ![0, 128 * l]) {inb} {f : S16x256.Idx → Elt F .f32} {hld} {Q : (S16x128.Idx → Elt F .f32) → sProp 𝕄} :
    bufA0 c f ⊢ iprop((bufA0 c f -∗ Q (colR l f)) -∗ WP (F := F) c (Prog.lift (.load A0 (Rect.unit (s := S16x256) off S16x128.size inb).toLoadRect hld)) Q) :=
  load_gen c A0 (Rect.unit (s := S16x256) off S16x128.size inb) hld Finset.univ f (colR l f) (Finset.subset_univ _) (funext fun x => congrArg f (emb_col hl hoff inb x))
theorem storeA0 (c : Dev nD) {l : ℕ} (hl : l < 2) {off : Fin 2 → ℕ} (hoff : off = ![0, 128 * l]) {inb} {f : S16x256.Idx → Elt F .f32} (w : S16x128.Idx → Elt F .f32) {hx} {hm} {Q : PUnit → sProp 𝕄} :
    bufA0 c f ⊢ iprop((bufA0 c (colW l w f) -∗ Q ⟨⟩) -∗ WP (F := F) c (Prog.lift (.store A0 (Rect.unit (s := S16x256) off S16x128.size inb) w Finset.univ hx hm)) Q) :=
  have e : ∀ x : S16x128.Idx, ((A0.access (Rect.unit (s := S16x256) off S16x128.size inb)).emb x : S16x256.Idx) = ix2 (x 0) (colN l (x 1).val) := fun x => emb_col hl hoff inb x
  store_gen c A0 (Rect.unit (s := S16x256) off S16x128.size inb) w Finset.univ f (colW l w f) (Finset.subset_univ _)
    (write_eq (A0.access (Rect.unit (s := S16x256) off S16x128.size inb)) f (colW l w f) w Finset.univ
      (fun x _ => (congrArg (colW l w f) (e x)).trans (colW_on hl w f x))
      (fun i _ hn => colW_off hl w f i fun x hx => hn (by rw [hx, ← e x]; exact View.emb_mem_set _ x)))
theorem loadA1 (c : Dev nD) {l : ℕ} (hl : l < 2) {off : Fin 2 → ℕ} (hoff : off = ![0, 128 * l]) {inb} {f : S16x256.Idx → Elt F .f32} {hld} {Q : (S16x128.Idx → Elt F .f32) → sProp 𝕄} :
    bufA1 c f ⊢ iprop((bufA1 c f -∗ Q (colR l f)) -∗ WP (F := F) c (Prog.lift (.load A1 (Rect.unit (s := S16x256) off S16x128.size inb).toLoadRect hld)) Q) :=
  load_gen c A1 (Rect.unit (s := S16x256) off S16x128.size inb) hld Finset.univ f (colR l f) (Finset.subset_univ _) (funext fun x => congrArg f (emb_col hl hoff inb x))
theorem storeA1 (c : Dev nD) {l : ℕ} (hl : l < 2) {off : Fin 2 → ℕ} (hoff : off = ![0, 128 * l]) {inb} {f : S16x256.Idx → Elt F .f32} (w : S16x128.Idx → Elt F .f32) {hx} {hm} {Q : PUnit → sProp 𝕄} :
    bufA1 c f ⊢ iprop((bufA1 c (colW l w f) -∗ Q ⟨⟩) -∗ WP (F := F) c (Prog.lift (.store A1 (Rect.unit (s := S16x256) off S16x128.size inb) w Finset.univ hx hm)) Q) :=
  have e : ∀ x : S16x128.Idx, ((A1.access (Rect.unit (s := S16x256) off S16x128.size inb)).emb x : S16x256.Idx) = ix2 (x 0) (colN l (x 1).val) := fun x => emb_col hl hoff inb x
  store_gen c A1 (Rect.unit (s := S16x256) off S16x128.size inb) w Finset.univ f (colW l w f) (Finset.subset_univ _)
    (write_eq (A1.access (Rect.unit (s := S16x256) off S16x128.size inb)) f (colW l w f) w Finset.univ
      (fun x _ => (congrArg (colW l w f) (e x)).trans (colW_on hl w f x))
      (fun i _ hn => colW_off hl w f i fun x hx => hn (by rw [hx, ← e x]; exact View.emb_mem_set _ x)))

/-! ## The values -/

/-- One masked value. -/
def gmE (g : Elt F .fp8e5m2) (m : Elt F .i8) : Elt F .fp8e5m2 := k0_pay1 (fun _ => g) (fun _ => m) (ix2 0 0)
/-- The masked gradient. -/
def gmF (fg : BufG (F := F)) (fm : BufM (F := F)) : BufG (F := F) := fun i => gmE (fg i) (fm i)

/-- The accumulators after one more half chunk. -/
def st0 (fg : BufG (F := F)) (fm : BufM (F := F)) (H : ℕ) (A : FVec F S16x256 .f32) : FVec F S16x256 .f32 :=
  have A' : FVec F S16x256 .f32 := colW 0 (k0_pay6 (k0_pay5 k0_pay15 (tile fg H 0) (tile fm H 0) (colR 0 A))) A
  colW 1 (k0_pay16 (k0_pay10 (tile fg H 1) (tile fm H 1)) (colR 1 A') (k0_pay12 k0_pay15)) A'
def st1 (fx : BufX (F := F)) (fg : BufG (F := F)) (fm : BufM (F := F)) (H : ℕ) (A : FVec F S16x256 .f32) : FVec F S16x256 .f32 :=
  have A' : FVec F S16x256 .f32 := colW 0 (k0_pay7 (k0_pay3 (tile fg H 0) (tile fm H 0)) (k0_pay4 (tile fx H 0)) (colR 0 A)) A
  colW 1 (k0_pay17 (k0_pay10 (tile fg H 1) (tile fm H 1)) (k0_pay11 (tile fx H 1)) (colR 1 A')) A'
def acc0N (fg : BufG (F := F)) (fm : BufM (F := F)) : ℕ → FVec F S16x256 .f32
  | 0 => k0_pay13
  | h + 1 => st0 fg fm h (acc0N fg fm h)
def acc1N (fx : BufX (F := F)) (fg : BufG (F := F)) (fm : BufM (F := F)) : ℕ → FVec F S16x256 .f32
  | 0 => k0_pay14
  | h + 1 => st1 fx fg fm h (acc1N fx fg fm h)

theorem pay1_at (v : Vec F S768x128 .fp8e5m2) (w : Vec F S768x128 .i8) (i : S768x128.Idx) : k0_pay1 v w i = gmE (v i) (w i) := rfl
theorem pay2_at (fg : BufG (F := F)) (fm : BufM (F := F)) (H l : ℕ) (x : S1x768x128.Idx) :
    tile (gmF fg fm) H l (ix2 (x 1) (x 2)) = k0_pay2 (tile fg H l) (tile fm H l) x := by
  have e : k0_pay2 (tile fg H l) (tile fm H l) x = k0_pay1 (tile fg H l) (tile fm H l) (ix2 (x 1) (x 2)) := by
    have hx : x = ix3 (x 0) (x 1) (x 2) := eq_ix3 x
    rw [hx]
    unfold k0_pay2
    exact shapeCast_ab_1ab_apply (shapeCast S768x128 (k0_pay1 (tile fg H l) (tile fm H l)) shapeCasts_S768x128_S768x128) shapeCasts_S768x128_S1x768x128 (x 0) (x 1) (x 2)
      |>.trans (congrFun (shapeCast_self _ _) _)
  rw [e, pay1_at]
  rfl
theorem pay9_at (fg : BufG (F := F)) (fm : BufM (F := F)) (H l : ℕ) (x : S1x768x128.Idx) :
    tile (gmF fg fm) H l (ix2 (x 1) (x 2)) = k0_pay9 (tile fg H l) (tile fm H l) x := pay2_at fg fm H l x

variable (a0 : Memref sig .tc .smem S1 .f32) (h0 : a0.IsWhole) (a1 : Memref sig .tc .smem S1 .f32) (h1 : a1.IsWhole)
  (a2 : Memref sig .tc .vmem S1x256 .f32) (h2 : a2.IsWhole) (a3 : Memref sig .tc .vmem S1x256 .f32) (h3 : a3.IsWhole)
  (a4 : Memref sig .tc .vmem S1x256 .f32) (h4 : a4.IsWhole) (a9 : Memref sig .tc .vmem S1x256 .f32) (h9 : a9.IsWhole)
  (a10 : Memref sig .tc .vmem S1x256 .f32) (h10 : a10.IsWhole)

/-- What the inner loop of trip `k` holds before half `j`. -/
def inv2 (c : Dev nD) (fx : BufX (F := F)) (fg : BufG (F := F)) (fm : BufM (F := F)) (k j : ℕ) : sProp 𝕄 :=
  iprop(bufN c k0_pay15 ∗ gSlab c k (gC (gmF fg fm) fg k j 0) ∗ mSlab c (k % 8) (land 8 fm k) ∗ xSlab c (k % 55) (land 55 fx k)
    ∗ bufA0 c (acc0N fg fm (2 * k + j)) ∗ bufA1 c (acc1N fx fg fm (2 * k + j)))

theorem t2_step (c : Dev nD) (fx : BufX (F := F)) (fg : BufG (F := F)) (fm : BufM (F := F)) (k : Fin k0_t1_loop.trips) (z : BitVec 32) (j : Fin k0_t2_loop.trips) (u : Unit) :
    inv2 c fx fg fm k.val j.val ⊢ WP (F := F) c (k0_t2_body (F := F) a0 h0 a1 h1 a2 h2 a3 h3 a4 h4 XH (Memref.isWhole_whole _) GH (Memref.isWhole_whole _) MH (Memref.isWhole_whole _) OH (Memref.isWhole_whole _) a9 h9 a10 h10 XB (Memref.isWhole_whole _) GB (Memref.isWhole_whole _) MB (Memref.isWhole_whole _) OB (Memref.isWhole_whole _) NB (Memref.isWhole_whole _) A0 (Memref.isWhole_whole _) A1 (Memref.isWhole_whole _) CB (Memref.isWhole_whole _) cc0_scratch8 cc0_scratch9 cc0_scratch10 cc0_scratch11 k z j u) (fun _ => inv2 c fx fg fm k.val (j.val + 1)) := by
  have hk : k.val < 98 := k.isLt
  have hj : j.val < 2 := j.isLt
  have hk8 : k.val % 8 < 8 := Nat.mod_lt _ (by decide)
  have hk55 : k.val % 55 < 55 := Nat.mod_lt _ (by decide)
  unfold k0_t2_body inv2
  rw [k0_part1_eq_skeleton, k0_part2_eq_skeleton]
  unfold k0_part1_skel k0_part2_skel
  simp only [wp_bind, wp_pure]
  iintro ⟨HN, HG, HM, HX, H0, H1⟩
  iapply (loadN c) $$ HN
  iintro HN
  iapply (loadG c hk hj (l := 0) (by decide) (k0_off21_eq k j) rfl (tile fg (2 * k.val + j.val) 0) (gC_raw _ _ _ hk hj (by decide))) $$ HG
  iintro HG
  iapply (loadM c hk8 hj (l := 0) (by decide) (k0_off22_eq k j) rfl (tile fm (2 * k.val + j.val) 0) (land_tile fm _ hk hj)) $$ HM
  iintro HM
  iapply (loadG c hk hj (l := 0) (by decide) (k0_off21_eq k j) rfl (tile fg (2 * k.val + j.val) 0) (gC_raw _ _ _ hk hj (by decide))) $$ HG
  iintro HG
  iapply (storeG c hk hj (l := 0) (by decide) (k0_off23_eq k j) (gmF fg fm) fg _ (pay2_at fg fm _ 0)) $$ HG
  iintro HG
  iapply (loadX c hk55 hj (l := 0) (by decide) (k0_off24_eq k j) rfl (tile fx (2 * k.val + j.val) 0) (land_tile fx _ hk hj)) $$ HX
  iintro HX
  iapply (loadA0 c (l := 0) (by decide) rfl) $$ H0
  iintro H0
  iapply (loadA0 c (l := 0) (by decide) rfl) $$ H0
  iintro H0
  iapply fupd_intro
  iapply (storeA0 c (l := 0) (by decide) rfl) $$ H0
  iintro H0
  iapply (loadA1 c (l := 0) (by decide) rfl) $$ H1
  iintro H1
  iapply (loadA1 c (l := 0) (by decide) rfl) $$ H1
  iintro H1
  iapply (storeA1 c (l := 0) (by decide) rfl) $$ H1
  iintro H1
  iapply (loadG c hk hj (l := 1) (by decide) (k0_off21_eq k j) rfl (tile fg (2 * k.val + j.val) 1) (gC_raw _ _ _ hk hj (by decide))) $$ HG
  iintro HG
  iapply (loadM c hk8 hj (l := 1) (by decide) (k0_off22_eq k j) rfl (tile fm (2 * k.val + j.val) 1) (land_tile fm _ hk hj)) $$ HM
  iintro HM
  iapply (loadG c hk hj (l := 1) (by decide) (k0_off21_eq k j) rfl (tile fg (2 * k.val + j.val) 1) (gC_raw _ _ _ hk hj (by decide))) $$ HG
  iintro HG
  iapply (storeG c hk hj (l := 1) (by decide) (k0_off25_eq k j) (gmF fg fm) fg _ (pay9_at fg fm _ 1)) $$ HG
  iintro HG
  iapply (loadX c hk55 hj (l := 1) (by decide) (k0_off24_eq k j) rfl (tile fx (2 * k.val + j.val) 1) (land_tile fx _ hk hj)) $$ HX
  iintro HX
  iapply (loadA0 c (l := 1) (by decide) rfl) $$ H0
  iintro H0
  iapply fupd_intro
  iapply (loadA0 c (l := 1) (by decide) rfl) $$ H0
  iintro H0
  iapply (storeA0 c (l := 1) (by decide) rfl) $$ H0
  iintro H0
  iapply (loadA1 c (l := 1) (by decide) rfl) $$ H1
  iintro H1
  iapply (loadA1 c (l := 1) (by decide) rfl) $$ H1
  iintro H1
  iapply (storeA1 c (l := 1) (by decide) rfl) $$ H1
  iintro H1
  iapply fupd_intro
  isplitl [HN]; · iexact HN
  isplitl [HG]; · rw [← gC_step]; iexact HG
  isplitl [HM]; · iexact HM
  isplitl [HX]; · iexact HX
  isplitl [H0]; · iexact H0
  iexact H1

end Cert.Kernel.Hand

end
-- ==== Proof.KPass1.lean ====
/-
  The first pass: one trip starts the copies seven chunks ahead, waits for its own three and works on it.
-/
module

public import proofs.«01_k».proof.Proof.KInner
public import Idealize.ShloMosaic.Lib.Pipeline.FrameBody
public import Idealize.ShloMosaic.Lib.Ring
public import Idealize.ShloMosaic.Lib.Tactic

@[expose] public section

set_option maxRecDepth 16384

noncomputable section

namespace Cert.Kernel.Hand

open Cert.Kernel Cert.Kernel.Gen Cert.Geo
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (AtW AtW_focus restW)

variable {F : FTy → Type} [FloatOps F]

local notation "𝕄" => MT nD τ sig Unit (Elt F) ℕ (Pipeline.UD sig nD τ) ℕ

theorem loop_gen (c : Dev nD) (L : Scf.Loop 32) (ok : L.OK) (body : Fin L.trips → Unit → Prog (TpuEff nD τ sig (Elt F) Λ₀ .tc) Unit) (I : ℕ → sProp 𝕄)
    (hbody : ∀ k u, I k.val ⊢ WP (F := F) c (body k u) (fun _ => I (k.val + 1))) {Q : Unit → sProp 𝕄} :
    I 0 ⊢ iprop((I L.trips -∗ Q ⟨⟩) -∗ WP (F := F) c (Scf.Loop.for L ok ⟨⟩ body) Q) := by
  iintro HI HQ
  iapply (Scf.wp_for frame (wpE (defs₀ (F := F)) Variants.none (c : Thread nD τ) none) Set.univ L.lb L.ub L.st ok ⟨⟩ body (fun k _ => I k) hbody)
  isplitl [HI]; · iexact HI
  iintro %u HI
  iapply HQ
  iexact HI

/-- The rest of the ring while the landed slot of position `p` is set apart. -/
def xHold (c : Dev nD) (fx : BufX (F := F)) (n w p : ℕ) : sProp 𝕄 :=
  iprop((semVal ((c : Thread nD τ), .dma (xSem (slot 55 p))) 0 ∗ xPart c (slot 55 p) Finset.univ fx) ∗ restW (XΦ c fx) (rst 55 n w) (slot 55 p))
theorem takeX (c : Dev nD) (fx : BufX (F := F)) {n w p : ℕ} (q : ℕ) (hq : p % 98 = q) (h1 : p < w) (h2 : p < n) (h3 : n ≤ p + 55) :
    AtW (XΦ c fx) (rst 55 n w) = iprop(xSlab c (p % 55) (land 55 fx q) ∗ xHold c fx n w p) := by
  subst hq
  have e : XΦ c fx (slot 55 p) (some (false, p)) = iprop(xSlab c (p % 55) (land 55 fx (p % 98)) ∗ semVal ((c : Thread nD τ), .dma (xSem (slot 55 p))) 0 ∗ xPart c (slot 55 p) Finset.univ fx) := rfl
  rw [AtW_focus (XΦ c fx) (rst 55 n w) (slot 55 p), rst_landed (N := 55) (by unfold RingSize; decide) h1 h2 h3, e]
  unfold xHold
  exact BI.equiv_iff.mp ⟨BI.sep_assoc, BI.sep_assoc'⟩

/-- The rest of the ring while the landed slot of position `p` is set apart. -/
def mHold (c : Dev nD) (fx : BufM (F := F)) (n w p : ℕ) : sProp 𝕄 :=
  iprop((semVal ((c : Thread nD τ), .dma (mSem (slot 8 p))) 0 ∗ mPart c (slot 8 p) Finset.univ fx) ∗ restW (MΦ c fx) (rst 8 n w) (slot 8 p))
theorem takeM (c : Dev nD) (fx : BufM (F := F)) {n w p : ℕ} (q : ℕ) (hq : p % 98 = q) (h1 : p < w) (h2 : p < n) (h3 : n ≤ p + 8) :
    AtW (MΦ c fx) (rst 8 n w) = iprop(mSlab c (p % 8) (land 8 fx q) ∗ mHold c fx n w p) := by
  subst hq
  have e : MΦ c fx (slot 8 p) (some (false, p)) = iprop(mSlab c (p % 8) (land 8 fx (p % 98)) ∗ semVal ((c : Thread nD τ), .dma (mSem (slot 8 p))) 0 ∗ mPart c (slot 8 p) Finset.univ fx) := rfl
  rw [AtW_focus (MΦ c fx) (rst 8 n w) (slot 8 p), rst_landed (N := 8) (by unfold RingSize; decide) h1 h2 h3, e]
  unfold mHold
  exact BI.equiv_iff.mp ⟨BI.sep_assoc, BI.sep_assoc'⟩

theorem cond1_iff : ∀ k : Fin k0_t1_loop.trips, k0_cond1 k = 1#1 ↔ k.val + 7 < 98 := by decide +kernel

/-- The copies in flight when `n` are started and `w` waited for. -/
def flight1 (c : Dev nD) (fx : BufX (F := F)) (fg : BufG (F := F)) (fm : BufM (F := F)) (n w v : ℕ) : sProp 𝕄 :=
  iprop(AtW (XΦ c fx) (rst 55 n w) ∗ AtW (GΦ c fg) (rst 8 n w) ∗ AtW (MΦ c fm) (rst 8 n w) ∗ AtW (SΦ c (slabs (gmF fg fm))) (sst n v))

variable (a0 : Memref sig .tc .smem S1 .f32) (h0 : a0.IsWhole) (a1 : Memref sig .tc .smem S1 .f32) (h1 : a1.IsWhole)
  (a2 : Memref sig .tc .vmem S1x256 .f32) (h2 : a2.IsWhole) (a3 : Memref sig .tc .vmem S1x256 .f32) (h3 : a3.IsWhole)
  (a4 : Memref sig .tc .vmem S1x256 .f32) (h4 : a4.IsWhole) (a9 : Memref sig .tc .vmem S1x256 .f32) (h9 : a9.IsWhole)
  (a10 : Memref sig .tc .vmem S1x256 .f32) (h10 : a10.IsWhole)

/-- The same, the slab of chunk `k` set apart. -/
def flight2 (c : Dev nD) (fx : BufX (F := F)) (fg : BufG (F := F)) (fm : BufM (F := F)) (n k : ℕ) : sProp 𝕄 :=
  iprop(AtW (XΦ c fx) (rst 55 n (k + 1)) ∗ AtW (GΦ c fg) (rst 8 n (k + 1)) ∗ AtW (MΦ c fm) (rst 8 n (k + 1)) ∗ AtW (SΦ c (slabs (gmF fg fm))) (sst n k)
    ∗ gSlab c k (land 98 fg k) ∗ (∃ W, owes (c : Thread nD τ) 0 W))

theorem part3_spec (c : Dev nD) (fx : BufX (F := F)) (fg : BufG (F := F)) (fm : BufM (F := F)) (k : Fin k0_t1_loop.trips) (y z : BitVec 32) {Q : BitVec 32 → sProp 𝕄} :
    iprop(flight1 c fx fg fm (min (k.val + 7) 98) k.val k.val ∗ (∃ W, owes (c : Thread nD τ) 0 W))
      ⊢ iprop((flight2 c fx fg fm (min (k.val + 1 + 7) 98) k.val -∗ Q 0#32) -∗ WP (F := F) c (k0_part3 (F := F) a0 h0 a1 h1 a2 h2 a3 h3 a4 h4 XH (Memref.isWhole_whole _) GH (Memref.isWhole_whole _) MH (Memref.isWhole_whole _) OH (Memref.isWhole_whole _) a9 h9 a10 h10 XB (Memref.isWhole_whole _) GB (Memref.isWhole_whole _) MB (Memref.isWhole_whole _) OB (Memref.isWhole_whole _) NB (Memref.isWhole_whole _) A0 (Memref.isWhole_whole _) A1 (Memref.isWhole_whole _) CB (Memref.isWhole_whole _) cc0_scratch8 cc0_scratch9 cc0_scratch10 cc0_scratch11 y z k) Q) := by
  have hk : k.val < 98 := k.isLt
  rw [k0_part3_eq_skeleton]
  unfold k0_part3_skel flight1
  by_cases h7 : k.val + 7 < 98
  · simp only [dif_pos ((cond1_iff k).mpr h7), wp_bind, wp_pure]
    rw [Nat.min_eq_left (by omega : k.val + 7 ≤ 98), Nat.min_eq_left (by omega : k.val + 1 + 7 ≤ 98)]
    iintro ⟨⟨HX, HG, HM, HS⟩, HO⟩ HQ
    iapply (issueX c fx (n := k.val + 7) (w := k.val) (by omega) (by omega) (k0_off8_eq k) (k0_off9_eq k) (sem_at _ (Nat.mod_lt _ (by decide)) (k0_off7_eq k) _)) $$ HX
    iintro HX
    iapply (issueG c fg (slabs (gmF fg fm)) (n := k.val + 7) (w := k.val) (v := k.val) (by omega) (by omega) (by omega) h7 (k0_off11_eq k)
      (Eq.trans (k0_off12_eq k) (by rw [show 1536 * k.val + 10752 = 1536 * (k.val + 7) by omega])) (sem_at _ (Nat.mod_lt _ (by decide)) (k0_off10_eq k) _)) $$ [HG HS]
    · isplitl [HG]; · iexact HG
      iexact HS
    iintro ⟨HG, HS⟩
    iapply (issueM c fm (n := k.val + 7) (w := k.val) (by omega) (by omega) (k0_off13_eq k)
      (Eq.trans (k0_off12_eq k) (by rw [show 1536 * k.val + 10752 = 1536 * ((k.val + 7) % 98) by omega])) (sem_at _ (Nat.mod_lt _ (by decide)) (k0_off10_eq k) _)) $$ HM
    iintro HM
    rw [show k.val + 7 + 1 = k.val + 1 + 7 by omega]
    iapply (waitX c fx (n := k.val + 1 + 7) (w := k.val) (dst := slotX (k0_off15 k) (k0_off15_inb k)) (by omega) (by omega) (sem_at _ (Nat.mod_lt _ (by decide)) (k0_off14_eq k) _) rfl) $$ [HX HO]
    · isplitl [HX]; · iexact HX
      iexact HO
    iintro ⟨HX, HO⟩
    iapply (waitG c fg (n := k.val + 1 + 7) (w := k.val) (dst := slotG (k0_off18 k) (k0_off18_inb k)) (by omega) (by omega) hk (sem_at _ (Nat.mod_lt _ (by decide)) (k0_off17_eq k) _) rfl) $$ [HG HO]
    · isplitl [HG]; · iexact HG
      iexact HO
    iintro ⟨HG, HSl, HO⟩
    iapply (waitM c fm (n := k.val + 1 + 7) (w := k.val) (dst := slotM (k0_off20 k) (k0_off20_inb k)) (by omega) (by omega) (sem_at _ (Nat.mod_lt _ (by decide)) (k0_off17_eq k) _) rfl) $$ [HM HO]
    · isplitl [HM]; · iexact HM
      iexact HO
    iintro ⟨HM, HO⟩
    iapply fupd_intro
    iapply HQ
    unfold flight2
    isplitl [HX]; · iexact HX
    isplitl [HG]; · iexact HG
    isplitl [HM]; · iexact HM
    isplitl [HS]; · iexact HS
    isplitl [HSl]; · iexact HSl
    iexact HO
  · simp only [dif_neg (fun h => h7 ((cond1_iff k).mp h)), wp_bind, wp_pure]
    rw [Nat.min_eq_right (by omega : 98 ≤ k.val + 7), Nat.min_eq_right (by omega : 98 ≤ k.val + 1 + 7)]
    iintro ⟨⟨HX, HG, HM, HS⟩, HO⟩ HQ
    iapply (waitX c fx (n := 98) (w := k.val) (dst := slotX (k0_off15 k) (k0_off15_inb k)) (by omega) (by omega) (sem_at _ (Nat.mod_lt _ (by decide)) (k0_off14_eq k) _) rfl) $$ [HX HO]
    · isplitl [HX]; · iexact HX
      iexact HO
    iintro ⟨HX, HO⟩
    iapply (waitG c fg (n := 98) (w := k.val) (dst := slotG (k0_off18 k) (k0_off18_inb k)) (by omega) (by omega) hk (sem_at _ (Nat.mod_lt _ (by decide)) (k0_off17_eq k) _) rfl) $$ [HG HO]
    · isplitl [HG]; · iexact HG
      iexact HO
    iintro ⟨HG, HSl, HO⟩
    iapply (waitM c fm (n := 98) (w := k.val) (dst := slotM (k0_off20 k) (k0_off20_inb k)) (by omega) (by omega) (sem_at _ (Nat.mod_lt _ (by decide)) (k0_off17_eq k) _) rfl) $$ [HM HO]
    · isplitl [HM]; · iexact HM
      iexact HO
    iintro ⟨HM, HO⟩
    iapply fupd_intro
    iapply HQ
    unfold flight2
    isplitl [HX]; · iexact HX
    isplitl [HG]; · iexact HG
    isplitl [HM]; · iexact HM
    isplitl [HS]; · iexact HS
    isplitl [HSl]; · iexact HSl
    iexact HO

theorem SΦ_two (c : Dev nD) (fM : S98x1536x256.Idx → Elt F .fp8e5m2) (j : Fin 98) : SΦ c fM j 2 = gSlab c j.val fM := rfl

/-- What the first pass holds before trip `k`. -/
def inv1 (c : Dev nD) (fx : BufX (F := F)) (fg : BufG (F := F)) (fm : BufM (F := F)) (k : ℕ) : sProp 𝕄 :=
  iprop((flight1 c fx fg fm (min (k + 7) 98) k k ∗ (∃ W, owes (c : Thread nD τ) 0 W))
    ∗ bufN c k0_pay15 ∗ bufA0 c (acc0N fg fm (2 * k)) ∗ bufA1 c (acc1N fx fg fm (2 * k)))

theorem t1_step (c : Dev nD) (fx : BufX (F := F)) (fg : BufG (F := F)) (fm : BufM (F := F)) (k : Fin k0_t1_loop.trips) (u : Unit) :
    inv1 c fx fg fm k.val ⊢ WP (F := F) c (k0_t1_body (F := F) a0 h0 a1 h1 a2 h2 a3 h3 a4 h4 XH (Memref.isWhole_whole _) GH (Memref.isWhole_whole _) MH (Memref.isWhole_whole _) OH (Memref.isWhole_whole _) a9 h9 a10 h10 XB (Memref.isWhole_whole _) GB (Memref.isWhole_whole _) MB (Memref.isWhole_whole _) OB (Memref.isWhole_whole _) NB (Memref.isWhole_whole _) A0 (Memref.isWhole_whole _) A1 (Memref.isWhole_whole _) CB (Memref.isWhole_whole _) cc0_scratch8 cc0_scratch9 cc0_scratch10 cc0_scratch11 k u) (fun _ => inv1 c fx fg fm (k.val + 1)) := by
  have hk : k.val < 98 := k.isLt
  have e98 : k.val % 98 = k.val := Nat.mod_eq_of_lt hk
  unfold k0_t1_body
  simp only [wp_bind, wp_pure]
  unfold inv1
  iintro ⟨HF, HN, H0, H1⟩
  iapply (part3_spec a0 h0 a1 h1 a2 h2 a3 h3 a4 h4 a9 h9 a10 h10 c fx fg fm k _ _) $$ HF
  iintro HF
  unfold flight2
  icases HF with ⟨HX, HG, HM, HS, HSl, HO⟩
  ihave HX := (by rw [takeX c fx k.val e98 (Nat.lt_succ_self _) (by omega) (by omega)] : AtW (XΦ c fx) (rst 55 (min (k.val + 1 + 7) 98) (k.val + 1)) ⊢ iprop(xSlab c (k.val % 55) (land 55 fx k.val) ∗ xHold c fx (min (k.val + 1 + 7) 98) (k.val + 1) k.val)) $$ HX
  ihave HM := (by rw [takeM c fm k.val e98 (Nat.lt_succ_self _) (by omega) (by omega)] : AtW (MΦ c fm) (rst 8 (min (k.val + 1 + 7) 98) (k.val + 1)) ⊢ iprop(mSlab c (k.val % 8) (land 8 fm k.val) ∗ mHold c fm (min (k.val + 1 + 7) 98) (k.val + 1) k.val)) $$ HM
  icases HX with ⟨HX, HXw⟩
  icases HM with ⟨HM, HMw⟩
  iapply (loop_gen c k0_t2_loop k0_t2_ok _ (inv2 c fx fg fm k.val) (fun j u => t2_step a0 h0 a1 h1 a2 h2 a3 h3 a4 h4 a9 h9 a10 h10 c fx fg fm k 0#32 j u)) $$ [HN H0 H1 HX HM HSl]
  · unfold inv2
    isplitl [HN]; · iexact HN
    isplitl [HSl]; · rw [gC_zero]; iexact HSl
    isplitl [HM]; · iexact HM
    isplitl [HX]; · iexact HX
    isplitl [H0]; · iexact H0
    iexact H1
  iintro HI
  rw [show k0_t2_loop.trips = 2 from rfl]
  unfold inv2
  icases HI with ⟨HN, HSl, HM, HX, H0, H1⟩
  iapply fupd_intro
  isplitl [HX HXw HG HM HMw HS HSl HO]
  · isplitr [HO]
    · unfold flight1
      isplitl [HX HXw]
      · rw [takeX c fx k.val e98 (Nat.lt_succ_self _) (by omega) (by omega)]
        isplitl [HX]; · iexact HX
        iexact HXw
      isplitl [HG]; · iexact HG
      isplitl [HM HMw]
      · rw [takeM c fm k.val e98 (Nat.lt_succ_self _) (by omega) (by omega)]
        isplitl [HM]; · iexact HM
        iexact HMw
      rw [sst_done (n := min (k.val + 1 + 7) 98) (w := k.val) (by omega) hk]
      ihave HS := (by rw [AtW_focus (SΦ c (slabs (gmF fg fm))) (sst (min (k.val + 1 + 7) 98) k.val) ⟨k.val, hk⟩] : AtW (SΦ c (slabs (gmF fg fm))) (sst (min (k.val + 1 + 7) 98) k.val) ⊢ iprop(SΦ c (slabs (gmF fg fm)) ⟨k.val, hk⟩ (sst (min (k.val + 1 + 7) 98) k.val ⟨k.val, hk⟩) ∗ restW (SΦ c (slabs (gmF fg fm))) (sst (min (k.val + 1 + 7) 98) k.val) ⟨k.val, hk⟩)) $$ HS
      rw [sst_away (n := min (k.val + 1 + 7) 98) (w := k.val) (by omega) hk]
      icases HS with ⟨-, HSr⟩
      iapply (Ring.AtW_update (SΦ c (slabs (gmF fg fm))) (sst (min (k.val + 1 + 7) 98) k.val) ⟨k.val, hk⟩ 2)
      isplitl [HSl]
      · ihave HSl := (by rw [SΦ_two, gSlab, gSlab, pointsTo_congr (gC_full (gmF fg fm) fg k.val)] : gSlab c k.val (gC (gmF fg fm) fg k.val 2 0) ⊢ SΦ c (slabs (gmF fg fm)) ⟨k.val, hk⟩ 2) $$ HSl
        iexact HSl
      · iexact HSr
    · iexact HO
  isplitl [HN]; · iexact HN
  isplitl [H0]; · iexact H0
  iexact H1

end Cert.Kernel.Hand

end
-- ==== Proof.KPass2.lean ====
/-
  The second pass: one trip brings a chunk back if it has left, works out its block of the result and starts copying it out.
-/
module

public import proofs.«01_k».proof.Proof.KPass1
public import Idealize.ShloMosaic.Lib.Pipeline.FrameBody
public import Idealize.ShloMosaic.Lib.Ring
public import Idealize.ShloMosaic.Lib.Tactic

@[expose] public section

set_option maxRecDepth 16384

noncomputable section

namespace Cert.Kernel.Hand

open Cert.Kernel Cert.Kernel.Gen Cert.Geo
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (AtW AtW_focus restW)

variable {F : FTy → Type} [FloatOps F]

local notation "𝕄" => MT nD τ sig Unit (Elt F) ℕ (Pipeline.UD sig nD τ) ℕ

abbrev bufC (c : Dev nD) (f : S8x256.Idx → Elt F .f32) : sProp 𝕄 := CB.view.loc (c : Thread nD τ) ↦[Finset.univ]{fullShare} f

theorem loadC (c : Dev nD) {r : ℕ} (hr : r < 8) {inb} {f : S8x256.Idx → Elt F .f32} (T : S1x256.Idx → Elt F .f32) (hT : ∀ x : S1x256.Idx, f (ix2 ⟨r, hr⟩ (x 1)) = T x)
    {hld} {Q : (S1x256.Idx → Elt F .f32) → sProp 𝕄} :
    bufC c f ⊢ iprop((bufC c f -∗ Q T) -∗ WP (F := F) c (Prog.lift (.load CB (Rect.unit (s := S8x256) ![r, 0] S1x256.size inb).toLoadRect hld)) Q) :=
  load_gen c CB (Rect.unit (s := S8x256) ![r, 0] S1x256.size inb) hld Finset.univ f T (Finset.subset_univ _) (funext fun x => (congrArg f (emb_row hr rfl inb x)).trans (hT x))

/-- One block row of the result. -/
def fDX (r0 r1 r2 : FVec F S1x256 .f32) (fx : BufX (F := F)) (gm : BufG (F := F)) : BufO (F := F) := fun i =>
  k0_pay31 r0 r1 r2 (half fx ((i 0).val / 768)) (half gm ((i 0).val / 768)) (ix3 (0 : Fin 1) (⟨(i 0).val % 768, Nat.mod_lt _ (by decide)⟩ : Fin 768) (i 1))

theorem fDX_half (r0 r1 r2 : FVec F S1x256 .f32) (fx : BufX (F := F)) (gm : BufG (F := F)) {H : ℕ} (hH : H < 196) (x : S1x768x256.Idx) :
    fDX r0 r1 r2 fx gm (ix2 (rowH H (x 1).val) (x 2)) = k0_pay31 r0 r1 r2 (half fx H) (half gm H) x := by
  have h1 : (x 1).val < 768 := (x 1).isLt
  have hv : (rowH H (x 1).val).val = 768 * H + (x 1).val := rowH_val hH h1
  have hd : (768 * H + (x 1).val) / 768 = H := by omega
  have hm : (768 * H + (x 1).val) % 768 = (x 1).val := by omega
  show k0_pay31 r0 r1 r2 (half fx ((rowH H (x 1).val).val / 768)) (half gm ((rowH H (x 1).val).val / 768))
    (ix3 (0 : Fin 1) (⟨(rowH H (x 1).val).val % 768, Nat.mod_lt _ (by decide)⟩ : Fin 768) (x 2)) = _
  have hx : (ix3 (0 : Fin 1) (⟨(rowH H (x 1).val).val % 768, Nat.mod_lt _ (by decide)⟩ : Fin 768) (x 2) : S1x768x256.Idx) = x := by
    rw [eq_ix3 x]
    congr 1
    · exact Subsingleton.elim (α := Fin 1) _ _
    · exact Fin.ext (by rw [hv]; exact hm)
  rw [hx, hv, hd]

/-- The block under construction once half `j` is done. -/
def putO (fD : BufO (F := F)) (p j : ℕ) (fo : S3x1536x256.Idx → Elt F .bf16) : S3x1536x256.Idx → Elt F .bf16 := fun i =>
  if (i 1).val / 768 = j then fD (ix2 (rowN p (i 1).val) (i 2)) else fo i

theorem loadHX (c : Dev nD) {s j : ℕ} (hs : s < 55) (hj : j < 2) {off : Fin 3 → ℕ} (hoff : off = ![s, 768 * j, 0]) {inb}
    {f : S55x1536x256.Idx → Elt F .fp8e4m3} (T : S1x768x256.Idx → Elt F .fp8e4m3)
    (hT : ∀ x : S1x768x256.Idx, f (ix3 ⟨s, hs⟩ (rowI j (x 1).val) (x 2)) = T x) {hld} {Q : (S1x768x256.Idx → Elt F .fp8e4m3) → sProp 𝕄} :
    xSlab c s f ⊢ iprop((xSlab c s f -∗ Q T) -∗ WP (F := F) c (Prog.lift (.load XB (Rect.unit (s := S55x1536x256) off S1x768x256.size inb).toLoadRect hld)) Q) :=
  have e : ∀ x : S1x768x256.Idx, ((XB.access (Rect.unit (s := S55x1536x256) off S1x768x256.size inb)).emb x : S55x1536x256.Idx) = ix3 ⟨s, hs⟩ (rowI j (x 1).val) (x 2) :=
    fun x => emb_half hs hj hoff inb x
  load_gen c XB (Rect.unit (s := S55x1536x256) off S1x768x256.size inb) hld (slab 55 s) f T (set_sub _ _ fun x => by rw [e x]; exact mem_slab.mpr rfl) (funext fun x => (congrArg f (e x)).trans (hT x))

theorem loadHG (c : Dev nD) {s j : ℕ} (hs : s < 98) (hj : j < 2) {off : Fin 3 → ℕ} (hoff : off = ![s, 768 * j, 0]) {inb}
    {f : S98x1536x256.Idx → Elt F .fp8e5m2} (T : S1x768x256.Idx → Elt F .fp8e5m2)
    (hT : ∀ x : S1x768x256.Idx, f (ix3 ⟨s, hs⟩ (rowI j (x 1).val) (x 2)) = T x) {hld} {Q : (S1x768x256.Idx → Elt F .fp8e5m2) → sProp 𝕄} :
    gSlab c s f ⊢ iprop((gSlab c s f -∗ Q T) -∗ WP (F := F) c (Prog.lift (.load GB (Rect.unit (s := S98x1536x256) off S1x768x256.size inb).toLoadRect hld)) Q) :=
  have e : ∀ x : S1x768x256.Idx, ((GB.access (Rect.unit (s := S98x1536x256) off S1x768x256.size inb)).emb x : S98x1536x256.Idx) = ix3 ⟨s, hs⟩ (rowI j (x 1).val) (x 2) :=
    fun x => emb_half hs hj hoff inb x
  load_gen c GB (Rect.unit (s := S98x1536x256) off S1x768x256.size inb) hld (slab 98 s) f T (set_sub _ _ fun x => by rw [e x]; exact mem_slab.mpr rfl) (funext fun x => (congrArg f (e x)).trans (hT x))

theorem loadHO (c : Dev nD) {s j : ℕ} (hs : s < 3) (hj : j < 2) {off : Fin 3 → ℕ} (hoff : off = ![s, 768 * j, 0]) {inb}
    {f : S3x1536x256.Idx → Elt F .bf16} (T : S1x768x256.Idx → Elt F .bf16)
    (hT : ∀ x : S1x768x256.Idx, f (ix3 ⟨s, hs⟩ (rowI j (x 1).val) (x 2)) = T x) {hld} {Q : (S1x768x256.Idx → Elt F .bf16) → sProp 𝕄} :
    oSlab c s f ⊢ iprop((oSlab c s f -∗ Q T) -∗ WP (F := F) c (Prog.lift (.load OB (Rect.unit (s := S3x1536x256) off S1x768x256.size inb).toLoadRect hld)) Q) :=
  have e : ∀ x : S1x768x256.Idx, ((OB.access (Rect.unit (s := S3x1536x256) off S1x768x256.size inb)).emb x : S3x1536x256.Idx) = ix3 ⟨s, hs⟩ (rowI j (x 1).val) (x 2) :=
    fun x => emb_half hs hj hoff inb x
  load_gen c OB (Rect.unit (s := S3x1536x256) off S1x768x256.size inb) hld (slab 3 s) f T (set_sub _ _ fun x => by rw [e x]; exact mem_slab.mpr rfl) (funext fun x => (congrArg f (e x)).trans (hT x))

theorem storeO (c : Dev nD) {s p j : ℕ} (hs : s < 3) (hp : p < 98) (hj : j < 2) {off : Fin 3 → ℕ} (hoff : off = ![s, 768 * j, 0]) {inb}
    (fD : BufO (F := F)) {fo : S3x1536x256.Idx → Elt F .bf16} (w : S1x768x256.Idx → Elt F .bf16) (hw : ∀ x : S1x768x256.Idx, fD (ix2 (rowH (2 * p + j) (x 1).val) (x 2)) = w x) {hx} {hm} {Q : PUnit → sProp 𝕄} :
    oSlab c s fo ⊢ iprop((oSlab c s (putO fD p j fo) -∗ Q ⟨⟩) -∗ WP (F := F) c (Prog.lift (.store OB (Rect.unit (s := S3x1536x256) off S1x768x256.size inb) w Finset.univ hx hm)) Q) :=
  have e : ∀ x : S1x768x256.Idx, ((OB.access (Rect.unit (s := S3x1536x256) off S1x768x256.size inb)).emb x : S3x1536x256.Idx) = ix3 ⟨s, hs⟩ (rowI j (x 1).val) (x 2) :=
    fun x => emb_half hs hj hoff inb x
  store_gen c OB (Rect.unit (s := S3x1536x256) off S1x768x256.size inb) w (slab 3 s) fo (putO fD p j fo) (set_sub _ _ fun x => by rw [e x]; exact mem_slab.mpr rfl)
    (write_eq (OB.access (Rect.unit (s := S3x1536x256) off S1x768x256.size inb)) fo (putO fD p j fo) w (slab 3 s)
      (fun x _ => (congrArg (putO fD p j fo) (e x)).trans (by
        have h1 : (x 1).val < 768 := (x 1).isLt
        have hv : (rowI j (x 1).val).val = 768 * j + (x 1).val := rowI_val hj h1
        show (if (rowI j (x 1).val).val / 768 = j then fD (ix2 (rowN p (rowI j (x 1).val).val) (x 2)) else _) = _
        rw [if_pos (by rw [hv]; omega), rowN_rowI hp hj h1]
        exact hw x))
      (fun i hi hn => by
        unfold putO
        rw [if_neg]
        intro hd
        have hi0 : (i 0).val = s := mem_slab.mp hi
        have hlt : (i 1).val < 1536 := (i 1).isLt
        refine hn ?_
        have hx : (i : S3x1536x256.Idx) = (OB.access (Rect.unit (s := S3x1536x256) off S1x768x256.size inb)).emb (ix3 (0 : Fin 1) (⟨(i 1).val % 768, Nat.mod_lt _ (by decide)⟩ : Fin 768) (i 2) : S1x768x256.Idx) := by
          rw [e]
          have hq : (i : S3x1536x256.Idx) = ix3 (i 0) (i 1) (i 2) := eq_ix3 i
          refine hq.trans ?_
          congr 1
          · exact Fin.ext hi0
          · refine Fin.ext ?_
            have hv : (rowI j ((i 1).val % 768)).val = 768 * j + (i 1).val % 768 := rowI_val hj (Nat.mod_lt _ (by decide))
            show (i 1).val = (rowI j ((i 1).val % 768)).val
            rw [hv]; omega
        rw [hx]; exact View.emb_mem_set _ _))

variable (a0 : Memref sig .tc .smem S1 .f32) (h0 : a0.IsWhole) (a1 : Memref sig .tc .smem S1 .f32) (h1 : a1.IsWhole)
  (a2 : Memref sig .tc .vmem S1x256 .f32) (h2 : a2.IsWhole) (a3 : Memref sig .tc .vmem S1x256 .f32) (h3 : a3.IsWhole)
  (a4 : Memref sig .tc .vmem S1x256 .f32) (h4 : a4.IsWhole) (a9 : Memref sig .tc .vmem S1x256 .f32) (h9 : a9.IsWhole)
  (a10 : Memref sig .tc .vmem S1x256 .f32) (h10 : a10.IsWhole)

/-- What the inner loop of trip `k` of the second pass holds before half `j`. -/
def inv4 (c : Dev nD) (fx : BufX (F := F)) (gm : BufG (F := F)) (fD : BufO (F := F)) (f : S8x256.Idx → Elt F .f32) (k j : ℕ) : sProp 𝕄 :=
  iprop(bufC c f ∗ xSlab c ((k + 43) % 55) (land 55 fx ((k + 43) % 98)) ∗ gSlab c ((k + 43) % 98) (slabs gm)
    ∗ ∃ fo, oSlab c (k % 3) fo ∗ ⌜∀ (a : Fin 1536) (b : Fin 256), a.val < 768 * j → fo (ix3 ⟨k % 3, Nat.mod_lt _ (by decide)⟩ a b) = fD (ix2 (rowN ((k + 43) % 98) a.val) b)⌝)

theorem t4_step (c : Dev nD) (fx : BufX (F := F)) (gm : BufG (F := F)) (r0 r1 r2 : FVec F S1x256 .f32) (f : S8x256.Idx → Elt F .f32)
    (hf0 : ∀ x : S1x256.Idx, f (ix2 ⟨0, by decide⟩ (x 1)) = r0 x) (hf1 : ∀ x : S1x256.Idx, f (ix2 ⟨1, by decide⟩ (x 1)) = r1 x) (hf2 : ∀ x : S1x256.Idx, f (ix2 ⟨2, by decide⟩ (x 1)) = r2 x)
    (v188 v189 : Elt F .f32) (v191 v193 v195 v203 v205 v206 : FVec F S1x256 .f32) (k : Fin k0_t3_loop.trips) (j : Fin k0_t4_loop.trips) (u : Unit) :
    inv4 c fx gm (fDX r0 r1 r2 fx gm) f k.val j.val ⊢ WP (F := F) c (k0_t4_body (F := F) a0 h0 a1 h1 a2 h2 a3 h3 a4 h4 XH (Memref.isWhole_whole _) GH (Memref.isWhole_whole _) MH (Memref.isWhole_whole _) OH (Memref.isWhole_whole _) a9 h9 a10 h10 XB (Memref.isWhole_whole _) GB (Memref.isWhole_whole _) MB (Memref.isWhole_whole _) OB (Memref.isWhole_whole _) NB (Memref.isWhole_whole _) A0 (Memref.isWhole_whole _) A1 (Memref.isWhole_whole _) CB (Memref.isWhole_whole _) cc0_scratch8 cc0_scratch9 cc0_scratch10 cc0_scratch11 v188 v189 v191 v193 v195 v203 v205 v206 k j u) (fun _ => inv4 c fx gm (fDX r0 r1 r2 fx gm) f k.val (j.val + 1)) := by
  have hj : j.val < 2 := j.isLt
  have hp : (k.val + 43) % 98 < 98 := Nat.mod_lt _ (by decide)
  have h55 : (k.val + 43) % 55 < 55 := Nat.mod_lt _ (by decide)
  have hk3 : k.val % 3 < 3 := Nat.mod_lt _ (by decide)
  unfold k0_t4_body inv4
  simp only [wp_bind, wp_pure]
  iintro ⟨HC, HX, HG, ⟨%fo, HO, %hfo⟩⟩
  iapply (loadC c (r := 0) (by decide) r0 hf0) $$ HC
  iintro HC
  iapply (loadC c (r := 1) (by decide) r1 hf1) $$ HC
  iintro HC
  iapply (loadC c (r := 2) (by decide) r2 hf2) $$ HC
  iintro HC
  iapply (loadHX c h55 hj (k0_off35_eq k j) (half fx (2 * ((k.val + 43) % 98) + j.val)) (land_half fx _ hp hj)) $$ HX
  iintro HX
  iapply (loadHG c hp hj (k0_off36_eq k j) (half gm (2 * ((k.val + 43) % 98) + j.val)) (slabs_half gm hp hj)) $$ HG
  iintro HG
  iapply (loadHO c hk3 hj (k0_off37_eq k j) (fun x => fo (ix3 ⟨k.val % 3, hk3⟩ (rowI j.val (x 1).val) (x 2))) (fun _ => rfl)) $$ HO
  iintro HO
  iapply (storeO c hk3 hp hj (k0_off37_eq k j) (fDX r0 r1 r2 fx gm) _ (fDX_half r0 r1 r2 fx gm (by omega))) $$ HO
  iintro HO
  iapply fupd_intro
  isplitl [HC]; · iexact HC
  isplitl [HX]; · iexact HX
  isplitl [HG]; · iexact HG
  iexists _
  isplitl [HO]; · iexact HO
  ipureintro
  intro a b hab
  show (if a.val / 768 = j.val then fDX r0 r1 r2 fx gm (ix2 (rowN ((k.val + 43) % 98) a.val) b) else fo (ix3 ⟨k.val % 3, hk3⟩ a b)) = _
  by_cases hd : a.val / 768 = j.val
  · rw [if_pos hd]
  · rw [if_neg hd]
    exact hfo a b (by omega)

theorem cond2_iff : ∀ k : Fin k0_t3_loop.trips, k0_cond2 k = 1#1 ↔ (0 < k.val ∧ k.val ≤ 43) := by decide +kernel
theorem cond3_iff : ∀ k : Fin k0_t3_loop.trips, k0_cond3 k = 1#1 ↔ 3 ≤ k.val := by decide +kernel
theorem cond4_iff : ∀ k : Fin k0_t3_loop.trips, k0_cond4 k = 1#1 ↔ 55 ≤ k.val := by decide +kernel
theorem off29_eq : ∀ k : Fin k0_t3_loop.trips, k0_cond3 k = 1#1 → k0_off29 k = ![(k.val - 3) % 3] := by decide +kernel

/-- What the second pass holds, by the trips of its copies in and out. -/
def core3 (c : Dev nD) (fx : BufX (F := F)) (gm : BufG (F := F)) (fD : BufO (F := F)) (f : S8x256.Idx → Elt F .f32) (n w k v : ℕ) : sProp 𝕄 :=
  iprop(AtW (XΦ c fx) (rst 55 n w) ∗ AtW (SΦ c (slabs gm)) (sst 98 98) ∗ bufC c f ∗ AtW (OΦ c fD) (rst 3 k v) ∗ AtW (DΦ c fD) (sst k v))

theorem t3_tail (c : Dev nD) (fx : BufX (F := F)) (gm : BufG (F := F)) (r0 r1 r2 : FVec F S1x256 .f32) (f : S8x256.Idx → Elt F .f32)
    (hf0 : ∀ x : S1x256.Idx, f (ix2 ⟨0, by decide⟩ (x 1)) = r0 x) (hf1 : ∀ x : S1x256.Idx, f (ix2 ⟨1, by decide⟩ (x 1)) = r1 x) (hf2 : ∀ x : S1x256.Idx, f (ix2 ⟨2, by decide⟩ (x 1)) = r2 x)
    (v188 v189 : Elt F .f32) (v191 v193 v195 v203 v205 v206 : FVec F S1x256 .f32) (k : Fin k0_t3_loop.trips)
    {h1' : (slotO (k0_off40 k) (k0_off40_inb k)).view.WordExact} {h2' : (rowsO (k0_off39 k) (k0_off39_inb k)).view.WordExact}
    {h3' : DmaTarget.Typed (nD := nD) .vmem (.dma ((cc0_scratch11.slice (Rect.unit (s := S3) (k0_off38 k) S1.size (k0_off38_inb k))).squeeze S_ squeezes_S1_S_).sem) (.here (p := .tc) (rowsO (k0_off39 k) (k0_off39_inb k)))}
    {Q : PUnit → sProp 𝕄} :
    core3 c fx gm (fDX r0 r1 r2 fx gm) f (98 + min k.val 43) (max 98 (44 + k.val)) k.val (k.val - 2)
      ⊢ iprop((core3 c fx gm (fDX r0 r1 r2 fx gm) f (98 + min k.val 43) (max 98 (44 + k.val)) (k.val + 1) (k.val - 2) -∗ Q ⟨⟩)
        -∗ WP (F := F) c (Scf.Loop.for k0_t4_loop k0_t4_ok ⟨⟩ (k0_t4_body (F := F) a0 h0 a1 h1 a2 h2 a3 h3 a4 h4 XH (Memref.isWhole_whole _) GH (Memref.isWhole_whole _) MH (Memref.isWhole_whole _) OH (Memref.isWhole_whole _) a9 h9 a10 h10 XB (Memref.isWhole_whole _) GB (Memref.isWhole_whole _) MB (Memref.isWhole_whole _) OB (Memref.isWhole_whole _) NB (Memref.isWhole_whole _) A0 (Memref.isWhole_whole _) A1 (Memref.isWhole_whole _) CB (Memref.isWhole_whole _) cc0_scratch8 cc0_scratch9 cc0_scratch10 cc0_scratch11 v188 v189 v191 v193 v195 v203 v205 v206 k))
          (fun _ => WP (F := F) c (Prog.lift (.enqueueDma (slotO (k0_off40 k) (k0_off40_inb k)) (.here (rowsO (k0_off39 k) (k0_off39_inb k)))
            (.dma ((cc0_scratch11.slice (Rect.unit (s := S3) (k0_off38 k) S1.size (k0_off38_inb k))).squeeze S_ squeezes_S1_S_).sem) h1' h2' h3')) Q)) := by
  have hk : k.val < 98 := k.isLt
  have hp : (k.val + 43) % 98 < 98 := Nat.mod_lt _ (by decide)
  unfold core3
  iintro ⟨HX, HS, HC, HO, HD⟩ HQ
  ihave HX := (by rw [takeX c fx (p := k.val + 43) ((k.val + 43) % 98) rfl (by omega) (by omega) (by omega)] :
    AtW (XΦ c fx) (rst 55 (98 + min k.val 43) (max 98 (44 + k.val))) ⊢ iprop(xSlab c ((k.val + 43) % 55) (land 55 fx ((k.val + 43) % 98)) ∗ xHold c fx (98 + min k.val 43) (max 98 (44 + k.val)) (k.val + 43))) $$ HX
  icases HX with ⟨HX, HXw⟩
  ihave HS := (by rw [AtW_focus (SΦ c (slabs gm)) (sst 98 98) ⟨(k.val + 43) % 98, hp⟩, sst_fin ⟨(k.val + 43) % 98, hp⟩ hp, SΦ_two] :
    AtW (SΦ c (slabs gm)) (sst 98 98) ⊢ iprop(gSlab c ((k.val + 43) % 98) (slabs gm) ∗ restW (SΦ c (slabs gm)) (sst 98 98) ⟨(k.val + 43) % 98, hp⟩)) $$ HS
  icases HS with ⟨HS, HSr⟩
  ihave HO := (takeO c (fDX r0 r1 r2 fx gm) (n := k.val) (w := k.val - 2) (by omega)) $$ HO
  icases HO with ⟨⟨%fo, HO⟩, HOr⟩
  iapply (loop_gen c k0_t4_loop k0_t4_ok _ (inv4 c fx gm (fDX r0 r1 r2 fx gm) f k.val) (fun j u => t4_step a0 h0 a1 h1 a2 h2 a3 h3 a4 h4 a9 h9 a10 h10 c fx gm r0 r1 r2 f hf0 hf1 hf2 v188 v189 v191 v193 v195 v203 v205 v206 k j u)) $$ [HC HX HS HO]
  · unfold inv4
    isplitl [HC]; · iexact HC
    isplitl [HX]; · iexact HX
    isplitl [HS]; · iexact HS
    iexists fo
    isplitl [HO]; · iexact HO
    ipureintro
    intro a b h
    omega
  iintro HI
  rw [show k0_t4_loop.trips = 2 from rfl]
  unfold inv4
  icases HI with ⟨HC, HX, HS, ⟨%fo', HO, %hfo⟩⟩
  iapply (issueO c (fDX r0 r1 r2 fx gm) (n := k.val) (w := k.val - 2) (v := k.val - 2) (by omega) (by omega) hk (k0_off40_eq k) (k0_off39_eq k) (sem_at _ (Nat.mod_lt _ (by decide)) (k0_off38_eq k) _) fo'
    (fun a b => hfo a b (by have := a.isLt; omega))) $$ [HO HOr HD]
  · isplitl [HO]; · iexact HO
    isplitl [HOr]; · iexact HOr
    iexact HD
  iintro ⟨HO, HD⟩
  iapply HQ
  isplitl [HX HXw]
  · rw [takeX c fx (p := k.val + 43) ((k.val + 43) % 98) rfl (by omega) (by omega) (by omega)]
    isplitl [HX]; · iexact HX
    iexact HXw
  isplitl [HS HSr]
  · rw [AtW_focus (SΦ c (slabs gm)) (sst 98 98) ⟨(k.val + 43) % 98, hp⟩, sst_fin ⟨(k.val + 43) % 98, hp⟩ hp, SΦ_two]
    isplitl [HS]; · iexact HS
    iexact HSr
  isplitl [HC]; · iexact HC
  isplitl [HO]; · iexact HO
  iexact HD

/-- What the second pass holds before trip `k`. -/
def inv3 (c : Dev nD) (fx : BufX (F := F)) (gm : BufG (F := F)) (fD : BufO (F := F)) (f : S8x256.Idx → Elt F .f32) (k : ℕ) : sProp 𝕄 :=
  iprop(core3 c fx gm fD f (98 + min (k - 1) 43) (max 98 (43 + k)) k (k - 3) ∗ (∃ W, owes (c : Thread nD τ) 0 W))

theorem t3_step (c : Dev nD) (fx : BufX (F := F)) (gm : BufG (F := F)) (r0 r1 r2 : FVec F S1x256 .f32) (f : S8x256.Idx → Elt F .f32)
    (hf0 : ∀ x : S1x256.Idx, f (ix2 ⟨0, by decide⟩ (x 1)) = r0 x) (hf1 : ∀ x : S1x256.Idx, f (ix2 ⟨1, by decide⟩ (x 1)) = r1 x) (hf2 : ∀ x : S1x256.Idx, f (ix2 ⟨2, by decide⟩ (x 1)) = r2 x)
    (v188 v189 : Elt F .f32) (v191 v193 v195 v203 v205 v206 : FVec F S1x256 .f32) (k : Fin k0_t3_loop.trips) (u : Unit) :
    inv3 c fx gm (fDX r0 r1 r2 fx gm) f k.val ⊢ WP (F := F) c (k0_t3_body (F := F) a0 h0 a1 h1 a2 h2 a3 h3 a4 h4 XH (Memref.isWhole_whole _) GH (Memref.isWhole_whole _) MH (Memref.isWhole_whole _) OH (Memref.isWhole_whole _) a9 h9 a10 h10 XB (Memref.isWhole_whole _) GB (Memref.isWhole_whole _) MB (Memref.isWhole_whole _) OB (Memref.isWhole_whole _) NB (Memref.isWhole_whole _) A0 (Memref.isWhole_whole _) A1 (Memref.isWhole_whole _) CB (Memref.isWhole_whole _) cc0_scratch8 cc0_scratch9 cc0_scratch10 cc0_scratch11 v188 v189 v191 v193 v195 v203 v205 v206 k u) (fun _ => inv3 c fx gm (fDX r0 r1 r2 fx gm) f (k.val + 1)) := by
  have hk : k.val < 98 := k.isLt
  have e1 : k.val + 1 - 1 = k.val := rfl
  have e2 : 43 + (k.val + 1) = 44 + k.val := by omega
  have e3 : k.val + 1 - 3 = k.val - 2 := by omega
  unfold k0_t3_body inv3
  rw [e1, e2, e3]
  by_cases g0 : k.val = 0
  · simp only [dif_neg (fun h => absurd ((cond2_iff k).mp h) (by omega)), dif_neg (fun h => absurd ((cond3_iff k).mp h) (by omega)), dif_neg (fun h => absurd ((cond4_iff k).mp h) (by omega)), wp_bind, wp_pure]
    unfold core3
    rw [show 98 + min (k.val - 1) 43 = 98 + min k.val 43 by omega]
    iintro ⟨⟨HX, HS, HC, HO, HD⟩, HW⟩
    rw [show k.val - 3 = k.val - 2 by omega]
    rw [show max 98 (43 + k.val) = max 98 (44 + k.val) by omega]
    iapply (t3_tail a0 h0 a1 h1 a2 h2 a3 h3 a4 h4 a9 h9 a10 h10 c fx gm r0 r1 r2 f hf0 hf1 hf2 v188 v189 v191 v193 v195 v203 v205 v206 k) $$ [HX HS HC HO HD]
    · unfold core3
      isplitl [HX]; · iexact HX
      isplitl [HS]; · iexact HS
      isplitl [HC]; · iexact HC
      isplitl [HO]; · iexact HO
      iexact HD
    iintro HF
    unfold core3
    iapply fupd_intro
    isplitl [HF]; · iexact HF
    iexact HW
  by_cases g1 : k.val < 3
  · simp only [dif_pos ((cond2_iff k).mpr (by omega)), dif_neg (fun h => absurd ((cond3_iff k).mp h) (by omega)), dif_neg (fun h => absurd ((cond4_iff k).mp h) (by omega)), wp_bind, wp_pure]
    unfold core3
    rw [show 98 + min (k.val - 1) 43 = k.val + 97 by omega]
    iintro ⟨⟨HX, HS, HC, HO, HD⟩, HW⟩
    iapply (issueX c fx (n := k.val + 97) (w := max 98 (43 + k.val)) (by omega) (by omega) (k0_off27_eq k) (k0_off28_eq k) (sem_at _ (Nat.mod_lt _ (by decide)) (k0_off26_eq k) _)) $$ HX
    iintro HX
    rw [show k.val + 97 + 1 = 98 + min k.val 43 by omega]
    rw [show k.val - 3 = k.val - 2 by omega]
    rw [show max 98 (43 + k.val) = max 98 (44 + k.val) by omega]
    iapply (t3_tail a0 h0 a1 h1 a2 h2 a3 h3 a4 h4 a9 h9 a10 h10 c fx gm r0 r1 r2 f hf0 hf1 hf2 v188 v189 v191 v193 v195 v203 v205 v206 k) $$ [HX HS HC HO HD]
    · unfold core3
      isplitl [HX]; · iexact HX
      isplitl [HS]; · iexact HS
      isplitl [HC]; · iexact HC
      isplitl [HO]; · iexact HO
      iexact HD
    iintro HF
    unfold core3
    iapply fupd_intro
    isplitl [HF]; · iexact HF
    iexact HW
  by_cases g2 : k.val ≤ 43
  · simp only [dif_pos ((cond2_iff k).mpr (by omega)), dif_pos ((cond3_iff k).mpr (by omega)), dif_neg (fun h => absurd ((cond4_iff k).mp h) (by omega)), wp_bind, wp_pure]
    unfold core3
    rw [show 98 + min (k.val - 1) 43 = k.val + 97 by omega]
    iintro ⟨⟨HX, HS, HC, HO, HD⟩, HW⟩
    iapply (issueX c fx (n := k.val + 97) (w := max 98 (43 + k.val)) (by omega) (by omega) (k0_off27_eq k) (k0_off28_eq k) (sem_at _ (Nat.mod_lt _ (by decide)) (k0_off26_eq k) _)) $$ HX
    iintro HX
    rw [show k.val + 97 + 1 = 98 + min k.val 43 by omega]
    iapply (waitO c (fDX r0 r1 r2 fx gm) (n := k.val) (w := k.val - 3) (by omega) (by omega) (by omega) (dst := rowsO (k0_off30 k) (k0_off30_inb k ((cond3_iff k).mpr (by omega)))) (sem_at _ (Nat.mod_lt _ (by decide)) (off29_eq k ((cond3_iff k).mpr (by omega))) _) rfl) $$ [HO HD HW]
    · isplitl [HO]; · iexact HO
      isplitl [HD]; · iexact HD
      iexact HW
    iintro ⟨HO, HD, HW⟩
    rw [show k.val - 3 + 1 = k.val - 2 by omega]
    rw [show max 98 (43 + k.val) = max 98 (44 + k.val) by omega]
    iapply (t3_tail a0 h0 a1 h1 a2 h2 a3 h3 a4 h4 a9 h9 a10 h10 c fx gm r0 r1 r2 f hf0 hf1 hf2 v188 v189 v191 v193 v195 v203 v205 v206 k) $$ [HX HS HC HO HD]
    · unfold core3
      isplitl [HX]; · iexact HX
      isplitl [HS]; · iexact HS
      isplitl [HC]; · iexact HC
      isplitl [HO]; · iexact HO
      iexact HD
    iintro HF
    unfold core3
    iapply fupd_intro
    isplitl [HF]; · iexact HF
    iexact HW
  by_cases g3 : k.val < 55
  · simp only [dif_neg (fun h => absurd ((cond2_iff k).mp h) (by omega)), dif_pos ((cond3_iff k).mpr (by omega)), dif_neg (fun h => absurd ((cond4_iff k).mp h) (by omega)), wp_bind, wp_pure]
    unfold core3
    rw [show 98 + min (k.val - 1) 43 = 98 + min k.val 43 by omega]
    iintro ⟨⟨HX, HS, HC, HO, HD⟩, HW⟩
    iapply (waitO c (fDX r0 r1 r2 fx gm) (n := k.val) (w := k.val - 3) (by omega) (by omega) (by omega) (dst := rowsO (k0_off30 k) (k0_off30_inb k ((cond3_iff k).mpr (by omega)))) (sem_at _ (Nat.mod_lt _ (by decide)) (off29_eq k ((cond3_iff k).mpr (by omega))) _) rfl) $$ [HO HD HW]
    · isplitl [HO]; · iexact HO
      isplitl [HD]; · iexact HD
      iexact HW
    iintro ⟨HO, HD, HW⟩
    rw [show k.val - 3 + 1 = k.val - 2 by omega]
    rw [show max 98 (43 + k.val) = max 98 (44 + k.val) by omega]
    iapply (t3_tail a0 h0 a1 h1 a2 h2 a3 h3 a4 h4 a9 h9 a10 h10 c fx gm r0 r1 r2 f hf0 hf1 hf2 v188 v189 v191 v193 v195 v203 v205 v206 k) $$ [HX HS HC HO HD]
    · unfold core3
      isplitl [HX]; · iexact HX
      isplitl [HS]; · iexact HS
      isplitl [HC]; · iexact HC
      isplitl [HO]; · iexact HO
      iexact HD
    iintro HF
    unfold core3
    iapply fupd_intro
    isplitl [HF]; · iexact HF
    iexact HW
  simp only [dif_neg (fun h => absurd ((cond2_iff k).mp h) (by omega)), dif_pos ((cond3_iff k).mpr (by omega)), dif_pos ((cond4_iff k).mpr (by omega)), wp_bind, wp_pure]
  unfold core3
  rw [show 98 + min (k.val - 1) 43 = 98 + min k.val 43 by omega]
  iintro ⟨⟨HX, HS, HC, HO, HD⟩, HW⟩
  iapply (waitO c (fDX r0 r1 r2 fx gm) (n := k.val) (w := k.val - 3) (by omega) (by omega) (by omega) (dst := rowsO (k0_off30 k) (k0_off30_inb k ((cond3_iff k).mpr (by omega)))) (sem_at _ (Nat.mod_lt _ (by decide)) (off29_eq k ((cond3_iff k).mpr (by omega))) _) rfl) $$ [HO HD HW]
  · isplitl [HO]; · iexact HO
    isplitl [HD]; · iexact HD
    iexact HW
  iintro ⟨HO, HD, HW⟩
  rw [show k.val - 3 + 1 = k.val - 2 by omega]
  rw [show max 98 (43 + k.val) = k.val + 43 by omega]
  iapply (waitX c fx (n := 98 + min k.val 43) (w := k.val + 43) (by omega) (by omega) (dst := slotX (k0_off33 k) (k0_off33_inb k ((cond4_iff k).mpr (by omega)))) (sem_at _ (Nat.mod_lt _ (by decide)) (k0_off32_eq k) _) rfl) $$ [HX HW]
  · isplitl [HX]; · iexact HX
    iexact HW
  iintro ⟨HX, HW⟩
  rw [show k.val + 43 + 1 = max 98 (44 + k.val) by omega]
  iapply (t3_tail a0 h0 a1 h1 a2 h2 a3 h3 a4 h4 a9 h9 a10 h10 c fx gm r0 r1 r2 f hf0 hf1 hf2 v188 v189 v191 v193 v195 v203 v205 v206 k) $$ [HX HS HC HO HD]
  · unfold core3
    isplitl [HX]; · iexact HX
    isplitl [HS]; · iexact HS
    isplitl [HC]; · iexact HC
    isplitl [HO]; · iexact HO
    iexact HD
  iintro HF
  unfold core3
  iapply fupd_intro
  isplitl [HF]; · iexact HF
  iexact HW

end Cert.Kernel.Hand

end
-- ==== Proof.KStart.lean ====
/-
  The body of the kernel: the copies of the first chunks, the two passes and what is stored between them.
-/
module

public import proofs.«01_k».proof.Proof.KPass2
public import Idealize.ShloMosaic.Lib.Pipeline.FrameBody
public import Idealize.ShloMosaic.Lib.Ring
public import Idealize.ShloMosaic.Lib.Tactic

@[expose] public section

set_option maxRecDepth 16384

noncomputable section

namespace Cert.Kernel.Hand

open Cert.Kernel Cert.Kernel.Gen Cert.Geo
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (AtW AtW_focus restW)

variable {F : FTy → Type} [FloatOps F]

local notation "𝕄" => MT nD τ sig Unit (Elt F) ℕ (Pipeline.UD sig nD τ) ℕ

/-! ## The operands kept in windows -/

theorem acc_sub {cs : CoreSpace} {s : Shape} {e : EltTy} (M : Memref sig .tc cs s e) (r : Rect s) : (M.access r).set ⊆ M.view.set :=
  set_sub (M.access r) _ fun x => View.emb_mem_set M.view (r.emb x)

theorem loadV (c : Dev nD) (M : Memref sig .tc .vmem S1x256 .f32) {inb} {hld} (X : S1x256.Idx → Elt F .f32) {Q : (S1x256.Idx → Elt F .f32) → sProp 𝕄} :
    owns (c : Thread nD τ) M fullShare X ⊢ iprop((owns (c : Thread nD τ) M fullShare X -∗ Q X)
      -∗ WP (F := F) c (Prog.lift (.load M (Rect.unit (s := S1x256) ![0, 0] S1x256.size inb).toLoadRect hld)) Q) := by
  unfold owns
  iintro ⟨%f, %hf, H⟩ HQ
  iapply (load_gen c M (Rect.unit (s := S1x256) ![0, 0] S1x256.size inb) hld M.view.set f X (acc_sub M _)
    (funext fun x => (congrArg (M.view.read (Elt F) f) (emb_full inb x)).trans (congrFun hf x))) $$ H
  iintro H
  iapply HQ
  iexists f
  isplitr; · ipureintro; exact hf
  iexact H

theorem storeV (c : Dev nD) (M : Memref sig .tc .vmem S1x256 .f32) {inb} {hx} {hm} (X w : S1x256.Idx → Elt F .f32) {Q : PUnit → sProp 𝕄} :
    owns (c : Thread nD τ) M fullShare X ⊢ iprop((owns (c : Thread nD τ) M fullShare w -∗ Q ⟨⟩)
      -∗ WP (F := F) c (Prog.lift (.store M (Rect.unit (s := S1x256) ![0, 0] S1x256.size inb) w Finset.univ hx hm)) Q) := by
  unfold owns
  iintro ⟨%f, -, H⟩ HQ
  iapply (store_gen c M (Rect.unit (s := S1x256) ![0, 0] S1x256.size inb) w M.view.set f
    ((M.access (Rect.unit (s := S1x256) ![0, 0] S1x256.size inb)).write (Elt F) f w Finset.univ) (acc_sub M _) (fun _ _ => rfl)) $$ H
  iintro H
  iapply HQ
  iexists _
  isplitr; swap; · iexact H
  ipureintro
  funext x
  have h1 : (M.access (Rect.unit (s := S1x256) ![0, 0] S1x256.size inb)).read (Elt F)
      ((M.access (Rect.unit (s := S1x256) ![0, 0] S1x256.size inb)).write (Elt F) f w Finset.univ) x = w x := congrFun (View.read_write_univ _ _) x
  exact (congrArg (M.view.read (Elt F) _) (emb_full inb x)).symm.trans h1

theorem loadS (c : Dev nD) (M : Memref sig .tc .smem S1 .f32) {inb} {hn} {hp} (X : S1.Idx → Elt F .f32) {Q : Elt F .f32 → sProp 𝕄} :
    owns (c : Thread nD τ) M fullShare X ⊢ iprop((owns (c : Thread nD τ) M fullShare X -∗ Q (X (ix1 (0 : Fin 1))))
      -∗ WP (F := F) c (smemLoad M (Rect.unit (s := S1) ![0] S1.size inb) hn hp) Q) := by
  unfold owns smemLoad
  iintro ⟨%f, %hf, H⟩ HQ
  iapply (wp_smemLoadElt Variants.none (c : Thread nD τ) none Set.univ (m := M) (r := Rect.unit (s := S1) ![0] S1.size inb) (S := M.view.set) (acc_sub M _)) $$ H
  iintro H
  rw [wp_ret]
  iapply fupd_intro
  have hx : ∀ x : (Rect.unit (s := S1) ![0] S1.size inb).shape.Idx, (M.access (Rect.unit (s := S1) ![0] S1.size inb)).read (Elt F) f x = X (ix1 (0 : Fin 1)) := fun x => by
    have e : (Rect.unit (s := S1) ![0] S1.size inb).emb x = ix1 (0 : Fin 1) := by
      funext d; match d with | ⟨0, _⟩ => exact Subsingleton.elim (α := Fin 1) _ _
    exact (congrArg (M.view.read (Elt F) f) e).trans (congrFun hf _)
  rw [hx]
  iapply HQ
  iexists f
  isplitr; · ipureintro; exact hf
  iexact H

/-! ## The scratch buffers whole -/

theorem fillA0 (c : Dev nD) {inb} {f : S16x256.Idx → Elt F .f32} (w : S16x256.Idx → Elt F .f32) {hx} {hm} {Q : PUnit → sProp 𝕄} :
    bufA0 c f ⊢ iprop((bufA0 c w -∗ Q ⟨⟩) -∗ WP (F := F) c (Prog.lift (.store A0 (Rect.unit (s := S16x256) ![0, 0] S16x256.size inb) w Finset.univ hx hm)) Q) :=
  have e : ∀ x : S16x256.Idx, ((A0.access (Rect.unit (s := S16x256) ![0, 0] S16x256.size inb)).emb x : S16x256.Idx) = x := fun x => emb_full inb x
  store_gen c A0 (Rect.unit (s := S16x256) ![0, 0] S16x256.size inb) w Finset.univ f w (Finset.subset_univ _)
    (write_eq (A0.access (Rect.unit (s := S16x256) ![0, 0] S16x256.size inb)) f w w Finset.univ (fun x _ => congrArg w (e x))
      (fun i _ hn => absurd (by have h := View.emb_mem_set (A0.access (Rect.unit (s := S16x256) ![0, 0] S16x256.size inb)) i; rwa [e i] at h) hn))
theorem readA0 (c : Dev nD) {inb} {f : S16x256.Idx → Elt F .f32} {hld} {Q : (S16x256.Idx → Elt F .f32) → sProp 𝕄} :
    bufA0 c f ⊢ iprop((bufA0 c f -∗ Q f) -∗ WP (F := F) c (Prog.lift (.load A0 (Rect.unit (s := S16x256) ![0, 0] S16x256.size inb).toLoadRect hld)) Q) :=
  load_gen c A0 (Rect.unit (s := S16x256) ![0, 0] S16x256.size inb) hld Finset.univ f f (Finset.subset_univ _) (funext fun x => congrArg f (emb_full inb x))
theorem fillA1 (c : Dev nD) {inb} {f : S16x256.Idx → Elt F .f32} (w : S16x256.Idx → Elt F .f32) {hx} {hm} {Q : PUnit → sProp 𝕄} :
    bufA1 c f ⊢ iprop((bufA1 c w -∗ Q ⟨⟩) -∗ WP (F := F) c (Prog.lift (.store A1 (Rect.unit (s := S16x256) ![0, 0] S16x256.size inb) w Finset.univ hx hm)) Q) :=
  have e : ∀ x : S16x256.Idx, ((A1.access (Rect.unit (s := S16x256) ![0, 0] S16x256.size inb)).emb x : S16x256.Idx) = x := fun x => emb_full inb x
  store_gen c A1 (Rect.unit (s := S16x256) ![0, 0] S16x256.size inb) w Finset.univ f w (Finset.subset_univ _)
    (write_eq (A1.access (Rect.unit (s := S16x256) ![0, 0] S16x256.size inb)) f w w Finset.univ (fun x _ => congrArg w (e x))
      (fun i _ hn => absurd (by have h := View.emb_mem_set (A1.access (Rect.unit (s := S16x256) ![0, 0] S16x256.size inb)) i; rwa [e i] at h) hn))
theorem readA1 (c : Dev nD) {inb} {f : S16x256.Idx → Elt F .f32} {hld} {Q : (S16x256.Idx → Elt F .f32) → sProp 𝕄} :
    bufA1 c f ⊢ iprop((bufA1 c f -∗ Q f) -∗ WP (F := F) c (Prog.lift (.load A1 (Rect.unit (s := S16x256) ![0, 0] S16x256.size inb).toLoadRect hld)) Q) :=
  load_gen c A1 (Rect.unit (s := S16x256) ![0, 0] S16x256.size inb) hld Finset.univ f f (Finset.subset_univ _) (funext fun x => congrArg f (emb_full inb x))
theorem fillN (c : Dev nD) {inb} {f : S16x128.Idx → Elt F .bf16} (w : S16x128.Idx → Elt F .bf16) {hx} {hm} {Q : PUnit → sProp 𝕄} :
    bufN c f ⊢ iprop((bufN c w -∗ Q ⟨⟩) -∗ WP (F := F) c (Prog.lift (.store NB (Rect.unit (s := S16x128) ![0, 0] S16x128.size inb) w Finset.univ hx hm)) Q) :=
  have e : ∀ x : S16x128.Idx, ((NB.access (Rect.unit (s := S16x128) ![0, 0] S16x128.size inb)).emb x : S16x128.Idx) = x := fun x => emb_full inb x
  store_gen c NB (Rect.unit (s := S16x128) ![0, 0] S16x128.size inb) w Finset.univ f w (Finset.subset_univ _)
    (write_eq (NB.access (Rect.unit (s := S16x128) ![0, 0] S16x128.size inb)) f w w Finset.univ (fun x _ => congrArg w (e x))
      (fun i _ hn => absurd (by have h := View.emb_mem_set (NB.access (Rect.unit (s := S16x128) ![0, 0] S16x128.size inb)) i; rwa [e i] at h) hn))

/-- One row of the coefficients replaced. -/
def rowW (r : ℕ) (w : S1x256.Idx → Elt F .f32) (f : S8x256.Idx → Elt F .f32) : S8x256.Idx → Elt F .f32 := fun i => if (i 0).val = r then w (ix2 (0 : Fin 1) (i 1)) else f i

theorem row_ix (x : S1x256.Idx) : (ix2 (0 : Fin 1) (x 1) : S1x256.Idx) = x := by
  refine Eq.trans ?_ (eq_ix2 x).symm
  congr 1
  exact Subsingleton.elim (α := Fin 1) _ _

theorem storeC (c : Dev nD) {r : ℕ} (hr : r < 8) {inb} {f : S8x256.Idx → Elt F .f32} (w : S1x256.Idx → Elt F .f32) {hx} {hm} {Q : PUnit → sProp 𝕄} :
    bufC c f ⊢ iprop((bufC c (rowW r w f) -∗ Q ⟨⟩) -∗ WP (F := F) c (Prog.lift (.store CB (Rect.unit (s := S8x256) ![r, 0] S1x256.size inb) w Finset.univ hx hm)) Q) :=
  have e : ∀ x : S1x256.Idx, ((CB.access (Rect.unit (s := S8x256) ![r, 0] S1x256.size inb)).emb x : S8x256.Idx) = ix2 ⟨r, hr⟩ (x 1) := fun x => emb_row hr rfl inb x
  store_gen c CB (Rect.unit (s := S8x256) ![r, 0] S1x256.size inb) w Finset.univ f (rowW r w f) (Finset.subset_univ _)
    (write_eq (CB.access (Rect.unit (s := S8x256) ![r, 0] S1x256.size inb)) f (rowW r w f) w Finset.univ
      (fun x _ => (congrArg (rowW r w f) (e x)).trans ((if_pos rfl).trans (congrArg w (row_ix x))))
      (fun i _ hn => by
        unfold rowW
        rw [if_neg]
        intro h0
        refine hn ?_
        have hx : (i : S8x256.Idx) = (CB.access (Rect.unit (s := S8x256) ![r, 0] S1x256.size inb)).emb (ix2 (0 : Fin 1) (i 1) : S1x256.Idx) := by
          rw [e]
          have hq : (i : S8x256.Idx) = ix2 (i 0) (i 1) := eq_ix2 i
          refine hq.trans ?_
          congr 1
          exact Fin.ext h0
        rw [hx]; exact View.emb_mem_set _ _))

/-! ## The first copies -/

/-- The copies started before the first pass: `a`, `b` and `d` chunks of the three inputs. -/
def pro (c : Dev nD) (fx : BufX (F := F)) (fg : BufG (F := F)) (fm : BufM (F := F)) (a b d : ℕ) : sProp 𝕄 :=
  iprop(AtW (XΦ c fx) (rst 55 a 0) ∗ AtW (GΦ c fg) (rst 8 b 0) ∗ AtW (MΦ c fm) (rst 8 d 0) ∗ AtW (SΦ c (slabs (gmF fg fm))) (sst b 0))

variable (a0 : Memref sig .tc .smem S1 .f32) (h0 : a0.IsWhole) (a1 : Memref sig .tc .smem S1 .f32) (h1 : a1.IsWhole)
  (a2 : Memref sig .tc .vmem S1x256 .f32) (h2 : a2.IsWhole) (a3 : Memref sig .tc .vmem S1x256 .f32) (h3 : a3.IsWhole)
  (a4 : Memref sig .tc .vmem S1x256 .f32) (h4 : a4.IsWhole) (a9 : Memref sig .tc .vmem S1x256 .f32) (h9 : a9.IsWhole)
  (a10 : Memref sig .tc .vmem S1x256 .f32) (h10 : a10.IsWhole)

theorem part4_spec (c : Dev nD) (fx : BufX (F := F)) (fg : BufG (F := F)) (fm : BufM (F := F)) {f0 f1 fn} {Q : BitVec 32 → sProp 𝕄} :
    iprop(pro c fx fg fm 0 0 0 ∗ bufN c fn ∗ bufA0 c f0 ∗ bufA1 c f1) ⊢ iprop((iprop(pro c fx fg fm 1 1 0 ∗ bufN c k0_pay15 ∗ bufA0 c k0_pay13 ∗ bufA1 c k0_pay14) -∗ Q 0#32)
      -∗ WP (F := F) c (k0_part4 (F := F) a0 h0 a1 h1 a2 h2 a3 h3 a4 h4 XH (Memref.isWhole_whole _) GH (Memref.isWhole_whole _) MH (Memref.isWhole_whole _) OH (Memref.isWhole_whole _) a9 h9 a10 h10 XB (Memref.isWhole_whole _) GB (Memref.isWhole_whole _) MB (Memref.isWhole_whole _) OB (Memref.isWhole_whole _) NB (Memref.isWhole_whole _) A0 (Memref.isWhole_whole _) A1 (Memref.isWhole_whole _) CB (Memref.isWhole_whole _) cc0_scratch8 cc0_scratch9 cc0_scratch10 cc0_scratch11) Q) := by
  rw [k0_part4_eq_skeleton]
  unfold k0_part4_skel pro
  simp only [wp_bind, wp_pure]
  iintro ⟨⟨HX, HG, HM, HS⟩, HN, H0, H1⟩ HQ
  iapply (readA0 c) $$ H0
  iintro H0
  iapply (fillA0 c k0_pay13) $$ H0
  iintro H0
  iapply (readA1 c) $$ H1
  iintro H1
  iapply (fillA1 c k0_pay14) $$ H1
  iintro H1
  iapply (loadN c) $$ HN
  iintro HN
  iapply (fillN c k0_pay15) $$ HN
  iintro HN
  iapply (issueX c fx (n := 0) (w := 0) (by decide) (by decide) (show k0_off2 0#32 = ![0, 0, 0] from k0_off2_eq 0) (show k0_off3 0#32 = ![1536 * 0, 0] from k0_off3_eq 0) (sem_at _ (by decide : 0 < 55) (show k0_off1 0#32 = ![0] from k0_off1_eq 0) _)) $$ HX
  iintro HX
  iapply (issueG c fg (slabs (gmF fg fm)) (n := 0) (w := 0) (v := 0) (by decide) (by decide) (by decide) (by decide) rfl (show k0_off5 0#32 = ![1536 * 0, 0] from k0_off5_eq 0) (sem_at _ (by decide : 0 < 8) (show k0_off4 0#32 = ![0] from k0_off4_eq 0) _)) $$ [HG HS]
  · isplitl [HG]; · iexact HG
    iexact HS
  iintro ⟨HG, HS⟩
  iapply fupd_intro
  iapply HQ
  isplitl [HX HG HM HS]
  · isplitl [HX]; · iexact HX
    isplitl [HG]; · iexact HG
    isplitl [HM]; · iexact HM
    iexact HS
  isplitl [HN]; · iexact HN
  isplitl [H0]; · iexact H0
  iexact H1

theorem part5_spec (c : Dev nD) (fx : BufX (F := F)) (fg : BufG (F := F)) (fm : BufM (F := F)) (z : BitVec 32) {Q : PUnit → sProp 𝕄} :
    pro c fx fg fm 1 1 0 ⊢ iprop((pro c fx fg fm 2 2 1 -∗ Q ⟨⟩) -∗ WP (F := F) c (k0_part5 (F := F) a0 h0 a1 h1 a2 h2 a3 h3 a4 h4 XH (Memref.isWhole_whole _) GH (Memref.isWhole_whole _) MH (Memref.isWhole_whole _) OH (Memref.isWhole_whole _) a9 h9 a10 h10 XB (Memref.isWhole_whole _) GB (Memref.isWhole_whole _) MB (Memref.isWhole_whole _) OB (Memref.isWhole_whole _) NB (Memref.isWhole_whole _) A0 (Memref.isWhole_whole _) A1 (Memref.isWhole_whole _) CB (Memref.isWhole_whole _) cc0_scratch8 cc0_scratch9 cc0_scratch10 cc0_scratch11 z) Q) := by
  rw [k0_part5_eq_skeleton]
  unfold k0_part5_skel pro
  simp only [wp_bind, wp_pure]
  iintro ⟨HX, HG, HM, HS⟩ HQ
  iapply (issueM c fm (n := 0) (w := 0) (by decide) (by decide) (show k0_off6 0#32 = ![0, 0, 0] from k0_off6_eq 0) (show k0_off5 0#32 = ![1536 * 0, 0] from k0_off5_eq 0) (sem_at _ (by decide : 0 < 8) (show k0_off4 0#32 = ![0] from k0_off4_eq 0) _)) $$ HM
  iintro HM
  iapply (issueX c fx (n := 1) (w := 0) (by decide) (by decide) (show k0_off2 1#32 = ![1, 0, 0] from k0_off2_eq 1) (show k0_off3 1#32 = ![1536 * 1, 0] from k0_off3_eq 1) (sem_at _ (by decide : 1 < 55) (show k0_off1 1#32 = ![1] from k0_off1_eq 1) _)) $$ HX
  iintro HX
  iapply (issueG c fg (slabs (gmF fg fm)) (n := 1) (w := 0) (v := 0) (by decide) (by decide) (by decide) (by decide) rfl (show k0_off5 1#32 = ![1536 * 1, 0] from k0_off5_eq 1) (sem_at _ (by decide : 1 < 8) (show k0_off4 1#32 = ![1] from k0_off4_eq 1) _)) $$ [HG HS]
  · isplitl [HG]; · iexact HG
    iexact HS
  iintro ⟨HG, HS⟩
  iapply fupd_intro
  iapply HQ
  isplitl [HX]; · iexact HX
  isplitl [HG]; · iexact HG
  isplitl [HM]; · iexact HM
  iexact HS

theorem part6_spec (c : Dev nD) (fx : BufX (F := F)) (fg : BufG (F := F)) (fm : BufM (F := F)) {Q : BitVec 32 → sProp 𝕄} :
    pro c fx fg fm 2 2 1 ⊢ iprop((pro c fx fg fm 3 3 3 -∗ Q (Scalar.remsi 3#32 98#32)) -∗ WP (F := F) c (k0_part6 (F := F) a0 h0 a1 h1 a2 h2 a3 h3 a4 h4 XH (Memref.isWhole_whole _) GH (Memref.isWhole_whole _) MH (Memref.isWhole_whole _) OH (Memref.isWhole_whole _) a9 h9 a10 h10 XB (Memref.isWhole_whole _) GB (Memref.isWhole_whole _) MB (Memref.isWhole_whole _) OB (Memref.isWhole_whole _) NB (Memref.isWhole_whole _) A0 (Memref.isWhole_whole _) A1 (Memref.isWhole_whole _) CB (Memref.isWhole_whole _) cc0_scratch8 cc0_scratch9 cc0_scratch10 cc0_scratch11) Q) := by
  rw [k0_part6_eq_skeleton]
  unfold k0_part6_skel pro
  simp only [wp_bind, wp_pure]
  iintro ⟨HX, HG, HM, HS⟩ HQ
  iapply (issueM c fm (n := 1) (w := 0) (by decide) (by decide) (show k0_off6 1#32 = ![1, 0, 0] from k0_off6_eq 1) (show k0_off5 1#32 = ![1536 * 1, 0] from k0_off5_eq 1) (sem_at _ (by decide : 1 < 8) (show k0_off4 1#32 = ![1] from k0_off4_eq 1) _)) $$ HM
  iintro HM
  iapply (issueX c fx (n := 2) (w := 0) (by decide) (by decide) (show k0_off2 2#32 = ![2, 0, 0] from k0_off2_eq 2) (show k0_off3 2#32 = ![1536 * 2, 0] from k0_off3_eq 2) (sem_at _ (by decide : 2 < 55) (show k0_off1 2#32 = ![2] from k0_off1_eq 2) _)) $$ HX
  iintro HX
  iapply (issueG c fg (slabs (gmF fg fm)) (n := 2) (w := 0) (v := 0) (by decide) (by decide) (by decide) (by decide) rfl (show k0_off5 2#32 = ![1536 * 2, 0] from k0_off5_eq 2) (sem_at _ (by decide : 2 < 8) (show k0_off4 2#32 = ![2] from k0_off4_eq 2) _)) $$ [HG HS]
  · isplitl [HG]; · iexact HG
    iexact HS
  iintro ⟨HG, HS⟩
  iapply (issueM c fm (n := 2) (w := 0) (by decide) (by decide) (show k0_off6 2#32 = ![2, 0, 0] from k0_off6_eq 2) (show k0_off5 2#32 = ![1536 * 2, 0] from k0_off5_eq 2) (sem_at _ (by decide : 2 < 8) (show k0_off4 2#32 = ![2] from k0_off4_eq 2) _)) $$ HM
  iintro HM
  iapply fupd_intro
  iapply HQ
  isplitl [HX]; · iexact HX
  isplitl [HG]; · iexact HG
  isplitl [HM]; · iexact HM
  iexact HS

theorem part7_spec (c : Dev nD) (fx : BufX (F := F)) (fg : BufG (F := F)) (fm : BufM (F := F)) (z : BitVec 32) {Q : PUnit → sProp 𝕄} :
    pro c fx fg fm 3 3 3 ⊢ iprop((pro c fx fg fm 4 4 4 -∗ Q ⟨⟩) -∗ WP (F := F) c (k0_part7 (F := F) a0 h0 a1 h1 a2 h2 a3 h3 a4 h4 XH (Memref.isWhole_whole _) GH (Memref.isWhole_whole _) MH (Memref.isWhole_whole _) OH (Memref.isWhole_whole _) a9 h9 a10 h10 XB (Memref.isWhole_whole _) GB (Memref.isWhole_whole _) MB (Memref.isWhole_whole _) OB (Memref.isWhole_whole _) NB (Memref.isWhole_whole _) A0 (Memref.isWhole_whole _) A1 (Memref.isWhole_whole _) CB (Memref.isWhole_whole _) cc0_scratch8 cc0_scratch9 cc0_scratch10 cc0_scratch11 z) Q) := by
  rw [k0_part7_eq_skeleton]
  unfold k0_part7_skel pro
  simp only [wp_bind, wp_pure]
  iintro ⟨HX, HG, HM, HS⟩ HQ
  iapply (issueX c fx (n := 3) (w := 0) (by decide) (by decide) (show k0_off2 3#32 = ![3, 0, 0] from k0_off2_eq 3) (show k0_off3 3#32 = ![1536 * 3, 0] from k0_off3_eq 3) (sem_at _ (by decide : 3 < 55) (show k0_off1 3#32 = ![3] from k0_off1_eq 3) _)) $$ HX
  iintro HX
  iapply (issueG c fg (slabs (gmF fg fm)) (n := 3) (w := 0) (v := 0) (by decide) (by decide) (by decide) (by decide) rfl (show k0_off5 3#32 = ![1536 * 3, 0] from k0_off5_eq 3) (sem_at _ (by decide : 3 < 8) (show k0_off4 3#32 = ![3] from k0_off4_eq 3) _)) $$ [HG HS]
  · isplitl [HG]; · iexact HG
    iexact HS
  iintro ⟨HG, HS⟩
  iapply (issueM c fm (n := 3) (w := 0) (by decide) (by decide) (show k0_off6 3#32 = ![3, 0, 0] from k0_off6_eq 3) (show k0_off5 3#32 = ![1536 * 3, 0] from k0_off5_eq 3) (sem_at _ (by decide : 3 < 8) (show k0_off4 3#32 = ![3] from k0_off4_eq 3) _)) $$ HM
  iintro HM
  iapply fupd_intro
  iapply HQ
  isplitl [HX]; · iexact HX
  isplitl [HG]; · iexact HG
  isplitl [HM]; · iexact HM
  iexact HS

theorem part8_spec (c : Dev nD) (fx : BufX (F := F)) (fg : BufG (F := F)) (fm : BufM (F := F)) {Q : BitVec 32 → sProp 𝕄} :
    pro c fx fg fm 4 4 4 ⊢ iprop((pro c fx fg fm 6 5 5 -∗ Q (Scalar.muli 5#32 1536#32)) -∗ WP (F := F) c (k0_part8 (F := F) a0 h0 a1 h1 a2 h2 a3 h3 a4 h4 XH (Memref.isWhole_whole _) GH (Memref.isWhole_whole _) MH (Memref.isWhole_whole _) OH (Memref.isWhole_whole _) a9 h9 a10 h10 XB (Memref.isWhole_whole _) GB (Memref.isWhole_whole _) MB (Memref.isWhole_whole _) OB (Memref.isWhole_whole _) NB (Memref.isWhole_whole _) A0 (Memref.isWhole_whole _) A1 (Memref.isWhole_whole _) CB (Memref.isWhole_whole _) cc0_scratch8 cc0_scratch9 cc0_scratch10 cc0_scratch11) Q) := by
  rw [k0_part8_eq_skeleton]
  unfold k0_part8_skel pro
  simp only [wp_bind, wp_pure]
  iintro ⟨HX, HG, HM, HS⟩ HQ
  iapply (issueX c fx (n := 4) (w := 0) (by decide) (by decide) (show k0_off2 4#32 = ![4, 0, 0] from k0_off2_eq 4) (show k0_off3 4#32 = ![1536 * 4, 0] from k0_off3_eq 4) (sem_at _ (by decide : 4 < 55) (show k0_off1 4#32 = ![4] from k0_off1_eq 4) _)) $$ HX
  iintro HX
  iapply (issueG c fg (slabs (gmF fg fm)) (n := 4) (w := 0) (v := 0) (by decide) (by decide) (by decide) (by decide) rfl (show k0_off5 4#32 = ![1536 * 4, 0] from k0_off5_eq 4) (sem_at _ (by decide : 4 < 8) (show k0_off4 4#32 = ![4] from k0_off4_eq 4) _)) $$ [HG HS]
  · isplitl [HG]; · iexact HG
    iexact HS
  iintro ⟨HG, HS⟩
  iapply (issueM c fm (n := 4) (w := 0) (by decide) (by decide) (show k0_off6 4#32 = ![4, 0, 0] from k0_off6_eq 4) (show k0_off5 4#32 = ![1536 * 4, 0] from k0_off5_eq 4) (sem_at _ (by decide : 4 < 8) (show k0_off4 4#32 = ![4] from k0_off4_eq 4) _)) $$ HM
  iintro HM
  iapply (issueX c fx (n := 5) (w := 0) (by decide) (by decide) (show k0_off2 5#32 = ![5, 0, 0] from k0_off2_eq 5) (show k0_off3 5#32 = ![1536 * 5, 0] from k0_off3_eq 5) (sem_at _ (by decide : 5 < 55) (show k0_off1 5#32 = ![5] from k0_off1_eq 5) _)) $$ HX
  iintro HX
  iapply fupd_intro
  iapply HQ
  isplitl [HX]; · iexact HX
  isplitl [HG]; · iexact HG
  isplitl [HM]; · iexact HM
  iexact HS

theorem part9_spec (c : Dev nD) (fx : BufX (F := F)) (fg : BufG (F := F)) (fm : BufM (F := F)) (z : BitVec 32) {Q : PUnit → sProp 𝕄} :
    pro c fx fg fm 6 5 5 ⊢ iprop((pro c fx fg fm 7 6 6 -∗ Q ⟨⟩) -∗ WP (F := F) c (k0_part9 (F := F) a0 h0 a1 h1 a2 h2 a3 h3 a4 h4 XH (Memref.isWhole_whole _) GH (Memref.isWhole_whole _) MH (Memref.isWhole_whole _) OH (Memref.isWhole_whole _) a9 h9 a10 h10 XB (Memref.isWhole_whole _) GB (Memref.isWhole_whole _) MB (Memref.isWhole_whole _) OB (Memref.isWhole_whole _) NB (Memref.isWhole_whole _) A0 (Memref.isWhole_whole _) A1 (Memref.isWhole_whole _) CB (Memref.isWhole_whole _) cc0_scratch8 cc0_scratch9 cc0_scratch10 cc0_scratch11 z) Q) := by
  rw [k0_part9_eq_skeleton]
  unfold k0_part9_skel pro
  simp only [wp_bind, wp_pure]
  iintro ⟨HX, HG, HM, HS⟩ HQ
  iapply (issueG c fg (slabs (gmF fg fm)) (n := 5) (w := 0) (v := 0) (by decide) (by decide) (by decide) (by decide) rfl (show k0_off5 5#32 = ![1536 * 5, 0] from k0_off5_eq 5) (sem_at _ (by decide : 5 < 8) (show k0_off4 5#32 = ![5] from k0_off4_eq 5) _)) $$ [HG HS]
  · isplitl [HG]; · iexact HG
    iexact HS
  iintro ⟨HG, HS⟩
  iapply (issueM c fm (n := 5) (w := 0) (by decide) (by decide) (show k0_off6 5#32 = ![5, 0, 0] from k0_off6_eq 5) (show k0_off5 5#32 = ![1536 * 5, 0] from k0_off5_eq 5) (sem_at _ (by decide : 5 < 8) (show k0_off4 5#32 = ![5] from k0_off4_eq 5) _)) $$ HM
  iintro HM
  iapply (issueX c fx (n := 6) (w := 0) (by decide) (by decide) (show k0_off2 6#32 = ![6, 0, 0] from k0_off2_eq 6) (show k0_off3 6#32 = ![1536 * 6, 0] from k0_off3_eq 6) (sem_at _ (by decide : 6 < 55) (show k0_off1 6#32 = ![6] from k0_off1_eq 6) _)) $$ HX
  iintro HX
  iapply fupd_intro
  iapply HQ
  isplitl [HX]; · iexact HX
  isplitl [HG]; · iexact HG
  isplitl [HM]; · iexact HM
  iexact HS

end Cert.Kernel.Hand

end
-- ==== Proof.KBody.lean ====
/-
  The body of the kernel: from its buffers before the run to its buffers after it.
-/
module

public import proofs.«01_k».proof.Proof.KStart
public import Idealize.ShloMosaic.Lib.Pipeline.FrameBody
public import Idealize.ShloMosaic.Lib.Ring
public import Idealize.ShloMosaic.Lib.Tactic

@[expose] public section

set_option maxRecDepth 16384

noncomputable section

namespace Cert.Kernel.Hand

open Cert.Kernel Cert.Kernel.Gen Cert.Geo
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (AtW AtW_focus restW)

variable {F : FTy → Type} [FloatOps F]

local notation "𝕄" => MT nD τ sig Unit (Elt F) ℕ (Pipeline.UD sig nD τ) ℕ

/-! ## What the kernel computes -/

/-- The three results, by the words of the scales, the operands kept in windows and the arrays. -/
def dbV (dys : Elt F .f32) (fg : BufG (F := F)) (fm : BufM (F := F)) : FVec F S1x256 .f32 := k0_pay22 dys (acc0N fg fm 196)
def dgV (xs dys : Elt F .f32) (me rs : FVec F S1x256 .f32) (fx : BufX (F := F)) (fg : BufG (F := F)) (fm : BufM (F := F)) : FVec F S1x256 .f32 :=
  k0_pay25 dys (k0_pay19 rs) (k0_pay23 xs (acc1N fx fg fm 196)) (k0_pay24 me (acc0N fg fm 196))
def c0V (dys : Elt F .f32) (rs ga : FVec F S1x256 .f32) : FVec F S1x256 .f32 := k0_pay28 dys (k0_pay19 rs) (k0_pay20 ga)
def c1V (xs dys : Elt F .f32) (me rs ga : FVec F S1x256 .f32) (fx : BufX (F := F)) (fg : BufG (F := F)) (fm : BufM (F := F)) : FVec F S1x256 .f32 :=
  k0_pay29 xs dys (k0_pay19 rs) (k0_pay20 ga) (k0_pay23 xs (acc1N fx fg fm 196)) (k0_pay24 me (acc0N fg fm 196))
def c2V (xs dys : Elt F .f32) (me rs ga : FVec F S1x256 .f32) (fx : BufX (F := F)) (fg : BufG (F := F)) (fm : BufM (F := F)) : FVec F S1x256 .f32 :=
  k0_pay30 dys (k0_pay18 me) (k0_pay19 rs) (k0_pay20 ga) (dbV dys fg fm) (k0_pay23 xs (acc1N fx fg fm 196)) (k0_pay24 me (acc0N fg fm 196))
def dxV (xs dys : Elt F .f32) (me rs ga : FVec F S1x256 .f32) (fx : BufX (F := F)) (fg : BufG (F := F)) (fm : BufM (F := F)) : BufO (F := F) :=
  fDX (c0V dys rs ga) (c1V xs dys me rs ga fx fg fm) (c2V xs dys me rs ga fx fg fm) fx (gmF fg fm)

variable (a0 : Memref sig .tc .smem S1 .f32) (h0 : a0.IsWhole) (a1 : Memref sig .tc .smem S1 .f32) (h1 : a1.IsWhole)
  (a2 : Memref sig .tc .vmem S1x256 .f32) (h2 : a2.IsWhole) (a3 : Memref sig .tc .vmem S1x256 .f32) (h3 : a3.IsWhole)
  (a4 : Memref sig .tc .vmem S1x256 .f32) (h4 : a4.IsWhole) (a9 : Memref sig .tc .vmem S1x256 .f32) (h9 : a9.IsWhole)
  (a10 : Memref sig .tc .vmem S1x256 .f32) (h10 : a10.IsWhole)

/-- The operands kept in windows. -/
def opsV (c : Dev nD) (Xs Xd : S1.Idx → Elt F .f32) (me rs ga : S1x256.Idx → Elt F .f32) : sProp 𝕄 :=
  iprop(owns (c : Thread nD τ) a0 fullShare Xs ∗ owns (c : Thread nD τ) a1 fullShare Xd ∗ owns (c : Thread nD τ) a2 fullShare me
    ∗ owns (c : Thread nD τ) a3 fullShare rs ∗ owns (c : Thread nD τ) a4 fullShare ga)

theorem part10_spec (c : Dev nD) (fx : BufX (F := F)) (fg : BufG (F := F)) (fm : BufM (F := F)) (Xs Xd : S1.Idx → Elt F .f32) (me rs ga : S1x256.Idx → Elt F .f32)
    {Q : (Σ' (v188 : Elt F .f32) (v189 : Elt F .f32) (v191 : FVec F S1x256 .f32) (v193 : FVec F S1x256 .f32) (v195 : FVec F S1x256 .f32) (v203 : FVec F S1x256 .f32) (v205 : FVec F S1x256 .f32), FVec F S1x256 .f32) → sProp 𝕄} :
    iprop(pro c fx fg fm 7 6 6 ∗ bufN c k0_pay15 ∗ bufA0 c k0_pay13 ∗ bufA1 c k0_pay14 ∗ opsV a0 a1 a2 a3 a4 c Xs Xd me rs ga ∗ (∃ W, owes (c : Thread nD τ) 0 W))
      ⊢ iprop((iprop(flight1 c fx fg fm 98 98 98 ∗ bufN c k0_pay15 ∗ bufA0 c (acc0N fg fm 196) ∗ bufA1 c (acc1N fx fg fm 196) ∗ opsV a0 a1 a2 a3 a4 c Xs Xd me rs ga ∗ (∃ W, owes (c : Thread nD τ) 0 W))
        -∗ Q ⟨Xs (ix1 (0 : Fin 1)), Xd (ix1 (0 : Fin 1)), k0_pay18 me, k0_pay19 rs, k0_pay20 ga, dbV (Xd (ix1 (0 : Fin 1))) fg fm, k0_pay23 (Xs (ix1 (0 : Fin 1))) (acc1N fx fg fm 196), k0_pay24 me (acc0N fg fm 196)⟩)
      -∗ WP (F := F) c (k0_part10 (F := F) a0 h0 a1 h1 a2 h2 a3 h3 a4 h4 XH (Memref.isWhole_whole _) GH (Memref.isWhole_whole _) MH (Memref.isWhole_whole _) OH (Memref.isWhole_whole _) a9 h9 a10 h10 XB (Memref.isWhole_whole _) GB (Memref.isWhole_whole _) MB (Memref.isWhole_whole _) OB (Memref.isWhole_whole _) NB (Memref.isWhole_whole _) A0 (Memref.isWhole_whole _) A1 (Memref.isWhole_whole _) CB (Memref.isWhole_whole _) cc0_scratch8 cc0_scratch9 cc0_scratch10 cc0_scratch11) Q) := by
  rw [k0_part10_eq_skeleton]
  unfold k0_part10_skel pro opsV dbV
  simp only [wp_bind, wp_pure]
  iintro ⟨⟨HX, HG, HM, HS⟩, HN, H0, H1, ⟨O0, O1, O2, O3, O4⟩, HW⟩ HQ
  iapply (issueG c fg (slabs (gmF fg fm)) (n := 6) (w := 0) (v := 0) (by decide) (by decide) (by decide) (by decide) rfl (show k0_off5 6#32 = ![1536 * 6, 0] from k0_off5_eq 6) (sem_at _ (by decide : 6 < 8) (show k0_off4 6#32 = ![6] from k0_off4_eq 6) _)) $$ [HG HS]
  · isplitl [HG]; · iexact HG
    iexact HS
  iintro ⟨HG, HS⟩
  iapply (issueM c fm (n := 6) (w := 0) (by decide) (by decide) (show k0_off6 6#32 = ![6, 0, 0] from k0_off6_eq 6) (show k0_off5 6#32 = ![1536 * 6, 0] from k0_off5_eq 6) (sem_at _ (by decide : 6 < 8) (show k0_off4 6#32 = ![6] from k0_off4_eq 6) _)) $$ HM
  iintro HM
  iapply (loop_gen c k0_t1_loop k0_t1_ok _ (inv1 c fx fg fm) (fun k u => t1_step a0 h0 a1 h1 a2 h2 a3 h3 a4 h4 a9 h9 a10 h10 c fx fg fm k u)) $$ [HX HG HM HS HN H0 H1 HW]
  · unfold inv1 flight1
    isplitl [HX HG HM HS HW]
    · isplitl [HX HG HM HS]
      · isplitl [HX]; · iexact HX
        isplitl [HG]; · iexact HG
        isplitl [HM]; · iexact HM
        iexact HS
      iexact HW
    isplitl [HN]; · iexact HN
    isplitl [H0]; · iexact H0
    iexact H1
  iintro HI
  ihave HI := (show inv1 c fx fg fm k0_t1_loop.trips ⊢ iprop((flight1 c fx fg fm 98 98 98 ∗ ∃ W, owes (c : Thread nD τ) 0 W)
    ∗ bufN c k0_pay15 ∗ bufA0 c (acc0N fg fm 196) ∗ bufA1 c (acc1N fx fg fm 196)) from .rfl) $$ HI
  icases HI with ⟨⟨HF, HW⟩, HN, H0, H1⟩
  iapply (loadS c a0 Xs) $$ O0
  iintro O0
  iapply (loadS c a1 Xd) $$ O1
  iintro O1
  iapply (loadV c a2 me) $$ O2
  iintro O2
  iapply (loadV c a3 rs) $$ O3
  iintro O3
  iapply (loadV c a4 ga) $$ O4
  iintro O4
  iapply (readA0 c) $$ H0
  iintro H0
  iapply (readA1 c) $$ H1
  iintro H1
  iapply fupd_intro
  iapply HQ
  isplitl [HF]; · iexact HF
  isplitl [HN]; · iexact HN
  isplitl [H0]; · iexact H0
  isplitl [H1]; · iexact H1
  isplitl [O0 O1 O2 O3 O4]
  · isplitl [O0]; · iexact O0
    isplitl [O1]; · iexact O1
    isplitl [O2]; · iexact O2
    isplitl [O3]; · iexact O3
    iexact O4
  iexact HW

theorem part11_spec (c : Dev nD) (fx : BufX (F := F)) (gm : BufG (F := F)) (f : S8x256.Idx → Elt F .f32) (X9 X10 : S1x256.Idx → Elt F .f32)
    (v188 v189 : Elt F .f32) (v191 v193 v195 v203 v205 v206 : FVec F S1x256 .f32) {Q : (Σ' (c43_i32 : BitVec 32), BitVec 32) → sProp 𝕄} :
    iprop(core3 c fx gm (fDX (k0_pay28 v189 v193 v195) (k0_pay29 v188 v189 v193 v195 v205 v206) (k0_pay30 v189 v191 v193 v195 v203 v205 v206) fx gm) f 98 98 0 0
        ∗ owns (c : Thread nD τ) a9 fullShare X9 ∗ owns (c : Thread nD τ) a10 fullShare X10 ∗ (∃ W, owes (c : Thread nD τ) 0 W))
      ⊢ iprop((iprop((∃ f', core3 c fx gm (fDX (k0_pay28 v189 v193 v195) (k0_pay29 v188 v189 v193 v195 v205 v206) (k0_pay30 v189 v191 v193 v195 v203 v205 v206) fx gm) f' 141 141 98 95)
          ∗ owns (c : Thread nD τ) a9 fullShare (k0_pay25 v189 v193 v205 v206) ∗ owns (c : Thread nD τ) a10 fullShare v203 ∗ (∃ W, owes (c : Thread nD τ) 0 W)) -∗ Q ⟨43#32, 95#32⟩)
      -∗ WP (F := F) c (k0_part11 (F := F) a0 h0 a1 h1 a2 h2 a3 h3 a4 h4 XH (Memref.isWhole_whole _) GH (Memref.isWhole_whole _) MH (Memref.isWhole_whole _) OH (Memref.isWhole_whole _) a9 h9 a10 h10 XB (Memref.isWhole_whole _) GB (Memref.isWhole_whole _) MB (Memref.isWhole_whole _) OB (Memref.isWhole_whole _) NB (Memref.isWhole_whole _) A0 (Memref.isWhole_whole _) A1 (Memref.isWhole_whole _) CB (Memref.isWhole_whole _) cc0_scratch8 cc0_scratch9 cc0_scratch10 cc0_scratch11 v188 v189 v191 v193 v195 v203 v205 v206) Q) := by
  rw [k0_part11_eq_skeleton]
  unfold k0_part11_skel core3
  simp only [wp_bind, wp_pure]
  iintro ⟨⟨HX, HS, HC, HO, HD⟩, O9, O10, HW⟩ HQ
  iapply (loadV c a10 X10) $$ O10
  iintro O10
  iapply (storeV c a10 X10 v203) $$ O10
  iintro O10
  iapply (loadV c a9 X9) $$ O9
  iintro O9
  iapply (storeV c a9 X9 (k0_pay25 v189 v193 v205 v206)) $$ O9
  iintro O9
  iapply (loadC c (r := 0) (by decide) _ (fun _ => rfl)) $$ HC
  iintro HC
  iapply (storeC c (r := 0) (by decide) (k0_pay28 v189 v193 v195)) $$ HC
  iintro HC
  iapply (loadC c (r := 1) (by decide) _ (fun _ => rfl)) $$ HC
  iintro HC
  iapply (storeC c (r := 1) (by decide) (k0_pay29 v188 v189 v193 v195 v205 v206)) $$ HC
  iintro HC
  iapply (loadC c (r := 2) (by decide) _ (fun _ => rfl)) $$ HC
  iintro HC
  iapply (storeC c (r := 2) (by decide) (k0_pay30 v189 v191 v193 v195 v203 v205 v206)) $$ HC
  iintro HC
  iapply (loop_gen c k0_t3_loop k0_t3_ok _ (inv3 c fx gm (fDX (k0_pay28 v189 v193 v195) (k0_pay29 v188 v189 v193 v195 v205 v206) (k0_pay30 v189 v191 v193 v195 v203 v205 v206) fx gm) _)
    (fun k u => t3_step a0 h0 a1 h1 a2 h2 a3 h3 a4 h4 a9 h9 a10 h10 c fx gm _ _ _ (rowW 2 (k0_pay30 v189 v191 v193 v195 v203 v205 v206) (rowW 1 (k0_pay29 v188 v189 v193 v195 v205 v206) (rowW 0 (k0_pay28 v189 v193 v195) f)))
      (fun x => congrArg (k0_pay28 v189 v193 v195) (row_ix x)) (fun x => congrArg (k0_pay29 v188 v189 v193 v195 v205 v206) (row_ix x)) (fun x => congrArg (k0_pay30 v189 v191 v193 v195 v203 v205 v206) (row_ix x)) v188 v189 v191 v193 v195 v203 v205 v206 k u)) $$ [HX HS HC HO HD HW]
  · unfold inv3 core3
    isplitr [HW]
    · isplitl [HX]; · iexact HX
      isplitl [HS]; · iexact HS
      isplitl [HC]; · iexact HC
      isplitl [HO]; · iexact HO
      iexact HD
    iexact HW
  iintro HI
  ihave HI := (show inv3 c fx gm (fDX (k0_pay28 v189 v193 v195) (k0_pay29 v188 v189 v193 v195 v205 v206) (k0_pay30 v189 v191 v193 v195 v203 v205 v206) fx gm)
      (rowW 2 (k0_pay30 v189 v191 v193 v195 v203 v205 v206) (rowW 1 (k0_pay29 v188 v189 v193 v195 v205 v206) (rowW 0 (k0_pay28 v189 v193 v195) f))) k0_t3_loop.trips
    ⊢ iprop((∃ f', core3 c fx gm (fDX (k0_pay28 v189 v193 v195) (k0_pay29 v188 v189 v193 v195 v205 v206) (k0_pay30 v189 v191 v193 v195 v203 v205 v206) fx gm) f' 141 141 98 95) ∗ ∃ W, owes (c : Thread nD τ) 0 W)
    from by
      unfold inv3
      iintro ⟨HI, HW⟩
      isplitl [HI]
      · iexists _
        iexact HI
      iexact HW) $$ HI
  icases HI with ⟨HI, HW⟩
  iapply fupd_intro
  iapply HQ
  isplitl [HI]; · unfold core3; iexact HI
  isplitl [O9]; · iexact O9
  isplitl [O10]; · iexact O10
  iexact HW

/-- Everything the body holds, by the counts of its copies. -/
def allV (c : Dev nD) (fx : BufX (F := F)) (fg : BufG (F := F)) (fm : BufM (F := F)) (fD : BufO (F := F)) (nx wx n w : ℕ) : sProp 𝕄 :=
  iprop(AtW (XΦ c fx) (rst 55 nx wx) ∗ AtW (GΦ c fg) (rst 8 n w) ∗ AtW (MΦ c fm) (rst 8 n w) ∗ AtW (SΦ c (slabs (gmF fg fm))) (sst n w)
    ∗ AtW (OΦ c fD) (rst 3 n w) ∗ AtW (DΦ c fD) (sst n w)
    ∗ (∃ f, bufN c f) ∗ (∃ f, bufA0 c f) ∗ (∃ f, bufA1 c f) ∗ (∃ f, bufC c f) ∗ (∃ W, owes (c : Thread nD τ) 0 W))

theorem body_spec (c : Dev nD) (fx : BufX (F := F)) (fg : BufG (F := F)) (fm : BufM (F := F)) (Xs Xd : S1.Idx → Elt F .f32) (me rs ga X9 X10 : S1x256.Idx → Elt F .f32)
    {Q : PUnit → sProp 𝕄} :
    iprop(allV c fx fg fm (dxV (Xs (ix1 (0 : Fin 1))) (Xd (ix1 (0 : Fin 1))) me rs ga fx fg fm) 0 0 0 0 ∗ opsV a0 a1 a2 a3 a4 c Xs Xd me rs ga
        ∗ owns (c : Thread nD τ) a9 fullShare X9 ∗ owns (c : Thread nD τ) a10 fullShare X10)
      ⊢ iprop((iprop(allV c fx fg fm (dxV (Xs (ix1 (0 : Fin 1))) (Xd (ix1 (0 : Fin 1))) me rs ga fx fg fm) 141 141 98 98 ∗ opsV a0 a1 a2 a3 a4 c Xs Xd me rs ga
          ∗ owns (c : Thread nD τ) a9 fullShare (dgV (Xs (ix1 (0 : Fin 1))) (Xd (ix1 (0 : Fin 1))) me rs fx fg fm) ∗ owns (c : Thread nD τ) a10 fullShare (dbV (Xd (ix1 (0 : Fin 1))) fg fm)) -∗ Q ⟨⟩)
      -∗ WP (F := F) c (cc0_bn_relu_bwd (F := F) a0 h0 a1 h1 a2 h2 a3 h3 a4 h4 XH (Memref.isWhole_whole _) GH (Memref.isWhole_whole _) MH (Memref.isWhole_whole _) OH (Memref.isWhole_whole _) a9 h9 a10 h10 XB (Memref.isWhole_whole _) GB (Memref.isWhole_whole _) MB (Memref.isWhole_whole _) OB (Memref.isWhole_whole _) NB (Memref.isWhole_whole _) A0 (Memref.isWhole_whole _) A1 (Memref.isWhole_whole _) CB (Memref.isWhole_whole _) cc0_scratch8 cc0_scratch9 cc0_scratch10 cc0_scratch11) Q) := by
  rw [cc0_bn_relu_bwd_eq_skeleton]
  unfold cc0_bn_relu_bwd_skel allV
  rw [k0_part12_eq_skeleton]
  unfold k0_part12_skel
  simp only [wp_bind, wp_pure]
  iintro ⟨⟨HX, HG, HM, HS, HO, HD, ⟨%fn, HN⟩, ⟨%f0, H0⟩, ⟨%f1, H1⟩, ⟨%fc, HC⟩, HW⟩, HV, O9, O10⟩ HQ
  iapply (part4_spec a0 h0 a1 h1 a2 h2 a3 h3 a4 h4 a9 h9 a10 h10 c fx fg fm) $$ [HX HG HM HS HN H0 H1]
  · unfold pro
    isplitl [HX HG HM HS]
    · isplitl [HX]; · iexact HX
      isplitl [HG]; · iexact HG
      isplitl [HM]; · iexact HM
      iexact HS
    isplitl [HN]; · iexact HN
    isplitl [H0]; · iexact H0
    iexact H1
  iintro ⟨HP, HN, H0, H1⟩
  iapply (part5_spec a0 h0 a1 h1 a2 h2 a3 h3 a4 h4 a9 h9 a10 h10 c fx fg fm) $$ HP
  iintro HP
  iapply (part6_spec a0 h0 a1 h1 a2 h2 a3 h3 a4 h4 a9 h9 a10 h10 c fx fg fm) $$ HP
  iintro HP
  iapply (part7_spec a0 h0 a1 h1 a2 h2 a3 h3 a4 h4 a9 h9 a10 h10 c fx fg fm) $$ HP
  iintro HP
  iapply (part8_spec a0 h0 a1 h1 a2 h2 a3 h3 a4 h4 a9 h9 a10 h10 c fx fg fm) $$ HP
  iintro HP
  iapply (part9_spec a0 h0 a1 h1 a2 h2 a3 h3 a4 h4 a9 h9 a10 h10 c fx fg fm) $$ HP
  iintro HP
  iapply (part10_spec a0 h0 a1 h1 a2 h2 a3 h3 a4 h4 a9 h9 a10 h10 c fx fg fm Xs Xd me rs ga) $$ [HP HN H0 H1 HV HW]
  · isplitl [HP]; · iexact HP
    isplitl [HN]; · iexact HN
    isplitl [H0]; · iexact H0
    isplitl [H1]; · iexact H1
    isplitl [HV]; · iexact HV
    iexact HW
  iintro ⟨HF, HN, H0, H1, HV, HW⟩
  ihave HF := (show flight1 c fx fg fm 98 98 98 ⊢ iprop(AtW (XΦ c fx) (rst 55 98 98) ∗ AtW (GΦ c fg) (rst 8 98 98) ∗ AtW (MΦ c fm) (rst 8 98 98) ∗ AtW (SΦ c (slabs (gmF fg fm))) (sst 98 98)) from .rfl) $$ HF
  icases HF with ⟨HX, HG, HM, HS⟩
  iapply (part11_spec a0 h0 a1 h1 a2 h2 a3 h3 a4 h4 a9 h9 a10 h10 c fx (gmF fg fm) fc X9 X10) $$ [HX HS HC HO HD O9 O10 HW]
  · isplitl [HX HS HC HO HD]
    · unfold core3
      isplitl [HX]; · iexact HX
      isplitl [HS]; · iexact HS
      isplitl [HC]; · iexact HC
      isplitl [HO]; · iexact HO
      iexact HD
    isplitl [O9]; · iexact O9
    isplitl [O10]; · iexact O10
    iexact HW
  iintro ⟨⟨%fc', HI⟩, O9, O10, HW⟩
  unfold core3
  icases HI with ⟨HX, HS, HC, HO, HD⟩
  simp only [wp_bind, wp_pure]
  iapply (waitO c _ (n := 98) (w := 95) (by decide) (by decide) (by decide) (dst := rowsO (k0_off42 95#32) (k0_off42_inb 0)) (sem_at _ (by decide : 95 % 3 < 3) (show k0_off41 95#32 = ![95 % 3] from k0_off41_eq 0) _) rfl) $$ [HO HD HW]
  · isplitl [HO]; · iexact HO
    isplitl [HD]; · iexact HD
    iexact HW
  iintro ⟨HO, HD, HW⟩
  iapply (waitO c _ (n := 98) (w := 96) (by decide) (by decide) (by decide) (dst := rowsO (k0_off42 96#32) (k0_off42_inb 1)) (sem_at _ (by decide : 96 % 3 < 3) (show k0_off41 96#32 = ![96 % 3] from k0_off41_eq 1) _) rfl) $$ [HO HD HW]
  · isplitl [HO]; · iexact HO
    isplitl [HD]; · iexact HD
    iexact HW
  iintro ⟨HO, HD, HW⟩
  iapply fupd_intro
  iapply (waitO c _ (n := 98) (w := 97) (by decide) (by decide) (by decide) (dst := rowsO (k0_off42 97#32) (k0_off42_inb 2)) (sem_at _ (by decide : 97 % 3 < 3) (show k0_off41 97#32 = ![97 % 3] from k0_off41_eq 2) _) rfl) $$ [HO HD HW]
  · isplitl [HO]; · iexact HO
    isplitl [HD]; · iexact HD
    iexact HW
  iintro ⟨HO, HD, HW⟩
  iapply fupd_intro
  iapply HQ
  isplitr [HV O9 O10]
  · isplitl [HX]; · iexact HX
    isplitl [HG]; · iexact HG
    isplitl [HM]; · iexact HM
    isplitl [HS]; · iexact HS
    isplitl [HO]; · iexact HO
    isplitl [HD]; · iexact HD
    isplitl [HN]; · iexists _; iexact HN
    isplitl [H0]; · iexists _; iexact H0
    isplitl [H1]; · iexists _; iexact H1
    isplitl [HC]; · iexists _; iexact HC
    iexact HW
  isplitl [HV]; · iexact HV
  isplitl [O9]; · iexact O9
  iexact O10

end Cert.Kernel.Hand

end
-- ==== Proof.KRings.lean ====
/-
  From the buffers and semaphores the launch hands over to what the body holds before its first copy, and back
  from what it holds after its last.
-/
module

public import proofs.«01_k».proof.Proof.KBody
public import Idealize.ShloMosaic.Lib.Pipeline.FrameBody
public import Idealize.ShloMosaic.Lib.Ring
public import Idealize.ShloMosaic.Lib.Tactic

@[expose] public section

set_option maxRecDepth 16384

noncomputable section

namespace Cert.Kernel.Hand

open Cert.Kernel Cert.Kernel.Gen Cert.Geo
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (AtW AtW_focus restW pointsTo_blocks pointsTo_blocks_join_exists)

variable {F : FTy → Type} [FloatOps F]

local notation "𝕄" => MT nD τ sig Unit (Elt F) ℕ (Pipeline.UD sig nD τ) ℕ

/-- Entailment member by member. -/
theorem sep_mono {I : Type} [Fintype I] {Φ Ψ : I → sProp 𝕄} (h : ∀ s, Φ s ⊢ Ψ s) : bigSep Finset.univ Φ ⊢ bigSep Finset.univ Ψ :=
  BI.bigSep_mono fun s _ => h s
theorem sep2 {I : Type} [Fintype I] (A B : I → sProp 𝕄) : (bigSep Finset.univ fun s => iprop(A s ∗ B s)) = iprop(bigSep Finset.univ A ∗ bigSep Finset.univ B) :=
  BI.bigSep_sep Finset.univ A B
theorem sep3 {I : Type} [Fintype I] (A B C : I → sProp 𝕄) :
    (bigSep Finset.univ fun s => iprop(A s ∗ B s ∗ C s)) = iprop(bigSep Finset.univ A ∗ bigSep Finset.univ B ∗ bigSep Finset.univ C) :=
  (sep2 A fun s => iprop(B s ∗ C s)).trans (congrArg (fun P => iprop(bigSep Finset.univ A ∗ P)) (sep2 B C))

/-! ## Slabs and rows tile their buffers -/

theorem slab_disj {n : ℕ} (b b' : Fin n) (h : b ≠ b') : Disjoint (slab n b.val) (slab n b'.val) :=
  Finset.disjoint_left.mpr fun i hi hi' => h (Fin.ext ((mem_slab.mp hi).symm.trans (mem_slab.mp hi')))
theorem slab_cover {n : ℕ} : Finset.univ.biUnion (fun b : Fin n => slab n b.val) = Finset.univ := by
  ext i
  simp only [Finset.mem_biUnion, Finset.mem_univ, true_and, iff_true]
  exact ⟨i 0, mem_slab.mpr rfl⟩
theorem rows_disj (b b' : Fin 98) (h : b ≠ b') : Disjoint (rows ((b.val + 43) % 98)) (rows ((b'.val + 43) % 98)) :=
  Finset.disjoint_left.mpr fun i hi hi' => h (Fin.ext (by
    have h1 := mem_rows.mp hi
    have h2 := mem_rows.mp hi'
    have := b.isLt
    have := b'.isLt
    omega))
theorem rows_cover : Finset.univ.biUnion (fun b : Fin 98 => rows ((b.val + 43) % 98)) = Finset.univ := by
  ext i
  simp only [Finset.mem_biUnion, Finset.mem_univ, true_and, iff_true]
  have hi : (i 0).val < 150528 := (i 0).isLt
  refine ⟨⟨((i 0).val / 1536 + 55) % 98, Nat.mod_lt _ (by decide)⟩, mem_rows.mpr ?_⟩
  dsimp only
  omega

/-- The buffer whole at some contents, slab by slab, and back. -/
theorem xSlabs_split (c : Dev nD) : iprop(∃ f : S55x1536x256.Idx → Elt F .fp8e4m3, XB.view.loc (c : Thread nD τ) ↦{fullShare} f)
    ⊢ (bigSep Finset.univ fun s : Fin 55 => iprop(∃ f, xSlab c s.val f) : sProp 𝕄) := by
  iintro ⟨%f, H⟩
  ihave H := (show (XB.view.loc (c : Thread nD τ) ↦{fullShare} f : sProp 𝕄) ⊢ bigSep Finset.univ fun s : Fin 55 => iprop(∃ f, xSlab c s.val f) from
    (Entails.of_eq (pointsTo_blocks (ℓ := XB.view.loc (c : Thread nD τ)) (B := Fin 55) (fun s => slab 55 s.val) slab_disj slab_cover f)).trans
      (sep_mono fun s => by iintro H; iexists f; iexact H)) $$ H
  iexact H
theorem xSlabs_join (c : Dev nD) : (bigSep Finset.univ fun s : Fin 55 => iprop(∃ f, xSlab c s.val f) : sProp 𝕄)
    ⊢ iprop(∃ f : S55x1536x256.Idx → Elt F .fp8e4m3, XB.view.loc (c : Thread nD τ) ↦{fullShare} f) :=
  pointsTo_blocks_join_exists (ℓ := XB.view.loc (c : Thread nD τ)) (B := Fin 55) (fun s => slab 55 s.val) slab_disj slab_cover (fun _ => Classical.choice inferInstance)

/-- The buffer whole at some contents, slab by slab, and back. -/
theorem gSlabs_split (c : Dev nD) : iprop(∃ f : S98x1536x256.Idx → Elt F .fp8e5m2, GB.view.loc (c : Thread nD τ) ↦{fullShare} f)
    ⊢ (bigSep Finset.univ fun s : Fin 98 => iprop(∃ f, gSlab c s.val f) : sProp 𝕄) := by
  iintro ⟨%f, H⟩
  ihave H := (show (GB.view.loc (c : Thread nD τ) ↦{fullShare} f : sProp 𝕄) ⊢ bigSep Finset.univ fun s : Fin 98 => iprop(∃ f, gSlab c s.val f) from
    (Entails.of_eq (pointsTo_blocks (ℓ := GB.view.loc (c : Thread nD τ)) (B := Fin 98) (fun s => slab 98 s.val) slab_disj slab_cover f)).trans
      (sep_mono fun s => by iintro H; iexists f; iexact H)) $$ H
  iexact H
theorem gSlabs_join (c : Dev nD) : (bigSep Finset.univ fun s : Fin 98 => iprop(∃ f, gSlab c s.val f) : sProp 𝕄)
    ⊢ iprop(∃ f : S98x1536x256.Idx → Elt F .fp8e5m2, GB.view.loc (c : Thread nD τ) ↦{fullShare} f) :=
  pointsTo_blocks_join_exists (ℓ := GB.view.loc (c : Thread nD τ)) (B := Fin 98) (fun s => slab 98 s.val) slab_disj slab_cover (fun _ => Classical.choice inferInstance)

/-- The buffer whole at some contents, slab by slab, and back. -/
theorem mSlabs_split (c : Dev nD) : iprop(∃ f : S8x1536x256.Idx → Elt F .i8, MB.view.loc (c : Thread nD τ) ↦{fullShare} f)
    ⊢ (bigSep Finset.univ fun s : Fin 8 => iprop(∃ f, mSlab c s.val f) : sProp 𝕄) := by
  iintro ⟨%f, H⟩
  ihave H := (show (MB.view.loc (c : Thread nD τ) ↦{fullShare} f : sProp 𝕄) ⊢ bigSep Finset.univ fun s : Fin 8 => iprop(∃ f, mSlab c s.val f) from
    (Entails.of_eq (pointsTo_blocks (ℓ := MB.view.loc (c : Thread nD τ)) (B := Fin 8) (fun s => slab 8 s.val) slab_disj slab_cover f)).trans
      (sep_mono fun s => by iintro H; iexists f; iexact H)) $$ H
  iexact H
theorem mSlabs_join (c : Dev nD) : (bigSep Finset.univ fun s : Fin 8 => iprop(∃ f, mSlab c s.val f) : sProp 𝕄)
    ⊢ iprop(∃ f : S8x1536x256.Idx → Elt F .i8, MB.view.loc (c : Thread nD τ) ↦{fullShare} f) :=
  pointsTo_blocks_join_exists (ℓ := MB.view.loc (c : Thread nD τ)) (B := Fin 8) (fun s => slab 8 s.val) slab_disj slab_cover (fun _ => Classical.choice inferInstance)

/-- The buffer whole at some contents, slab by slab, and back. -/
theorem oSlabs_split (c : Dev nD) : iprop(∃ f : S3x1536x256.Idx → Elt F .bf16, OB.view.loc (c : Thread nD τ) ↦{fullShare} f)
    ⊢ (bigSep Finset.univ fun s : Fin 3 => iprop(∃ f, oSlab c s.val f) : sProp 𝕄) := by
  iintro ⟨%f, H⟩
  ihave H := (show (OB.view.loc (c : Thread nD τ) ↦{fullShare} f : sProp 𝕄) ⊢ bigSep Finset.univ fun s : Fin 3 => iprop(∃ f, oSlab c s.val f) from
    (Entails.of_eq (pointsTo_blocks (ℓ := OB.view.loc (c : Thread nD τ)) (B := Fin 3) (fun s => slab 3 s.val) slab_disj slab_cover f)).trans
      (sep_mono fun s => by iintro H; iexists f; iexact H)) $$ H
  iexact H
theorem oSlabs_join (c : Dev nD) : (bigSep Finset.univ fun s : Fin 3 => iprop(∃ f, oSlab c s.val f) : sProp 𝕄)
    ⊢ iprop(∃ f : S3x1536x256.Idx → Elt F .bf16, OB.view.loc (c : Thread nD τ) ↦{fullShare} f) :=
  pointsTo_blocks_join_exists (ℓ := OB.view.loc (c : Thread nD τ)) (B := Fin 3) (fun s => slab 3 s.val) slab_disj slab_cover (fun _ => Classical.choice inferInstance)

/-- The ring at rest: its pieces one family each. -/
theorem ringX_rest (c : Dev nD) (f : BufX (F := F)) : (bigSep Finset.univ fun s : Fin 55 => XΦ c f s none : sProp 𝕄)
    = iprop((bigSep Finset.univ fun s : Fin 55 => iprop(∃ f, xSlab c s.val f)) ∗ (bigSep Finset.univ fun s : Fin 55 => semVal ((c : Thread nD τ), .dma (xSem s)) 0) ∗ (bigSep Finset.univ fun s : Fin 55 => xPart c s Finset.univ f)) := by
  show (bigSep Finset.univ fun s : Fin 55 => iprop((∃ f, xSlab c s.val f) ∗ semVal ((c : Thread nD τ), .dma (xSem s)) 0 ∗ xPart c s Finset.univ f)) = _
  exact sep3 _ _ _
theorem ringX_start (c : Dev nD) (f : BufX (F := F)) :
    iprop((bigSep Finset.univ fun s : Fin 55 => iprop(∃ f, xSlab c s.val f)) ∗ (bigSep Finset.univ fun s : Fin 55 => semVal ((c : Thread nD τ), .dma (xSem s)) 0) ∗ (XH.view.loc (c : Thread nD τ) ↦{fullShare} f))
      ⊢ (iprop(AtW (XΦ c f) (rst 55 0 0) ∗ (XH.view.loc (c : Thread nD τ) ↦{Transfers.shareDrop fullShare 55} f)) : sProp 𝕄) := by
  have e : (AtW (XΦ c f) (rst 55 0 0) : sProp 𝕄) = bigSep Finset.univ fun s : Fin 55 => XΦ c f s none :=
    BI.bigSep_congr fun s _ => by rw [rst_zero]
  rw [e, ringX_rest]
  iintro ⟨HS, Hs, Hf⟩
  ihave Hf := (Transfers.pointsTo_toks_split (ℓ := XH.view.loc (c : Thread nD τ)) (S := Finset.univ) (f := f) fullShare 55) $$ Hf
  icases Hf with ⟨Hd, Hf⟩
  isplitr [Hd]
  · isplitl [HS]; · iexact HS
    isplitl [Hs]; · iexact Hs
    iexact Hf
  iexact Hd
theorem ringX_stop (c : Dev nD) (f : BufX (F := F)) (n : ℕ) :
    (iprop(AtW (XΦ c f) (rst 55 n n) ∗ (XH.view.loc (c : Thread nD τ) ↦{Transfers.shareDrop fullShare 55} f)) : sProp 𝕄)
      ⊢ iprop((bigSep Finset.univ fun s : Fin 55 => iprop(∃ f, xSlab c s.val f)) ∗ (bigSep Finset.univ fun s : Fin 55 => semVal ((c : Thread nD τ), .dma (xSem s)) 0) ∗ (XH.view.loc (c : Thread nD τ) ↦{fullShare} f)) := by
  have e : (AtW (XΦ c f) (rst 55 n n) : sProp 𝕄) ⊢ bigSep Finset.univ fun s : Fin 55 => XΦ c f s none :=
    sep_mono fun s => by
      rcases rst_idle (N := 55) (n := n) s with h | ⟨p, h⟩
      · rw [h]
      · rw [h]; exact XΦ_free c f s p
  iintro ⟨H, Hd⟩
  ihave H := e.trans (Entails.of_eq (ringX_rest c f)) $$ H
  icases H with ⟨HS, Hs, Hf⟩
  isplitl [HS]; · iexact HS
  isplitl [Hs]; · iexact Hs
  iapply (Transfers.pointsTo_toks_join (ℓ := XH.view.loc (c : Thread nD τ)) (S := Finset.univ) (f := f) fullShare 55)
  isplitl [Hd]; · iexact Hd
  iexact Hf

/-- The ring at rest: its pieces one family each. -/
theorem ringM_rest (c : Dev nD) (f : BufM (F := F)) : (bigSep Finset.univ fun s : Fin 8 => MΦ c f s none : sProp 𝕄)
    = iprop((bigSep Finset.univ fun s : Fin 8 => iprop(∃ f, mSlab c s.val f)) ∗ (bigSep Finset.univ fun s : Fin 8 => semVal ((c : Thread nD τ), .dma (mSem s)) 0) ∗ (bigSep Finset.univ fun s : Fin 8 => mPart c s Finset.univ f)) := by
  show (bigSep Finset.univ fun s : Fin 8 => iprop((∃ f, mSlab c s.val f) ∗ semVal ((c : Thread nD τ), .dma (mSem s)) 0 ∗ mPart c s Finset.univ f)) = _
  exact sep3 _ _ _
theorem ringM_start (c : Dev nD) (f : BufM (F := F)) :
    iprop((bigSep Finset.univ fun s : Fin 8 => iprop(∃ f, mSlab c s.val f)) ∗ (bigSep Finset.univ fun s : Fin 8 => semVal ((c : Thread nD τ), .dma (mSem s)) 0) ∗ (MH.view.loc (c : Thread nD τ) ↦{fullShare} f))
      ⊢ (iprop(AtW (MΦ c f) (rst 8 0 0) ∗ (MH.view.loc (c : Thread nD τ) ↦{Transfers.shareDrop fullShare 8} f)) : sProp 𝕄) := by
  have e : (AtW (MΦ c f) (rst 8 0 0) : sProp 𝕄) = bigSep Finset.univ fun s : Fin 8 => MΦ c f s none :=
    BI.bigSep_congr fun s _ => by rw [rst_zero]
  rw [e, ringM_rest]
  iintro ⟨HS, Hs, Hf⟩
  ihave Hf := (Transfers.pointsTo_toks_split (ℓ := MH.view.loc (c : Thread nD τ)) (S := Finset.univ) (f := f) fullShare 8) $$ Hf
  icases Hf with ⟨Hd, Hf⟩
  isplitr [Hd]
  · isplitl [HS]; · iexact HS
    isplitl [Hs]; · iexact Hs
    iexact Hf
  iexact Hd
theorem ringM_stop (c : Dev nD) (f : BufM (F := F)) (n : ℕ) :
    (iprop(AtW (MΦ c f) (rst 8 n n) ∗ (MH.view.loc (c : Thread nD τ) ↦{Transfers.shareDrop fullShare 8} f)) : sProp 𝕄)
      ⊢ iprop((bigSep Finset.univ fun s : Fin 8 => iprop(∃ f, mSlab c s.val f)) ∗ (bigSep Finset.univ fun s : Fin 8 => semVal ((c : Thread nD τ), .dma (mSem s)) 0) ∗ (MH.view.loc (c : Thread nD τ) ↦{fullShare} f)) := by
  have e : (AtW (MΦ c f) (rst 8 n n) : sProp 𝕄) ⊢ bigSep Finset.univ fun s : Fin 8 => MΦ c f s none :=
    sep_mono fun s => by
      rcases rst_idle (N := 8) (n := n) s with h | ⟨p, h⟩
      · rw [h]
      · rw [h]; exact MΦ_free c f s p
  iintro ⟨H, Hd⟩
  ihave H := e.trans (Entails.of_eq (ringM_rest c f)) $$ H
  icases H with ⟨HS, Hs, Hf⟩
  isplitl [HS]; · iexact HS
  isplitl [Hs]; · iexact Hs
  iapply (Transfers.pointsTo_toks_join (ℓ := MH.view.loc (c : Thread nD τ)) (S := Finset.univ) (f := f) fullShare 8)
  isplitl [Hd]; · iexact Hd
  iexact Hf

/-- The ring at rest: its pieces one family each. -/
theorem ringG_rest (c : Dev nD) (f : BufG (F := F)) : (bigSep Finset.univ fun s : Fin 8 => GΦ c f s none : sProp 𝕄)
    = iprop((bigSep Finset.univ fun s : Fin 8 => semVal ((c : Thread nD τ), .dma (gSem s)) 0) ∗ (bigSep Finset.univ fun s : Fin 8 => gPart c s Finset.univ f)) := by
  show (bigSep Finset.univ fun s : Fin 8 => iprop(semVal ((c : Thread nD τ), .dma (gSem s)) 0 ∗ gPart c s Finset.univ f)) = _
  exact sep2 _ _
theorem ringG_start (c : Dev nD) (f : BufG (F := F)) :
    iprop((bigSep Finset.univ fun s : Fin 8 => semVal ((c : Thread nD τ), .dma (gSem s)) 0) ∗ (GH.view.loc (c : Thread nD τ) ↦{fullShare} f))
      ⊢ (iprop(AtW (GΦ c f) (rst 8 0 0) ∗ (GH.view.loc (c : Thread nD τ) ↦{Transfers.shareDrop fullShare 8} f)) : sProp 𝕄) := by
  have e : (AtW (GΦ c f) (rst 8 0 0) : sProp 𝕄) = bigSep Finset.univ fun s : Fin 8 => GΦ c f s none :=
    BI.bigSep_congr fun s _ => by rw [rst_zero]
  rw [e, ringG_rest]
  iintro ⟨Hs, Hf⟩
  ihave Hf := (Transfers.pointsTo_toks_split (ℓ := GH.view.loc (c : Thread nD τ)) (S := Finset.univ) (f := f) fullShare 8) $$ Hf
  icases Hf with ⟨Hd, Hf⟩
  isplitr [Hd]
  · skip
    isplitl [Hs]; · iexact Hs
    iexact Hf
  iexact Hd
theorem ringG_stop (c : Dev nD) (f : BufG (F := F)) (n : ℕ) :
    (iprop(AtW (GΦ c f) (rst 8 n n) ∗ (GH.view.loc (c : Thread nD τ) ↦{Transfers.shareDrop fullShare 8} f)) : sProp 𝕄)
      ⊢ iprop((bigSep Finset.univ fun s : Fin 8 => semVal ((c : Thread nD τ), .dma (gSem s)) 0) ∗ (GH.view.loc (c : Thread nD τ) ↦{fullShare} f)) := by
  have e : (AtW (GΦ c f) (rst 8 n n) : sProp 𝕄) ⊢ bigSep Finset.univ fun s : Fin 8 => GΦ c f s none :=
    sep_mono fun s => by
      rcases rst_idle (N := 8) (n := n) s with h | ⟨p, h⟩
      · rw [h]
      · rw [h]; exact .rfl
  iintro ⟨H, Hd⟩
  ihave H := e.trans (Entails.of_eq (ringG_rest c f)) $$ H
  icases H with ⟨Hs, Hf⟩
  skip
  isplitl [Hs]; · iexact Hs
  iapply (Transfers.pointsTo_toks_join (ℓ := GH.view.loc (c : Thread nD τ)) (S := Finset.univ) (f := f) fullShare 8)
  isplitl [Hd]; · iexact Hd
  iexact Hf

/-! ## The slabs of the gradients, the result's ring, the result's rows -/

theorem slabsG_start (c : Dev nD) (fM : S98x1536x256.Idx → Elt F .fp8e5m2) :
    (bigSep Finset.univ fun s : Fin 98 => iprop(∃ f, gSlab c s.val f) : sProp 𝕄) ⊢ AtW (SΦ c fM) (sst 0 0) :=
  sep_mono fun s => by rw [sst_zero]; exact .rfl
theorem slabsG_stop (c : Dev nD) (fM : S98x1536x256.Idx → Elt F .fp8e5m2) :
    AtW (SΦ c fM) (sst 98 98) ⊢ (bigSep Finset.univ fun s : Fin 98 => iprop(∃ f, gSlab c s.val f) : sProp 𝕄) :=
  sep_mono fun s => by
    rw [sst_fin s s.isLt]
    show (gSlab c s.val fM : sProp 𝕄) ⊢ _
    iintro H; iexists fM; iexact H
theorem ringO_rest (c : Dev nD) (f : BufO (F := F)) : (bigSep Finset.univ fun s : Fin 3 => OΦ c f s none : sProp 𝕄)
    = iprop((bigSep Finset.univ fun s : Fin 3 => iprop(∃ f, oSlab c s.val f)) ∗ (bigSep Finset.univ fun s : Fin 3 => semVal ((c : Thread nD τ), .dma (oSem s)) 0)) := by
  show (bigSep Finset.univ fun s : Fin 3 => iprop((∃ f, oSlab c s.val f) ∗ semVal ((c : Thread nD τ), .dma (oSem s)) 0)) = _
  exact sep2 _ _
theorem ringO_start (c : Dev nD) (f : BufO (F := F)) :
    iprop((bigSep Finset.univ fun s : Fin 3 => iprop(∃ f, oSlab c s.val f)) ∗ (bigSep Finset.univ fun s : Fin 3 => semVal ((c : Thread nD τ), .dma (oSem s)) 0))
      ⊢ (AtW (OΦ c f) (rst 3 0 0) : sProp 𝕄) := by
  have e : (AtW (OΦ c f) (rst 3 0 0) : sProp 𝕄) = bigSep Finset.univ fun s : Fin 3 => OΦ c f s none :=
    BI.bigSep_congr fun s _ => by rw [rst_zero]
  rw [e, ringO_rest]
theorem ringO_stop (c : Dev nD) (f : BufO (F := F)) (n : ℕ) :
    (AtW (OΦ c f) (rst 3 n n) : sProp 𝕄)
      ⊢ iprop((bigSep Finset.univ fun s : Fin 3 => iprop(∃ f, oSlab c s.val f)) ∗ (bigSep Finset.univ fun s : Fin 3 => semVal ((c : Thread nD τ), .dma (oSem s)) 0)) := by
  refine BIBase.Entails.trans (sep_mono fun s => ?_) (Entails.of_eq (ringO_rest c f))
  rcases rst_idle (N := 3) (n := n) s with h | ⟨p, h⟩
  · rw [h]
  · rw [h]; exact .rfl
theorem rowsD_start (c : Dev nD) (fD f : BufO (F := F)) :
    (OH.view.loc (c : Thread nD τ) ↦{fullShare} f : sProp 𝕄) ⊢ AtW (DΦ c fD) (sst 0 0) :=
  (Entails.of_eq (pointsTo_blocks (ℓ := OH.view.loc (c : Thread nD τ)) (B := Fin 98) (fun s => rows ((s.val + 43) % 98)) rows_disj rows_cover f)).trans
    (sep_mono fun s => by
      rw [sst_zero]
      show (oRows c ((s.val + 43) % 98) f : sProp 𝕄) ⊢ iprop(∃ f, oRows c ((s.val + 43) % 98) f)
      iintro H; iexists f; iexact H)
theorem rowsD_stop (c : Dev nD) (fD : BufO (F := F)) :
    AtW (DΦ c fD) (sst 98 98) ⊢ (OH.view.loc (c : Thread nD τ) ↦{fullShare} fD : sProp 𝕄) :=
  BIBase.Entails.trans (sep_mono fun s => by rw [sst_fin s s.isLt]; exact .rfl)
    (Entails.of_eq (pointsTo_blocks (ℓ := OH.view.loc (c : Thread nD τ)) (B := Fin 98) (fun s => rows ((s.val + 43) % 98)) rows_disj rows_cover fD).symm)

/-! ## All of it -/

/-- The eight scratch buffers, each at some contents. -/
def scrV (c : Dev nD) : sProp 𝕄 :=
  iprop((∃ f : S55x1536x256.Idx → Elt F .fp8e4m3, XB.view.loc (c : Thread nD τ) ↦{fullShare} f) ∗ (∃ f : S98x1536x256.Idx → Elt F .fp8e5m2, GB.view.loc (c : Thread nD τ) ↦{fullShare} f)
    ∗ (∃ f : S8x1536x256.Idx → Elt F .i8, MB.view.loc (c : Thread nD τ) ↦{fullShare} f) ∗ (∃ f : S3x1536x256.Idx → Elt F .bf16, OB.view.loc (c : Thread nD τ) ↦{fullShare} f)
    ∗ (∃ f, bufN (F := F) c f) ∗ (∃ f, bufA0 (F := F) c f) ∗ (∃ f, bufA1 (F := F) c f) ∗ (∃ f, bufC (F := F) c f))
/-- The semaphores, all at zero. -/
def semV (c : Dev nD) : sProp 𝕄 :=
  iprop((bigSep Finset.univ fun s : Fin 55 => semVal ((c : Thread nD τ), .dma (xSem s)) 0) ∗ (bigSep Finset.univ fun s : Fin 8 => semVal ((c : Thread nD τ), .dma (gSem s)) 0)
    ∗ (bigSep Finset.univ fun s : Fin 8 => semVal ((c : Thread nD τ), .dma (mSem s)) 0) ∗ (bigSep Finset.univ fun s : Fin 3 => semVal ((c : Thread nD τ), .dma (oSem s)) 0))
/-- The three arrays read. -/
def inV (c : Dev nD) (fx : BufX (F := F)) (fg : BufG (F := F)) (fm : BufM (F := F)) : sProp 𝕄 :=
  iprop((XH.view.loc (c : Thread nD τ) ↦{fullShare} fx) ∗ (GH.view.loc (c : Thread nD τ) ↦{fullShare} fg) ∗ (MH.view.loc (c : Thread nD τ) ↦{fullShare} fm))
/-- What no copy borrows of the three arrays read. -/
def dropV (c : Dev nD) (fx : BufX (F := F)) (fg : BufG (F := F)) (fm : BufM (F := F)) : sProp 𝕄 :=
  iprop((XH.view.loc (c : Thread nD τ) ↦{Transfers.shareDrop fullShare 55} fx) ∗ (GH.view.loc (c : Thread nD τ) ↦{Transfers.shareDrop fullShare 8} fg)
    ∗ (MH.view.loc (c : Thread nD τ) ↦{Transfers.shareDrop fullShare 8} fm))

theorem all_start (c : Dev nD) (fx : BufX (F := F)) (fg : BufG (F := F)) (fm : BufM (F := F)) (fD f : BufO (F := F)) :
    iprop(scrV (F := F) c ∗ semV (F := F) c ∗ inV c fx fg fm ∗ (OH.view.loc (c : Thread nD τ) ↦{fullShare} f) ∗ (∃ W, owes (c : Thread nD τ) 0 W))
      ⊢ iprop(allV c fx fg fm fD 0 0 0 0 ∗ dropV c fx fg fm) := by
  unfold scrV semV inV allV dropV
  iintro ⟨⟨HX, HG, HM, HO, HN, H0, H1, HC⟩, ⟨SX, SG, SM, SO⟩, ⟨FX, FG, FM⟩, FO, HW⟩
  ihave HX := (xSlabs_split (F := F) c) $$ HX
  ihave HG := (gSlabs_split (F := F) c) $$ HG
  ihave HM := (mSlabs_split (F := F) c) $$ HM
  ihave HO := (oSlabs_split (F := F) c) $$ HO
  ihave HX := (ringX_start c fx) $$ [HX SX FX]
  · isplitl [HX]; · iexact HX
    isplitl [SX]; · iexact SX
    iexact FX
  icases HX with ⟨HX, DX⟩
  ihave HM := (ringM_start c fm) $$ [HM SM FM]
  · isplitl [HM]; · iexact HM
    isplitl [SM]; · iexact SM
    iexact FM
  icases HM with ⟨HM, DM⟩
  ihave RG := (ringG_start c fg) $$ [SG FG]
  · isplitl [SG]; · iexact SG
    iexact FG
  icases RG with ⟨RG, DG⟩
  ihave HG := (slabsG_start c (slabs (gmF fg fm))) $$ HG
  ihave HO := (ringO_start c fD) $$ [HO SO]
  · isplitl [HO]; · iexact HO
    iexact SO
  ihave FO := (rowsD_start c fD f) $$ FO
  isplitr [DX DG DM]
  · isplitl [HX]; · iexact HX
    isplitl [RG]; · iexact RG
    isplitl [HM]; · iexact HM
    isplitl [HG]; · iexact HG
    isplitl [HO]; · iexact HO
    isplitl [FO]; · iexact FO
    isplitl [HN]; · iexact HN
    isplitl [H0]; · iexact H0
    isplitl [H1]; · iexact H1
    isplitl [HC]; · iexact HC
    iexact HW
  isplitl [DX]; · iexact DX
  isplitl [DG]; · iexact DG
  iexact DM

theorem all_stop (c : Dev nD) (fx : BufX (F := F)) (fg : BufG (F := F)) (fm : BufM (F := F)) (fD : BufO (F := F)) :
    iprop(allV c fx fg fm fD 141 141 98 98 ∗ dropV c fx fg fm)
      ⊢ iprop(scrV (F := F) c ∗ semV (F := F) c ∗ inV c fx fg fm ∗ (OH.view.loc (c : Thread nD τ) ↦{fullShare} fD) ∗ (∃ W, owes (c : Thread nD τ) 0 W)) := by
  unfold scrV semV inV allV dropV
  iintro ⟨⟨HX, RG, HM, HG, HO, FO, HN, H0, H1, HC, HW⟩, DX, DG, DM⟩
  ihave HX := (ringX_stop c fx 141) $$ [HX DX]
  · isplitl [HX]; · iexact HX
    iexact DX
  icases HX with ⟨HX, SX, FX⟩
  ihave HM := (ringM_stop c fm 98) $$ [HM DM]
  · isplitl [HM]; · iexact HM
    iexact DM
  icases HM with ⟨HM, SM, FM⟩
  ihave RG := (ringG_stop c fg 98) $$ [RG DG]
  · isplitl [RG]; · iexact RG
    iexact DG
  icases RG with ⟨SG, FG⟩
  ihave HG := (slabsG_stop c (slabs (gmF fg fm))) $$ HG
  ihave HO := (ringO_stop c fD 98) $$ HO
  icases HO with ⟨HO, SO⟩
  ihave FO := (rowsD_stop c fD) $$ FO
  ihave HX := (xSlabs_join (F := F) c) $$ HX
  ihave HG := (gSlabs_join (F := F) c) $$ HG
  ihave HM := (mSlabs_join (F := F) c) $$ HM
  ihave HO := (oSlabs_join (F := F) c) $$ HO
  isplitl [HX HG HM HO HN H0 H1 HC]
  · isplitl [HX]; · iexact HX
    isplitl [HG]; · iexact HG
    isplitl [HM]; · iexact HM
    isplitl [HO]; · iexact HO
    isplitl [HN]; · iexact HN
    isplitl [H0]; · iexact H0
    isplitl [H1]; · iexact H1
    iexact HC
  isplitl [SX SG SM SO]
  · isplitl [SX]; · iexact SX
    isplitl [SG]; · iexact SG
    isplitl [SM]; · iexact SM
    iexact SO
  isplitl [FX FG FM]
  · isplitl [FX]; · iexact FX
    isplitl [FG]; · iexact FG
    iexact FM
  isplitl [FO]; · iexact FO
  iexact HW

end Cert.Kernel.Hand

end
-- ==== Proof.KRun.lean ====
/-
  The launch: the arrays as the kernel finds them, what each window holds before and after its one point, the
  body's obligation, and the run from the launch to the results.
-/
module

public import proofs.«01_k».proof.Proof.KRings
public import Idealize.ShloMosaic.Lib.Pipeline.FrameBody
public import Idealize.ShloMosaic.Lib.Pipeline.FrameValue
public import proofs.«01_k».proof.Proof.Gen.Kernel.Points
public import Idealize.ShloMosaic.Lib.Ring
public import Idealize.ShloMosaic.Lib.Tactic

@[expose] public section

set_option maxRecDepth 16384

noncomputable section

namespace Cert.Kernel.Hand

open Cert.Kernel Cert.Kernel.Gen Cert.Geo
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The arrays as the kernel finds them -/

/-- Core `c`'s buffers after the reshapes before the kernel. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Window `w`'s block at point `t`, read off the array the kernel finds. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The semaphores and buffers the kernel uses on its own -/

def osem0 : Fin 55 ⊕ Fin 8 ⊕ Fin 8 ⊕ Fin 3 → SemLoc sig :=
  Sum.elim (fun s => .dma (xSem s)) (Sum.elim (fun s => .dma (gSem s)) (Sum.elim (fun s => .dma (mSem s)) (fun s => .dma (oSem s))))
theorem ownSemFacts0 : Pipeline.OwnSemFacts spec0 osem0 := by decide +kernel

theorem ownSems_eq (c : Dev nD) : (Pipeline.ownSems0 (Ix := Unit) (Name := ℕ) (U := Pipeline.UD sig nD τ) (Lvl := ℕ) (Val := Elt F) (τ := τ) osem0 c : sProp 𝕄) = semV (F := F) c := by
  unfold Pipeline.ownSems0 semV
  rw [BI.bigSep_univ_sum, BI.bigSep_univ_sum, BI.bigSep_univ_sum]
  rfl

abbrev H0 : Finset (Ref sig .tc) := {main_v5, main_v6, main_v7}
abbrev R0 : Finset (Ref sig .tc) := {main_v8_0}
theorem H0_sub : H0 ⊆ Pipeline.restRefs sig spec0 := by decide
theorem R0_sub : R0 ⊆ Pipeline.restRefs sig spec0 \ H0 := by decide

/-- The arrays read, by their names. -/
abbrev aX (c : Dev nD) : BufX (F := F) := V m c main_v5
abbrev aG (c : Dev nD) : BufG (F := F) := V m c main_v6
abbrev aM (c : Dev nD) : BufM (F := F) := V m c main_v7
/-- The blocks of the five small operands. -/
abbrev bXs (c : Dev nD) (t : Fin cfg0.N) : S1.Idx → Elt F .f32 := iblk m c 0 t
abbrev bXd (c : Dev nD) (t : Fin cfg0.N) : S1.Idx → Elt F .f32 := iblk m c 1 t
abbrev bMe (c : Dev nD) (t : Fin cfg0.N) : S1x256.Idx → Elt F .f32 := iblk m c 2 t
abbrev bRs (c : Dev nD) (t : Fin cfg0.N) : S1x256.Idx → Elt F .f32 := iblk m c 3 t
abbrev bGa (c : Dev nD) (t : Fin cfg0.N) : S1x256.Idx → Elt F .f32 := iblk m c 4 t

/-- The three results. -/
def rDx (c : Dev nD) (t : Fin cfg0.N) : BufO (F := F) :=
  dxV (bXs m c t (ix1 (0 : Fin 1))) (bXd m c t (ix1 (0 : Fin 1))) (bMe m c t) (bRs m c t) (bGa m c t) (aX m c) (aG m c) (aM m c)
def rDg (c : Dev nD) (t : Fin cfg0.N) : S1x256.Idx → Elt F .f32 :=
  dgV (bXs m c t (ix1 (0 : Fin 1))) (bXd m c t (ix1 (0 : Fin 1))) (bMe m c t) (bRs m c t) (aX m c) (aG m c) (aM m c)
def rDb (c : Dev nD) (t : Fin cfg0.N) : S1x256.Idx → Elt F .f32 := dbV (bXd m c t (ix1 (0 : Fin 1))) (aG m c) (aM m c)

/-- The buffers after the run: the first result written. -/
def G (c : Dev nD) (b : Ref sig .tc) : Buf (Elt F) ((c : Thread nD τ).loc b) := Function.update (V m c) main_v8_0 (rDx m c t0_0) b

theorem PhiG_eq (W : (c : Dev nD) → (b : Ref sig .tc) → Buf (Elt F) ((c : Thread nD τ).loc b)) (c : Dev nD) :
    (Pipeline.ΦDRG osem0 spec0 H0 R0 (V m) W c : sProp 𝕄)
      = iprop(scrV (F := F) c ∗ (∃ r, prngReg c r) ∗ semV (F := F) c ∗ inV c (aX m c) (aG m c) (aM m c) ∗ (OH.view.loc (c : Thread nD τ) ↦{fullShare} (W c main_v8_0 : BufO (F := F)))) := by
  rw [Pipeline.ΦDRG_eq, scopedRest0_eq, ownSems_eq]
  unfold Pipeline.routed
  rw [BI.bigSep_eq_bigSepL_of_eq [main_v5, main_v6, main_v7] (by decide) (by decide), BI.bigSep_eq_bigSepL_of_eq [main_v8_0] (by decide) (by decide)]
  rfl

/-- The proof data: the arrays as found; each window's buffer after the body; the body's own holdings before and after. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => rDg m c t
    | ⟨6, _⟩ => rDb m c t
  Φ k := if k.val = 0 then Pipeline.ΦDRG osem0 spec0 H0 R0 (V m) (V m) c else Pipeline.ΦDRG osem0 spec0 H0 R0 (V m) (G m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = rDg m c t := by dsimp only [dats]
theorem after0_6 (c : Dev nD) (t : Fin cfg0.N) : (dats m 0 c).after 6 t = rDb m c t := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d

theorem Phi_first (c : Dev nD) (t : Fin cfg0.N) : (dats m 0 c).Φ t.castSucc = Pipeline.ΦDRG osem0 spec0 H0 R0 (V m) (V m) c := by
  rw [fin_N0 t]; rfl
theorem Phi_last (c : Dev nD) (t : Fin cfg0.N) : (dats m 0 c).Φ t.succ = Pipeline.ΦDRG osem0 spec0 H0 R0 (V m) (G m) c := by
  rw [fin_N0 t]; rfl
theorem G_dx (c : Dev nD) (t : Fin cfg0.N) : (G m c main_v8_0 : BufO (F := F)) = rDx m c t := by
  rw [fin_N0 t]; unfold G; rw [Function.update_self]

abbrev ms0_0 (t : Fin cfg0.N) := win0_0.stage (cfg0.slots t 0)
abbrev ms0_1 (t : Fin cfg0.N) := win0_1.stage (cfg0.slots t 1)
abbrev ms0_2 (t : Fin cfg0.N) := win0_2.stage (cfg0.slots t 2)
abbrev ms0_3 (t : Fin cfg0.N) := win0_3.stage (cfg0.slots t 3)
abbrev ms0_4 (t : Fin cfg0.N) := win0_4.stage (cfg0.slots t 4)
abbrev ms0_5 (t : Fin cfg0.N) := win0_5.stage (cfg0.slots t 5)
abbrev ms0_6 (t : Fin cfg0.N) := win0_6.stage (cfg0.slots t 6)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [Phi_first, Phi_last, PhiG_eq, PhiG_eq, G_dx m c t]
  simp only [before0_0, before0_1, before0_2, before0_3, before0_4, after0_0, after0_1, after0_2, after0_3, after0_4, after0_5, after0_6]
  unfold Dat.owesAt Pipeline.owesWithin
  rw [show (dats m 0 c).owed t.castSucc = 0 from rfl, show (dats m 0 c).owed t.succ = 0 from rfl]
  iintro ⟨⟨HS, Hr, Hq, HI, HO⟩, ⟨%W, -, HW⟩, ⟨%d0, B0⟩, ⟨%d1, B1⟩, ⟨%d2, B2⟩, ⟨%d3, B3⟩, ⟨%d4, B4⟩, ⟨%d5, B5⟩, ⟨%d6, B6⟩⟩
  ihave HA := (all_start c (aX m c) (aG m c) (aM m c) (rDx m c t) (V m c main_v8_0)) $$ [HS Hq HI HO HW]
  · isplitl [HS]; · iexact HS
    isplitl [Hq]; · iexact Hq
    isplitl [HI]; · iexact HI
    isplitl [HO]; · iexact HO
    iexists W; iexact HW
  icases HA with ⟨HA, HD⟩
  iapply (body_spec (ms0_0 t) (hstage0_0 0) (ms0_1 t) (hstage0_1 0) (ms0_2 t) (hstage0_2 0) (ms0_3 t) (hstage0_3 0) (ms0_4 t) (hstage0_4 0) (ms0_5 t) (hstage0_5 0) (ms0_6 t) (hstage0_6 0)
    c (aX m c) (aG m c) (aM m c) (bXs m c t) (bXd m c t) (bMe m c t) (bRs m c t) (bGa m c t) ((dats m 0 c).before 5 t d5) ((dats m 0 c).before 6 t d6)) $$ [HA B0 B1 B2 B3 B4 B5 B6]
  · isplitl [HA]; · unfold rDx; iexact HA
    isplitl [B0 B1 B2 B3 B4]
    · unfold opsV
      isplitl [B0]; · iexact B0
      isplitl [B1]; · iexact B1
      isplitl [B2]; · iexact B2
      isplitl [B3]; · iexact B3
      iexact B4
    isplitl [B5]; · iexact B5
    iexact B6
  iintro ⟨HA, HV, B5, B6⟩
  unfold opsV
  icases HV with ⟨B0, B1, B2, B3, B4⟩
  ihave HA := (all_stop c (aX m c) (aG m c) (aM m c) (rDx m c t)) $$ [HA HD]
  · isplitl [HA]; · unfold rDx; iexact HA
    iexact HD
  icases HA with ⟨HS, Hq, HI, HO, ⟨%W', HW⟩⟩
  isplitl [HS Hr Hq HI HO]
  · isplitl [HS]; · iexact HS
    isplitl [Hr]; · iexact Hr
    isplitl [Hq]; · iexact Hq
    isplitl [HI]; · iexact HI
    iexact HO
  isplitl [HW]
  · iexists W'; isplitr; · ipureintro; exact fun _ _ => Or.inl trivial
    iexact HW
  isplitl [B0]; · iexact B0
  isplitl [B1]; · iexact B1
  isplitl [B2]; · iexact B2
  isplitl [B3]; · iexact B3
  isplitl [B4]; · iexact B4
  isplitl [B5]; · unfold rDg; iexact B5
  unfold rDb; iexact B6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
theorem run_main : θ_run defs (onTc (τ := τ) (main (F := F))) (s₀ m ρ) (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m) (G := G m)
    (hin := fun _ => .rfl) (hout := fun _ => .rfl)

theorem kept (r : PUnit × MemSt nD τ sig (Elt F)) (h : Pipeline.FramePostRG cfgs (dats m) 0 R0 (V m) (G m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h.1 c).2 main_arg0 (Finset.mem_sdiff.mpr ⟨Pipeline.mem_restRefs_of main_arg0 (by decide) (by decide), by decide⟩)).trans (V_main_arg0 m c),
    ((h.1 c).2 main_arg1 (Finset.mem_sdiff.mpr ⟨Pipeline.mem_restRefs_of main_arg1 (by decide) (by decide), by decide⟩)).trans (V_main_arg1 m c),
    ((h.1 c).2 main_arg2 (Finset.mem_sdiff.mpr ⟨Pipeline.mem_restRefs_of main_arg2 (by decide) (by decide), by decide⟩)).trans (V_main_arg2 m c),
    ((h.1 c).2 main_arg3 (Finset.mem_sdiff.mpr ⟨Pipeline.mem_restRefs_of main_arg3 (by decide) (by decide), by decide⟩)).trans (V_main_arg3 m c),
    ((h.1 c).2 main_arg4 (Finset.mem_sdiff.mpr ⟨Pipeline.mem_restRefs_of main_arg4 (by decide) (by decide), by decide⟩)).trans (V_main_arg4 m c),
    ((h.1 c).2 main_arg5 (Finset.mem_sdiff.mpr ⟨Pipeline.mem_restRefs_of main_arg5 (by decide) (by decide), by decide⟩)).trans (V_main_arg5 m c),
    ((h.1 c).2 main_arg6 (Finset.mem_sdiff.mpr ⟨Pipeline.mem_restRefs_of main_arg6 (by decide) (by decide), by decide⟩)).trans (V_main_arg6 m c),
    ((h.1 c).2 main_arg7 (Finset.mem_sdiff.mpr ⟨Pipeline.mem_restRefs_of main_arg7 (by decide) (by decide), by decide⟩)).trans (V_main_arg7 m c)⟩

/-- The kernel leaves its arguments as it found them and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => kept m r h.1 c, h.2⟩) (run_main m ρ)

/-- What the kernel leaves in its results. -/
theorem run_values : θ_run defs (onTc (τ := τ) (main (F := F))) ⟨m, fun _ => 0, ρ⟩ (fun r => ∀ c : Dev nD,
      r.2.mem ((c.tc : Thread nD τ).loc main_v8_0) = rDx m c t0_0
      ∧ r.2.mem ((c.tc : Thread nD τ).loc main_v8_1) = (dats m 0 c).arrAt 5 cfg0.N
      ∧ r.2.mem ((c.tc : Thread nD τ).loc main_v8_2) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h.1.written c (b := main_v8_0) (by decide)).trans (G_dx m c t0_0), (h.1.1 c).1 5, (h.1.1 c).1 6, kept m r h.1 c⟩) (run_main m ρ)

end Cert.Kernel.Hand

end
-- ==== Proof.IBase.lean ====
/-
  The streaming pieces of the kernel: what each ring slot, semaphore and block of rows is worth in each state, and what
  one copy's start and one wait do to them.
-/
module

public import proofs.«01_k».proof.Proof.Ring
public import proofs.«01_k».proof.Proof.Gen.KernelIdeal.Launch
public import proofs.«01_k».proof.Proof.Gen.KernelIdeal.Skeleton
public import Idealize.ShloMosaic.Lib.Pipeline.FrameBody
public import Idealize.ShloMosaic.Lib.Ring
public import Idealize.ShloMosaic.Lib.Tactic

@[expose] public section

set_option maxRecDepth 16384

noncomputable section

namespace Cert.KernelIdeal.Hand

open Cert.KernelIdeal Cert.KernelIdeal.Gen Cert.Geo
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (AtW AtW_focus restW)

variable {F : FTy → Type} [FloatOps F]

local notation "𝕄" => MT nD τ sig Unit (Elt F) ℕ (Pipeline.UD sig nD τ) ℕ

/-- The kernel's run at one core. -/
abbrev WP (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

abbrev EC : UEmb Counters 𝕄 := countersEmb (U := Pipeline.UD sig nD τ)

/-! ## The semaphores -/

abbrev xSem (s : Fin 55) : DmaSem sig := cc0_scratch8.ix (ix1 s)
abbrev gSem (s : Fin 8) : DmaSem sig := cc0_scratch9.ix (ix1 s)
abbrev mSem (s : Fin 8) : DmaSem sig := cc0_scratch10.ix (ix1 s)
abbrev oSem (s : Fin 3) : DmaSem sig := cc0_scratch11.ix (ix1 s)

theorem sem_at {N : ℕ} (a : SemArray (DmaSem sig) ⟨1, ![N]⟩) {off : Fin 1 → ℕ} {s : ℕ} (hs : s < N) (hoff : off = ![s])
    (inb : ∀ d, off d + S1.size d ≤ (⟨1, ![N]⟩ : Shape).size d) :
    ((a.slice (Rect.unit (s := ⟨1, ![N]⟩) off S1.size inb)).squeeze S_ squeezes_S1_S_).sem = a.ix (ix1 ⟨s, hs⟩) := by
  subst hoff
  show a.ix _ = _
  congr 1
  funext d
  match d with
  | ⟨0, _⟩ =>
    apply Fin.ext
    show s + 1 * _ = s
    have : ∀ x : S1.Idx, (x ⟨0, Nat.one_pos⟩).val = 0 := fun x => Nat.lt_one_iff.mp (x ⟨0, Nat.one_pos⟩).isLt
    exact (congrArg (s + 1 * ·) (this _)).trans (by simp)

/-! ## One copy's start, one wait -/

theorem issue_core (c : Dev nD) {sp sp' : Space} {s : Shape} {e : EltTy} {src : Memref sig .tc sp s e} {dst : Memref sig .tc sp' s e}
    {sem : DmaSem sig} {h1 : src.view.WordExact} {h2 : dst.view.WordExact} {h3 : DmaTarget.Typed (nD := nD) sp (.dma sem) (.here (p := .tc) dst)}
    {q : PosShare TreeShare} {fs : Buf (Elt F) (src.view.loc (c : Thread nD τ))} {fd g : Buf (Elt F) (dst.view.loc (c : Thread nD τ))}
    {Rs : Finset (Idx (src.view.loc (c : Thread nD τ)))} {Sd : Finset (Idx (dst.view.loc (c : Thread nD τ)))} {Q : PUnit → sProp 𝕄}
    (N : ℕ) (hN : dst.view.dmaCredit = N) (hN0 : 0 < N)
    (hs : src.view.set = Rs) (hd : dst.view.set = Sd)
    (hland : ∀ i ∈ Sd, dst.view.write (Elt F) fd (src.view.read (Elt F) fs) Finset.univ i = g i) :
    iprop((src.view.loc (c : Thread nD τ) ↦[Rs]{q} fs) ∗ (dst.view.loc (c : Thread nD τ) ↦[Sd]{fullShare} fd) ∗ semVal ((c : Thread nD τ), .dma sem) 0)
      ⊢ iprop((Transfers.Flight EC (c : Thread nD τ) (.dma sem) () N iprop((dst.view.loc (c : Thread nD τ) ↦[Sd]{fullShare} g) ∗ (src.view.loc (c : Thread nD τ) ↦[Rs]{q} fs)) -∗ Q ⟨⟩)
          -∗ WP (F := F) c (Prog.lift (.enqueueDma src (.here dst) (.dma sem) h1 h2 h3)) Q) := by
  subst hs hd
  iintro ⟨Hs, Hd, Hv⟩ HQ
  iapply (Transfers.wp_dmaLocal EC Variants.none (c : Thread nD τ) none () N (sm := .dma sem) hN hN0 (Finset.Subset.refl _)) $$ [Hs Hd Hv]
  · isplitl [Hs]; · iexact Hs
    isplitl [Hd]; · iexact Hd
    iexact Hv
  iintro HF
  rw [wp_ret]
  iapply fupd_intro
  iapply HQ
  rw [← pointsTo_congr hland]
  iexact HF

theorem issue_gen (c : Dev nD) {sp sp' : Space} {s : Shape} {e : EltTy} {src : Memref sig .tc sp s e} {dst : Memref sig .tc sp' s e}
    {sem : DmaSem sig} {h1 : src.view.WordExact} {h2 : dst.view.WordExact} {h3 : DmaTarget.Typed (nD := nD) sp (.dma sem) (.here (p := .tc) dst)}
    {q : PosShare TreeShare} {fs : Buf (Elt F) (src.view.loc (c : Thread nD τ))} {fd g : Buf (Elt F) (dst.view.loc (c : Thread nD τ))}
    {Rs : Finset (Idx (src.view.loc (c : Thread nD τ)))} {Sd : Finset (Idx (dst.view.loc (c : Thread nD τ)))} {Q : PUnit → sProp 𝕄}
    (N : ℕ) (hN : dst.view.dmaCredit = N) (hN0 : 0 < N)
    (hs : src.view.set = Rs) (hd : dst.view.set = Sd)
    (hland : ∀ i ∈ Sd, dst.view.write (Elt F) fd (src.view.read (Elt F) fs) Finset.univ i = g i) :
    iprop((src.view.loc (c : Thread nD τ) ↦[Finset.univ]{q} fs) ∗ (dst.view.loc (c : Thread nD τ) ↦[Sd]{fullShare} fd) ∗ semVal ((c : Thread nD τ), .dma sem) 0)
      ⊢ iprop((iprop(Transfers.Flight EC (c : Thread nD τ) (.dma sem) () N iprop((dst.view.loc (c : Thread nD τ) ↦[Sd]{fullShare} g) ∗ (src.view.loc (c : Thread nD τ) ↦[Rs]{q} fs))
            ∗ (src.view.loc (c : Thread nD τ) ↦[Finset.univ \ Rs]{q} fs)) -∗ Q ⟨⟩)
          -∗ WP (F := F) c (Prog.lift (.enqueueDma src (.here dst) (.dma sem) h1 h2 h3)) Q) := by
  subst hs hd
  iintro ⟨Hs, Hd, Hv⟩ HQ
  ihave Hs := (pointsTo_split_subset (Finset.subset_univ src.view.set)).1 $$ Hs
  icases Hs with ⟨Hs, Hr⟩
  iapply (Transfers.wp_dmaLocal EC Variants.none (c : Thread nD τ) none () N (sm := .dma sem) hN hN0 (Finset.Subset.refl _)) $$ [Hs Hd Hv]
  · isplitl [Hs]; · iexact Hs
    isplitl [Hd]; · iexact Hd
    iexact Hv
  iintro HF
  rw [wp_ret]
  iapply fupd_intro
  iapply HQ
  isplitl [HF]
  · rw [← pointsTo_congr hland]
    iexact HF
  · iexact Hr

theorem wait_gen (c : Dev nD) {sp sp' : Space} {s s' : Shape} {e e' : EltTy} {src : Memref sig .tc sp' s' e'} {dst : Memref sig .tc sp s e}
    {sem : DmaSem sig} {h1 : src.view.WordExact} {h2 : dst.view.WordExact} {D : sProp 𝕄} {Q : PUnit → sProp 𝕄}
    (N : ℕ) (hN : dst.view.dmaCredit = N) :
    iprop(Transfers.Flight EC (c : Thread nD τ) (.dma sem) () N D ∗ (∃ W, owes (c : Thread nD τ) 0 W))
      ⊢ iprop((iprop(D ∗ semVal ((c : Thread nD τ), .dma sem) 0 ∗ (∃ W, owes (c : Thread nD τ) 0 W)) -∗ Q ⟨⟩)
          -∗ WP (F := F) c (Prog.lift (.waitDma2 sem src dst h1 h2)) Q) := by
  iintro ⟨HF, ⟨%W, HW⟩⟩ HQ
  iapply (Transfers.wp_waitLocal EC Variants.none (c : Thread nD τ) none () hN) $$ [HF HW]
  · isplitl [HF]; · iexact HF
    iexact HW
  iintro ⟨HD, Hv, HW⟩
  rw [wp_ret]
  iapply fupd_intro
  iapply HQ
  isplitl [HD]; · iexact HD
  isplitl [Hv]; · iexact Hv
  iexists _
  iexact HW

/-! ## The buffers -/

abbrev XB : Memref sig .tc .vmem S55x1536x256 .fp8e4m3 := Memref.whole cc0_scratch0
abbrev GB : Memref sig .tc .vmem S98x1536x256 .fp8e5m2 := Memref.whole cc0_scratch1
abbrev MB : Memref sig .tc .vmem S8x1536x256 .i8 := Memref.whole cc0_scratch2
abbrev OB : Memref sig .tc .vmem S3x1536x256 .bf16 := Memref.whole cc0_scratch3
abbrev XH : Memref sig .tc .hbm S150528x256 .fp8e4m3 := Memref.whole main_v5
abbrev GH : Memref sig .tc .hbm S150528x256 .fp8e5m2 := Memref.whole main_v6
abbrev MH : Memref sig .tc .hbm S150528x256 .i8 := Memref.whole main_v7
abbrev OH : Memref sig .tc .hbm S150528x256 .bf16 := Memref.whole main_v8_0

abbrev BufX : Type := S150528x256.Idx → Elt F .fp8e4m3
abbrev BufG : Type := S150528x256.Idx → Elt F .fp8e5m2
abbrev BufM : Type := S150528x256.Idx → Elt F .i8
abbrev BufO : Type := S150528x256.Idx → Elt F .bf16

/-- Slab `off` of the ring and the rows of the array, as the program names them. -/
abbrev slotX (off : Fin 3 → ℕ) (inb : ∀ a, off a + S1x1536x256.size a ≤ S55x1536x256.size a) : Memref sig .tc .vmem S1536x256 .fp8e4m3 :=
  (XB.slice (Rect.unit (s := S55x1536x256) off S1x1536x256.size inb) (fun _ => rfl)).squeeze S1536x256 squeezes_S1x1536x256_S1536x256
abbrev rowsX (off : Fin 2 → ℕ) (inb : ∀ a, off a + S1536x256.size a ≤ S150528x256.size a) : Memref sig .tc .hbm S1536x256 .fp8e4m3 :=
  XH.slice (Rect.unit (s := S150528x256) off S1536x256.size inb) (fun _ => rfl)

theorem slotX_set {off : Fin 3 → ℕ} {s : ℕ} (hoff : off = ![s, 0, 0]) (inb) : (slotX off inb).view.set = (slab 55 s : Finset S55x1536x256.Idx) :=
  (View.set_reshape _ _).trans ((View.set_slice_whole _ _).trans (set_slab hoff inb))
theorem rowsX_set {off : Fin 2 → ℕ} {p : ℕ} (hoff : off = ![1536 * p, 0]) (inb) : (rowsX off inb).view.set = (rows p : Finset S150528x256.Idx) :=
  (View.set_slice_whole _ _).trans (set_rows hoff inb)

theorem landX {off : Fin 3 → ℕ} {off' : Fin 2 → ℕ} {s p : ℕ} (hs : s < 55) (hp : p < 98) (hoff : off = ![s, 0, 0]) (hoff' : off' = ![1536 * p, 0])
    (inb) (inb') (fd : S55x1536x256.Idx → Elt F .fp8e4m3) (fx : BufX (F := F)) :
    ∀ i ∈ (slab 55 s : Finset S55x1536x256.Idx), (slotX off inb).view.write (Elt F) fd ((rowsX off' inb').view.read (Elt F) fx) Finset.univ i = land 55 fx p i :=
  write_eq (slotX off inb).view fd (land 55 fx p) _ (slab 55 s) (fun x _ => by
    have e1 : (slotX off inb).view.emb x = ix3 ⟨s, hs⟩ (x 0) (x 1) := emb_slab hs hoff inb _ x
    have e2 : (rowsX off' inb').view.emb x = ix2 (rowN p (x 0).val) (x 1) := emb_rows hp hoff' inb' x
    rw [e1]
    show _ = fx ((rowsX off' inb').view.emb x)
    rw [e2]; rfl) (fun i hi hn => absurd (by rw [slotX_set hoff]; exact hi) hn)

abbrev xSlab (c : Dev nD) (s : ℕ) (f : S55x1536x256.Idx → Elt F .fp8e4m3) : sProp 𝕄 :=
  XB.view.loc (c : Thread nD τ) ↦[slab 55 s]{fullShare} f
abbrev xPart (c : Dev nD) (s : Fin 55) (S : Finset S150528x256.Idx) (f : BufX (F := F)) : sProp 𝕄 :=
  XH.view.loc (c : Thread nD τ) ↦[S]{Transfers.shareTok fullShare 55 s} f
abbrev NX : ℕ := (slotX ![0, 0, 0] (by decide)).view.dmaCredit

/-- Slab `off` of the ring and the rows of the array, as the program names them. -/
abbrev slotG (off : Fin 3 → ℕ) (inb : ∀ a, off a + S1x1536x256.size a ≤ S98x1536x256.size a) : Memref sig .tc .vmem S1536x256 .fp8e5m2 :=
  (GB.slice (Rect.unit (s := S98x1536x256) off S1x1536x256.size inb) (fun _ => rfl)).squeeze S1536x256 squeezes_S1x1536x256_S1536x256
abbrev rowsG (off : Fin 2 → ℕ) (inb : ∀ a, off a + S1536x256.size a ≤ S150528x256.size a) : Memref sig .tc .hbm S1536x256 .fp8e5m2 :=
  GH.slice (Rect.unit (s := S150528x256) off S1536x256.size inb) (fun _ => rfl)

theorem slotG_set {off : Fin 3 → ℕ} {s : ℕ} (hoff : off = ![s, 0, 0]) (inb) : (slotG off inb).view.set = (slab 98 s : Finset S98x1536x256.Idx) :=
  (View.set_reshape _ _).trans ((View.set_slice_whole _ _).trans (set_slab hoff inb))
theorem rowsG_set {off : Fin 2 → ℕ} {p : ℕ} (hoff : off = ![1536 * p, 0]) (inb) : (rowsG off inb).view.set = (rows p : Finset S150528x256.Idx) :=
  (View.set_slice_whole _ _).trans (set_rows hoff inb)

theorem landG {off : Fin 3 → ℕ} {off' : Fin 2 → ℕ} {s p : ℕ} (hs : s < 98) (hp : p < 98) (hoff : off = ![s, 0, 0]) (hoff' : off' = ![1536 * p, 0])
    (inb) (inb') (fd : S98x1536x256.Idx → Elt F .fp8e5m2) (fx : BufG (F := F)) :
    ∀ i ∈ (slab 98 s : Finset S98x1536x256.Idx), (slotG off inb).view.write (Elt F) fd ((rowsG off' inb').view.read (Elt F) fx) Finset.univ i = land 98 fx p i :=
  write_eq (slotG off inb).view fd (land 98 fx p) _ (slab 98 s) (fun x _ => by
    have e1 : (slotG off inb).view.emb x = ix3 ⟨s, hs⟩ (x 0) (x 1) := emb_slab hs hoff inb _ x
    have e2 : (rowsG off' inb').view.emb x = ix2 (rowN p (x 0).val) (x 1) := emb_rows hp hoff' inb' x
    rw [e1]
    show _ = fx ((rowsG off' inb').view.emb x)
    rw [e2]; rfl) (fun i hi hn => absurd (by rw [slotG_set hoff]; exact hi) hn)

abbrev gSlab (c : Dev nD) (s : ℕ) (f : S98x1536x256.Idx → Elt F .fp8e5m2) : sProp 𝕄 :=
  GB.view.loc (c : Thread nD τ) ↦[slab 98 s]{fullShare} f
abbrev gPart (c : Dev nD) (s : Fin 8) (S : Finset S150528x256.Idx) (f : BufG (F := F)) : sProp 𝕄 :=
  GH.view.loc (c : Thread nD τ) ↦[S]{Transfers.shareTok fullShare 8 s} f
abbrev NG : ℕ := (slotG ![0, 0, 0] (by decide)).view.dmaCredit

/-- Slab `off` of the ring and the rows of the array, as the program names them. -/
abbrev slotM (off : Fin 3 → ℕ) (inb : ∀ a, off a + S1x1536x256.size a ≤ S8x1536x256.size a) : Memref sig .tc .vmem S1536x256 .i8 :=
  (MB.slice (Rect.unit (s := S8x1536x256) off S1x1536x256.size inb) (fun _ => rfl)).squeeze S1536x256 squeezes_S1x1536x256_S1536x256
abbrev rowsM (off : Fin 2 → ℕ) (inb : ∀ a, off a + S1536x256.size a ≤ S150528x256.size a) : Memref sig .tc .hbm S1536x256 .i8 :=
  MH.slice (Rect.unit (s := S150528x256) off S1536x256.size inb) (fun _ => rfl)

theorem slotM_set {off : Fin 3 → ℕ} {s : ℕ} (hoff : off = ![s, 0, 0]) (inb) : (slotM off inb).view.set = (slab 8 s : Finset S8x1536x256.Idx) :=
  (View.set_reshape _ _).trans ((View.set_slice_whole _ _).trans (set_slab hoff inb))
theorem rowsM_set {off : Fin 2 → ℕ} {p : ℕ} (hoff : off = ![1536 * p, 0]) (inb) : (rowsM off inb).view.set = (rows p : Finset S150528x256.Idx) :=
  (View.set_slice_whole _ _).trans (set_rows hoff inb)

theorem landM {off : Fin 3 → ℕ} {off' : Fin 2 → ℕ} {s p : ℕ} (hs : s < 8) (hp : p < 98) (hoff : off = ![s, 0, 0]) (hoff' : off' = ![1536 * p, 0])
    (inb) (inb') (fd : S8x1536x256.Idx → Elt F .i8) (fx : BufM (F := F)) :
    ∀ i ∈ (slab 8 s : Finset S8x1536x256.Idx), (slotM off inb).view.write (Elt F) fd ((rowsM off' inb').view.read (Elt F) fx) Finset.univ i = land 8 fx p i :=
  write_eq (slotM off inb).view fd (land 8 fx p) _ (slab 8 s) (fun x _ => by
    have e1 : (slotM off inb).view.emb x = ix3 ⟨s, hs⟩ (x 0) (x 1) := emb_slab hs hoff inb _ x
    have e2 : (rowsM off' inb').view.emb x = ix2 (rowN p (x 0).val) (x 1) := emb_rows hp hoff' inb' x
    rw [e1]
    show _ = fx ((rowsM off' inb').view.emb x)
    rw [e2]; rfl) (fun i hi hn => absurd (by rw [slotM_set hoff]; exact hi) hn)

abbrev mSlab (c : Dev nD) (s : ℕ) (f : S8x1536x256.Idx → Elt F .i8) : sProp 𝕄 :=
  MB.view.loc (c : Thread nD τ) ↦[slab 8 s]{fullShare} f
abbrev mPart (c : Dev nD) (s : Fin 8) (S : Finset S150528x256.Idx) (f : BufM (F := F)) : sProp 𝕄 :=
  MH.view.loc (c : Thread nD τ) ↦[S]{Transfers.shareTok fullShare 8 s} f
abbrev NM : ℕ := (slotM ![0, 0, 0] (by decide)).view.dmaCredit

/-- Slab `off` of the ring and the rows of the array, as the program names them. -/
abbrev slotO (off : Fin 3 → ℕ) (inb : ∀ a, off a + S1x1536x256.size a ≤ S3x1536x256.size a) : Memref sig .tc .vmem S1536x256 .bf16 :=
  (OB.slice (Rect.unit (s := S3x1536x256) off S1x1536x256.size inb) (fun _ => rfl)).squeeze S1536x256 squeezes_S1x1536x256_S1536x256
abbrev rowsO (off : Fin 2 → ℕ) (inb : ∀ a, off a + S1536x256.size a ≤ S150528x256.size a) : Memref sig .tc .hbm S1536x256 .bf16 :=
  OH.slice (Rect.unit (s := S150528x256) off S1536x256.size inb) (fun _ => rfl)

theorem slotO_set {off : Fin 3 → ℕ} {s : ℕ} (hoff : off = ![s, 0, 0]) (inb) : (slotO off inb).view.set = (slab 3 s : Finset S3x1536x256.Idx) :=
  (View.set_reshape _ _).trans ((View.set_slice_whole _ _).trans (set_slab hoff inb))
theorem rowsO_set {off : Fin 2 → ℕ} {p : ℕ} (hoff : off = ![1536 * p, 0]) (inb) : (rowsO off inb).view.set = (rows p : Finset S150528x256.Idx) :=
  (View.set_slice_whole _ _).trans (set_rows hoff inb)

abbrev oSlab (c : Dev nD) (s : ℕ) (f : S3x1536x256.Idx → Elt F .bf16) : sProp 𝕄 :=
  OB.view.loc (c : Thread nD τ) ↦[slab 3 s]{fullShare} f
abbrev oRows (c : Dev nD) (p : ℕ) (f : BufO (F := F)) : sProp 𝕄 :=
  OH.view.loc (c : Thread nD τ) ↦[rows p]{fullShare} f
abbrev NO : ℕ := (rowsO ![0, 0] (by decide)).view.dmaCredit

/-! ## The ring of `x` -/

/-- What ring slot `s` is worth: at rest and never filled; a copy of block `p` away; block `p` in it, its wait done. -/
def XΦ (c : Dev nD) (fx : BufX (F := F)) (s : Fin 55) : Option (Bool × ℕ) → sProp 𝕄
  | none => iprop((∃ f, xSlab c s.val f) ∗ semVal ((c : Thread nD τ), .dma (xSem s)) 0 ∗ xPart c s Finset.univ fx)
  | some (true, p) => iprop(Transfers.Flight EC (c : Thread nD τ) (.dma (xSem s)) () NX iprop(xSlab c s.val (land 55 fx (p % 98)) ∗ xPart c s (rows (p % 98)) fx)
      ∗ xPart c s (Finset.univ \ rows (p % 98)) fx)
  | some (false, p) => iprop(xSlab c s.val (land 55 fx (p % 98)) ∗ semVal ((c : Thread nD τ), .dma (xSem s)) 0 ∗ xPart c s Finset.univ fx)

theorem XΦ_free (c : Dev nD) (fx : BufX (F := F)) (s : Fin 55) (p : ℕ) : XΦ c fx s (some (false, p)) ⊢ XΦ c fx s none := by
  unfold XΦ
  iintro ⟨H, Hr⟩
  isplitl [H]
  · iexists _; iexact H
  · iexact Hr

theorem issueX (c : Dev nD) (fx : BufX (F := F)) {n w : ℕ} (hwn : w ≤ n) (hn : n < w + 55) {off : Fin 3 → ℕ} {off' : Fin 2 → ℕ}
    {inb} {inb'} {sem : DmaSem sig} (ho : off = ![n % 55, 0, 0]) (ho' : off' = ![1536 * (n % 98), 0]) (hsem : sem = xSem (slot 55 n))
    {h1 : (rowsX off' inb').view.WordExact} {h2 : (slotX off inb).view.WordExact} {h3 : DmaTarget.Typed (nD := nD) .hbm (.dma sem) (.here (p := .tc) (slotX off inb))}
    {Q : PUnit → sProp 𝕄} :
    AtW (XΦ c fx) (rst 55 n w) ⊢ iprop((AtW (XΦ c fx) (rst 55 (n + 1) w) -∗ Q ⟨⟩)
      -∗ WP (F := F) c (Prog.lift (.enqueueDma (rowsX off' inb') (.here (slotX off inb)) (.dma sem) h1 h2 h3)) Q) := by
  subst hsem
  have hfree : XΦ c fx (slot 55 n) (rst 55 n w (slot 55 n)) ⊢ XΦ c fx (slot 55 n) none := by
    rcases rst_free (N := 55) (n := n) (w := w) (by unfold RingSize; decide) hn with h | h
    · rw [h]
    · rw [h]; exact XΦ_free c fx _ _
  rw [AtW_focus (XΦ c fx) (rst 55 n w) (slot 55 n), rst_issue (N := 55) (by unfold RingSize; decide) hwn]
  iintro ⟨Hf, Hrest⟩ HQ
  ihave Hf := hfree $$ Hf
  unfold XΦ
  icases Hf with ⟨⟨%f, Hd⟩, Hv, Ht⟩
  iapply (issue_gen c (src := rowsX off' inb') (dst := slotX off inb) (fs := fx) (fd := f) (Rs := rows (n % 98)) (Sd := slab 55 (n % 55)) (g := land 55 fx (n % 98)) NX rfl (View.dmaCredit_pos _ (by decide))
    (rowsX_set ho' inb') (slotX_set ho inb) (landX (Nat.mod_lt _ (by decide)) (Nat.mod_lt _ (by decide)) ho ho' inb inb' f fx)) $$ [Hd Hv Ht]
  · isplitl [Ht]; · iexact Ht
    isplitl [Hd]; · iexact Hd
    iexact Hv
  iintro HF
  iapply HQ
  iapply (Ring.AtW_update (XΦ c fx) (rst 55 n w) (slot 55 n) (some (true, n)))
  isplitl [HF]
  · unfold XΦ; iexact HF
  · iexact Hrest

theorem waitX (c : Dev nD) (fx : BufX (F := F)) {n w : ℕ} (hw : w < n) (hn : n ≤ w + 55) {sp sp' : Space} {s s' : Shape} {e e' : EltTy}
    {src : Memref sig .tc sp' s' e'} {dst : Memref sig .tc sp s e} {sem : DmaSem sig} (hsem : sem = xSem (slot 55 w)) (hN : dst.view.dmaCredit = NX)
    {h1 : src.view.WordExact} {h2 : dst.view.WordExact} {Q : PUnit → sProp 𝕄} :
    iprop(AtW (XΦ c fx) (rst 55 n w) ∗ (∃ W, owes (c : Thread nD τ) 0 W)) ⊢ iprop((iprop(AtW (XΦ c fx) (rst 55 n (w + 1)) ∗ (∃ W, owes (c : Thread nD τ) 0 W)) -∗ Q ⟨⟩)
      -∗ WP (F := F) c (Prog.lift (.waitDma2 sem src dst h1 h2)) Q) := by
  subst hsem
  rw [AtW_focus (XΦ c fx) (rst 55 n w) (slot 55 w), rst_wait (N := 55) (by unfold RingSize; decide) hw hn,
    rst_flight (N := 55) (by unfold RingSize; decide) hw hn]
  iintro ⟨⟨Hf, Hrest⟩, HO⟩ HQ
  ihave Hf := (show XΦ c fx (slot 55 w) (some (true, w)) ⊢ iprop(Transfers.Flight EC (c : Thread nD τ) (.dma (xSem (slot 55 w))) () NX iprop(xSlab c (w % 55) (land 55 fx (w % 98)) ∗ xPart c (slot 55 w) (rows (w % 98)) fx)
      ∗ xPart c (slot 55 w) (Finset.univ \ rows (w % 98)) fx) from .rfl) $$ Hf
  icases Hf with ⟨HF, Hr⟩
  iapply (wait_gen c NX hN) $$ [HF HO]
  · isplitl [HF]; · iexact HF
    iexact HO
  iintro ⟨⟨Hd, Ht⟩, Hv, HO⟩
  iapply HQ
  isplitr [HO]
  · iapply (Ring.AtW_update (XΦ c fx) (rst 55 n w) (slot 55 w) (some (false, w)))
    isplitr [Hrest]
    · unfold XΦ
      isplitl [Hd]; · iexact Hd
      isplitl [Hv]; · iexact Hv
      iapply (pointsTo_split_subset (Finset.subset_univ (rows (w % 98)))).2
      isplitl [Ht]; · iexact Ht
      iexact Hr
    · iexact Hrest
  · iexact HO

/-! ## The ring of `m` -/

/-- What ring slot `s` is worth: at rest and never filled; a copy of block `p` away; block `p` in it, its wait done. -/
def MΦ (c : Dev nD) (fx : BufM (F := F)) (s : Fin 8) : Option (Bool × ℕ) → sProp 𝕄
  | none => iprop((∃ f, mSlab c s.val f) ∗ semVal ((c : Thread nD τ), .dma (mSem s)) 0 ∗ mPart c s Finset.univ fx)
  | some (true, p) => iprop(Transfers.Flight EC (c : Thread nD τ) (.dma (mSem s)) () NM iprop(mSlab c s.val (land 8 fx (p % 98)) ∗ mPart c s (rows (p % 98)) fx)
      ∗ mPart c s (Finset.univ \ rows (p % 98)) fx)
  | some (false, p) => iprop(mSlab c s.val (land 8 fx (p % 98)) ∗ semVal ((c : Thread nD τ), .dma (mSem s)) 0 ∗ mPart c s Finset.univ fx)

theorem MΦ_free (c : Dev nD) (fx : BufM (F := F)) (s : Fin 8) (p : ℕ) : MΦ c fx s (some (false, p)) ⊢ MΦ c fx s none := by
  unfold MΦ
  iintro ⟨H, Hr⟩
  isplitl [H]
  · iexists _; iexact H
  · iexact Hr

theorem issueM (c : Dev nD) (fx : BufM (F := F)) {n w : ℕ} (hwn : w ≤ n) (hn : n < w + 8) {off : Fin 3 → ℕ} {off' : Fin 2 → ℕ}
    {inb} {inb'} {sem : DmaSem sig} (ho : off = ![n % 8, 0, 0]) (ho' : off' = ![1536 * (n % 98), 0]) (hsem : sem = mSem (slot 8 n))
    {h1 : (rowsM off' inb').view.WordExact} {h2 : (slotM off inb).view.WordExact} {h3 : DmaTarget.Typed (nD := nD) .hbm (.dma sem) (.here (p := .tc) (slotM off inb))}
    {Q : PUnit → sProp 𝕄} :
    AtW (MΦ c fx) (rst 8 n w) ⊢ iprop((AtW (MΦ c fx) (rst 8 (n + 1) w) -∗ Q ⟨⟩)
      -∗ WP (F := F) c (Prog.lift (.enqueueDma (rowsM off' inb') (.here (slotM off inb)) (.dma sem) h1 h2 h3)) Q) := by
  subst hsem
  have hfree : MΦ c fx (slot 8 n) (rst 8 n w (slot 8 n)) ⊢ MΦ c fx (slot 8 n) none := by
    rcases rst_free (N := 8) (n := n) (w := w) (by unfold RingSize; decide) hn with h | h
    · rw [h]
    · rw [h]; exact MΦ_free c fx _ _
  rw [AtW_focus (MΦ c fx) (rst 8 n w) (slot 8 n), rst_issue (N := 8) (by unfold RingSize; decide) hwn]
  iintro ⟨Hf, Hrest⟩ HQ
  ihave Hf := hfree $$ Hf
  unfold MΦ
  icases Hf with ⟨⟨%f, Hd⟩, Hv, Ht⟩
  iapply (issue_gen c (src := rowsM off' inb') (dst := slotM off inb) (fs := fx) (fd := f) (Rs := rows (n % 98)) (Sd := slab 8 (n % 8)) (g := land 8 fx (n % 98)) NM rfl (View.dmaCredit_pos _ (by decide))
    (rowsM_set ho' inb') (slotM_set ho inb) (landM (Nat.mod_lt _ (by decide)) (Nat.mod_lt _ (by decide)) ho ho' inb inb' f fx)) $$ [Hd Hv Ht]
  · isplitl [Ht]; · iexact Ht
    isplitl [Hd]; · iexact Hd
    iexact Hv
  iintro HF
  iapply HQ
  iapply (Ring.AtW_update (MΦ c fx) (rst 8 n w) (slot 8 n) (some (true, n)))
  isplitl [HF]
  · unfold MΦ; iexact HF
  · iexact Hrest

theorem waitM (c : Dev nD) (fx : BufM (F := F)) {n w : ℕ} (hw : w < n) (hn : n ≤ w + 8) {sp sp' : Space} {s s' : Shape} {e e' : EltTy}
    {src : Memref sig .tc sp' s' e'} {dst : Memref sig .tc sp s e} {sem : DmaSem sig} (hsem : sem = mSem (slot 8 w)) (hN : dst.view.dmaCredit = NM)
    {h1 : src.view.WordExact} {h2 : dst.view.WordExact} {Q : PUnit → sProp 𝕄} :
    iprop(AtW (MΦ c fx) (rst 8 n w) ∗ (∃ W, owes (c : Thread nD τ) 0 W)) ⊢ iprop((iprop(AtW (MΦ c fx) (rst 8 n (w + 1)) ∗ (∃ W, owes (c : Thread nD τ) 0 W)) -∗ Q ⟨⟩)
      -∗ WP (F := F) c (Prog.lift (.waitDma2 sem src dst h1 h2)) Q) := by
  subst hsem
  rw [AtW_focus (MΦ c fx) (rst 8 n w) (slot 8 w), rst_wait (N := 8) (by unfold RingSize; decide) hw hn,
    rst_flight (N := 8) (by unfold RingSize; decide) hw hn]
  iintro ⟨⟨Hf, Hrest⟩, HO⟩ HQ
  ihave Hf := (show MΦ c fx (slot 8 w) (some (true, w)) ⊢ iprop(Transfers.Flight EC (c : Thread nD τ) (.dma (mSem (slot 8 w))) () NM iprop(mSlab c (w % 8) (land 8 fx (w % 98)) ∗ mPart c (slot 8 w) (rows (w % 98)) fx)
      ∗ mPart c (slot 8 w) (Finset.univ \ rows (w % 98)) fx) from .rfl) $$ Hf
  icases Hf with ⟨HF, Hr⟩
  iapply (wait_gen c NM hN) $$ [HF HO]
  · isplitl [HF]; · iexact HF
    iexact HO
  iintro ⟨⟨Hd, Ht⟩, Hv, HO⟩
  iapply HQ
  isplitr [HO]
  · iapply (Ring.AtW_update (MΦ c fx) (rst 8 n w) (slot 8 w) (some (false, w)))
    isplitr [Hrest]
    · unfold MΦ
      isplitl [Hd]; · iexact Hd
      isplitl [Hv]; · iexact Hv
      iapply (pointsTo_split_subset (Finset.subset_univ (rows (w % 98)))).2
      isplitl [Ht]; · iexact Ht
      iexact Hr
    · iexact Hrest
  · iexact HO

/-! ## The slabs of `g` and the cells that fill them -/

/-- What semaphore `s` of the `g` copies is worth: at rest; a copy of chunk `p` away. -/
def GΦ (c : Dev nD) (fg : BufG (F := F)) (s : Fin 8) : Option (Bool × ℕ) → sProp 𝕄
  | none => iprop(semVal ((c : Thread nD τ), .dma (gSem s)) 0 ∗ gPart c s Finset.univ fg)
  | some (true, p) => iprop(Transfers.Flight EC (c : Thread nD τ) (.dma (gSem s)) () NG iprop(gSlab c (p % 98) (land 98 fg (p % 98)) ∗ gPart c s (rows (p % 98)) fg)
      ∗ gPart c s (Finset.univ \ rows (p % 98)) fg)
  | some (false, p) => iprop(semVal ((c : Thread nD τ), .dma (gSem s)) 0 ∗ gPart c s Finset.univ fg)

/-- What slab `j` of the `g` buffer is worth: never filled; lent to a copy or set apart; masked. -/
def SΦ (c : Dev nD) (fM : S98x1536x256.Idx → Elt F .fp8e5m2) (j : Fin 98) : ℕ → sProp 𝕄
  | 0 => iprop(∃ f, gSlab c j.val f)
  | 1 => iprop(emp)
  | _ => gSlab c j.val fM

theorem issueG (c : Dev nD) (fg : BufG (F := F)) (fM : S98x1536x256.Idx → Elt F .fp8e5m2) {n w v : ℕ} (hwn : w ≤ n) (hn : n < w + 8) (hv : v ≤ n) (h98 : n < 98)
    {off : Fin 3 → ℕ} {off' : Fin 2 → ℕ}
    {inb} {inb'} {sem : DmaSem sig} (ho : off = ![n, 0, 0]) (ho' : off' = ![1536 * n, 0]) (hsem : sem = gSem (slot 8 n))
    {h1 : (rowsG off' inb').view.WordExact} {h2 : (slotG off inb).view.WordExact} {h3 : DmaTarget.Typed (nD := nD) .hbm (.dma sem) (.here (p := .tc) (slotG off inb))}
    {Q : PUnit → sProp 𝕄} :
    iprop(AtW (GΦ c fg) (rst 8 n w) ∗ AtW (SΦ c fM) (sst n v)) ⊢ iprop((iprop(AtW (GΦ c fg) (rst 8 (n + 1) w) ∗ AtW (SΦ c fM) (sst (n + 1) v)) -∗ Q ⟨⟩)
      -∗ WP (F := F) c (Prog.lift (.enqueueDma (rowsG off' inb') (.here (slotG off inb)) (.dma sem) h1 h2 h3)) Q) := by
  subst hsem
  have e98 : n % 98 = n := Nat.mod_eq_of_lt h98
  have hfree : GΦ c fg (slot 8 n) (rst 8 n w (slot 8 n)) = GΦ c fg (slot 8 n) none := by
    rcases rst_free (N := 8) (n := n) (w := w) (by unfold RingSize; decide) hn with h | h
    · rw [h]
    · rw [h]; rfl
  rw [AtW_focus (GΦ c fg) (rst 8 n w) (slot 8 n), rst_issue (N := 8) (by unfold RingSize; decide) hwn, hfree,
    AtW_focus (SΦ c fM) (sst n v) ⟨n, h98⟩, sst_raw hv h98, sst_issue hv h98]
  iintro ⟨⟨Hf, Hrest⟩, Hs, Hsrest⟩ HQ
  ihave Hs := (show SΦ c fM ⟨n, h98⟩ 0 ⊢ iprop(∃ f, gSlab c n f) from .rfl) $$ Hs
  unfold GΦ
  icases Hf with ⟨Hv, Ht⟩
  icases Hs with ⟨%f, Hd⟩
  iapply (issue_gen c (src := rowsG off' inb') (dst := slotG off inb) (fs := fg) (fd := f) (Rs := rows n) (Sd := slab 98 n) (g := land 98 fg n) NG rfl (View.dmaCredit_pos _ (by decide))
    (rowsG_set ho' inb') (slotG_set ho inb) (landG h98 h98 ho ho' inb inb' f fg)) $$ [Hd Hv Ht]
  · isplitl [Ht]; · iexact Ht
    isplitl [Hd]; · iexact Hd
    iexact Hv
  iintro HF
  iapply HQ
  isplitl [HF Hrest]
  · iapply (Ring.AtW_update (GΦ c fg) (rst 8 n w) (slot 8 n) (some (true, n)))
    isplitl [HF]
    · iapply (show iprop(Transfers.Flight EC (c : Thread nD τ) (.dma (gSem (slot 8 n))) () NG iprop(gSlab c n (land 98 fg n) ∗ gPart c (slot 8 n) (rows n) fg)
          ∗ gPart c (slot 8 n) (Finset.univ \ rows n) fg) ⊢ GΦ c fg (slot 8 n) (some (true, n)) from by unfold GΦ; dsimp only; rw [e98])
      iexact HF
    · iexact Hrest
  · iapply (Ring.AtW_update (SΦ c fM) (sst n v) ⟨n, h98⟩ 1)
    isplitr
    · unfold SΦ; iempintro
    · iexact Hsrest

theorem waitG (c : Dev nD) (fg : BufG (F := F)) {n w : ℕ} (hw : w < n) (hn : n ≤ w + 8) (h98 : w < 98) {sp sp' : Space} {s s' : Shape} {e e' : EltTy}
    {src : Memref sig .tc sp' s' e'} {dst : Memref sig .tc sp s e} {sem : DmaSem sig} (hsem : sem = gSem (slot 8 w)) (hN : dst.view.dmaCredit = NG)
    {h1 : src.view.WordExact} {h2 : dst.view.WordExact} {Q : PUnit → sProp 𝕄} :
    iprop(AtW (GΦ c fg) (rst 8 n w) ∗ (∃ W, owes (c : Thread nD τ) 0 W))
      ⊢ iprop((iprop(AtW (GΦ c fg) (rst 8 n (w + 1)) ∗ gSlab c w (land 98 fg w) ∗ (∃ W, owes (c : Thread nD τ) 0 W)) -∗ Q ⟨⟩)
      -∗ WP (F := F) c (Prog.lift (.waitDma2 sem src dst h1 h2)) Q) := by
  subst hsem
  have e98 : w % 98 = w := Nat.mod_eq_of_lt h98
  rw [AtW_focus (GΦ c fg) (rst 8 n w) (slot 8 w), rst_wait (N := 8) (by unfold RingSize; decide) hw hn,
    rst_flight (N := 8) (by unfold RingSize; decide) hw hn]
  iintro ⟨⟨Hf, Hrest⟩, HO⟩ HQ
  ihave Hf := (show GΦ c fg (slot 8 w) (some (true, w)) ⊢ iprop(Transfers.Flight EC (c : Thread nD τ) (.dma (gSem (slot 8 w))) () NG iprop(gSlab c (w % 98) (land 98 fg (w % 98)) ∗ gPart c (slot 8 w) (rows (w % 98)) fg)
      ∗ gPart c (slot 8 w) (Finset.univ \ rows (w % 98)) fg) from .rfl) $$ Hf
  rw [e98]
  icases Hf with ⟨HF, Hr⟩
  iapply (wait_gen c NG hN) $$ [HF HO]
  · isplitl [HF]; · iexact HF
    iexact HO
  iintro ⟨⟨Hd, Ht⟩, Hv, HO⟩
  iapply HQ
  isplitr [Hd HO]
  · iapply (Ring.AtW_update (GΦ c fg) (rst 8 n w) (slot 8 w) (some (false, w)))
    isplitr [Hrest]
    · unfold GΦ
      isplitl [Hv]; · iexact Hv
      iapply (pointsTo_split_subset (Finset.subset_univ (rows w))).2
      isplitl [Ht]; · iexact Ht
      iexact Hr
    · iexact Hrest
  · isplitl [Hd]; · iexact Hd
    iexact HO

/-! ## The result's ring and its blocks of rows -/

/-- What output slot `s` is worth: at rest; block `j` (in the order of the second pass) on its way out. -/
def OΦ (c : Dev nD) (fD : BufO (F := F)) (s : Fin 3) : Option (Bool × ℕ) → sProp 𝕄
  | none => iprop((∃ f, oSlab c s.val f) ∗ semVal ((c : Thread nD τ), .dma (oSem s)) 0)
  | some (true, j) => Transfers.Flight EC (c : Thread nD τ) (.dma (oSem s)) () NO iprop(oRows c ((j + 43) % 98) fD ∗ (∃ f, oSlab c s.val f))
  | some (false, j) => iprop((∃ f, oSlab c s.val f) ∗ semVal ((c : Thread nD τ), .dma (oSem s)) 0)

/-- What the rows the second pass's trip `j` writes are worth: not yet written; lent to a copy; the result's. -/
def DΦ (c : Dev nD) (fD : BufO (F := F)) (j : Fin 98) : ℕ → sProp 𝕄
  | 0 => iprop(∃ f, oRows c ((j.val + 43) % 98) f)
  | 1 => iprop(emp)
  | _ => oRows c ((j.val + 43) % 98) fD

theorem landO {off : Fin 3 → ℕ} {off' : Fin 2 → ℕ} {s p : ℕ} (hs : s < 3) (hp : p < 98) (hoff : off = ![s, 0, 0]) (hoff' : off' = ![1536 * p, 0])
    (inb) (inb') (fo : S3x1536x256.Idx → Elt F .bf16) (fD : BufO (F := F)) (f : BufO (F := F))
    (hfo : ∀ (a : Fin 1536) (b : Fin 256), fo (ix3 ⟨s, hs⟩ a b) = fD (ix2 (rowN p a.val) b)) :
    ∀ i ∈ (rows p : Finset S150528x256.Idx), (rowsO off' inb').view.write (Elt F) f ((slotO off inb).view.read (Elt F) fo) Finset.univ i = fD i :=
  write_eq (rowsO off' inb').view f fD _ (rows p) (fun x _ => by
    have e1 : (slotO off inb).view.emb x = ix3 ⟨s, hs⟩ (x 0) (x 1) := emb_slab hs hoff inb _ x
    have e2 : (rowsO off' inb').view.emb x = ix2 (rowN p (x 0).val) (x 1) := emb_rows hp hoff' inb' x
    rw [e2]
    show _ = fo ((slotO off inb).view.emb x)
    rw [e1]; exact (hfo (x 0) (x 1)).symm) (fun i hi hn => absurd (by rw [rowsO_set hoff']; exact hi) hn)

/-- The output slot of trip `n` set apart. -/
def oOpen (c : Dev nD) (fD : BufO (F := F)) (n w : ℕ) : sProp 𝕄 :=
  iprop(semVal ((c : Thread nD τ), .dma (oSem (slot 3 n))) 0 ∗ restW (OΦ c fD) (rst 3 n w) (slot 3 n))

theorem takeO (c : Dev nD) (fD : BufO (F := F)) {n w : ℕ} (hn : n < w + 3) :
    AtW (OΦ c fD) (rst 3 n w) ⊢ iprop((∃ f, oSlab c (n % 3) f) ∗ oOpen c fD n w) := by
  have hfree : OΦ c fD (slot 3 n) (rst 3 n w (slot 3 n)) = OΦ c fD (slot 3 n) none := by
    rcases rst_free (N := 3) (n := n) (w := w) (by unfold RingSize; decide) hn with h | h
    · rw [h]
    · rw [h]; rfl
  rw [AtW_focus (OΦ c fD) (rst 3 n w) (slot 3 n), hfree]
  unfold OΦ oOpen
  iintro ⟨⟨Hf, Hv⟩, Hrest⟩
  isplitl [Hf]; · iexact Hf
  isplitl [Hv]; · iexact Hv
  unfold OΦ
  iexact Hrest

theorem issueO (c : Dev nD) (fD : BufO (F := F)) {n w v : ℕ} (hwn : w ≤ n) (hv : v ≤ n) (h98 : n < 98)
    {off : Fin 3 → ℕ} {off' : Fin 2 → ℕ} {inb} {inb'} {sem : DmaSem sig} (ho : off = ![n % 3, 0, 0]) (ho' : off' = ![1536 * ((n + 43) % 98), 0]) (hsem : sem = oSem (slot 3 n))
    {h1 : (slotO off inb).view.WordExact} {h2 : (rowsO off' inb').view.WordExact} {h3 : DmaTarget.Typed (nD := nD) .vmem (.dma sem) (.here (p := .tc) (rowsO off' inb'))}
    (fo : S3x1536x256.Idx → Elt F .bf16)
    (hfo : ∀ (a : Fin 1536) (b : Fin 256), fo (ix3 ⟨n % 3, Nat.mod_lt _ (by decide)⟩ a b) = fD (ix2 (rowN ((n + 43) % 98) a.val) b))
    {Q : PUnit → sProp 𝕄} :
    iprop(oSlab c (n % 3) fo ∗ oOpen c fD n w ∗ AtW (DΦ c fD) (sst n v))
      ⊢ iprop((iprop(AtW (OΦ c fD) (rst 3 (n + 1) w) ∗ AtW (DΦ c fD) (sst (n + 1) v)) -∗ Q ⟨⟩)
      -∗ WP (F := F) c (Prog.lift (.enqueueDma (slotO off inb) (.here (rowsO off' inb')) (.dma sem) h1 h2 h3)) Q) := by
  subst hsem
  rw [rst_issue (N := 3) (by unfold RingSize; decide) hwn,
    AtW_focus (DΦ c fD) (sst n v) ⟨n, h98⟩, sst_raw hv h98, sst_issue hv h98]
  unfold oOpen
  iintro ⟨Ho, ⟨Hv, Hrest⟩, Hs, Hsrest⟩ HQ
  ihave Hs := (show DΦ c fD ⟨n, h98⟩ 0 ⊢ iprop(∃ f, oRows c ((n + 43) % 98) f) from .rfl) $$ Hs
  icases Hs with ⟨%f, Hd⟩
  iapply (issue_core c (src := slotO off inb) (dst := rowsO off' inb') (fs := fo) (fd := f) (q := fullShare) (Rs := slab 3 (n % 3)) (Sd := rows ((n + 43) % 98)) (g := fD) NO rfl (View.dmaCredit_pos _ (by decide))
    (slotO_set ho inb) (rowsO_set ho' inb') (landO (Nat.mod_lt _ (by decide)) (Nat.mod_lt _ (by decide)) ho ho' inb inb' fo fD f hfo)) $$ [Hd Hv Ho]
  · isplitl [Ho]; · iexact Ho
    isplitl [Hd]; · iexact Hd
    iexact Hv
  iintro HF
  iapply HQ
  isplitl [HF Hrest]
  · iapply (Ring.AtW_update (OΦ c fD) (rst 3 n w) (slot 3 n) (some (true, n)))
    isplitl [HF]
    · unfold OΦ
      iapply (Transfers.Flight_mono EC (c : Thread nD τ) (D := iprop(oRows c ((n + 43) % 98) fD ∗ oSlab c (n % 3) fo)) (by
        iintro ⟨H1, H2⟩
        isplitl [H1]; · iexact H1
        iexists fo; iexact H2))
      iexact HF
    · iexact Hrest
  · iapply (Ring.AtW_update (DΦ c fD) (sst n v) ⟨n, h98⟩ 1)
    isplitr
    · unfold DΦ; iempintro
    · iexact Hsrest

theorem waitO (c : Dev nD) (fD : BufO (F := F)) {n w : ℕ} (hw : w < n) (hn : n ≤ w + 3) (h98 : w < 98) {sp sp' : Space} {s s' : Shape} {e e' : EltTy}
    {src : Memref sig .tc sp' s' e'} {dst : Memref sig .tc sp s e} {sem : DmaSem sig} (hsem : sem = oSem (slot 3 w)) (hN : dst.view.dmaCredit = NO)
    {h1 : src.view.WordExact} {h2 : dst.view.WordExact} {Q : PUnit → sProp 𝕄} :
    iprop(AtW (OΦ c fD) (rst 3 n w) ∗ AtW (DΦ c fD) (sst n w) ∗ (∃ W, owes (c : Thread nD τ) 0 W))
      ⊢ iprop((iprop(AtW (OΦ c fD) (rst 3 n (w + 1)) ∗ AtW (DΦ c fD) (sst n (w + 1)) ∗ (∃ W, owes (c : Thread nD τ) 0 W)) -∗ Q ⟨⟩)
      -∗ WP (F := F) c (Prog.lift (.waitDma2 sem src dst h1 h2)) Q) := by
  subst hsem
  rw [AtW_focus (OΦ c fD) (rst 3 n w) (slot 3 w), rst_wait (N := 3) (by unfold RingSize; decide) hw hn,
    rst_flight (N := 3) (by unfold RingSize; decide) hw hn, AtW_focus (DΦ c fD) (sst n w) ⟨w, h98⟩, sst_done hw h98]
  iintro ⟨⟨HF, Hrest⟩, ⟨-, Hsrest⟩, HO⟩ HQ
  ihave HF := (show OΦ c fD (slot 3 w) (some (true, w)) ⊢ Transfers.Flight EC (c : Thread nD τ) (.dma (oSem (slot 3 w))) () NO iprop(oRows c ((w + 43) % 98) fD ∗ (∃ f, oSlab c (w % 3) f)) from .rfl) $$ HF
  iapply (wait_gen c NO hN) $$ [HF HO]
  · isplitl [HF]; · iexact HF
    iexact HO
  iintro ⟨⟨Hd, Ht⟩, Hv, HO⟩
  iapply HQ
  isplitl [Ht Hv Hrest]
  · iapply (Ring.AtW_update (OΦ c fD) (rst 3 n w) (slot 3 w) (some (false, w)))
    isplitr [Hrest]
    · unfold OΦ
      isplitl [Ht]; · iexact Ht
      iexact Hv
    · iexact Hrest
  isplitl [Hd Hsrest]
  · iapply (Ring.AtW_update (DΦ c fD) (sst n w) ⟨w, h98⟩ 2)
    isplitl [Hd]
    · unfold DΦ; iexact Hd
    · iexact Hsrest
  · iexact HO

end Cert.KernelIdeal.Hand

end
-- ==== Proof.IInner.lean ====
/-
  The inner loop of the first pass: what the two half chunks of a trip read, mask and add up.
-/
module

public import proofs.«01_k».proof.Proof.Tiles
public import proofs.«01_k».proof.Proof.IBase
public import Idealize.ShloMosaic.Lib.Pipeline.FrameBody
public import Idealize.ShloMosaic.Lib.Pipeline.Value
public import Idealize.ShloMosaic.Lib.Ring
public import Idealize.ShloMosaic.Lib.Tactic

@[expose] public section

set_option maxRecDepth 16384

noncomputable section

namespace Cert.KernelIdeal.Hand

open Cert.KernelIdeal Cert.KernelIdeal.Gen Cert.Geo
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (AtW AtW_focus restW)

variable {F : FTy → Type} [FloatOps F]

local notation "𝕄" => MT nD τ sig Unit (Elt F) ℕ (Pipeline.UD sig nD τ) ℕ

/-- A load, by what the view reads. -/
theorem load_gen (c : Dev nD) {cs : CoreSpace} {s : Shape} {e : EltTy} (M : Memref sig .tc cs s e) (r : Rect s) (hl : M.view.LoadsAt r.toLoadRect)
    (S : Finset (Idx ((M.access r).loc (c : Thread nD τ)))) {q : PosShare TreeShare} (f : Buf (Elt F) ((M.access r).loc (c : Thread nD τ)))
    (T : r.shape.Idx → Elt F e) (hS : (M.access r).set ⊆ S) (hT : (M.access r).read (Elt F) f = T) {Q : (r.shape.Idx → Elt F e) → sProp 𝕄} :
    ((M.access r).loc (c : Thread nD τ) ↦[S]{q} f)
      ⊢ iprop((((M.access r).loc (c : Thread nD τ) ↦[S]{q} f) -∗ Q T) -∗ WP (F := F) c (Prog.lift (.load M r.toLoadRect hl)) Q) := by
  subst hT
  iintro H HQ
  iapply (wp_load_rect Variants.none (c : Thread nD τ) none Set.univ hS) $$ H
  iintro H
  rw [wp_ret]
  iapply fupd_intro
  iapply HQ
  iexact H

/-- A store, by what the buffer holds after it. -/
theorem store_gen (c : Dev nD) {cs : CoreSpace} {s : Shape} {e : EltTy} (M : Memref sig .tc cs s e) (r : Rect s) (w : r.shape.Idx → Elt F e)
    {hx : (M.access r).Stores Finset.univ} {hm : (Finset.univ : Finset r.shape.Idx) = Finset.univ ∨ ∀ a, r.stride a = 1}
    (S : Finset (Idx ((M.access r).loc (c : Thread nD τ)))) (f : Buf (Elt F) ((M.access r).loc (c : Thread nD τ)))
    (g : Buf (Elt F) ((M.access r).loc (c : Thread nD τ))) (hS : (M.access r).set ⊆ S)
    (hw : ∀ i ∈ S, (M.access r).write (Elt F) f w Finset.univ i = g i) {Q : PUnit → sProp 𝕄} :
    ((M.access r).loc (c : Thread nD τ) ↦[S]{fullShare} f)
      ⊢ iprop((((M.access r).loc (c : Thread nD τ) ↦[S]{fullShare} g) -∗ Q ⟨⟩) -∗ WP (F := F) c (Prog.lift (.store M r w Finset.univ hx hm)) Q) := by
  rw [← pointsTo_congr hw]
  iintro H HQ
  iapply (wp_store Variants.none (c : Thread nD τ) none Set.univ (by rwa [View.setOn_univ])) $$ H
  iintro H
  rw [wp_ret]
  iapply fupd_intro
  iapply HQ
  iexact H

theorem set_sub {κ : Kind} {sp : Space} {s : Shape} {e : EltTy} (v : View sig κ sp s e) (S : Finset v.ty.Idx) (h : ∀ x, v.emb x ∈ S) : v.set ⊆ S := by
  intro i hi
  obtain ⟨x, -, rfl⟩ := Finset.mem_map.mp hi
  exact h x

abbrev NB : Memref sig .tc .vmem S16x128 .bf16 := Memref.whole cc0_scratch4
abbrev A0 : Memref sig .tc .vmem S16x256 .f32 := Memref.whole cc0_scratch5
abbrev A1 : Memref sig .tc .vmem S16x256 .f32 := Memref.whole cc0_scratch6
abbrev CB : Memref sig .tc .vmem S8x256 .f32 := Memref.whole cc0_scratch7

theorem loadX (c : Dev nD) {s j l : ℕ} (hs : s < 55) (hj : j < 2) (hl : l < 2) {off : Fin 3 → ℕ} (hoff : off = ![s, 768 * j, 0]) {inb}
    {off2 : Fin 2 → ℕ} (h2 : off2 = ![0, 128 * l]) {inb2} {f : S55x1536x256.Idx → Elt F .fp8e4m3} (T : S768x128.Idx → Elt F .fp8e4m3)
    (hT : ∀ x : S768x128.Idx, f (ix3 ⟨s, hs⟩ (rowI j (x 0).val) (colN l (x 1).val)) = T x) {hld} {Q : (S768x128.Idx → Elt F .fp8e4m3) → sProp 𝕄} :
    xSlab c s f ⊢ iprop((xSlab c s f -∗ Q T) -∗ WP (F := F) c (Prog.lift (.load ((XB.slice (Rect.unit (s := S55x1536x256) off S1x768x256.size inb) (fun _ => rfl)).squeeze S768x256 squeezes_S1x768x256_S768x256)
      (Rect.unit (s := S768x256) off2 S768x128.size inb2).toLoadRect hld)) Q) :=
  have e : ∀ x : S768x128.Idx, ((((XB.slice (Rect.unit (s := S55x1536x256) off S1x768x256.size inb) (fun _ => rfl)).squeeze S768x256 squeezes_S1x768x256_S768x256).access
      (Rect.unit (s := S768x256) off2 S768x128.size inb2)).emb x : S55x1536x256.Idx) = ix3 ⟨s, hs⟩ (rowI j (x 0).val) (colN l (x 1).val) :=
    fun x => emb_tile hs hj hl hoff inb _ h2 inb2 x
  load_gen c ((XB.slice (Rect.unit (s := S55x1536x256) off S1x768x256.size inb) (fun _ => rfl)).squeeze S768x256 squeezes_S1x768x256_S768x256)
    (Rect.unit (s := S768x256) off2 S768x128.size inb2) hld (slab 55 s) f T (set_sub _ _ fun x => by rw [e x]; exact mem_slab.mpr rfl) (funext fun x => (congrArg f (e x)).trans (hT x))

theorem loadG (c : Dev nD) {s j l : ℕ} (hs : s < 98) (hj : j < 2) (hl : l < 2) {off : Fin 3 → ℕ} (hoff : off = ![s, 768 * j, 0]) {inb}
    {off2 : Fin 2 → ℕ} (h2 : off2 = ![0, 128 * l]) {inb2} {f : S98x1536x256.Idx → Elt F .fp8e5m2} (T : S768x128.Idx → Elt F .fp8e5m2)
    (hT : ∀ x : S768x128.Idx, f (ix3 ⟨s, hs⟩ (rowI j (x 0).val) (colN l (x 1).val)) = T x) {hld} {Q : (S768x128.Idx → Elt F .fp8e5m2) → sProp 𝕄} :
    gSlab c s f ⊢ iprop((gSlab c s f -∗ Q T) -∗ WP (F := F) c (Prog.lift (.load ((GB.slice (Rect.unit (s := S98x1536x256) off S1x768x256.size inb) (fun _ => rfl)).squeeze S768x256 squeezes_S1x768x256_S768x256)
      (Rect.unit (s := S768x256) off2 S768x128.size inb2).toLoadRect hld)) Q) :=
  have e : ∀ x : S768x128.Idx, ((((GB.slice (Rect.unit (s := S98x1536x256) off S1x768x256.size inb) (fun _ => rfl)).squeeze S768x256 squeezes_S1x768x256_S768x256).access
      (Rect.unit (s := S768x256) off2 S768x128.size inb2)).emb x : S98x1536x256.Idx) = ix3 ⟨s, hs⟩ (rowI j (x 0).val) (colN l (x 1).val) :=
    fun x => emb_tile hs hj hl hoff inb _ h2 inb2 x
  load_gen c ((GB.slice (Rect.unit (s := S98x1536x256) off S1x768x256.size inb) (fun _ => rfl)).squeeze S768x256 squeezes_S1x768x256_S768x256)
    (Rect.unit (s := S768x256) off2 S768x128.size inb2) hld (slab 98 s) f T (set_sub _ _ fun x => by rw [e x]; exact mem_slab.mpr rfl) (funext fun x => (congrArg f (e x)).trans (hT x))

theorem loadM (c : Dev nD) {s j l : ℕ} (hs : s < 8) (hj : j < 2) (hl : l < 2) {off : Fin 3 → ℕ} (hoff : off = ![s, 768 * j, 0]) {inb}
    {off2 : Fin 2 → ℕ} (h2 : off2 = ![0, 128 * l]) {inb2} {f : S8x1536x256.Idx → Elt F .i8} (T : S768x128.Idx → Elt F .i8)
    (hT : ∀ x : S768x128.Idx, f (ix3 ⟨s, hs⟩ (rowI j (x 0).val) (colN l (x 1).val)) = T x) {hld} {Q : (S768x128.Idx → Elt F .i8) → sProp 𝕄} :
    mSlab c s f ⊢ iprop((mSlab c s f -∗ Q T) -∗ WP (F := F) c (Prog.lift (.load ((MB.slice (Rect.unit (s := S8x1536x256) off S1x768x256.size inb) (fun _ => rfl)).squeeze S768x256 squeezes_S1x768x256_S768x256)
      (Rect.unit (s := S768x256) off2 S768x128.size inb2).toLoadRect hld)) Q) :=
  have e : ∀ x : S768x128.Idx, ((((MB.slice (Rect.unit (s := S8x1536x256) off S1x768x256.size inb) (fun _ => rfl)).squeeze S768x256 squeezes_S1x768x256_S768x256).access
      (Rect.unit (s := S768x256) off2 S768x128.size inb2)).emb x : S8x1536x256.Idx) = ix3 ⟨s, hs⟩ (rowI j (x 0).val) (colN l (x 1).val) :=
    fun x => emb_tile hs hj hl hoff inb _ h2 inb2 x
  load_gen c ((MB.slice (Rect.unit (s := S8x1536x256) off S1x768x256.size inb) (fun _ => rfl)).squeeze S768x256 squeezes_S1x768x256_S768x256)
    (Rect.unit (s := S768x256) off2 S768x128.size inb2) hld (slab 8 s) f T (set_sub _ _ fun x => by rw [e x]; exact mem_slab.mpr rfl) (funext fun x => (congrArg f (e x)).trans (hT x))

theorem storeG (c : Dev nD) {k j l : ℕ} (hk : k < 98) (hj : j < 2) (hl : l < 2) {off : Fin 3 → ℕ} (hoff : off = ![k, 768 * j, 128 * l]) {inb}
    (g f : BufG (F := F)) (w : S1x768x128.Idx → Elt F .fp8e5m2) (hw : ∀ x : S1x768x128.Idx, tile g (2 * k + j) l (ix2 (x 1) (x 2)) = w x) {hx} {hm} {Q : PUnit → sProp 𝕄} :
    gSlab c k (gC g f k j l) ⊢ iprop((gSlab c k (gC g f k j (l + 1)) -∗ Q ⟨⟩) -∗ WP (F := F) c (Prog.lift (.store GB (Rect.unit (s := S98x1536x256) off S1x768x128.size inb) w Finset.univ hx hm)) Q) :=
  have e : ∀ x : S1x768x128.Idx, ((GB.access (Rect.unit (s := S98x1536x256) off S1x768x128.size inb)).emb x : S98x1536x256.Idx) = ix3 ⟨k, hk⟩ (rowI j (x 1).val) (colN l (x 2).val) :=
    fun x => emb_st hk hj hl hoff inb x
  store_gen c GB (Rect.unit (s := S98x1536x256) off S1x768x128.size inb) w (slab 98 k) (gC g f k j l) (gC g f k j (l + 1)) (set_sub _ _ fun x => by rw [e x]; exact mem_slab.mpr rfl)
    (write_eq (GB.access (Rect.unit (s := S98x1536x256) off S1x768x128.size inb)) (gC g f k j l) (gC g f k j (l + 1)) w (slab 98 k)
      (fun x _ => (congrArg (gC g f k j (l + 1)) (e x)).trans ((gC_new g f ⟨k, hk⟩ hk hj hl (ix2 (x 1) (x 2))).trans (hw x)))
      (fun i hi hn => gC_old g f hk hj hl i (mem_slab.mp hi) fun x hx => hn (by rw [hx, ← e x]; exact View.emb_mem_set _ x)))

abbrev bufA0 (c : Dev nD) (f : S16x256.Idx → Elt F .f32) : sProp 𝕄 := A0.view.loc (c : Thread nD τ) ↦[Finset.univ]{fullShare} f
abbrev bufA1 (c : Dev nD) (f : S16x256.Idx → Elt F .f32) : sProp 𝕄 := A1.view.loc (c : Thread nD τ) ↦[Finset.univ]{fullShare} f
abbrev bufN (c : Dev nD) (f : S16x128.Idx → Elt F .bf16) : sProp 𝕄 := NB.view.loc (c : Thread nD τ) ↦[Finset.univ]{fullShare} f

theorem loadN (c : Dev nD) {inb} {f : S16x128.Idx → Elt F .bf16} {hld} {Q : (S16x128.Idx → Elt F .bf16) → sProp 𝕄} :
    bufN c f ⊢ iprop((bufN c f -∗ Q f) -∗ WP (F := F) c (Prog.lift (.load NB (Rect.unit (s := S16x128) ![0, 0] S16x128.size inb).toLoadRect hld)) Q) :=
  load_gen c NB (Rect.unit (s := S16x128) ![0, 0] S16x128.size inb) hld Finset.univ f f (Finset.subset_univ _) (funext fun x => congrArg f (emb_full inb x))
theorem loadA0 (c : Dev nD) {l : ℕ} (hl : l < 2) {off : Fin 2 → ℕ} (hoff : off = ![0, 128 * l]) {inb} {f : S16x256.Idx → Elt F .f32} {hld} {Q : (S16x128.Idx → Elt F .f32) → sProp 𝕄} :
    bufA0 c f ⊢ iprop((bufA0 c f -∗ Q (colR l f)) -∗ WP (F := F) c (Prog.lift (.load A0 (Rect.unit (s := S16x256) off S16x128.size inb).toLoadRect hld)) Q) :=
  load_gen c A0 (Rect.unit (s := S16x256) off S16x128.size inb) hld Finset.univ f (colR l f) (Finset.subset_univ _) (funext fun x => congrArg f (emb_col hl hoff inb x))
theorem storeA0 (c : Dev nD) {l : ℕ} (hl : l < 2) {off : Fin 2 → ℕ} (hoff : off = ![0, 128 * l]) {inb} {f : S16x256.Idx → Elt F .f32} (w : S16x128.Idx → Elt F .f32) {hx} {hm} {Q : PUnit → sProp 𝕄} :
    bufA0 c f ⊢ iprop((bufA0 c (colW l w f) -∗ Q ⟨⟩) -∗ WP (F := F) c (Prog.lift (.store A0 (Rect.unit (s := S16x256) off S16x128.size inb) w Finset.univ hx hm)) Q) :=
  have e : ∀ x : S16x128.Idx, ((A0.access (Rect.unit (s := S16x256) off S16x128.size inb)).emb x : S16x256.Idx) = ix2 (x 0) (colN l (x 1).val) := fun x => emb_col hl hoff inb x
  store_gen c A0 (Rect.unit (s := S16x256) off S16x128.size inb) w Finset.univ f (colW l w f) (Finset.subset_univ _)
    (write_eq (A0.access (Rect.unit (s := S16x256) off S16x128.size inb)) f (colW l w f) w Finset.univ
      (fun x _ => (congrArg (colW l w f) (e x)).trans (colW_on hl w f x))
      (fun i _ hn => colW_off hl w f i fun x hx => hn (by rw [hx, ← e x]; exact View.emb_mem_set _ x)))
theorem loadA1 (c : Dev nD) {l : ℕ} (hl : l < 2) {off : Fin 2 → ℕ} (hoff : off = ![0, 128 * l]) {inb} {f : S16x256.Idx → Elt F .f32} {hld} {Q : (S16x128.Idx → Elt F .f32) → sProp 𝕄} :
    bufA1 c f ⊢ iprop((bufA1 c f -∗ Q (colR l f)) -∗ WP (F := F) c (Prog.lift (.load A1 (Rect.unit (s := S16x256) off S16x128.size inb).toLoadRect hld)) Q) :=
  load_gen c A1 (Rect.unit (s := S16x256) off S16x128.size inb) hld Finset.univ f (colR l f) (Finset.subset_univ _) (funext fun x => congrArg f (emb_col hl hoff inb x))
theorem storeA1 (c : Dev nD) {l : ℕ} (hl : l < 2) {off : Fin 2 → ℕ} (hoff : off = ![0, 128 * l]) {inb} {f : S16x256.Idx → Elt F .f32} (w : S16x128.Idx → Elt F .f32) {hx} {hm} {Q : PUnit → sProp 𝕄} :
    bufA1 c f ⊢ iprop((bufA1 c (colW l w f) -∗ Q ⟨⟩) -∗ WP (F := F) c (Prog.lift (.store A1 (Rect.unit (s := S16x256) off S16x128.size inb) w Finset.univ hx hm)) Q) :=
  have e : ∀ x : S16x128.Idx, ((A1.access (Rect.unit (s := S16x256) off S16x128.size inb)).emb x : S16x256.Idx) = ix2 (x 0) (colN l (x 1).val) := fun x => emb_col hl hoff inb x
  store_gen c A1 (Rect.unit (s := S16x256) off S16x128.size inb) w Finset.univ f (colW l w f) (Finset.subset_univ _)
    (write_eq (A1.access (Rect.unit (s := S16x256) off S16x128.size inb)) f (colW l w f) w Finset.univ
      (fun x _ => (congrArg (colW l w f) (e x)).trans (colW_on hl w f x))
      (fun i _ hn => colW_off hl w f i fun x hx => hn (by rw [hx, ← e x]; exact View.emb_mem_set _ x)))

/-! ## The values -/

/-- One masked value. -/
def gmE (g : Elt F .fp8e5m2) (m : Elt F .i8) : Elt F .fp8e5m2 := k0_pay1 (fun _ => g) (fun _ => m) (ix2 0 0)
/-- The masked gradient. -/
def gmF (fg : BufG (F := F)) (fm : BufM (F := F)) : BufG (F := F) := fun i => gmE (fg i) (fm i)

/-- The accumulators after one more half chunk. -/
def st0 (fg : BufG (F := F)) (fm : BufM (F := F)) (H : ℕ) (A : FVec F S16x256 .f32) : FVec F S16x256 .f32 :=
  have A' : FVec F S16x256 .f32 := colW 0 (k0_pay6 (k0_pay5 k0_pay15 (tile fg H 0) (tile fm H 0) (colR 0 A))) A
  colW 1 (k0_pay16 (k0_pay10 (tile fg H 1) (tile fm H 1)) (colR 1 A') (k0_pay12 k0_pay15)) A'
def st1 (fx : BufX (F := F)) (fg : BufG (F := F)) (fm : BufM (F := F)) (H : ℕ) (A : FVec F S16x256 .f32) : FVec F S16x256 .f32 :=
  have A' : FVec F S16x256 .f32 := colW 0 (k0_pay7 (k0_pay3 (tile fg H 0) (tile fm H 0)) (k0_pay4 (tile fx H 0)) (colR 0 A)) A
  colW 1 (k0_pay17 (k0_pay10 (tile fg H 1) (tile fm H 1)) (k0_pay11 (tile fx H 1)) (colR 1 A')) A'
def acc0N (fg : BufG (F := F)) (fm : BufM (F := F)) : ℕ → FVec F S16x256 .f32
  | 0 => k0_pay13
  | h + 1 => st0 fg fm h (acc0N fg fm h)
def acc1N (fx : BufX (F := F)) (fg : BufG (F := F)) (fm : BufM (F := F)) : ℕ → FVec F S16x256 .f32
  | 0 => k0_pay14
  | h + 1 => st1 fx fg fm h (acc1N fx fg fm h)

theorem pay1_at (v : Vec F S768x128 .fp8e5m2) (w : Vec F S768x128 .i8) (i : S768x128.Idx) : k0_pay1 v w i = gmE (v i) (w i) := rfl
theorem pay2_at (fg : BufG (F := F)) (fm : BufM (F := F)) (H l : ℕ) (x : S1x768x128.Idx) :
    tile (gmF fg fm) H l (ix2 (x 1) (x 2)) = k0_pay2 (tile fg H l) (tile fm H l) x := by
  have e : k0_pay2 (tile fg H l) (tile fm H l) x = k0_pay1 (tile fg H l) (tile fm H l) (ix2 (x 1) (x 2)) := by
    have hx : x = ix3 (x 0) (x 1) (x 2) := eq_ix3 x
    rw [hx]
    unfold k0_pay2
    exact shapeCast_ab_1ab_apply (shapeCast S768x128 (k0_pay1 (tile fg H l) (tile fm H l)) shapeCasts_S768x128_S768x128) shapeCasts_S768x128_S1x768x128 (x 0) (x 1) (x 2)
      |>.trans (congrFun (shapeCast_self _ _) _)
  rw [e, pay1_at]
  rfl
theorem pay9_at (fg : BufG (F := F)) (fm : BufM (F := F)) (H l : ℕ) (x : S1x768x128.Idx) :
    tile (gmF fg fm) H l (ix2 (x 1) (x 2)) = k0_pay9 (tile fg H l) (tile fm H l) x := pay2_at fg fm H l x

variable (a0 : Memref sig .tc .smem S1 .f32) (h0 : a0.IsWhole) (a1 : Memref sig .tc .smem S1 .f32) (h1 : a1.IsWhole)
  (a2 : Memref sig .tc .vmem S1x256 .f32) (h2 : a2.IsWhole) (a3 : Memref sig .tc .vmem S1x256 .f32) (h3 : a3.IsWhole)
  (a4 : Memref sig .tc .vmem S1x256 .f32) (h4 : a4.IsWhole) (a9 : Memref sig .tc .vmem S1x256 .f32) (h9 : a9.IsWhole)
  (a10 : Memref sig .tc .vmem S1x256 .f32) (h10 : a10.IsWhole)

/-- What the inner loop of trip `k` holds before half `j`. -/
def inv2 (c : Dev nD) (fx : BufX (F := F)) (fg : BufG (F := F)) (fm : BufM (F := F)) (k j : ℕ) : sProp 𝕄 :=
  iprop(bufN c k0_pay15 ∗ gSlab c k (gC (gmF fg fm) fg k j 0) ∗ mSlab c (k % 8) (land 8 fm k) ∗ xSlab c (k % 55) (land 55 fx k)
    ∗ bufA0 c (acc0N fg fm (2 * k + j)) ∗ bufA1 c (acc1N fx fg fm (2 * k + j)))

theorem t2_step (c : Dev nD) (fx : BufX (F := F)) (fg : BufG (F := F)) (fm : BufM (F := F)) (k : Fin k0_t1_loop.trips) (z : BitVec 32) (j : Fin k0_t2_loop.trips) (u : Unit) :
    inv2 c fx fg fm k.val j.val ⊢ WP (F := F) c (k0_t2_body (F := F) a0 h0 a1 h1 a2 h2 a3 h3 a4 h4 XH (Memref.isWhole_whole _) GH (Memref.isWhole_whole _) MH (Memref.isWhole_whole _) OH (Memref.isWhole_whole _) a9 h9 a10 h10 XB (Memref.isWhole_whole _) GB (Memref.isWhole_whole _) MB (Memref.isWhole_whole _) OB (Memref.isWhole_whole _) NB (Memref.isWhole_whole _) A0 (Memref.isWhole_whole _) A1 (Memref.isWhole_whole _) CB (Memref.isWhole_whole _) cc0_scratch8 cc0_scratch9 cc0_scratch10 cc0_scratch11 k z j u) (fun _ => inv2 c fx fg fm k.val (j.val + 1)) := by
  have hk : k.val < 98 := k.isLt
  have hj : j.val < 2 := j.isLt
  have hk8 : k.val % 8 < 8 := Nat.mod_lt _ (by decide)
  have hk55 : k.val % 55 < 55 := Nat.mod_lt _ (by decide)
  unfold k0_t2_body inv2
  rw [k0_part1_eq_skeleton, k0_part2_eq_skeleton]
  unfold k0_part1_skel k0_part2_skel
  simp only [wp_bind, wp_pure]
  iintro ⟨HN, HG, HM, HX, H0, H1⟩
  iapply (loadN c) $$ HN
  iintro HN
  iapply (loadG c hk hj (l := 0) (by decide) (k0_off21_eq k j) rfl (tile fg (2 * k.val + j.val) 0) (gC_raw _ _ _ hk hj (by decide))) $$ HG
  iintro HG
  iapply (loadM c hk8 hj (l := 0) (by decide) (k0_off22_eq k j) rfl (tile fm (2 * k.val + j.val) 0) (land_tile fm _ hk hj)) $$ HM
  iintro HM
  iapply (loadG c hk hj (l := 0) (by decide) (k0_off21_eq k j) rfl (tile fg (2 * k.val + j.val) 0) (gC_raw _ _ _ hk hj (by decide))) $$ HG
  iintro HG
  iapply (storeG c hk hj (l := 0) (by decide) (k0_off23_eq k j) (gmF fg fm) fg _ (pay2_at fg fm _ 0)) $$ HG
  iintro HG
  iapply (loadX c hk55 hj (l := 0) (by decide) (k0_off24_eq k j) rfl (tile fx (2 * k.val + j.val) 0) (land_tile fx _ hk hj)) $$ HX
  iintro HX
  iapply (loadA0 c (l := 0) (by decide) rfl) $$ H0
  iintro H0
  iapply (loadA0 c (l := 0) (by decide) rfl) $$ H0
  iintro H0
  iapply fupd_intro
  iapply (storeA0 c (l := 0) (by decide) rfl) $$ H0
  iintro H0
  iapply (loadA1 c (l := 0) (by decide) rfl) $$ H1
  iintro H1
  iapply (loadA1 c (l := 0) (by decide) rfl) $$ H1
  iintro H1
  iapply (storeA1 c (l := 0) (by decide) rfl) $$ H1
  iintro H1
  iapply (loadG c hk hj (l := 1) (by decide) (k0_off21_eq k j) rfl (tile fg (2 * k.val + j.val) 1) (gC_raw _ _ _ hk hj (by decide))) $$ HG
  iintro HG
  iapply (loadM c hk8 hj (l := 1) (by decide) (k0_off22_eq k j) rfl (tile fm (2 * k.val + j.val) 1) (land_tile fm _ hk hj)) $$ HM
  iintro HM
  iapply (loadG c hk hj (l := 1) (by decide) (k0_off21_eq k j) rfl (tile fg (2 * k.val + j.val) 1) (gC_raw _ _ _ hk hj (by decide))) $$ HG
  iintro HG
  iapply (storeG c hk hj (l := 1) (by decide) (k0_off25_eq k j) (gmF fg fm) fg _ (pay9_at fg fm _ 1)) $$ HG
  iintro HG
  iapply (loadX c hk55 hj (l := 1) (by decide) (k0_off24_eq k j) rfl (tile fx (2 * k.val + j.val) 1) (land_tile fx _ hk hj)) $$ HX
  iintro HX
  iapply (loadA0 c (l := 1) (by decide) rfl) $$ H0
  iintro H0
  iapply fupd_intro
  iapply (loadA0 c (l := 1) (by decide) rfl) $$ H0
  iintro H0
  iapply (storeA0 c (l := 1) (by decide) rfl) $$ H0
  iintro H0
  iapply (loadA1 c (l := 1) (by decide) rfl) $$ H1
  iintro H1
  iapply (loadA1 c (l := 1) (by decide) rfl) $$ H1
  iintro H1
  iapply (storeA1 c (l := 1) (by decide) rfl) $$ H1
  iintro H1
  iapply fupd_intro
  isplitl [HN]; · iexact HN
  isplitl [HG]; · rw [← gC_step]; iexact HG
  isplitl [HM]; · iexact HM
  isplitl [HX]; · iexact HX
  isplitl [H0]; · iexact H0
  iexact H1

end Cert.KernelIdeal.Hand

end
-- ==== Proof.IPass1.lean ====
/-
  The first pass: one trip starts the copies seven chunks ahead, waits for its own three and works on it.
-/
module

public import proofs.«01_k».proof.Proof.IInner
public import Idealize.ShloMosaic.Lib.Pipeline.FrameBody
public import Idealize.ShloMosaic.Lib.Ring
public import Idealize.ShloMosaic.Lib.Tactic

@[expose] public section

set_option maxRecDepth 16384

noncomputable section

namespace Cert.KernelIdeal.Hand

open Cert.KernelIdeal Cert.KernelIdeal.Gen Cert.Geo
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (AtW AtW_focus restW)

variable {F : FTy → Type} [FloatOps F]

local notation "𝕄" => MT nD τ sig Unit (Elt F) ℕ (Pipeline.UD sig nD τ) ℕ

theorem loop_gen (c : Dev nD) (L : Scf.Loop 32) (ok : L.OK) (body : Fin L.trips → Unit → Prog (TpuEff nD τ sig (Elt F) Λ₀ .tc) Unit) (I : ℕ → sProp 𝕄)
    (hbody : ∀ k u, I k.val ⊢ WP (F := F) c (body k u) (fun _ => I (k.val + 1))) {Q : Unit → sProp 𝕄} :
    I 0 ⊢ iprop((I L.trips -∗ Q ⟨⟩) -∗ WP (F := F) c (Scf.Loop.for L ok ⟨⟩ body) Q) := by
  iintro HI HQ
  iapply (Scf.wp_for frame (wpE (defs₀ (F := F)) Variants.none (c : Thread nD τ) none) Set.univ L.lb L.ub L.st ok ⟨⟩ body (fun k _ => I k) hbody)
  isplitl [HI]; · iexact HI
  iintro %u HI
  iapply HQ
  iexact HI

/-- The rest of the ring while the landed slot of position `p` is set apart. -/
def xHold (c : Dev nD) (fx : BufX (F := F)) (n w p : ℕ) : sProp 𝕄 :=
  iprop((semVal ((c : Thread nD τ), .dma (xSem (slot 55 p))) 0 ∗ xPart c (slot 55 p) Finset.univ fx) ∗ restW (XΦ c fx) (rst 55 n w) (slot 55 p))
theorem takeX (c : Dev nD) (fx : BufX (F := F)) {n w p : ℕ} (q : ℕ) (hq : p % 98 = q) (h1 : p < w) (h2 : p < n) (h3 : n ≤ p + 55) :
    AtW (XΦ c fx) (rst 55 n w) = iprop(xSlab c (p % 55) (land 55 fx q) ∗ xHold c fx n w p) := by
  subst hq
  have e : XΦ c fx (slot 55 p) (some (false, p)) = iprop(xSlab c (p % 55) (land 55 fx (p % 98)) ∗ semVal ((c : Thread nD τ), .dma (xSem (slot 55 p))) 0 ∗ xPart c (slot 55 p) Finset.univ fx) := rfl
  rw [AtW_focus (XΦ c fx) (rst 55 n w) (slot 55 p), rst_landed (N := 55) (by unfold RingSize; decide) h1 h2 h3, e]
  unfold xHold
  exact BI.equiv_iff.mp ⟨BI.sep_assoc, BI.sep_assoc'⟩

/-- The rest of the ring while the landed slot of position `p` is set apart. -/
def mHold (c : Dev nD) (fx : BufM (F := F)) (n w p : ℕ) : sProp 𝕄 :=
  iprop((semVal ((c : Thread nD τ), .dma (mSem (slot 8 p))) 0 ∗ mPart c (slot 8 p) Finset.univ fx) ∗ restW (MΦ c fx) (rst 8 n w) (slot 8 p))
theorem takeM (c : Dev nD) (fx : BufM (F := F)) {n w p : ℕ} (q : ℕ) (hq : p % 98 = q) (h1 : p < w) (h2 : p < n) (h3 : n ≤ p + 8) :
    AtW (MΦ c fx) (rst 8 n w) = iprop(mSlab c (p % 8) (land 8 fx q) ∗ mHold c fx n w p) := by
  subst hq
  have e : MΦ c fx (slot 8 p) (some (false, p)) = iprop(mSlab c (p % 8) (land 8 fx (p % 98)) ∗ semVal ((c : Thread nD τ), .dma (mSem (slot 8 p))) 0 ∗ mPart c (slot 8 p) Finset.univ fx) := rfl
  rw [AtW_focus (MΦ c fx) (rst 8 n w) (slot 8 p), rst_landed (N := 8) (by unfold RingSize; decide) h1 h2 h3, e]
  unfold mHold
  exact BI.equiv_iff.mp ⟨BI.sep_assoc, BI.sep_assoc'⟩

theorem cond1_iff : ∀ k : Fin k0_t1_loop.trips, k0_cond1 k = 1#1 ↔ k.val + 7 < 98 := by decide +kernel

/-- The copies in flight when `n` are started and `w` waited for. -/
def flight1 (c : Dev nD) (fx : BufX (F := F)) (fg : BufG (F := F)) (fm : BufM (F := F)) (n w v : ℕ) : sProp 𝕄 :=
  iprop(AtW (XΦ c fx) (rst 55 n w) ∗ AtW (GΦ c fg) (rst 8 n w) ∗ AtW (MΦ c fm) (rst 8 n w) ∗ AtW (SΦ c (slabs (gmF fg fm))) (sst n v))

variable (a0 : Memref sig .tc .smem S1 .f32) (h0 : a0.IsWhole) (a1 : Memref sig .tc .smem S1 .f32) (h1 : a1.IsWhole)
  (a2 : Memref sig .tc .vmem S1x256 .f32) (h2 : a2.IsWhole) (a3 : Memref sig .tc .vmem S1x256 .f32) (h3 : a3.IsWhole)
  (a4 : Memref sig .tc .vmem S1x256 .f32) (h4 : a4.IsWhole) (a9 : Memref sig .tc .vmem S1x256 .f32) (h9 : a9.IsWhole)
  (a10 : Memref sig .tc .vmem S1x256 .f32) (h10 : a10.IsWhole)

/-- The same, the slab of chunk `k` set apart. -/
def flight2 (c : Dev nD) (fx : BufX (F := F)) (fg : BufG (F := F)) (fm : BufM (F := F)) (n k : ℕ) : sProp 𝕄 :=
  iprop(AtW (XΦ c fx) (rst 55 n (k + 1)) ∗ AtW (GΦ c fg) (rst 8 n (k + 1)) ∗ AtW (MΦ c fm) (rst 8 n (k + 1)) ∗ AtW (SΦ c (slabs (gmF fg fm))) (sst n k)
    ∗ gSlab c k (land 98 fg k) ∗ (∃ W, owes (c : Thread nD τ) 0 W))

theorem part3_spec (c : Dev nD) (fx : BufX (F := F)) (fg : BufG (F := F)) (fm : BufM (F := F)) (k : Fin k0_t1_loop.trips) (y z : BitVec 32) {Q : BitVec 32 → sProp 𝕄} :
    iprop(flight1 c fx fg fm (min (k.val + 7) 98) k.val k.val ∗ (∃ W, owes (c : Thread nD τ) 0 W))
      ⊢ iprop((flight2 c fx fg fm (min (k.val + 1 + 7) 98) k.val -∗ Q 0#32) -∗ WP (F := F) c (k0_part3 (F := F) a0 h0 a1 h1 a2 h2 a3 h3 a4 h4 XH (Memref.isWhole_whole _) GH (Memref.isWhole_whole _) MH (Memref.isWhole_whole _) OH (Memref.isWhole_whole _) a9 h9 a10 h10 XB (Memref.isWhole_whole _) GB (Memref.isWhole_whole _) MB (Memref.isWhole_whole _) OB (Memref.isWhole_whole _) NB (Memref.isWhole_whole _) A0 (Memref.isWhole_whole _) A1 (Memref.isWhole_whole _) CB (Memref.isWhole_whole _) cc0_scratch8 cc0_scratch9 cc0_scratch10 cc0_scratch11 y z k) Q) := by
  have hk : k.val < 98 := k.isLt
  rw [k0_part3_eq_skeleton]
  unfold k0_part3_skel flight1
  by_cases h7 : k.val + 7 < 98
  · simp only [dif_pos ((cond1_iff k).mpr h7), wp_bind, wp_pure]
    rw [Nat.min_eq_left (by omega : k.val + 7 ≤ 98), Nat.min_eq_left (by omega : k.val + 1 + 7 ≤ 98)]
    iintro ⟨⟨HX, HG, HM, HS⟩, HO⟩ HQ
    iapply (issueX c fx (n := k.val + 7) (w := k.val) (by omega) (by omega) (k0_off8_eq k) (k0_off9_eq k) (sem_at _ (Nat.mod_lt _ (by decide)) (k0_off7_eq k) _)) $$ HX
    iintro HX
    iapply (issueG c fg (slabs (gmF fg fm)) (n := k.val + 7) (w := k.val) (v := k.val) (by omega) (by omega) (by omega) h7 (k0_off11_eq k)
      (Eq.trans (k0_off12_eq k) (by rw [show 1536 * k.val + 10752 = 1536 * (k.val + 7) by omega])) (sem_at _ (Nat.mod_lt _ (by decide)) (k0_off10_eq k) _)) $$ [HG HS]
    · isplitl [HG]; · iexact HG
      iexact HS
    iintro ⟨HG, HS⟩
    iapply (issueM c fm (n := k.val + 7) (w := k.val) (by omega) (by omega) (k0_off13_eq k)
      (Eq.trans (k0_off12_eq k) (by rw [show 1536 * k.val + 10752 = 1536 * ((k.val + 7) % 98) by omega])) (sem_at _ (Nat.mod_lt _ (by decide)) (k0_off10_eq k) _)) $$ HM
    iintro HM
    rw [show k.val + 7 + 1 = k.val + 1 + 7 by omega]
    iapply (waitX c fx (n := k.val + 1 + 7) (w := k.val) (dst := slotX (k0_off15 k) (k0_off15_inb k)) (by omega) (by omega) (sem_at _ (Nat.mod_lt _ (by decide)) (k0_off14_eq k) _) rfl) $$ [HX HO]
    · isplitl [HX]; · iexact HX
      iexact HO
    iintro ⟨HX, HO⟩
    iapply (waitG c fg (n := k.val + 1 + 7) (w := k.val) (dst := slotG (k0_off18 k) (k0_off18_inb k)) (by omega) (by omega) hk (sem_at _ (Nat.mod_lt _ (by decide)) (k0_off17_eq k) _) rfl) $$ [HG HO]
    · isplitl [HG]; · iexact HG
      iexact HO
    iintro ⟨HG, HSl, HO⟩
    iapply (waitM c fm (n := k.val + 1 + 7) (w := k.val) (dst := slotM (k0_off20 k) (k0_off20_inb k)) (by omega) (by omega) (sem_at _ (Nat.mod_lt _ (by decide)) (k0_off17_eq k) _) rfl) $$ [HM HO]
    · isplitl [HM]; · iexact HM
      iexact HO
    iintro ⟨HM, HO⟩
    iapply fupd_intro
    iapply HQ
    unfold flight2
    isplitl [HX]; · iexact HX
    isplitl [HG]; · iexact HG
    isplitl [HM]; · iexact HM
    isplitl [HS]; · iexact HS
    isplitl [HSl]; · iexact HSl
    iexact HO
  · simp only [dif_neg (fun h => h7 ((cond1_iff k).mp h)), wp_bind, wp_pure]
    rw [Nat.min_eq_right (by omega : 98 ≤ k.val + 7), Nat.min_eq_right (by omega : 98 ≤ k.val + 1 + 7)]
    iintro ⟨⟨HX, HG, HM, HS⟩, HO⟩ HQ
    iapply (waitX c fx (n := 98) (w := k.val) (dst := slotX (k0_off15 k) (k0_off15_inb k)) (by omega) (by omega) (sem_at _ (Nat.mod_lt _ (by decide)) (k0_off14_eq k) _) rfl) $$ [HX HO]
    · isplitl [HX]; · iexact HX
      iexact HO
    iintro ⟨HX, HO⟩
    iapply (waitG c fg (n := 98) (w := k.val) (dst := slotG (k0_off18 k) (k0_off18_inb k)) (by omega) (by omega) hk (sem_at _ (Nat.mod_lt _ (by decide)) (k0_off17_eq k) _) rfl) $$ [HG HO]
    · isplitl [HG]; · iexact HG
      iexact HO
    iintro ⟨HG, HSl, HO⟩
    iapply (waitM c fm (n := 98) (w := k.val) (dst := slotM (k0_off20 k) (k0_off20_inb k)) (by omega) (by omega) (sem_at _ (Nat.mod_lt _ (by decide)) (k0_off17_eq k) _) rfl) $$ [HM HO]
    · isplitl [HM]; · iexact HM
      iexact HO
    iintro ⟨HM, HO⟩
    iapply fupd_intro
    iapply HQ
    unfold flight2
    isplitl [HX]; · iexact HX
    isplitl [HG]; · iexact HG
    isplitl [HM]; · iexact HM
    isplitl [HS]; · iexact HS
    isplitl [HSl]; · iexact HSl
    iexact HO

theorem SΦ_two (c : Dev nD) (fM : S98x1536x256.Idx → Elt F .fp8e5m2) (j : Fin 98) : SΦ c fM j 2 = gSlab c j.val fM := rfl

/-- What the first pass holds before trip `k`. -/
def inv1 (c : Dev nD) (fx : BufX (F := F)) (fg : BufG (F := F)) (fm : BufM (F := F)) (k : ℕ) : sProp 𝕄 :=
  iprop((flight1 c fx fg fm (min (k + 7) 98) k k ∗ (∃ W, owes (c : Thread nD τ) 0 W))
    ∗ bufN c k0_pay15 ∗ bufA0 c (acc0N fg fm (2 * k)) ∗ bufA1 c (acc1N fx fg fm (2 * k)))

theorem t1_step (c : Dev nD) (fx : BufX (F := F)) (fg : BufG (F := F)) (fm : BufM (F := F)) (k : Fin k0_t1_loop.trips) (u : Unit) :
    inv1 c fx fg fm k.val ⊢ WP (F := F) c (k0_t1_body (F := F) a0 h0 a1 h1 a2 h2 a3 h3 a4 h4 XH (Memref.isWhole_whole _) GH (Memref.isWhole_whole _) MH (Memref.isWhole_whole _) OH (Memref.isWhole_whole _) a9 h9 a10 h10 XB (Memref.isWhole_whole _) GB (Memref.isWhole_whole _) MB (Memref.isWhole_whole _) OB (Memref.isWhole_whole _) NB (Memref.isWhole_whole _) A0 (Memref.isWhole_whole _) A1 (Memref.isWhole_whole _) CB (Memref.isWhole_whole _) cc0_scratch8 cc0_scratch9 cc0_scratch10 cc0_scratch11 k u) (fun _ => inv1 c fx fg fm (k.val + 1)) := by
  have hk : k.val < 98 := k.isLt
  have e98 : k.val % 98 = k.val := Nat.mod_eq_of_lt hk
  unfold k0_t1_body
  simp only [wp_bind, wp_pure]
  unfold inv1
  iintro ⟨HF, HN, H0, H1⟩
  iapply (part3_spec a0 h0 a1 h1 a2 h2 a3 h3 a4 h4 a9 h9 a10 h10 c fx fg fm k _ _) $$ HF
  iintro HF
  unfold flight2
  icases HF with ⟨HX, HG, HM, HS, HSl, HO⟩
  ihave HX := (by rw [takeX c fx k.val e98 (Nat.lt_succ_self _) (by omega) (by omega)] : AtW (XΦ c fx) (rst 55 (min (k.val + 1 + 7) 98) (k.val + 1)) ⊢ iprop(xSlab c (k.val % 55) (land 55 fx k.val) ∗ xHold c fx (min (k.val + 1 + 7) 98) (k.val + 1) k.val)) $$ HX
  ihave HM := (by rw [takeM c fm k.val e98 (Nat.lt_succ_self _) (by omega) (by omega)] : AtW (MΦ c fm) (rst 8 (min (k.val + 1 + 7) 98) (k.val + 1)) ⊢ iprop(mSlab c (k.val % 8) (land 8 fm k.val) ∗ mHold c fm (min (k.val + 1 + 7) 98) (k.val + 1) k.val)) $$ HM
  icases HX with ⟨HX, HXw⟩
  icases HM with ⟨HM, HMw⟩
  iapply (loop_gen c k0_t2_loop k0_t2_ok _ (inv2 c fx fg fm k.val) (fun j u => t2_step a0 h0 a1 h1 a2 h2 a3 h3 a4 h4 a9 h9 a10 h10 c fx fg fm k 0#32 j u)) $$ [HN H0 H1 HX HM HSl]
  · unfold inv2
    isplitl [HN]; · iexact HN
    isplitl [HSl]; · rw [gC_zero]; iexact HSl
    isplitl [HM]; · iexact HM
    isplitl [HX]; · iexact HX
    isplitl [H0]; · iexact H0
    iexact H1
  iintro HI
  rw [show k0_t2_loop.trips = 2 from rfl]
  unfold inv2
  icases HI with ⟨HN, HSl, HM, HX, H0, H1⟩
  iapply fupd_intro
  isplitl [HX HXw HG HM HMw HS HSl HO]
  · isplitr [HO]
    · unfold flight1
      isplitl [HX HXw]
      · rw [takeX c fx k.val e98 (Nat.lt_succ_self _) (by omega) (by omega)]
        isplitl [HX]; · iexact HX
        iexact HXw
      isplitl [HG]; · iexact HG
      isplitl [HM HMw]
      · rw [takeM c fm k.val e98 (Nat.lt_succ_self _) (by omega) (by omega)]
        isplitl [HM]; · iexact HM
        iexact HMw
      rw [sst_done (n := min (k.val + 1 + 7) 98) (w := k.val) (by omega) hk]
      ihave HS := (by rw [AtW_focus (SΦ c (slabs (gmF fg fm))) (sst (min (k.val + 1 + 7) 98) k.val) ⟨k.val, hk⟩] : AtW (SΦ c (slabs (gmF fg fm))) (sst (min (k.val + 1 + 7) 98) k.val) ⊢ iprop(SΦ c (slabs (gmF fg fm)) ⟨k.val, hk⟩ (sst (min (k.val + 1 + 7) 98) k.val ⟨k.val, hk⟩) ∗ restW (SΦ c (slabs (gmF fg fm))) (sst (min (k.val + 1 + 7) 98) k.val) ⟨k.val, hk⟩)) $$ HS
      rw [sst_away (n := min (k.val + 1 + 7) 98) (w := k.val) (by omega) hk]
      icases HS with ⟨-, HSr⟩
      iapply (Ring.AtW_update (SΦ c (slabs (gmF fg fm))) (sst (min (k.val + 1 + 7) 98) k.val) ⟨k.val, hk⟩ 2)
      isplitl [HSl]
      · ihave HSl := (by rw [SΦ_two, gSlab, gSlab, pointsTo_congr (gC_full (gmF fg fm) fg k.val)] : gSlab c k.val (gC (gmF fg fm) fg k.val 2 0) ⊢ SΦ c (slabs (gmF fg fm)) ⟨k.val, hk⟩ 2) $$ HSl
        iexact HSl
      · iexact HSr
    · iexact HO
  isplitl [HN]; · iexact HN
  isplitl [H0]; · iexact H0
  iexact H1

end Cert.KernelIdeal.Hand

end
-- ==== Proof.IPass2.lean ====
/-
  The second pass: one trip brings a chunk back if it has left, works out its block of the result and starts copying it out.
-/
module

public import proofs.«01_k».proof.Proof.IPass1
public import Idealize.ShloMosaic.Lib.Pipeline.FrameBody
public import Idealize.ShloMosaic.Lib.Ring
public import Idealize.ShloMosaic.Lib.Tactic

@[expose] public section

set_option maxRecDepth 16384

noncomputable section

namespace Cert.KernelIdeal.Hand

open Cert.KernelIdeal Cert.KernelIdeal.Gen Cert.Geo
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (AtW AtW_focus restW)

variable {F : FTy → Type} [FloatOps F]

local notation "𝕄" => MT nD τ sig Unit (Elt F) ℕ (Pipeline.UD sig nD τ) ℕ

abbrev bufC (c : Dev nD) (f : S8x256.Idx → Elt F .f32) : sProp 𝕄 := CB.view.loc (c : Thread nD τ) ↦[Finset.univ]{fullShare} f

theorem loadC (c : Dev nD) {r : ℕ} (hr : r < 8) {inb} {f : S8x256.Idx → Elt F .f32} (T : S1x256.Idx → Elt F .f32) (hT : ∀ x : S1x256.Idx, f (ix2 ⟨r, hr⟩ (x 1)) = T x)
    {hld} {Q : (S1x256.Idx → Elt F .f32) → sProp 𝕄} :
    bufC c f ⊢ iprop((bufC c f -∗ Q T) -∗ WP (F := F) c (Prog.lift (.load CB (Rect.unit (s := S8x256) ![r, 0] S1x256.size inb).toLoadRect hld)) Q) :=
  load_gen c CB (Rect.unit (s := S8x256) ![r, 0] S1x256.size inb) hld Finset.univ f T (Finset.subset_univ _) (funext fun x => (congrArg f (emb_row hr rfl inb x)).trans (hT x))

/-- One block row of the result. -/
def fDX (r0 r1 r2 : FVec F S1x256 .f32) (fx : BufX (F := F)) (gm : BufG (F := F)) : BufO (F := F) := fun i =>
  k0_pay31 r0 r1 r2 (half fx ((i 0).val / 768)) (half gm ((i 0).val / 768)) (ix3 (0 : Fin 1) (⟨(i 0).val % 768, Nat.mod_lt _ (by decide)⟩ : Fin 768) (i 1))

theorem fDX_half (r0 r1 r2 : FVec F S1x256 .f32) (fx : BufX (F := F)) (gm : BufG (F := F)) {H : ℕ} (hH : H < 196) (x : S1x768x256.Idx) :
    fDX r0 r1 r2 fx gm (ix2 (rowH H (x 1).val) (x 2)) = k0_pay31 r0 r1 r2 (half fx H) (half gm H) x := by
  have h1 : (x 1).val < 768 := (x 1).isLt
  have hv : (rowH H (x 1).val).val = 768 * H + (x 1).val := rowH_val hH h1
  have hd : (768 * H + (x 1).val) / 768 = H := by omega
  have hm : (768 * H + (x 1).val) % 768 = (x 1).val := by omega
  show k0_pay31 r0 r1 r2 (half fx ((rowH H (x 1).val).val / 768)) (half gm ((rowH H (x 1).val).val / 768))
    (ix3 (0 : Fin 1) (⟨(rowH H (x 1).val).val % 768, Nat.mod_lt _ (by decide)⟩ : Fin 768) (x 2)) = _
  have hx : (ix3 (0 : Fin 1) (⟨(rowH H (x 1).val).val % 768, Nat.mod_lt _ (by decide)⟩ : Fin 768) (x 2) : S1x768x256.Idx) = x := by
    rw [eq_ix3 x]
    congr 1
    · exact Subsingleton.elim (α := Fin 1) _ _
    · exact Fin.ext (by rw [hv]; exact hm)
  rw [hx, hv, hd]

/-- The block under construction once half `j` is done. -/
def putO (fD : BufO (F := F)) (p j : ℕ) (fo : S3x1536x256.Idx → Elt F .bf16) : S3x1536x256.Idx → Elt F .bf16 := fun i =>
  if (i 1).val / 768 = j then fD (ix2 (rowN p (i 1).val) (i 2)) else fo i

theorem loadHX (c : Dev nD) {s j : ℕ} (hs : s < 55) (hj : j < 2) {off : Fin 3 → ℕ} (hoff : off = ![s, 768 * j, 0]) {inb}
    {f : S55x1536x256.Idx → Elt F .fp8e4m3} (T : S1x768x256.Idx → Elt F .fp8e4m3)
    (hT : ∀ x : S1x768x256.Idx, f (ix3 ⟨s, hs⟩ (rowI j (x 1).val) (x 2)) = T x) {hld} {Q : (S1x768x256.Idx → Elt F .fp8e4m3) → sProp 𝕄} :
    xSlab c s f ⊢ iprop((xSlab c s f -∗ Q T) -∗ WP (F := F) c (Prog.lift (.load XB (Rect.unit (s := S55x1536x256) off S1x768x256.size inb).toLoadRect hld)) Q) :=
  have e : ∀ x : S1x768x256.Idx, ((XB.access (Rect.unit (s := S55x1536x256) off S1x768x256.size inb)).emb x : S55x1536x256.Idx) = ix3 ⟨s, hs⟩ (rowI j (x 1).val) (x 2) :=
    fun x => emb_half hs hj hoff inb x
  load_gen c XB (Rect.unit (s := S55x1536x256) off S1x768x256.size inb) hld (slab 55 s) f T (set_sub _ _ fun x => by rw [e x]; exact mem_slab.mpr rfl) (funext fun x => (congrArg f (e x)).trans (hT x))

theorem loadHG (c : Dev nD) {s j : ℕ} (hs : s < 98) (hj : j < 2) {off : Fin 3 → ℕ} (hoff : off = ![s, 768 * j, 0]) {inb}
    {f : S98x1536x256.Idx → Elt F .fp8e5m2} (T : S1x768x256.Idx → Elt F .fp8e5m2)
    (hT : ∀ x : S1x768x256.Idx, f (ix3 ⟨s, hs⟩ (rowI j (x 1).val) (x 2)) = T x) {hld} {Q : (S1x768x256.Idx → Elt F .fp8e5m2) → sProp 𝕄} :
    gSlab c s f ⊢ iprop((gSlab c s f -∗ Q T) -∗ WP (F := F) c (Prog.lift (.load GB (Rect.unit (s := S98x1536x256) off S1x768x256.size inb).toLoadRect hld)) Q) :=
  have e : ∀ x : S1x768x256.Idx, ((GB.access (Rect.unit (s := S98x1536x256) off S1x768x256.size inb)).emb x : S98x1536x256.Idx) = ix3 ⟨s, hs⟩ (rowI j (x 1).val) (x 2) :=
    fun x => emb_half hs hj hoff inb x
  load_gen c GB (Rect.unit (s := S98x1536x256) off S1x768x256.size inb) hld (slab 98 s) f T (set_sub _ _ fun x => by rw [e x]; exact mem_slab.mpr rfl) (funext fun x => (congrArg f (e x)).trans (hT x))

theorem loadHO (c : Dev nD) {s j : ℕ} (hs : s < 3) (hj : j < 2) {off : Fin 3 → ℕ} (hoff : off = ![s, 768 * j, 0]) {inb}
    {f : S3x1536x256.Idx → Elt F .bf16} (T : S1x768x256.Idx → Elt F .bf16)
    (hT : ∀ x : S1x768x256.Idx, f (ix3 ⟨s, hs⟩ (rowI j (x 1).val) (x 2)) = T x) {hld} {Q : (S1x768x256.Idx → Elt F .bf16) → sProp 𝕄} :
    oSlab c s f ⊢ iprop((oSlab c s f -∗ Q T) -∗ WP (F := F) c (Prog.lift (.load OB (Rect.unit (s := S3x1536x256) off S1x768x256.size inb).toLoadRect hld)) Q) :=
  have e : ∀ x : S1x768x256.Idx, ((OB.access (Rect.unit (s := S3x1536x256) off S1x768x256.size inb)).emb x : S3x1536x256.Idx) = ix3 ⟨s, hs⟩ (rowI j (x 1).val) (x 2) :=
    fun x => emb_half hs hj hoff inb x
  load_gen c OB (Rect.unit (s := S3x1536x256) off S1x768x256.size inb) hld (slab 3 s) f T (set_sub _ _ fun x => by rw [e x]; exact mem_slab.mpr rfl) (funext fun x => (congrArg f (e x)).trans (hT x))

theorem storeO (c : Dev nD) {s p j : ℕ} (hs : s < 3) (hp : p < 98) (hj : j < 2) {off : Fin 3 → ℕ} (hoff : off = ![s, 768 * j, 0]) {inb}
    (fD : BufO (F := F)) {fo : S3x1536x256.Idx → Elt F .bf16} (w : S1x768x256.Idx → Elt F .bf16) (hw : ∀ x : S1x768x256.Idx, fD (ix2 (rowH (2 * p + j) (x 1).val) (x 2)) = w x) {hx} {hm} {Q : PUnit → sProp 𝕄} :
    oSlab c s fo ⊢ iprop((oSlab c s (putO fD p j fo) -∗ Q ⟨⟩) -∗ WP (F := F) c (Prog.lift (.store OB (Rect.unit (s := S3x1536x256) off S1x768x256.size inb) w Finset.univ hx hm)) Q) :=
  have e : ∀ x : S1x768x256.Idx, ((OB.access (Rect.unit (s := S3x1536x256) off S1x768x256.size inb)).emb x : S3x1536x256.Idx) = ix3 ⟨s, hs⟩ (rowI j (x 1).val) (x 2) :=
    fun x => emb_half hs hj hoff inb x
  store_gen c OB (Rect.unit (s := S3x1536x256) off S1x768x256.size inb) w (slab 3 s) fo (putO fD p j fo) (set_sub _ _ fun x => by rw [e x]; exact mem_slab.mpr rfl)
    (write_eq (OB.access (Rect.unit (s := S3x1536x256) off S1x768x256.size inb)) fo (putO fD p j fo) w (slab 3 s)
      (fun x _ => (congrArg (putO fD p j fo) (e x)).trans (by
        have h1 : (x 1).val < 768 := (x 1).isLt
        have hv : (rowI j (x 1).val).val = 768 * j + (x 1).val := rowI_val hj h1
        show (if (rowI j (x 1).val).val / 768 = j then fD (ix2 (rowN p (rowI j (x 1).val).val) (x 2)) else _) = _
        rw [if_pos (by rw [hv]; omega), rowN_rowI hp hj h1]
        exact hw x))
      (fun i hi hn => by
        unfold putO
        rw [if_neg]
        intro hd
        have hi0 : (i 0).val = s := mem_slab.mp hi
        have hlt : (i 1).val < 1536 := (i 1).isLt
        refine hn ?_
        have hx : (i : S3x1536x256.Idx) = (OB.access (Rect.unit (s := S3x1536x256) off S1x768x256.size inb)).emb (ix3 (0 : Fin 1) (⟨(i 1).val % 768, Nat.mod_lt _ (by decide)⟩ : Fin 768) (i 2) : S1x768x256.Idx) := by
          rw [e]
          have hq : (i : S3x1536x256.Idx) = ix3 (i 0) (i 1) (i 2) := eq_ix3 i
          refine hq.trans ?_
          congr 1
          · exact Fin.ext hi0
          · refine Fin.ext ?_
            have hv : (rowI j ((i 1).val % 768)).val = 768 * j + (i 1).val % 768 := rowI_val hj (Nat.mod_lt _ (by decide))
            show (i 1).val = (rowI j ((i 1).val % 768)).val
            rw [hv]; omega
        rw [hx]; exact View.emb_mem_set _ _))

variable (a0 : Memref sig .tc .smem S1 .f32) (h0 : a0.IsWhole) (a1 : Memref sig .tc .smem S1 .f32) (h1 : a1.IsWhole)
  (a2 : Memref sig .tc .vmem S1x256 .f32) (h2 : a2.IsWhole) (a3 : Memref sig .tc .vmem S1x256 .f32) (h3 : a3.IsWhole)
  (a4 : Memref sig .tc .vmem S1x256 .f32) (h4 : a4.IsWhole) (a9 : Memref sig .tc .vmem S1x256 .f32) (h9 : a9.IsWhole)
  (a10 : Memref sig .tc .vmem S1x256 .f32) (h10 : a10.IsWhole)

/-- What the inner loop of trip `k` of the second pass holds before half `j`. -/
def inv4 (c : Dev nD) (fx : BufX (F := F)) (gm : BufG (F := F)) (fD : BufO (F := F)) (f : S8x256.Idx → Elt F .f32) (k j : ℕ) : sProp 𝕄 :=
  iprop(bufC c f ∗ xSlab c ((k + 43) % 55) (land 55 fx ((k + 43) % 98)) ∗ gSlab c ((k + 43) % 98) (slabs gm)
    ∗ ∃ fo, oSlab c (k % 3) fo ∗ ⌜∀ (a : Fin 1536) (b : Fin 256), a.val < 768 * j → fo (ix3 ⟨k % 3, Nat.mod_lt _ (by decide)⟩ a b) = fD (ix2 (rowN ((k + 43) % 98) a.val) b)⌝)

theorem t4_step (c : Dev nD) (fx : BufX (F := F)) (gm : BufG (F := F)) (r0 r1 r2 : FVec F S1x256 .f32) (f : S8x256.Idx → Elt F .f32)
    (hf0 : ∀ x : S1x256.Idx, f (ix2 ⟨0, by decide⟩ (x 1)) = r0 x) (hf1 : ∀ x : S1x256.Idx, f (ix2 ⟨1, by decide⟩ (x 1)) = r1 x) (hf2 : ∀ x : S1x256.Idx, f (ix2 ⟨2, by decide⟩ (x 1)) = r2 x)
    (v188 v189 : Elt F .f32) (v191 v193 v195 v203 v205 v206 : FVec F S1x256 .f32) (k : Fin k0_t3_loop.trips) (j : Fin k0_t4_loop.trips) (u : Unit) :
    inv4 c fx gm (fDX r0 r1 r2 fx gm) f k.val j.val ⊢ WP (F := F) c (k0_t4_body (F := F) a0 h0 a1 h1 a2 h2 a3 h3 a4 h4 XH (Memref.isWhole_whole _) GH (Memref.isWhole_whole _) MH (Memref.isWhole_whole _) OH (Memref.isWhole_whole _) a9 h9 a10 h10 XB (Memref.isWhole_whole _) GB (Memref.isWhole_whole _) MB (Memref.isWhole_whole _) OB (Memref.isWhole_whole _) NB (Memref.isWhole_whole _) A0 (Memref.isWhole_whole _) A1 (Memref.isWhole_whole _) CB (Memref.isWhole_whole _) cc0_scratch8 cc0_scratch9 cc0_scratch10 cc0_scratch11 v188 v189 v191 v193 v195 v203 v205 v206 k j u) (fun _ => inv4 c fx gm (fDX r0 r1 r2 fx gm) f k.val (j.val + 1)) := by
  have hj : j.val < 2 := j.isLt
  have hp : (k.val + 43) % 98 < 98 := Nat.mod_lt _ (by decide)
  have h55 : (k.val + 43) % 55 < 55 := Nat.mod_lt _ (by decide)
  have hk3 : k.val % 3 < 3 := Nat.mod_lt _ (by decide)
  unfold k0_t4_body inv4
  simp only [wp_bind, wp_pure]
  iintro ⟨HC, HX, HG, ⟨%fo, HO, %hfo⟩⟩
  iapply (loadC c (r := 0) (by decide) r0 hf0) $$ HC
  iintro HC
  iapply (loadC c (r := 1) (by decide) r1 hf1) $$ HC
  iintro HC
  iapply (loadC c (r := 2) (by decide) r2 hf2) $$ HC
  iintro HC
  iapply (loadHX c h55 hj (k0_off35_eq k j) (half fx (2 * ((k.val + 43) % 98) + j.val)) (land_half fx _ hp hj)) $$ HX
  iintro HX
  iapply (loadHG c hp hj (k0_off36_eq k j) (half gm (2 * ((k.val + 43) % 98) + j.val)) (slabs_half gm hp hj)) $$ HG
  iintro HG
  iapply (loadHO c hk3 hj (k0_off37_eq k j) (fun x => fo (ix3 ⟨k.val % 3, hk3⟩ (rowI j.val (x 1).val) (x 2))) (fun _ => rfl)) $$ HO
  iintro HO
  iapply (storeO c hk3 hp hj (k0_off37_eq k j) (fDX r0 r1 r2 fx gm) _ (fDX_half r0 r1 r2 fx gm (by omega))) $$ HO
  iintro HO
  iapply fupd_intro
  isplitl [HC]; · iexact HC
  isplitl [HX]; · iexact HX
  isplitl [HG]; · iexact HG
  iexists _
  isplitl [HO]; · iexact HO
  ipureintro
  intro a b hab
  show (if a.val / 768 = j.val then fDX r0 r1 r2 fx gm (ix2 (rowN ((k.val + 43) % 98) a.val) b) else fo (ix3 ⟨k.val % 3, hk3⟩ a b)) = _
  by_cases hd : a.val / 768 = j.val
  · rw [if_pos hd]
  · rw [if_neg hd]
    exact hfo a b (by omega)

theorem cond2_iff : ∀ k : Fin k0_t3_loop.trips, k0_cond2 k = 1#1 ↔ (0 < k.val ∧ k.val ≤ 43) := by decide +kernel
theorem cond3_iff : ∀ k : Fin k0_t3_loop.trips, k0_cond3 k = 1#1 ↔ 3 ≤ k.val := by decide +kernel
theorem cond4_iff : ∀ k : Fin k0_t3_loop.trips, k0_cond4 k = 1#1 ↔ 55 ≤ k.val := by decide +kernel
theorem off29_eq : ∀ k : Fin k0_t3_loop.trips, k0_cond3 k = 1#1 → k0_off29 k = ![(k.val - 3) % 3] := by decide +kernel

/-- What the second pass holds, by the trips of its copies in and out. -/
def core3 (c : Dev nD) (fx : BufX (F := F)) (gm : BufG (F := F)) (fD : BufO (F := F)) (f : S8x256.Idx → Elt F .f32) (n w k v : ℕ) : sProp 𝕄 :=
  iprop(AtW (XΦ c fx) (rst 55 n w) ∗ AtW (SΦ c (slabs gm)) (sst 98 98) ∗ bufC c f ∗ AtW (OΦ c fD) (rst 3 k v) ∗ AtW (DΦ c fD) (sst k v))

theorem t3_tail (c : Dev nD) (fx : BufX (F := F)) (gm : BufG (F := F)) (r0 r1 r2 : FVec F S1x256 .f32) (f : S8x256.Idx → Elt F .f32)
    (hf0 : ∀ x : S1x256.Idx, f (ix2 ⟨0, by decide⟩ (x 1)) = r0 x) (hf1 : ∀ x : S1x256.Idx, f (ix2 ⟨1, by decide⟩ (x 1)) = r1 x) (hf2 : ∀ x : S1x256.Idx, f (ix2 ⟨2, by decide⟩ (x 1)) = r2 x)
    (v188 v189 : Elt F .f32) (v191 v193 v195 v203 v205 v206 : FVec F S1x256 .f32) (k : Fin k0_t3_loop.trips)
    {h1' : (slotO (k0_off40 k) (k0_off40_inb k)).view.WordExact} {h2' : (rowsO (k0_off39 k) (k0_off39_inb k)).view.WordExact}
    {h3' : DmaTarget.Typed (nD := nD) .vmem (.dma ((cc0_scratch11.slice (Rect.unit (s := S3) (k0_off38 k) S1.size (k0_off38_inb k))).squeeze S_ squeezes_S1_S_).sem) (.here (p := .tc) (rowsO (k0_off39 k) (k0_off39_inb k)))}
    {Q : PUnit → sProp 𝕄} :
    core3 c fx gm (fDX r0 r1 r2 fx gm) f (98 + min k.val 43) (max 98 (44 + k.val)) k.val (k.val - 2)
      ⊢ iprop((core3 c fx gm (fDX r0 r1 r2 fx gm) f (98 + min k.val 43) (max 98 (44 + k.val)) (k.val + 1) (k.val - 2) -∗ Q ⟨⟩)
        -∗ WP (F := F) c (Scf.Loop.for k0_t4_loop k0_t4_ok ⟨⟩ (k0_t4_body (F := F) a0 h0 a1 h1 a2 h2 a3 h3 a4 h4 XH (Memref.isWhole_whole _) GH (Memref.isWhole_whole _) MH (Memref.isWhole_whole _) OH (Memref.isWhole_whole _) a9 h9 a10 h10 XB (Memref.isWhole_whole _) GB (Memref.isWhole_whole _) MB (Memref.isWhole_whole _) OB (Memref.isWhole_whole _) NB (Memref.isWhole_whole _) A0 (Memref.isWhole_whole _) A1 (Memref.isWhole_whole _) CB (Memref.isWhole_whole _) cc0_scratch8 cc0_scratch9 cc0_scratch10 cc0_scratch11 v188 v189 v191 v193 v195 v203 v205 v206 k))
          (fun _ => WP (F := F) c (Prog.lift (.enqueueDma (slotO (k0_off40 k) (k0_off40_inb k)) (.here (rowsO (k0_off39 k) (k0_off39_inb k)))
            (.dma ((cc0_scratch11.slice (Rect.unit (s := S3) (k0_off38 k) S1.size (k0_off38_inb k))).squeeze S_ squeezes_S1_S_).sem) h1' h2' h3')) Q)) := by
  have hk : k.val < 98 := k.isLt
  have hp : (k.val + 43) % 98 < 98 := Nat.mod_lt _ (by decide)
  unfold core3
  iintro ⟨HX, HS, HC, HO, HD⟩ HQ
  ihave HX := (by rw [takeX c fx (p := k.val + 43) ((k.val + 43) % 98) rfl (by omega) (by omega) (by omega)] :
    AtW (XΦ c fx) (rst 55 (98 + min k.val 43) (max 98 (44 + k.val))) ⊢ iprop(xSlab c ((k.val + 43) % 55) (land 55 fx ((k.val + 43) % 98)) ∗ xHold c fx (98 + min k.val 43) (max 98 (44 + k.val)) (k.val + 43))) $$ HX
  icases HX with ⟨HX, HXw⟩
  ihave HS := (by rw [AtW_focus (SΦ c (slabs gm)) (sst 98 98) ⟨(k.val + 43) % 98, hp⟩, sst_fin ⟨(k.val + 43) % 98, hp⟩ hp, SΦ_two] :
    AtW (SΦ c (slabs gm)) (sst 98 98) ⊢ iprop(gSlab c ((k.val + 43) % 98) (slabs gm) ∗ restW (SΦ c (slabs gm)) (sst 98 98) ⟨(k.val + 43) % 98, hp⟩)) $$ HS
  icases HS with ⟨HS, HSr⟩
  ihave HO := (takeO c (fDX r0 r1 r2 fx gm) (n := k.val) (w := k.val - 2) (by omega)) $$ HO
  icases HO with ⟨⟨%fo, HO⟩, HOr⟩
  iapply (loop_gen c k0_t4_loop k0_t4_ok _ (inv4 c fx gm (fDX r0 r1 r2 fx gm) f k.val) (fun j u => t4_step a0 h0 a1 h1 a2 h2 a3 h3 a4 h4 a9 h9 a10 h10 c fx gm r0 r1 r2 f hf0 hf1 hf2 v188 v189 v191 v193 v195 v203 v205 v206 k j u)) $$ [HC HX HS HO]
  · unfold inv4
    isplitl [HC]; · iexact HC
    isplitl [HX]; · iexact HX
    isplitl [HS]; · iexact HS
    iexists fo
    isplitl [HO]; · iexact HO
    ipureintro
    intro a b h
    omega
  iintro HI
  rw [show k0_t4_loop.trips = 2 from rfl]
  unfold inv4
  icases HI with ⟨HC, HX, HS, ⟨%fo', HO, %hfo⟩⟩
  iapply (issueO c (fDX r0 r1 r2 fx gm) (n := k.val) (w := k.val - 2) (v := k.val - 2) (by omega) (by omega) hk (k0_off40_eq k) (k0_off39_eq k) (sem_at _ (Nat.mod_lt _ (by decide)) (k0_off38_eq k) _) fo'
    (fun a b => hfo a b (by have := a.isLt; omega))) $$ [HO HOr HD]
  · isplitl [HO]; · iexact HO
    isplitl [HOr]; · iexact HOr
    iexact HD
  iintro ⟨HO, HD⟩
  iapply HQ
  isplitl [HX HXw]
  · rw [takeX c fx (p := k.val + 43) ((k.val + 43) % 98) rfl (by omega) (by omega) (by omega)]
    isplitl [HX]; · iexact HX
    iexact HXw
  isplitl [HS HSr]
  · rw [AtW_focus (SΦ c (slabs gm)) (sst 98 98) ⟨(k.val + 43) % 98, hp⟩, sst_fin ⟨(k.val + 43) % 98, hp⟩ hp, SΦ_two]
    isplitl [HS]; · iexact HS
    iexact HSr
  isplitl [HC]; · iexact HC
  isplitl [HO]; · iexact HO
  iexact HD

/-- What the second pass holds before trip `k`. -/
def inv3 (c : Dev nD) (fx : BufX (F := F)) (gm : BufG (F := F)) (fD : BufO (F := F)) (f : S8x256.Idx → Elt F .f32) (k : ℕ) : sProp 𝕄 :=
  iprop(core3 c fx gm fD f (98 + min (k - 1) 43) (max 98 (43 + k)) k (k - 3) ∗ (∃ W, owes (c : Thread nD τ) 0 W))

theorem t3_step (c : Dev nD) (fx : BufX (F := F)) (gm : BufG (F := F)) (r0 r1 r2 : FVec F S1x256 .f32) (f : S8x256.Idx → Elt F .f32)
    (hf0 : ∀ x : S1x256.Idx, f (ix2 ⟨0, by decide⟩ (x 1)) = r0 x) (hf1 : ∀ x : S1x256.Idx, f (ix2 ⟨1, by decide⟩ (x 1)) = r1 x) (hf2 : ∀ x : S1x256.Idx, f (ix2 ⟨2, by decide⟩ (x 1)) = r2 x)
    (v188 v189 : Elt F .f32) (v191 v193 v195 v203 v205 v206 : FVec F S1x256 .f32) (k : Fin k0_t3_loop.trips) (u : Unit) :
    inv3 c fx gm (fDX r0 r1 r2 fx gm) f k.val ⊢ WP (F := F) c (k0_t3_body (F := F) a0 h0 a1 h1 a2 h2 a3 h3 a4 h4 XH (Memref.isWhole_whole _) GH (Memref.isWhole_whole _) MH (Memref.isWhole_whole _) OH (Memref.isWhole_whole _) a9 h9 a10 h10 XB (Memref.isWhole_whole _) GB (Memref.isWhole_whole _) MB (Memref.isWhole_whole _) OB (Memref.isWhole_whole _) NB (Memref.isWhole_whole _) A0 (Memref.isWhole_whole _) A1 (Memref.isWhole_whole _) CB (Memref.isWhole_whole _) cc0_scratch8 cc0_scratch9 cc0_scratch10 cc0_scratch11 v188 v189 v191 v193 v195 v203 v205 v206 k u) (fun _ => inv3 c fx gm (fDX r0 r1 r2 fx gm) f (k.val + 1)) := by
  have hk : k.val < 98 := k.isLt
  have e1 : k.val + 1 - 1 = k.val := rfl
  have e2 : 43 + (k.val + 1) = 44 + k.val := by omega
  have e3 : k.val + 1 - 3 = k.val - 2 := by omega
  unfold k0_t3_body inv3
  rw [e1, e2, e3]
  by_cases g0 : k.val = 0
  · simp only [dif_neg (fun h => absurd ((cond2_iff k).mp h) (by omega)), dif_neg (fun h => absurd ((cond3_iff k).mp h) (by omega)), dif_neg (fun h => absurd ((cond4_iff k).mp h) (by omega)), wp_bind, wp_pure]
    unfold core3
    rw [show 98 + min (k.val - 1) 43 = 98 + min k.val 43 by omega]
    iintro ⟨⟨HX, HS, HC, HO, HD⟩, HW⟩
    rw [show k.val - 3 = k.val - 2 by omega]
    rw [show max 98 (43 + k.val) = max 98 (44 + k.val) by omega]
    iapply (t3_tail a0 h0 a1 h1 a2 h2 a3 h3 a4 h4 a9 h9 a10 h10 c fx gm r0 r1 r2 f hf0 hf1 hf2 v188 v189 v191 v193 v195 v203 v205 v206 k) $$ [HX HS HC HO HD]
    · unfold core3
      isplitl [HX]; · iexact HX
      isplitl [HS]; · iexact HS
      isplitl [HC]; · iexact HC
      isplitl [HO]; · iexact HO
      iexact HD
    iintro HF
    unfold core3
    iapply fupd_intro
    isplitl [HF]; · iexact HF
    iexact HW
  by_cases g1 : k.val < 3
  · simp only [dif_pos ((cond2_iff k).mpr (by omega)), dif_neg (fun h => absurd ((cond3_iff k).mp h) (by omega)), dif_neg (fun h => absurd ((cond4_iff k).mp h) (by omega)), wp_bind, wp_pure]
    unfold core3
    rw [show 98 + min (k.val - 1) 43 = k.val + 97 by omega]
    iintro ⟨⟨HX, HS, HC, HO, HD⟩, HW⟩
    iapply (issueX c fx (n := k.val + 97) (w := max 98 (43 + k.val)) (by omega) (by omega) (k0_off27_eq k) (k0_off28_eq k) (sem_at _ (Nat.mod_lt _ (by decide)) (k0_off26_eq k) _)) $$ HX
    iintro HX
    rw [show k.val + 97 + 1 = 98 + min k.val 43 by omega]
    rw [show k.val - 3 = k.val - 2 by omega]
    rw [show max 98 (43 + k.val) = max 98 (44 + k.val) by omega]
    iapply (t3_tail a0 h0 a1 h1 a2 h2 a3 h3 a4 h4 a9 h9 a10 h10 c fx gm r0 r1 r2 f hf0 hf1 hf2 v188 v189 v191 v193 v195 v203 v205 v206 k) $$ [HX HS HC HO HD]
    · unfold core3
      isplitl [HX]; · iexact HX
      isplitl [HS]; · iexact HS
      isplitl [HC]; · iexact HC
      isplitl [HO]; · iexact HO
      iexact HD
    iintro HF
    unfold core3
    iapply fupd_intro
    isplitl [HF]; · iexact HF
    iexact HW
  by_cases g2 : k.val ≤ 43
  · simp only [dif_pos ((cond2_iff k).mpr (by omega)), dif_pos ((cond3_iff k).mpr (by omega)), dif_neg (fun h => absurd ((cond4_iff k).mp h) (by omega)), wp_bind, wp_pure]
    unfold core3
    rw [show 98 + min (k.val - 1) 43 = k.val + 97 by omega]
    iintro ⟨⟨HX, HS, HC, HO, HD⟩, HW⟩
    iapply (issueX c fx (n := k.val + 97) (w := max 98 (43 + k.val)) (by omega) (by omega) (k0_off27_eq k) (k0_off28_eq k) (sem_at _ (Nat.mod_lt _ (by decide)) (k0_off26_eq k) _)) $$ HX
    iintro HX
    rw [show k.val + 97 + 1 = 98 + min k.val 43 by omega]
    iapply (waitO c (fDX r0 r1 r2 fx gm) (n := k.val) (w := k.val - 3) (by omega) (by omega) (by omega) (dst := rowsO (k0_off30 k) (k0_off30_inb k ((cond3_iff k).mpr (by omega)))) (sem_at _ (Nat.mod_lt _ (by decide)) (off29_eq k ((cond3_iff k).mpr (by omega))) _) rfl) $$ [HO HD HW]
    · isplitl [HO]; · iexact HO
      isplitl [HD]; · iexact HD
      iexact HW
    iintro ⟨HO, HD, HW⟩
    rw [show k.val - 3 + 1 = k.val - 2 by omega]
    rw [show max 98 (43 + k.val) = max 98 (44 + k.val) by omega]
    iapply (t3_tail a0 h0 a1 h1 a2 h2 a3 h3 a4 h4 a9 h9 a10 h10 c fx gm r0 r1 r2 f hf0 hf1 hf2 v188 v189 v191 v193 v195 v203 v205 v206 k) $$ [HX HS HC HO HD]
    · unfold core3
      isplitl [HX]; · iexact HX
      isplitl [HS]; · iexact HS
      isplitl [HC]; · iexact HC
      isplitl [HO]; · iexact HO
      iexact HD
    iintro HF
    unfold core3
    iapply fupd_intro
    isplitl [HF]; · iexact HF
    iexact HW
  by_cases g3 : k.val < 55
  · simp only [dif_neg (fun h => absurd ((cond2_iff k).mp h) (by omega)), dif_pos ((cond3_iff k).mpr (by omega)), dif_neg (fun h => absurd ((cond4_iff k).mp h) (by omega)), wp_bind, wp_pure]
    unfold core3
    rw [show 98 + min (k.val - 1) 43 = 98 + min k.val 43 by omega]
    iintro ⟨⟨HX, HS, HC, HO, HD⟩, HW⟩
    iapply (waitO c (fDX r0 r1 r2 fx gm) (n := k.val) (w := k.val - 3) (by omega) (by omega) (by omega) (dst := rowsO (k0_off30 k) (k0_off30_inb k ((cond3_iff k).mpr (by omega)))) (sem_at _ (Nat.mod_lt _ (by decide)) (off29_eq k ((cond3_iff k).mpr (by omega))) _) rfl) $$ [HO HD HW]
    · isplitl [HO]; · iexact HO
      isplitl [HD]; · iexact HD
      iexact HW
    iintro ⟨HO, HD, HW⟩
    rw [show k.val - 3 + 1 = k.val - 2 by omega]
    rw [show max 98 (43 + k.val) = max 98 (44 + k.val) by omega]
    iapply (t3_tail a0 h0 a1 h1 a2 h2 a3 h3 a4 h4 a9 h9 a10 h10 c fx gm r0 r1 r2 f hf0 hf1 hf2 v188 v189 v191 v193 v195 v203 v205 v206 k) $$ [HX HS HC HO HD]
    · unfold core3
      isplitl [HX]; · iexact HX
      isplitl [HS]; · iexact HS
      isplitl [HC]; · iexact HC
      isplitl [HO]; · iexact HO
      iexact HD
    iintro HF
    unfold core3
    iapply fupd_intro
    isplitl [HF]; · iexact HF
    iexact HW
  simp only [dif_neg (fun h => absurd ((cond2_iff k).mp h) (by omega)), dif_pos ((cond3_iff k).mpr (by omega)), dif_pos ((cond4_iff k).mpr (by omega)), wp_bind, wp_pure]
  unfold core3
  rw [show 98 + min (k.val - 1) 43 = 98 + min k.val 43 by omega]
  iintro ⟨⟨HX, HS, HC, HO, HD⟩, HW⟩
  iapply (waitO c (fDX r0 r1 r2 fx gm) (n := k.val) (w := k.val - 3) (by omega) (by omega) (by omega) (dst := rowsO (k0_off30 k) (k0_off30_inb k ((cond3_iff k).mpr (by omega)))) (sem_at _ (Nat.mod_lt _ (by decide)) (off29_eq k ((cond3_iff k).mpr (by omega))) _) rfl) $$ [HO HD HW]
  · isplitl [HO]; · iexact HO
    isplitl [HD]; · iexact HD
    iexact HW
  iintro ⟨HO, HD, HW⟩
  rw [show k.val - 3 + 1 = k.val - 2 by omega]
  rw [show max 98 (43 + k.val) = k.val + 43 by omega]
  iapply (waitX c fx (n := 98 + min k.val 43) (w := k.val + 43) (by omega) (by omega) (dst := slotX (k0_off33 k) (k0_off33_inb k ((cond4_iff k).mpr (by omega)))) (sem_at _ (Nat.mod_lt _ (by decide)) (k0_off32_eq k) _) rfl) $$ [HX HW]
  · isplitl [HX]; · iexact HX
    iexact HW
  iintro ⟨HX, HW⟩
  rw [show k.val + 43 + 1 = max 98 (44 + k.val) by omega]
  iapply (t3_tail a0 h0 a1 h1 a2 h2 a3 h3 a4 h4 a9 h9 a10 h10 c fx gm r0 r1 r2 f hf0 hf1 hf2 v188 v189 v191 v193 v195 v203 v205 v206 k) $$ [HX HS HC HO HD]
  · unfold core3
    isplitl [HX]; · iexact HX
    isplitl [HS]; · iexact HS
    isplitl [HC]; · iexact HC
    isplitl [HO]; · iexact HO
    iexact HD
  iintro HF
  unfold core3
  iapply fupd_intro
  isplitl [HF]; · iexact HF
  iexact HW

end Cert.KernelIdeal.Hand

end
-- ==== Proof.IStart.lean ====
/-
  The body of the kernel: the copies of the first chunks, the two passes and what is stored between them.
-/
module

public import proofs.«01_k».proof.Proof.IPass2
public import Idealize.ShloMosaic.Lib.Pipeline.FrameBody
public import Idealize.ShloMosaic.Lib.Ring
public import Idealize.ShloMosaic.Lib.Tactic

@[expose] public section

set_option maxRecDepth 16384

noncomputable section

namespace Cert.KernelIdeal.Hand

open Cert.KernelIdeal Cert.KernelIdeal.Gen Cert.Geo
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (AtW AtW_focus restW)

variable {F : FTy → Type} [FloatOps F]

local notation "𝕄" => MT nD τ sig Unit (Elt F) ℕ (Pipeline.UD sig nD τ) ℕ

/-! ## The operands kept in windows -/

theorem acc_sub {cs : CoreSpace} {s : Shape} {e : EltTy} (M : Memref sig .tc cs s e) (r : Rect s) : (M.access r).set ⊆ M.view.set :=
  set_sub (M.access r) _ fun x => View.emb_mem_set M.view (r.emb x)

theorem loadV (c : Dev nD) (M : Memref sig .tc .vmem S1x256 .f32) {inb} {hld} (X : S1x256.Idx → Elt F .f32) {Q : (S1x256.Idx → Elt F .f32) → sProp 𝕄} :
    owns (c : Thread nD τ) M fullShare X ⊢ iprop((owns (c : Thread nD τ) M fullShare X -∗ Q X)
      -∗ WP (F := F) c (Prog.lift (.load M (Rect.unit (s := S1x256) ![0, 0] S1x256.size inb).toLoadRect hld)) Q) := by
  unfold owns
  iintro ⟨%f, %hf, H⟩ HQ
  iapply (load_gen c M (Rect.unit (s := S1x256) ![0, 0] S1x256.size inb) hld M.view.set f X (acc_sub M _)
    (funext fun x => (congrArg (M.view.read (Elt F) f) (emb_full inb x)).trans (congrFun hf x))) $$ H
  iintro H
  iapply HQ
  iexists f
  isplitr; · ipureintro; exact hf
  iexact H

theorem storeV (c : Dev nD) (M : Memref sig .tc .vmem S1x256 .f32) {inb} {hx} {hm} (X w : S1x256.Idx → Elt F .f32) {Q : PUnit → sProp 𝕄} :
    owns (c : Thread nD τ) M fullShare X ⊢ iprop((owns (c : Thread nD τ) M fullShare w -∗ Q ⟨⟩)
      -∗ WP (F := F) c (Prog.lift (.store M (Rect.unit (s := S1x256) ![0, 0] S1x256.size inb) w Finset.univ hx hm)) Q) := by
  unfold owns
  iintro ⟨%f, -, H⟩ HQ
  iapply (store_gen c M (Rect.unit (s := S1x256) ![0, 0] S1x256.size inb) w M.view.set f
    ((M.access (Rect.unit (s := S1x256) ![0, 0] S1x256.size inb)).write (Elt F) f w Finset.univ) (acc_sub M _) (fun _ _ => rfl)) $$ H
  iintro H
  iapply HQ
  iexists _
  isplitr; swap; · iexact H
  ipureintro
  funext x
  have h1 : (M.access (Rect.unit (s := S1x256) ![0, 0] S1x256.size inb)).read (Elt F)
      ((M.access (Rect.unit (s := S1x256) ![0, 0] S1x256.size inb)).write (Elt F) f w Finset.univ) x = w x := congrFun (View.read_write_univ _ _) x
  exact (congrArg (M.view.read (Elt F) _) (emb_full inb x)).symm.trans h1

theorem loadS (c : Dev nD) (M : Memref sig .tc .smem S1 .f32) {inb} {hn} {hp} (X : S1.Idx → Elt F .f32) {Q : Elt F .f32 → sProp 𝕄} :
    owns (c : Thread nD τ) M fullShare X ⊢ iprop((owns (c : Thread nD τ) M fullShare X -∗ Q (X (ix1 (0 : Fin 1))))
      -∗ WP (F := F) c (smemLoad M (Rect.unit (s := S1) ![0] S1.size inb) hn hp) Q) := by
  unfold owns smemLoad
  iintro ⟨%f, %hf, H⟩ HQ
  iapply (wp_smemLoadElt Variants.none (c : Thread nD τ) none Set.univ (m := M) (r := Rect.unit (s := S1) ![0] S1.size inb) (S := M.view.set) (acc_sub M _)) $$ H
  iintro H
  rw [wp_ret]
  iapply fupd_intro
  have hx : ∀ x : (Rect.unit (s := S1) ![0] S1.size inb).shape.Idx, (M.access (Rect.unit (s := S1) ![0] S1.size inb)).read (Elt F) f x = X (ix1 (0 : Fin 1)) := fun x => by
    have e : (Rect.unit (s := S1) ![0] S1.size inb).emb x = ix1 (0 : Fin 1) := by
      funext d; match d with | ⟨0, _⟩ => exact Subsingleton.elim (α := Fin 1) _ _
    exact (congrArg (M.view.read (Elt F) f) e).trans (congrFun hf _)
  rw [hx]
  iapply HQ
  iexists f
  isplitr; · ipureintro; exact hf
  iexact H

/-! ## The scratch buffers whole -/

theorem fillA0 (c : Dev nD) {inb} {f : S16x256.Idx → Elt F .f32} (w : S16x256.Idx → Elt F .f32) {hx} {hm} {Q : PUnit → sProp 𝕄} :
    bufA0 c f ⊢ iprop((bufA0 c w -∗ Q ⟨⟩) -∗ WP (F := F) c (Prog.lift (.store A0 (Rect.unit (s := S16x256) ![0, 0] S16x256.size inb) w Finset.univ hx hm)) Q) :=
  have e : ∀ x : S16x256.Idx, ((A0.access (Rect.unit (s := S16x256) ![0, 0] S16x256.size inb)).emb x : S16x256.Idx) = x := fun x => emb_full inb x
  store_gen c A0 (Rect.unit (s := S16x256) ![0, 0] S16x256.size inb) w Finset.univ f w (Finset.subset_univ _)
    (write_eq (A0.access (Rect.unit (s := S16x256) ![0, 0] S16x256.size inb)) f w w Finset.univ (fun x _ => congrArg w (e x))
      (fun i _ hn => absurd (by have h := View.emb_mem_set (A0.access (Rect.unit (s := S16x256) ![0, 0] S16x256.size inb)) i; rwa [e i] at h) hn))
theorem readA0 (c : Dev nD) {inb} {f : S16x256.Idx → Elt F .f32} {hld} {Q : (S16x256.Idx → Elt F .f32) → sProp 𝕄} :
    bufA0 c f ⊢ iprop((bufA0 c f -∗ Q f) -∗ WP (F := F) c (Prog.lift (.load A0 (Rect.unit (s := S16x256) ![0, 0] S16x256.size inb).toLoadRect hld)) Q) :=
  load_gen c A0 (Rect.unit (s := S16x256) ![0, 0] S16x256.size inb) hld Finset.univ f f (Finset.subset_univ _) (funext fun x => congrArg f (emb_full inb x))
theorem fillA1 (c : Dev nD) {inb} {f : S16x256.Idx → Elt F .f32} (w : S16x256.Idx → Elt F .f32) {hx} {hm} {Q : PUnit → sProp 𝕄} :
    bufA1 c f ⊢ iprop((bufA1 c w -∗ Q ⟨⟩) -∗ WP (F := F) c (Prog.lift (.store A1 (Rect.unit (s := S16x256) ![0, 0] S16x256.size inb) w Finset.univ hx hm)) Q) :=
  have e : ∀ x : S16x256.Idx, ((A1.access (Rect.unit (s := S16x256) ![0, 0] S16x256.size inb)).emb x : S16x256.Idx) = x := fun x => emb_full inb x
  store_gen c A1 (Rect.unit (s := S16x256) ![0, 0] S16x256.size inb) w Finset.univ f w (Finset.subset_univ _)
    (write_eq (A1.access (Rect.unit (s := S16x256) ![0, 0] S16x256.size inb)) f w w Finset.univ (fun x _ => congrArg w (e x))
      (fun i _ hn => absurd (by have h := View.emb_mem_set (A1.access (Rect.unit (s := S16x256) ![0, 0] S16x256.size inb)) i; rwa [e i] at h) hn))
theorem readA1 (c : Dev nD) {inb} {f : S16x256.Idx → Elt F .f32} {hld} {Q : (S16x256.Idx → Elt F .f32) → sProp 𝕄} :
    bufA1 c f ⊢ iprop((bufA1 c f -∗ Q f) -∗ WP (F := F) c (Prog.lift (.load A1 (Rect.unit (s := S16x256) ![0, 0] S16x256.size inb).toLoadRect hld)) Q) :=
  load_gen c A1 (Rect.unit (s := S16x256) ![0, 0] S16x256.size inb) hld Finset.univ f f (Finset.subset_univ _) (funext fun x => congrArg f (emb_full inb x))
theorem fillN (c : Dev nD) {inb} {f : S16x128.Idx → Elt F .bf16} (w : S16x128.Idx → Elt F .bf16) {hx} {hm} {Q : PUnit → sProp 𝕄} :
    bufN c f ⊢ iprop((bufN c w -∗ Q ⟨⟩) -∗ WP (F := F) c (Prog.lift (.store NB (Rect.unit (s := S16x128) ![0, 0] S16x128.size inb) w Finset.univ hx hm)) Q) :=
  have e : ∀ x : S16x128.Idx, ((NB.access (Rect.unit (s := S16x128) ![0, 0] S16x128.size inb)).emb x : S16x128.Idx) = x := fun x => emb_full inb x
  store_gen c NB (Rect.unit (s := S16x128) ![0, 0] S16x128.size inb) w Finset.univ f w (Finset.subset_univ _)
    (write_eq (NB.access (Rect.unit (s := S16x128) ![0, 0] S16x128.size inb)) f w w Finset.univ (fun x _ => congrArg w (e x))
      (fun i _ hn => absurd (by have h := View.emb_mem_set (NB.access (Rect.unit (s := S16x128) ![0, 0] S16x128.size inb)) i; rwa [e i] at h) hn))

/-- One row of the coefficients replaced. -/
def rowW (r : ℕ) (w : S1x256.Idx → Elt F .f32) (f : S8x256.Idx → Elt F .f32) : S8x256.Idx → Elt F .f32 := fun i => if (i 0).val = r then w (ix2 (0 : Fin 1) (i 1)) else f i

theorem row_ix (x : S1x256.Idx) : (ix2 (0 : Fin 1) (x 1) : S1x256.Idx) = x := by
  refine Eq.trans ?_ (eq_ix2 x).symm
  congr 1
  exact Subsingleton.elim (α := Fin 1) _ _

theorem storeC (c : Dev nD) {r : ℕ} (hr : r < 8) {inb} {f : S8x256.Idx → Elt F .f32} (w : S1x256.Idx → Elt F .f32) {hx} {hm} {Q : PUnit → sProp 𝕄} :
    bufC c f ⊢ iprop((bufC c (rowW r w f) -∗ Q ⟨⟩) -∗ WP (F := F) c (Prog.lift (.store CB (Rect.unit (s := S8x256) ![r, 0] S1x256.size inb) w Finset.univ hx hm)) Q) :=
  have e : ∀ x : S1x256.Idx, ((CB.access (Rect.unit (s := S8x256) ![r, 0] S1x256.size inb)).emb x : S8x256.Idx) = ix2 ⟨r, hr⟩ (x 1) := fun x => emb_row hr rfl inb x
  store_gen c CB (Rect.unit (s := S8x256) ![r, 0] S1x256.size inb) w Finset.univ f (rowW r w f) (Finset.subset_univ _)
    (write_eq (CB.access (Rect.unit (s := S8x256) ![r, 0] S1x256.size inb)) f (rowW r w f) w Finset.univ
      (fun x _ => (congrArg (rowW r w f) (e x)).trans ((if_pos rfl).trans (congrArg w (row_ix x))))
      (fun i _ hn => by
        unfold rowW
        rw [if_neg]
        intro h0
        refine hn ?_
        have hx : (i : S8x256.Idx) = (CB.access (Rect.unit (s := S8x256) ![r, 0] S1x256.size inb)).emb (ix2 (0 : Fin 1) (i 1) : S1x256.Idx) := by
          rw [e]
          have hq : (i : S8x256.Idx) = ix2 (i 0) (i 1) := eq_ix2 i
          refine hq.trans ?_
          congr 1
          exact Fin.ext h0
        rw [hx]; exact View.emb_mem_set _ _))

/-! ## The first copies -/

/-- The copies started before the first pass: `a`, `b` and `d` chunks of the three inputs. -/
def pro (c : Dev nD) (fx : BufX (F := F)) (fg : BufG (F := F)) (fm : BufM (F := F)) (a b d : ℕ) : sProp 𝕄 :=
  iprop(AtW (XΦ c fx) (rst 55 a 0) ∗ AtW (GΦ c fg) (rst 8 b 0) ∗ AtW (MΦ c fm) (rst 8 d 0) ∗ AtW (SΦ c (slabs (gmF fg fm))) (sst b 0))

variable (a0 : Memref sig .tc .smem S1 .f32) (h0 : a0.IsWhole) (a1 : Memref sig .tc .smem S1 .f32) (h1 : a1.IsWhole)
  (a2 : Memref sig .tc .vmem S1x256 .f32) (h2 : a2.IsWhole) (a3 : Memref sig .tc .vmem S1x256 .f32) (h3 : a3.IsWhole)
  (a4 : Memref sig .tc .vmem S1x256 .f32) (h4 : a4.IsWhole) (a9 : Memref sig .tc .vmem S1x256 .f32) (h9 : a9.IsWhole)
  (a10 : Memref sig .tc .vmem S1x256 .f32) (h10 : a10.IsWhole)

theorem part4_spec (c : Dev nD) (fx : BufX (F := F)) (fg : BufG (F := F)) (fm : BufM (F := F)) {f0 f1 fn} {Q : BitVec 32 → sProp 𝕄} :
    iprop(pro c fx fg fm 0 0 0 ∗ bufN c fn ∗ bufA0 c f0 ∗ bufA1 c f1) ⊢ iprop((iprop(pro c fx fg fm 1 1 0 ∗ bufN c k0_pay15 ∗ bufA0 c k0_pay13 ∗ bufA1 c k0_pay14) -∗ Q 0#32)
      -∗ WP (F := F) c (k0_part4 (F := F) a0 h0 a1 h1 a2 h2 a3 h3 a4 h4 XH (Memref.isWhole_whole _) GH (Memref.isWhole_whole _) MH (Memref.isWhole_whole _) OH (Memref.isWhole_whole _) a9 h9 a10 h10 XB (Memref.isWhole_whole _) GB (Memref.isWhole_whole _) MB (Memref.isWhole_whole _) OB (Memref.isWhole_whole _) NB (Memref.isWhole_whole _) A0 (Memref.isWhole_whole _) A1 (Memref.isWhole_whole _) CB (Memref.isWhole_whole _) cc0_scratch8 cc0_scratch9 cc0_scratch10 cc0_scratch11) Q) := by
  rw [k0_part4_eq_skeleton]
  unfold k0_part4_skel pro
  simp only [wp_bind, wp_pure]
  iintro ⟨⟨HX, HG, HM, HS⟩, HN, H0, H1⟩ HQ
  iapply (readA0 c) $$ H0
  iintro H0
  iapply (fillA0 c k0_pay13) $$ H0
  iintro H0
  iapply (readA1 c) $$ H1
  iintro H1
  iapply (fillA1 c k0_pay14) $$ H1
  iintro H1
  iapply (loadN c) $$ HN
  iintro HN
  iapply (fillN c k0_pay15) $$ HN
  iintro HN
  iapply (issueX c fx (n := 0) (w := 0) (by decide) (by decide) (show k0_off2 0#32 = ![0, 0, 0] from k0_off2_eq 0) (show k0_off3 0#32 = ![1536 * 0, 0] from k0_off3_eq 0) (sem_at _ (by decide : 0 < 55) (show k0_off1 0#32 = ![0] from k0_off1_eq 0) _)) $$ HX
  iintro HX
  iapply (issueG c fg (slabs (gmF fg fm)) (n := 0) (w := 0) (v := 0) (by decide) (by decide) (by decide) (by decide) rfl (show k0_off5 0#32 = ![1536 * 0, 0] from k0_off5_eq 0) (sem_at _ (by decide : 0 < 8) (show k0_off4 0#32 = ![0] from k0_off4_eq 0) _)) $$ [HG HS]
  · isplitl [HG]; · iexact HG
    iexact HS
  iintro ⟨HG, HS⟩
  iapply fupd_intro
  iapply HQ
  isplitl [HX HG HM HS]
  · isplitl [HX]; · iexact HX
    isplitl [HG]; · iexact HG
    isplitl [HM]; · iexact HM
    iexact HS
  isplitl [HN]; · iexact HN
  isplitl [H0]; · iexact H0
  iexact H1

theorem part5_spec (c : Dev nD) (fx : BufX (F := F)) (fg : BufG (F := F)) (fm : BufM (F := F)) (z : BitVec 32) {Q : PUnit → sProp 𝕄} :
    pro c fx fg fm 1 1 0 ⊢ iprop((pro c fx fg fm 2 2 1 -∗ Q ⟨⟩) -∗ WP (F := F) c (k0_part5 (F := F) a0 h0 a1 h1 a2 h2 a3 h3 a4 h4 XH (Memref.isWhole_whole _) GH (Memref.isWhole_whole _) MH (Memref.isWhole_whole _) OH (Memref.isWhole_whole _) a9 h9 a10 h10 XB (Memref.isWhole_whole _) GB (Memref.isWhole_whole _) MB (Memref.isWhole_whole _) OB (Memref.isWhole_whole _) NB (Memref.isWhole_whole _) A0 (Memref.isWhole_whole _) A1 (Memref.isWhole_whole _) CB (Memref.isWhole_whole _) cc0_scratch8 cc0_scratch9 cc0_scratch10 cc0_scratch11 z) Q) := by
  rw [k0_part5_eq_skeleton]
  unfold k0_part5_skel pro
  simp only [wp_bind, wp_pure]
  iintro ⟨HX, HG, HM, HS⟩ HQ
  iapply (issueM c fm (n := 0) (w := 0) (by decide) (by decide) (show k0_off6 0#32 = ![0, 0, 0] from k0_off6_eq 0) (show k0_off5 0#32 = ![1536 * 0, 0] from k0_off5_eq 0) (sem_at _ (by decide : 0 < 8) (show k0_off4 0#32 = ![0] from k0_off4_eq 0) _)) $$ HM
  iintro HM
  iapply (issueX c fx (n := 1) (w := 0) (by decide) (by decide) (show k0_off2 1#32 = ![1, 0, 0] from k0_off2_eq 1) (show k0_off3 1#32 = ![1536 * 1, 0] from k0_off3_eq 1) (sem_at _ (by decide : 1 < 55) (show k0_off1 1#32 = ![1] from k0_off1_eq 1) _)) $$ HX
  iintro HX
  iapply (issueG c fg (slabs (gmF fg fm)) (n := 1) (w := 0) (v := 0) (by decide) (by decide) (by decide) (by decide) rfl (show k0_off5 1#32 = ![1536 * 1, 0] from k0_off5_eq 1) (sem_at _ (by decide : 1 < 8) (show k0_off4 1#32 = ![1] from k0_off4_eq 1) _)) $$ [HG HS]
  · isplitl [HG]; · iexact HG
    iexact HS
  iintro ⟨HG, HS⟩
  iapply fupd_intro
  iapply HQ
  isplitl [HX]; · iexact HX
  isplitl [HG]; · iexact HG
  isplitl [HM]; · iexact HM
  iexact HS

theorem part6_spec (c : Dev nD) (fx : BufX (F := F)) (fg : BufG (F := F)) (fm : BufM (F := F)) {Q : BitVec 32 → sProp 𝕄} :
    pro c fx fg fm 2 2 1 ⊢ iprop((pro c fx fg fm 3 3 3 -∗ Q (Scalar.remsi 3#32 98#32)) -∗ WP (F := F) c (k0_part6 (F := F) a0 h0 a1 h1 a2 h2 a3 h3 a4 h4 XH (Memref.isWhole_whole _) GH (Memref.isWhole_whole _) MH (Memref.isWhole_whole _) OH (Memref.isWhole_whole _) a9 h9 a10 h10 XB (Memref.isWhole_whole _) GB (Memref.isWhole_whole _) MB (Memref.isWhole_whole _) OB (Memref.isWhole_whole _) NB (Memref.isWhole_whole _) A0 (Memref.isWhole_whole _) A1 (Memref.isWhole_whole _) CB (Memref.isWhole_whole _) cc0_scratch8 cc0_scratch9 cc0_scratch10 cc0_scratch11) Q) := by
  rw [k0_part6_eq_skeleton]
  unfold k0_part6_skel pro
  simp only [wp_bind, wp_pure]
  iintro ⟨HX, HG, HM, HS⟩ HQ
  iapply (issueM c fm (n := 1) (w := 0) (by decide) (by decide) (show k0_off6 1#32 = ![1, 0, 0] from k0_off6_eq 1) (show k0_off5 1#32 = ![1536 * 1, 0] from k0_off5_eq 1) (sem_at _ (by decide : 1 < 8) (show k0_off4 1#32 = ![1] from k0_off4_eq 1) _)) $$ HM
  iintro HM
  iapply (issueX c fx (n := 2) (w := 0) (by decide) (by decide) (show k0_off2 2#32 = ![2, 0, 0] from k0_off2_eq 2) (show k0_off3 2#32 = ![1536 * 2, 0] from k0_off3_eq 2) (sem_at _ (by decide : 2 < 55) (show k0_off1 2#32 = ![2] from k0_off1_eq 2) _)) $$ HX
  iintro HX
  iapply (issueG c fg (slabs (gmF fg fm)) (n := 2) (w := 0) (v := 0) (by decide) (by decide) (by decide) (by decide) rfl (show k0_off5 2#32 = ![1536 * 2, 0] from k0_off5_eq 2) (sem_at _ (by decide : 2 < 8) (show k0_off4 2#32 = ![2] from k0_off4_eq 2) _)) $$ [HG HS]
  · isplitl [HG]; · iexact HG
    iexact HS
  iintro ⟨HG, HS⟩
  iapply (issueM c fm (n := 2) (w := 0) (by decide) (by decide) (show k0_off6 2#32 = ![2, 0, 0] from k0_off6_eq 2) (show k0_off5 2#32 = ![1536 * 2, 0] from k0_off5_eq 2) (sem_at _ (by decide : 2 < 8) (show k0_off4 2#32 = ![2] from k0_off4_eq 2) _)) $$ HM
  iintro HM
  iapply fupd_intro
  iapply HQ
  isplitl [HX]; · iexact HX
  isplitl [HG]; · iexact HG
  isplitl [HM]; · iexact HM
  iexact HS

theorem part7_spec (c : Dev nD) (fx : BufX (F := F)) (fg : BufG (F := F)) (fm : BufM (F := F)) (z : BitVec 32) {Q : PUnit → sProp 𝕄} :
    pro c fx fg fm 3 3 3 ⊢ iprop((pro c fx fg fm 4 4 4 -∗ Q ⟨⟩) -∗ WP (F := F) c (k0_part7 (F := F) a0 h0 a1 h1 a2 h2 a3 h3 a4 h4 XH (Memref.isWhole_whole _) GH (Memref.isWhole_whole _) MH (Memref.isWhole_whole _) OH (Memref.isWhole_whole _) a9 h9 a10 h10 XB (Memref.isWhole_whole _) GB (Memref.isWhole_whole _) MB (Memref.isWhole_whole _) OB (Memref.isWhole_whole _) NB (Memref.isWhole_whole _) A0 (Memref.isWhole_whole _) A1 (Memref.isWhole_whole _) CB (Memref.isWhole_whole _) cc0_scratch8 cc0_scratch9 cc0_scratch10 cc0_scratch11 z) Q) := by
  rw [k0_part7_eq_skeleton]
  unfold k0_part7_skel pro
  simp only [wp_bind, wp_pure]
  iintro ⟨HX, HG, HM, HS⟩ HQ
  iapply (issueX c fx (n := 3) (w := 0) (by decide) (by decide) (show k0_off2 3#32 = ![3, 0, 0] from k0_off2_eq 3) (show k0_off3 3#32 = ![1536 * 3, 0] from k0_off3_eq 3) (sem_at _ (by decide : 3 < 55) (show k0_off1 3#32 = ![3] from k0_off1_eq 3) _)) $$ HX
  iintro HX
  iapply (issueG c fg (slabs (gmF fg fm)) (n := 3) (w := 0) (v := 0) (by decide) (by decide) (by decide) (by decide) rfl (show k0_off5 3#32 = ![1536 * 3, 0] from k0_off5_eq 3) (sem_at _ (by decide : 3 < 8) (show k0_off4 3#32 = ![3] from k0_off4_eq 3) _)) $$ [HG HS]
  · isplitl [HG]; · iexact HG
    iexact HS
  iintro ⟨HG, HS⟩
  iapply (issueM c fm (n := 3) (w := 0) (by decide) (by decide) (show k0_off6 3#32 = ![3, 0, 0] from k0_off6_eq 3) (show k0_off5 3#32 = ![1536 * 3, 0] from k0_off5_eq 3) (sem_at _ (by decide : 3 < 8) (show k0_off4 3#32 = ![3] from k0_off4_eq 3) _)) $$ HM
  iintro HM
  iapply fupd_intro
  iapply HQ
  isplitl [HX]; · iexact HX
  isplitl [HG]; · iexact HG
  isplitl [HM]; · iexact HM
  iexact HS

theorem part8_spec (c : Dev nD) (fx : BufX (F := F)) (fg : BufG (F := F)) (fm : BufM (F := F)) {Q : BitVec 32 → sProp 𝕄} :
    pro c fx fg fm 4 4 4 ⊢ iprop((pro c fx fg fm 6 5 5 -∗ Q (Scalar.muli 5#32 1536#32)) -∗ WP (F := F) c (k0_part8 (F := F) a0 h0 a1 h1 a2 h2 a3 h3 a4 h4 XH (Memref.isWhole_whole _) GH (Memref.isWhole_whole _) MH (Memref.isWhole_whole _) OH (Memref.isWhole_whole _) a9 h9 a10 h10 XB (Memref.isWhole_whole _) GB (Memref.isWhole_whole _) MB (Memref.isWhole_whole _) OB (Memref.isWhole_whole _) NB (Memref.isWhole_whole _) A0 (Memref.isWhole_whole _) A1 (Memref.isWhole_whole _) CB (Memref.isWhole_whole _) cc0_scratch8 cc0_scratch9 cc0_scratch10 cc0_scratch11) Q) := by
  rw [k0_part8_eq_skeleton]
  unfold k0_part8_skel pro
  simp only [wp_bind, wp_pure]
  iintro ⟨HX, HG, HM, HS⟩ HQ
  iapply (issueX c fx (n := 4) (w := 0) (by decide) (by decide) (show k0_off2 4#32 = ![4, 0, 0] from k0_off2_eq 4) (show k0_off3 4#32 = ![1536 * 4, 0] from k0_off3_eq 4) (sem_at _ (by decide : 4 < 55) (show k0_off1 4#32 = ![4] from k0_off1_eq 4) _)) $$ HX
  iintro HX
  iapply (issueG c fg (slabs (gmF fg fm)) (n := 4) (w := 0) (v := 0) (by decide) (by decide) (by decide) (by decide) rfl (show k0_off5 4#32 = ![1536 * 4, 0] from k0_off5_eq 4) (sem_at _ (by decide : 4 < 8) (show k0_off4 4#32 = ![4] from k0_off4_eq 4) _)) $$ [HG HS]
  · isplitl [HG]; · iexact HG
    iexact HS
  iintro ⟨HG, HS⟩
  iapply (issueM c fm (n := 4) (w := 0) (by decide) (by decide) (show k0_off6 4#32 = ![4, 0, 0] from k0_off6_eq 4) (show k0_off5 4#32 = ![1536 * 4, 0] from k0_off5_eq 4) (sem_at _ (by decide : 4 < 8) (show k0_off4 4#32 = ![4] from k0_off4_eq 4) _)) $$ HM
  iintro HM
  iapply (issueX c fx (n := 5) (w := 0) (by decide) (by decide) (show k0_off2 5#32 = ![5, 0, 0] from k0_off2_eq 5) (show k0_off3 5#32 = ![1536 * 5, 0] from k0_off3_eq 5) (sem_at _ (by decide : 5 < 55) (show k0_off1 5#32 = ![5] from k0_off1_eq 5) _)) $$ HX
  iintro HX
  iapply fupd_intro
  iapply HQ
  isplitl [HX]; · iexact HX
  isplitl [HG]; · iexact HG
  isplitl [HM]; · iexact HM
  iexact HS

theorem part9_spec (c : Dev nD) (fx : BufX (F := F)) (fg : BufG (F := F)) (fm : BufM (F := F)) (z : BitVec 32) {Q : PUnit → sProp 𝕄} :
    pro c fx fg fm 6 5 5 ⊢ iprop((pro c fx fg fm 7 6 6 -∗ Q ⟨⟩) -∗ WP (F := F) c (k0_part9 (F := F) a0 h0 a1 h1 a2 h2 a3 h3 a4 h4 XH (Memref.isWhole_whole _) GH (Memref.isWhole_whole _) MH (Memref.isWhole_whole _) OH (Memref.isWhole_whole _) a9 h9 a10 h10 XB (Memref.isWhole_whole _) GB (Memref.isWhole_whole _) MB (Memref.isWhole_whole _) OB (Memref.isWhole_whole _) NB (Memref.isWhole_whole _) A0 (Memref.isWhole_whole _) A1 (Memref.isWhole_whole _) CB (Memref.isWhole_whole _) cc0_scratch8 cc0_scratch9 cc0_scratch10 cc0_scratch11 z) Q) := by
  rw [k0_part9_eq_skeleton]
  unfold k0_part9_skel pro
  simp only [wp_bind, wp_pure]
  iintro ⟨HX, HG, HM, HS⟩ HQ
  iapply (issueG c fg (slabs (gmF fg fm)) (n := 5) (w := 0) (v := 0) (by decide) (by decide) (by decide) (by decide) rfl (show k0_off5 5#32 = ![1536 * 5, 0] from k0_off5_eq 5) (sem_at _ (by decide : 5 < 8) (show k0_off4 5#32 = ![5] from k0_off4_eq 5) _)) $$ [HG HS]
  · isplitl [HG]; · iexact HG
    iexact HS
  iintro ⟨HG, HS⟩
  iapply (issueM c fm (n := 5) (w := 0) (by decide) (by decide) (show k0_off6 5#32 = ![5, 0, 0] from k0_off6_eq 5) (show k0_off5 5#32 = ![1536 * 5, 0] from k0_off5_eq 5) (sem_at _ (by decide : 5 < 8) (show k0_off4 5#32 = ![5] from k0_off4_eq 5) _)) $$ HM
  iintro HM
  iapply (issueX c fx (n := 6) (w := 0) (by decide) (by decide) (show k0_off2 6#32 = ![6, 0, 0] from k0_off2_eq 6) (show k0_off3 6#32 = ![1536 * 6, 0] from k0_off3_eq 6) (sem_at _ (by decide : 6 < 55) (show k0_off1 6#32 = ![6] from k0_off1_eq 6) _)) $$ HX
  iintro HX
  iapply fupd_intro
  iapply HQ
  isplitl [HX]; · iexact HX
  isplitl [HG]; · iexact HG
  isplitl [HM]; · iexact HM
  iexact HS

end Cert.KernelIdeal.Hand

end
-- ==== Proof.IBody.lean ====
/-
  The body of the kernel: from its buffers before the run to its buffers after it.
-/
module

public import proofs.«01_k».proof.Proof.IStart
public import Idealize.ShloMosaic.Lib.Pipeline.FrameBody
public import Idealize.ShloMosaic.Lib.Ring
public import Idealize.ShloMosaic.Lib.Tactic

@[expose] public section

set_option maxRecDepth 16384

noncomputable section

namespace Cert.KernelIdeal.Hand

open Cert.KernelIdeal Cert.KernelIdeal.Gen Cert.Geo
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (AtW AtW_focus restW)

variable {F : FTy → Type} [FloatOps F]

local notation "𝕄" => MT nD τ sig Unit (Elt F) ℕ (Pipeline.UD sig nD τ) ℕ

/-! ## What the kernel computes -/

/-- The three results, by the words of the scales, the operands kept in windows and the arrays. -/
def dbV (dys : Elt F .f32) (fg : BufG (F := F)) (fm : BufM (F := F)) : FVec F S1x256 .f32 := k0_pay22 dys (acc0N fg fm 196)
def dgV (xs dys : Elt F .f32) (me rs : FVec F S1x256 .f32) (fx : BufX (F := F)) (fg : BufG (F := F)) (fm : BufM (F := F)) : FVec F S1x256 .f32 :=
  k0_pay25 dys (k0_pay19 rs) (k0_pay23 xs (acc1N fx fg fm 196)) (k0_pay24 me (acc0N fg fm 196))
def c0V (dys : Elt F .f32) (rs ga : FVec F S1x256 .f32) : FVec F S1x256 .f32 := k0_pay28 dys (k0_pay19 rs) (k0_pay20 ga)
def c1V (xs dys : Elt F .f32) (me rs ga : FVec F S1x256 .f32) (fx : BufX (F := F)) (fg : BufG (F := F)) (fm : BufM (F := F)) : FVec F S1x256 .f32 :=
  k0_pay29 xs dys (k0_pay19 rs) (k0_pay20 ga) (k0_pay23 xs (acc1N fx fg fm 196)) (k0_pay24 me (acc0N fg fm 196))
def c2V (xs dys : Elt F .f32) (me rs ga : FVec F S1x256 .f32) (fx : BufX (F := F)) (fg : BufG (F := F)) (fm : BufM (F := F)) : FVec F S1x256 .f32 :=
  k0_pay30 dys (k0_pay18 me) (k0_pay19 rs) (k0_pay20 ga) (dbV dys fg fm) (k0_pay23 xs (acc1N fx fg fm 196)) (k0_pay24 me (acc0N fg fm 196))
def dxV (xs dys : Elt F .f32) (me rs ga : FVec F S1x256 .f32) (fx : BufX (F := F)) (fg : BufG (F := F)) (fm : BufM (F := F)) : BufO (F := F) :=
  fDX (c0V dys rs ga) (c1V xs dys me rs ga fx fg fm) (c2V xs dys me rs ga fx fg fm) fx (gmF fg fm)

variable (a0 : Memref sig .tc .smem S1 .f32) (h0 : a0.IsWhole) (a1 : Memref sig .tc .smem S1 .f32) (h1 : a1.IsWhole)
  (a2 : Memref sig .tc .vmem S1x256 .f32) (h2 : a2.IsWhole) (a3 : Memref sig .tc .vmem S1x256 .f32) (h3 : a3.IsWhole)
  (a4 : Memref sig .tc .vmem S1x256 .f32) (h4 : a4.IsWhole) (a9 : Memref sig .tc .vmem S1x256 .f32) (h9 : a9.IsWhole)
  (a10 : Memref sig .tc .vmem S1x256 .f32) (h10 : a10.IsWhole)

/-- The operands kept in windows. -/
def opsV (c : Dev nD) (Xs Xd : S1.Idx → Elt F .f32) (me rs ga : S1x256.Idx → Elt F .f32) : sProp 𝕄 :=
  iprop(owns (c : Thread nD τ) a0 fullShare Xs ∗ owns (c : Thread nD τ) a1 fullShare Xd ∗ owns (c : Thread nD τ) a2 fullShare me
    ∗ owns (c : Thread nD τ) a3 fullShare rs ∗ owns (c : Thread nD τ) a4 fullShare ga)

theorem part10_spec (c : Dev nD) (fx : BufX (F := F)) (fg : BufG (F := F)) (fm : BufM (F := F)) (Xs Xd : S1.Idx → Elt F .f32) (me rs ga : S1x256.Idx → Elt F .f32)
    {Q : (Σ' (v188 : Elt F .f32) (v189 : Elt F .f32) (v191 : FVec F S1x256 .f32) (v193 : FVec F S1x256 .f32) (v195 : FVec F S1x256 .f32) (v203 : FVec F S1x256 .f32) (v205 : FVec F S1x256 .f32), FVec F S1x256 .f32) → sProp 𝕄} :
    iprop(pro c fx fg fm 7 6 6 ∗ bufN c k0_pay15 ∗ bufA0 c k0_pay13 ∗ bufA1 c k0_pay14 ∗ opsV a0 a1 a2 a3 a4 c Xs Xd me rs ga ∗ (∃ W, owes (c : Thread nD τ) 0 W))
      ⊢ iprop((iprop(flight1 c fx fg fm 98 98 98 ∗ bufN c k0_pay15 ∗ bufA0 c (acc0N fg fm 196) ∗ bufA1 c (acc1N fx fg fm 196) ∗ opsV a0 a1 a2 a3 a4 c Xs Xd me rs ga ∗ (∃ W, owes (c : Thread nD τ) 0 W))
        -∗ Q ⟨Xs (ix1 (0 : Fin 1)), Xd (ix1 (0 : Fin 1)), k0_pay18 me, k0_pay19 rs, k0_pay20 ga, dbV (Xd (ix1 (0 : Fin 1))) fg fm, k0_pay23 (Xs (ix1 (0 : Fin 1))) (acc1N fx fg fm 196), k0_pay24 me (acc0N fg fm 196)⟩)
      -∗ WP (F := F) c (k0_part10 (F := F) a0 h0 a1 h1 a2 h2 a3 h3 a4 h4 XH (Memref.isWhole_whole _) GH (Memref.isWhole_whole _) MH (Memref.isWhole_whole _) OH (Memref.isWhole_whole _) a9 h9 a10 h10 XB (Memref.isWhole_whole _) GB (Memref.isWhole_whole _) MB (Memref.isWhole_whole _) OB (Memref.isWhole_whole _) NB (Memref.isWhole_whole _) A0 (Memref.isWhole_whole _) A1 (Memref.isWhole_whole _) CB (Memref.isWhole_whole _) cc0_scratch8 cc0_scratch9 cc0_scratch10 cc0_scratch11) Q) := by
  rw [k0_part10_eq_skeleton]
  unfold k0_part10_skel pro opsV dbV
  simp only [wp_bind, wp_pure]
  iintro ⟨⟨HX, HG, HM, HS⟩, HN, H0, H1, ⟨O0, O1, O2, O3, O4⟩, HW⟩ HQ
  iapply (issueG c fg (slabs (gmF fg fm)) (n := 6) (w := 0) (v := 0) (by decide) (by decide) (by decide) (by decide) rfl (show k0_off5 6#32 = ![1536 * 6, 0] from k0_off5_eq 6) (sem_at _ (by decide : 6 < 8) (show k0_off4 6#32 = ![6] from k0_off4_eq 6) _)) $$ [HG HS]
  · isplitl [HG]; · iexact HG
    iexact HS
  iintro ⟨HG, HS⟩
  iapply (issueM c fm (n := 6) (w := 0) (by decide) (by decide) (show k0_off6 6#32 = ![6, 0, 0] from k0_off6_eq 6) (show k0_off5 6#32 = ![1536 * 6, 0] from k0_off5_eq 6) (sem_at _ (by decide : 6 < 8) (show k0_off4 6#32 = ![6] from k0_off4_eq 6) _)) $$ HM
  iintro HM
  iapply (loop_gen c k0_t1_loop k0_t1_ok _ (inv1 c fx fg fm) (fun k u => t1_step a0 h0 a1 h1 a2 h2 a3 h3 a4 h4 a9 h9 a10 h10 c fx fg fm k u)) $$ [HX HG HM HS HN H0 H1 HW]
  · unfold inv1 flight1
    isplitl [HX HG HM HS HW]
    · isplitl [HX HG HM HS]
      · isplitl [HX]; · iexact HX
        isplitl [HG]; · iexact HG
        isplitl [HM]; · iexact HM
        iexact HS
      iexact HW
    isplitl [HN]; · iexact HN
    isplitl [H0]; · iexact H0
    iexact H1
  iintro HI
  ihave HI := (show inv1 c fx fg fm k0_t1_loop.trips ⊢ iprop((flight1 c fx fg fm 98 98 98 ∗ ∃ W, owes (c : Thread nD τ) 0 W)
    ∗ bufN c k0_pay15 ∗ bufA0 c (acc0N fg fm 196) ∗ bufA1 c (acc1N fx fg fm 196)) from .rfl) $$ HI
  icases HI with ⟨⟨HF, HW⟩, HN, H0, H1⟩
  iapply (loadS c a0 Xs) $$ O0
  iintro O0
  iapply (loadS c a1 Xd) $$ O1
  iintro O1
  iapply (loadV c a2 me) $$ O2
  iintro O2
  iapply (loadV c a3 rs) $$ O3
  iintro O3
  iapply (loadV c a4 ga) $$ O4
  iintro O4
  iapply (readA0 c) $$ H0
  iintro H0
  iapply (readA1 c) $$ H1
  iintro H1
  iapply fupd_intro
  iapply HQ
  isplitl [HF]; · iexact HF
  isplitl [HN]; · iexact HN
  isplitl [H0]; · iexact H0
  isplitl [H1]; · iexact H1
  isplitl [O0 O1 O2 O3 O4]
  · isplitl [O0]; · iexact O0
    isplitl [O1]; · iexact O1
    isplitl [O2]; · iexact O2
    isplitl [O3]; · iexact O3
    iexact O4
  iexact HW

theorem part11_spec (c : Dev nD) (fx : BufX (F := F)) (gm : BufG (F := F)) (f : S8x256.Idx → Elt F .f32) (X9 X10 : S1x256.Idx → Elt F .f32)
    (v188 v189 : Elt F .f32) (v191 v193 v195 v203 v205 v206 : FVec F S1x256 .f32) {Q : (Σ' (c43_i32 : BitVec 32), BitVec 32) → sProp 𝕄} :
    iprop(core3 c fx gm (fDX (k0_pay28 v189 v193 v195) (k0_pay29 v188 v189 v193 v195 v205 v206) (k0_pay30 v189 v191 v193 v195 v203 v205 v206) fx gm) f 98 98 0 0
        ∗ owns (c : Thread nD τ) a9 fullShare X9 ∗ owns (c : Thread nD τ) a10 fullShare X10 ∗ (∃ W, owes (c : Thread nD τ) 0 W))
      ⊢ iprop((iprop((∃ f', core3 c fx gm (fDX (k0_pay28 v189 v193 v195) (k0_pay29 v188 v189 v193 v195 v205 v206) (k0_pay30 v189 v191 v193 v195 v203 v205 v206) fx gm) f' 141 141 98 95)
          ∗ owns (c : Thread nD τ) a9 fullShare (k0_pay25 v189 v193 v205 v206) ∗ owns (c : Thread nD τ) a10 fullShare v203 ∗ (∃ W, owes (c : Thread nD τ) 0 W)) -∗ Q ⟨43#32, 95#32⟩)
      -∗ WP (F := F) c (k0_part11 (F := F) a0 h0 a1 h1 a2 h2 a3 h3 a4 h4 XH (Memref.isWhole_whole _) GH (Memref.isWhole_whole _) MH (Memref.isWhole_whole _) OH (Memref.isWhole_whole _) a9 h9 a10 h10 XB (Memref.isWhole_whole _) GB (Memref.isWhole_whole _) MB (Memref.isWhole_whole _) OB (Memref.isWhole_whole _) NB (Memref.isWhole_whole _) A0 (Memref.isWhole_whole _) A1 (Memref.isWhole_whole _) CB (Memref.isWhole_whole _) cc0_scratch8 cc0_scratch9 cc0_scratch10 cc0_scratch11 v188 v189 v191 v193 v195 v203 v205 v206) Q) := by
  rw [k0_part11_eq_skeleton]
  unfold k0_part11_skel core3
  simp only [wp_bind, wp_pure]
  iintro ⟨⟨HX, HS, HC, HO, HD⟩, O9, O10, HW⟩ HQ
  iapply (loadV c a10 X10) $$ O10
  iintro O10
  iapply (storeV c a10 X10 v203) $$ O10
  iintro O10
  iapply (loadV c a9 X9) $$ O9
  iintro O9
  iapply (storeV c a9 X9 (k0_pay25 v189 v193 v205 v206)) $$ O9
  iintro O9
  iapply (loadC c (r := 0) (by decide) _ (fun _ => rfl)) $$ HC
  iintro HC
  iapply (storeC c (r := 0) (by decide) (k0_pay28 v189 v193 v195)) $$ HC
  iintro HC
  iapply (loadC c (r := 1) (by decide) _ (fun _ => rfl)) $$ HC
  iintro HC
  iapply (storeC c (r := 1) (by decide) (k0_pay29 v188 v189 v193 v195 v205 v206)) $$ HC
  iintro HC
  iapply (loadC c (r := 2) (by decide) _ (fun _ => rfl)) $$ HC
  iintro HC
  iapply (storeC c (r := 2) (by decide) (k0_pay30 v189 v191 v193 v195 v203 v205 v206)) $$ HC
  iintro HC
  iapply (loop_gen c k0_t3_loop k0_t3_ok _ (inv3 c fx gm (fDX (k0_pay28 v189 v193 v195) (k0_pay29 v188 v189 v193 v195 v205 v206) (k0_pay30 v189 v191 v193 v195 v203 v205 v206) fx gm) _)
    (fun k u => t3_step a0 h0 a1 h1 a2 h2 a3 h3 a4 h4 a9 h9 a10 h10 c fx gm _ _ _ (rowW 2 (k0_pay30 v189 v191 v193 v195 v203 v205 v206) (rowW 1 (k0_pay29 v188 v189 v193 v195 v205 v206) (rowW 0 (k0_pay28 v189 v193 v195) f)))
      (fun x => congrArg (k0_pay28 v189 v193 v195) (row_ix x)) (fun x => congrArg (k0_pay29 v188 v189 v193 v195 v205 v206) (row_ix x)) (fun x => congrArg (k0_pay30 v189 v191 v193 v195 v203 v205 v206) (row_ix x)) v188 v189 v191 v193 v195 v203 v205 v206 k u)) $$ [HX HS HC HO HD HW]
  · unfold inv3 core3
    isplitr [HW]
    · isplitl [HX]; · iexact HX
      isplitl [HS]; · iexact HS
      isplitl [HC]; · iexact HC
      isplitl [HO]; · iexact HO
      iexact HD
    iexact HW
  iintro HI
  ihave HI := (show inv3 c fx gm (fDX (k0_pay28 v189 v193 v195) (k0_pay29 v188 v189 v193 v195 v205 v206) (k0_pay30 v189 v191 v193 v195 v203 v205 v206) fx gm)
      (rowW 2 (k0_pay30 v189 v191 v193 v195 v203 v205 v206) (rowW 1 (k0_pay29 v188 v189 v193 v195 v205 v206) (rowW 0 (k0_pay28 v189 v193 v195) f))) k0_t3_loop.trips
    ⊢ iprop((∃ f', core3 c fx gm (fDX (k0_pay28 v189 v193 v195) (k0_pay29 v188 v189 v193 v195 v205 v206) (k0_pay30 v189 v191 v193 v195 v203 v205 v206) fx gm) f' 141 141 98 95) ∗ ∃ W, owes (c : Thread nD τ) 0 W)
    from by
      unfold inv3
      iintro ⟨HI, HW⟩
      isplitl [HI]
      · iexists _
        iexact HI
      iexact HW) $$ HI
  icases HI with ⟨HI, HW⟩
  iapply fupd_intro
  iapply HQ
  isplitl [HI]; · unfold core3; iexact HI
  isplitl [O9]; · iexact O9
  isplitl [O10]; · iexact O10
  iexact HW

/-- Everything the body holds, by the counts of its copies. -/
def allV (c : Dev nD) (fx : BufX (F := F)) (fg : BufG (F := F)) (fm : BufM (F := F)) (fD : BufO (F := F)) (nx wx n w : ℕ) : sProp 𝕄 :=
  iprop(AtW (XΦ c fx) (rst 55 nx wx) ∗ AtW (GΦ c fg) (rst 8 n w) ∗ AtW (MΦ c fm) (rst 8 n w) ∗ AtW (SΦ c (slabs (gmF fg fm))) (sst n w)
    ∗ AtW (OΦ c fD) (rst 3 n w) ∗ AtW (DΦ c fD) (sst n w)
    ∗ (∃ f, bufN c f) ∗ (∃ f, bufA0 c f) ∗ (∃ f, bufA1 c f) ∗ (∃ f, bufC c f) ∗ (∃ W, owes (c : Thread nD τ) 0 W))

theorem body_spec (c : Dev nD) (fx : BufX (F := F)) (fg : BufG (F := F)) (fm : BufM (F := F)) (Xs Xd : S1.Idx → Elt F .f32) (me rs ga X9 X10 : S1x256.Idx → Elt F .f32)
    {Q : PUnit → sProp 𝕄} :
    iprop(allV c fx fg fm (dxV (Xs (ix1 (0 : Fin 1))) (Xd (ix1 (0 : Fin 1))) me rs ga fx fg fm) 0 0 0 0 ∗ opsV a0 a1 a2 a3 a4 c Xs Xd me rs ga
        ∗ owns (c : Thread nD τ) a9 fullShare X9 ∗ owns (c : Thread nD τ) a10 fullShare X10)
      ⊢ iprop((iprop(allV c fx fg fm (dxV (Xs (ix1 (0 : Fin 1))) (Xd (ix1 (0 : Fin 1))) me rs ga fx fg fm) 141 141 98 98 ∗ opsV a0 a1 a2 a3 a4 c Xs Xd me rs ga
          ∗ owns (c : Thread nD τ) a9 fullShare (dgV (Xs (ix1 (0 : Fin 1))) (Xd (ix1 (0 : Fin 1))) me rs fx fg fm) ∗ owns (c : Thread nD τ) a10 fullShare (dbV (Xd (ix1 (0 : Fin 1))) fg fm)) -∗ Q ⟨⟩)
      -∗ WP (F := F) c (cc0_bn_relu_bwd (F := F) a0 h0 a1 h1 a2 h2 a3 h3 a4 h4 XH (Memref.isWhole_whole _) GH (Memref.isWhole_whole _) MH (Memref.isWhole_whole _) OH (Memref.isWhole_whole _) a9 h9 a10 h10 XB (Memref.isWhole_whole _) GB (Memref.isWhole_whole _) MB (Memref.isWhole_whole _) OB (Memref.isWhole_whole _) NB (Memref.isWhole_whole _) A0 (Memref.isWhole_whole _) A1 (Memref.isWhole_whole _) CB (Memref.isWhole_whole _) cc0_scratch8 cc0_scratch9 cc0_scratch10 cc0_scratch11) Q) := by
  rw [cc0_bn_relu_bwd_eq_skeleton]
  unfold cc0_bn_relu_bwd_skel allV
  rw [k0_part12_eq_skeleton]
  unfold k0_part12_skel
  simp only [wp_bind, wp_pure]
  iintro ⟨⟨HX, HG, HM, HS, HO, HD, ⟨%fn, HN⟩, ⟨%f0, H0⟩, ⟨%f1, H1⟩, ⟨%fc, HC⟩, HW⟩, HV, O9, O10⟩ HQ
  iapply (part4_spec a0 h0 a1 h1 a2 h2 a3 h3 a4 h4 a9 h9 a10 h10 c fx fg fm) $$ [HX HG HM HS HN H0 H1]
  · unfold pro
    isplitl [HX HG HM HS]
    · isplitl [HX]; · iexact HX
      isplitl [HG]; · iexact HG
      isplitl [HM]; · iexact HM
      iexact HS
    isplitl [HN]; · iexact HN
    isplitl [H0]; · iexact H0
    iexact H1
  iintro ⟨HP, HN, H0, H1⟩
  iapply (part5_spec a0 h0 a1 h1 a2 h2 a3 h3 a4 h4 a9 h9 a10 h10 c fx fg fm) $$ HP
  iintro HP
  iapply (part6_spec a0 h0 a1 h1 a2 h2 a3 h3 a4 h4 a9 h9 a10 h10 c fx fg fm) $$ HP
  iintro HP
  iapply (part7_spec a0 h0 a1 h1 a2 h2 a3 h3 a4 h4 a9 h9 a10 h10 c fx fg fm) $$ HP
  iintro HP
  iapply (part8_spec a0 h0 a1 h1 a2 h2 a3 h3 a4 h4 a9 h9 a10 h10 c fx fg fm) $$ HP
  iintro HP
  iapply (part9_spec a0 h0 a1 h1 a2 h2 a3 h3 a4 h4 a9 h9 a10 h10 c fx fg fm) $$ HP
  iintro HP
  iapply (part10_spec a0 h0 a1 h1 a2 h2 a3 h3 a4 h4 a9 h9 a10 h10 c fx fg fm Xs Xd me rs ga) $$ [HP HN H0 H1 HV HW]
  · isplitl [HP]; · iexact HP
    isplitl [HN]; · iexact HN
    isplitl [H0]; · iexact H0
    isplitl [H1]; · iexact H1
    isplitl [HV]; · iexact HV
    iexact HW
  iintro ⟨HF, HN, H0, H1, HV, HW⟩
  ihave HF := (show flight1 c fx fg fm 98 98 98 ⊢ iprop(AtW (XΦ c fx) (rst 55 98 98) ∗ AtW (GΦ c fg) (rst 8 98 98) ∗ AtW (MΦ c fm) (rst 8 98 98) ∗ AtW (SΦ c (slabs (gmF fg fm))) (sst 98 98)) from .rfl) $$ HF
  icases HF with ⟨HX, HG, HM, HS⟩
  iapply (part11_spec a0 h0 a1 h1 a2 h2 a3 h3 a4 h4 a9 h9 a10 h10 c fx (gmF fg fm) fc X9 X10) $$ [HX HS HC HO HD O9 O10 HW]
  · isplitl [HX HS HC HO HD]
    · unfold core3
      isplitl [HX]; · iexact HX
      isplitl [HS]; · iexact HS
      isplitl [HC]; · iexact HC
      isplitl [HO]; · iexact HO
      iexact HD
    isplitl [O9]; · iexact O9
    isplitl [O10]; · iexact O10
    iexact HW
  iintro ⟨⟨%fc', HI⟩, O9, O10, HW⟩
  unfold core3
  icases HI with ⟨HX, HS, HC, HO, HD⟩
  simp only [wp_bind, wp_pure]
  iapply (waitO c _ (n := 98) (w := 95) (by decide) (by decide) (by decide) (dst := rowsO (k0_off42 95#32) (k0_off42_inb 0)) (sem_at _ (by decide : 95 % 3 < 3) (show k0_off41 95#32 = ![95 % 3] from k0_off41_eq 0) _) rfl) $$ [HO HD HW]
  · isplitl [HO]; · iexact HO
    isplitl [HD]; · iexact HD
    iexact HW
  iintro ⟨HO, HD, HW⟩
  iapply (waitO c _ (n := 98) (w := 96) (by decide) (by decide) (by decide) (dst := rowsO (k0_off42 96#32) (k0_off42_inb 1)) (sem_at _ (by decide : 96 % 3 < 3) (show k0_off41 96#32 = ![96 % 3] from k0_off41_eq 1) _) rfl) $$ [HO HD HW]
  · isplitl [HO]; · iexact HO
    isplitl [HD]; · iexact HD
    iexact HW
  iintro ⟨HO, HD, HW⟩
  iapply fupd_intro
  iapply (waitO c _ (n := 98) (w := 97) (by decide) (by decide) (by decide) (dst := rowsO (k0_off42 97#32) (k0_off42_inb 2)) (sem_at _ (by decide : 97 % 3 < 3) (show k0_off41 97#32 = ![97 % 3] from k0_off41_eq 2) _) rfl) $$ [HO HD HW]
  · isplitl [HO]; · iexact HO
    isplitl [HD]; · iexact HD
    iexact HW
  iintro ⟨HO, HD, HW⟩
  iapply fupd_intro
  iapply HQ
  isplitr [HV O9 O10]
  · isplitl [HX]; · iexact HX
    isplitl [HG]; · iexact HG
    isplitl [HM]; · iexact HM
    isplitl [HS]; · iexact HS
    isplitl [HO]; · iexact HO
    isplitl [HD]; · iexact HD
    isplitl [HN]; · iexists _; iexact HN
    isplitl [H0]; · iexists _; iexact H0
    isplitl [H1]; · iexists _; iexact H1
    isplitl [HC]; · iexists _; iexact HC
    iexact HW
  isplitl [HV]; · iexact HV
  isplitl [O9]; · iexact O9
  iexact O10

end Cert.KernelIdeal.Hand

end
-- ==== Proof.IRings.lean ====
/-
  From the buffers and semaphores the launch hands over to what the body holds before its first copy, and back
  from what it holds after its last.
-/
module

public import proofs.«01_k».proof.Proof.IBody
public import Idealize.ShloMosaic.Lib.Pipeline.FrameBody
public import Idealize.ShloMosaic.Lib.Ring
public import Idealize.ShloMosaic.Lib.Tactic

@[expose] public section

set_option maxRecDepth 16384

noncomputable section

namespace Cert.KernelIdeal.Hand

open Cert.KernelIdeal Cert.KernelIdeal.Gen Cert.Geo
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (AtW AtW_focus restW pointsTo_blocks pointsTo_blocks_join_exists)

variable {F : FTy → Type} [FloatOps F]

local notation "𝕄" => MT nD τ sig Unit (Elt F) ℕ (Pipeline.UD sig nD τ) ℕ

/-- Entailment member by member. -/
theorem sep_mono {I : Type} [Fintype I] {Φ Ψ : I → sProp 𝕄} (h : ∀ s, Φ s ⊢ Ψ s) : bigSep Finset.univ Φ ⊢ bigSep Finset.univ Ψ :=
  BI.bigSep_mono fun s _ => h s
theorem sep2 {I : Type} [Fintype I] (A B : I → sProp 𝕄) : (bigSep Finset.univ fun s => iprop(A s ∗ B s)) = iprop(bigSep Finset.univ A ∗ bigSep Finset.univ B) :=
  BI.bigSep_sep Finset.univ A B
theorem sep3 {I : Type} [Fintype I] (A B C : I → sProp 𝕄) :
    (bigSep Finset.univ fun s => iprop(A s ∗ B s ∗ C s)) = iprop(bigSep Finset.univ A ∗ bigSep Finset.univ B ∗ bigSep Finset.univ C) :=
  (sep2 A fun s => iprop(B s ∗ C s)).trans (congrArg (fun P => iprop(bigSep Finset.univ A ∗ P)) (sep2 B C))

/-! ## Slabs and rows tile their buffers -/

theorem slab_disj {n : ℕ} (b b' : Fin n) (h : b ≠ b') : Disjoint (slab n b.val) (slab n b'.val) :=
  Finset.disjoint_left.mpr fun i hi hi' => h (Fin.ext ((mem_slab.mp hi).symm.trans (mem_slab.mp hi')))
theorem slab_cover {n : ℕ} : Finset.univ.biUnion (fun b : Fin n => slab n b.val) = Finset.univ := by
  ext i
  simp only [Finset.mem_biUnion, Finset.mem_univ, true_and, iff_true]
  exact ⟨i 0, mem_slab.mpr rfl⟩
theorem rows_disj (b b' : Fin 98) (h : b ≠ b') : Disjoint (rows ((b.val + 43) % 98)) (rows ((b'.val + 43) % 98)) :=
  Finset.disjoint_left.mpr fun i hi hi' => h (Fin.ext (by
    have h1 := mem_rows.mp hi
    have h2 := mem_rows.mp hi'
    have := b.isLt
    have := b'.isLt
    omega))
theorem rows_cover : Finset.univ.biUnion (fun b : Fin 98 => rows ((b.val + 43) % 98)) = Finset.univ := by
  ext i
  simp only [Finset.mem_biUnion, Finset.mem_univ, true_and, iff_true]
  have hi : (i 0).val < 150528 := (i 0).isLt
  refine ⟨⟨((i 0).val / 1536 + 55) % 98, Nat.mod_lt _ (by decide)⟩, mem_rows.mpr ?_⟩
  dsimp only
  omega

/-- The buffer whole at some contents, slab by slab, and back. -/
theorem xSlabs_split (c : Dev nD) : iprop(∃ f : S55x1536x256.Idx → Elt F .fp8e4m3, XB.view.loc (c : Thread nD τ) ↦{fullShare} f)
    ⊢ (bigSep Finset.univ fun s : Fin 55 => iprop(∃ f, xSlab c s.val f) : sProp 𝕄) := by
  iintro ⟨%f, H⟩
  ihave H := (show (XB.view.loc (c : Thread nD τ) ↦{fullShare} f : sProp 𝕄) ⊢ bigSep Finset.univ fun s : Fin 55 => iprop(∃ f, xSlab c s.val f) from
    (Entails.of_eq (pointsTo_blocks (ℓ := XB.view.loc (c : Thread nD τ)) (B := Fin 55) (fun s => slab 55 s.val) slab_disj slab_cover f)).trans
      (sep_mono fun s => by iintro H; iexists f; iexact H)) $$ H
  iexact H
theorem xSlabs_join (c : Dev nD) : (bigSep Finset.univ fun s : Fin 55 => iprop(∃ f, xSlab c s.val f) : sProp 𝕄)
    ⊢ iprop(∃ f : S55x1536x256.Idx → Elt F .fp8e4m3, XB.view.loc (c : Thread nD τ) ↦{fullShare} f) :=
  pointsTo_blocks_join_exists (ℓ := XB.view.loc (c : Thread nD τ)) (B := Fin 55) (fun s => slab 55 s.val) slab_disj slab_cover (fun _ => Classical.choice inferInstance)

/-- The buffer whole at some contents, slab by slab, and back. -/
theorem gSlabs_split (c : Dev nD) : iprop(∃ f : S98x1536x256.Idx → Elt F .fp8e5m2, GB.view.loc (c : Thread nD τ) ↦{fullShare} f)
    ⊢ (bigSep Finset.univ fun s : Fin 98 => iprop(∃ f, gSlab c s.val f) : sProp 𝕄) := by
  iintro ⟨%f, H⟩
  ihave H := (show (GB.view.loc (c : Thread nD τ) ↦{fullShare} f : sProp 𝕄) ⊢ bigSep Finset.univ fun s : Fin 98 => iprop(∃ f, gSlab c s.val f) from
    (Entails.of_eq (pointsTo_blocks (ℓ := GB.view.loc (c : Thread nD τ)) (B := Fin 98) (fun s => slab 98 s.val) slab_disj slab_cover f)).trans
      (sep_mono fun s => by iintro H; iexists f; iexact H)) $$ H
  iexact H
theorem gSlabs_join (c : Dev nD) : (bigSep Finset.univ fun s : Fin 98 => iprop(∃ f, gSlab c s.val f) : sProp 𝕄)
    ⊢ iprop(∃ f : S98x1536x256.Idx → Elt F .fp8e5m2, GB.view.loc (c : Thread nD τ) ↦{fullShare} f) :=
  pointsTo_blocks_join_exists (ℓ := GB.view.loc (c : Thread nD τ)) (B := Fin 98) (fun s => slab 98 s.val) slab_disj slab_cover (fun _ => Classical.choice inferInstance)

/-- The buffer whole at some contents, slab by slab, and back. -/
theorem mSlabs_split (c : Dev nD) : iprop(∃ f : S8x1536x256.Idx → Elt F .i8, MB.view.loc (c : Thread nD τ) ↦{fullShare} f)
    ⊢ (bigSep Finset.univ fun s : Fin 8 => iprop(∃ f, mSlab c s.val f) : sProp 𝕄) := by
  iintro ⟨%f, H⟩
  ihave H := (show (MB.view.loc (c : Thread nD τ) ↦{fullShare} f : sProp 𝕄) ⊢ bigSep Finset.univ fun s : Fin 8 => iprop(∃ f, mSlab c s.val f) from
    (Entails.of_eq (pointsTo_blocks (ℓ := MB.view.loc (c : Thread nD τ)) (B := Fin 8) (fun s => slab 8 s.val) slab_disj slab_cover f)).trans
      (sep_mono fun s => by iintro H; iexists f; iexact H)) $$ H
  iexact H
theorem mSlabs_join (c : Dev nD) : (bigSep Finset.univ fun s : Fin 8 => iprop(∃ f, mSlab c s.val f) : sProp 𝕄)
    ⊢ iprop(∃ f : S8x1536x256.Idx → Elt F .i8, MB.view.loc (c : Thread nD τ) ↦{fullShare} f) :=
  pointsTo_blocks_join_exists (ℓ := MB.view.loc (c : Thread nD τ)) (B := Fin 8) (fun s => slab 8 s.val) slab_disj slab_cover (fun _ => Classical.choice inferInstance)

/-- The buffer whole at some contents, slab by slab, and back. -/
theorem oSlabs_split (c : Dev nD) : iprop(∃ f : S3x1536x256.Idx → Elt F .bf16, OB.view.loc (c : Thread nD τ) ↦{fullShare} f)
    ⊢ (bigSep Finset.univ fun s : Fin 3 => iprop(∃ f, oSlab c s.val f) : sProp 𝕄) := by
  iintro ⟨%f, H⟩
  ihave H := (show (OB.view.loc (c : Thread nD τ) ↦{fullShare} f : sProp 𝕄) ⊢ bigSep Finset.univ fun s : Fin 3 => iprop(∃ f, oSlab c s.val f) from
    (Entails.of_eq (pointsTo_blocks (ℓ := OB.view.loc (c : Thread nD τ)) (B := Fin 3) (fun s => slab 3 s.val) slab_disj slab_cover f)).trans
      (sep_mono fun s => by iintro H; iexists f; iexact H)) $$ H
  iexact H
theorem oSlabs_join (c : Dev nD) : (bigSep Finset.univ fun s : Fin 3 => iprop(∃ f, oSlab c s.val f) : sProp 𝕄)
    ⊢ iprop(∃ f : S3x1536x256.Idx → Elt F .bf16, OB.view.loc (c : Thread nD τ) ↦{fullShare} f) :=
  pointsTo_blocks_join_exists (ℓ := OB.view.loc (c : Thread nD τ)) (B := Fin 3) (fun s => slab 3 s.val) slab_disj slab_cover (fun _ => Classical.choice inferInstance)

/-- The ring at rest: its pieces one family each. -/
theorem ringX_rest (c : Dev nD) (f : BufX (F := F)) : (bigSep Finset.univ fun s : Fin 55 => XΦ c f s none : sProp 𝕄)
    = iprop((bigSep Finset.univ fun s : Fin 55 => iprop(∃ f, xSlab c s.val f)) ∗ (bigSep Finset.univ fun s : Fin 55 => semVal ((c : Thread nD τ), .dma (xSem s)) 0) ∗ (bigSep Finset.univ fun s : Fin 55 => xPart c s Finset.univ f)) := by
  show (bigSep Finset.univ fun s : Fin 55 => iprop((∃ f, xSlab c s.val f) ∗ semVal ((c : Thread nD τ), .dma (xSem s)) 0 ∗ xPart c s Finset.univ f)) = _
  exact sep3 _ _ _
theorem ringX_start (c : Dev nD) (f : BufX (F := F)) :
    iprop((bigSep Finset.univ fun s : Fin 55 => iprop(∃ f, xSlab c s.val f)) ∗ (bigSep Finset.univ fun s : Fin 55 => semVal ((c : Thread nD τ), .dma (xSem s)) 0) ∗ (XH.view.loc (c : Thread nD τ) ↦{fullShare} f))
      ⊢ (iprop(AtW (XΦ c f) (rst 55 0 0) ∗ (XH.view.loc (c : Thread nD τ) ↦{Transfers.shareDrop fullShare 55} f)) : sProp 𝕄) := by
  have e : (AtW (XΦ c f) (rst 55 0 0) : sProp 𝕄) = bigSep Finset.univ fun s : Fin 55 => XΦ c f s none :=
    BI.bigSep_congr fun s _ => by rw [rst_zero]
  rw [e, ringX_rest]
  iintro ⟨HS, Hs, Hf⟩
  ihave Hf := (Transfers.pointsTo_toks_split (ℓ := XH.view.loc (c : Thread nD τ)) (S := Finset.univ) (f := f) fullShare 55) $$ Hf
  icases Hf with ⟨Hd, Hf⟩
  isplitr [Hd]
  · isplitl [HS]; · iexact HS
    isplitl [Hs]; · iexact Hs
    iexact Hf
  iexact Hd
theorem ringX_stop (c : Dev nD) (f : BufX (F := F)) (n : ℕ) :
    (iprop(AtW (XΦ c f) (rst 55 n n) ∗ (XH.view.loc (c : Thread nD τ) ↦{Transfers.shareDrop fullShare 55} f)) : sProp 𝕄)
      ⊢ iprop((bigSep Finset.univ fun s : Fin 55 => iprop(∃ f, xSlab c s.val f)) ∗ (bigSep Finset.univ fun s : Fin 55 => semVal ((c : Thread nD τ), .dma (xSem s)) 0) ∗ (XH.view.loc (c : Thread nD τ) ↦{fullShare} f)) := by
  have e : (AtW (XΦ c f) (rst 55 n n) : sProp 𝕄) ⊢ bigSep Finset.univ fun s : Fin 55 => XΦ c f s none :=
    sep_mono fun s => by
      rcases rst_idle (N := 55) (n := n) s with h | ⟨p, h⟩
      · rw [h]
      · rw [h]; exact XΦ_free c f s p
  iintro ⟨H, Hd⟩
  ihave H := e.trans (Entails.of_eq (ringX_rest c f)) $$ H
  icases H with ⟨HS, Hs, Hf⟩
  isplitl [HS]; · iexact HS
  isplitl [Hs]; · iexact Hs
  iapply (Transfers.pointsTo_toks_join (ℓ := XH.view.loc (c : Thread nD τ)) (S := Finset.univ) (f := f) fullShare 55)
  isplitl [Hd]; · iexact Hd
  iexact Hf

/-- The ring at rest: its pieces one family each. -/
theorem ringM_rest (c : Dev nD) (f : BufM (F := F)) : (bigSep Finset.univ fun s : Fin 8 => MΦ c f s none : sProp 𝕄)
    = iprop((bigSep Finset.univ fun s : Fin 8 => iprop(∃ f, mSlab c s.val f)) ∗ (bigSep Finset.univ fun s : Fin 8 => semVal ((c : Thread nD τ), .dma (mSem s)) 0) ∗ (bigSep Finset.univ fun s : Fin 8 => mPart c s Finset.univ f)) := by
  show (bigSep Finset.univ fun s : Fin 8 => iprop((∃ f, mSlab c s.val f) ∗ semVal ((c : Thread nD τ), .dma (mSem s)) 0 ∗ mPart c s Finset.univ f)) = _
  exact sep3 _ _ _
theorem ringM_start (c : Dev nD) (f : BufM (F := F)) :
    iprop((bigSep Finset.univ fun s : Fin 8 => iprop(∃ f, mSlab c s.val f)) ∗ (bigSep Finset.univ fun s : Fin 8 => semVal ((c : Thread nD τ), .dma (mSem s)) 0) ∗ (MH.view.loc (c : Thread nD τ) ↦{fullShare} f))
      ⊢ (iprop(AtW (MΦ c f) (rst 8 0 0) ∗ (MH.view.loc (c : Thread nD τ) ↦{Transfers.shareDrop fullShare 8} f)) : sProp 𝕄) := by
  have e : (AtW (MΦ c f) (rst 8 0 0) : sProp 𝕄) = bigSep Finset.univ fun s : Fin 8 => MΦ c f s none :=
    BI.bigSep_congr fun s _ => by rw [rst_zero]
  rw [e, ringM_rest]
  iintro ⟨HS, Hs, Hf⟩
  ihave Hf := (Transfers.pointsTo_toks_split (ℓ := MH.view.loc (c : Thread nD τ)) (S := Finset.univ) (f := f) fullShare 8) $$ Hf
  icases Hf with ⟨Hd, Hf⟩
  isplitr [Hd]
  · isplitl [HS]; · iexact HS
    isplitl [Hs]; · iexact Hs
    iexact Hf
  iexact Hd
theorem ringM_stop (c : Dev nD) (f : BufM (F := F)) (n : ℕ) :
    (iprop(AtW (MΦ c f) (rst 8 n n) ∗ (MH.view.loc (c : Thread nD τ) ↦{Transfers.shareDrop fullShare 8} f)) : sProp 𝕄)
      ⊢ iprop((bigSep Finset.univ fun s : Fin 8 => iprop(∃ f, mSlab c s.val f)) ∗ (bigSep Finset.univ fun s : Fin 8 => semVal ((c : Thread nD τ), .dma (mSem s)) 0) ∗ (MH.view.loc (c : Thread nD τ) ↦{fullShare} f)) := by
  have e : (AtW (MΦ c f) (rst 8 n n) : sProp 𝕄) ⊢ bigSep Finset.univ fun s : Fin 8 => MΦ c f s none :=
    sep_mono fun s => by
      rcases rst_idle (N := 8) (n := n) s with h | ⟨p, h⟩
      · rw [h]
      · rw [h]; exact MΦ_free c f s p
  iintro ⟨H, Hd⟩
  ihave H := e.trans (Entails.of_eq (ringM_rest c f)) $$ H
  icases H with ⟨HS, Hs, Hf⟩
  isplitl [HS]; · iexact HS
  isplitl [Hs]; · iexact Hs
  iapply (Transfers.pointsTo_toks_join (ℓ := MH.view.loc (c : Thread nD τ)) (S := Finset.univ) (f := f) fullShare 8)
  isplitl [Hd]; · iexact Hd
  iexact Hf

/-- The ring at rest: its pieces one family each. -/
theorem ringG_rest (c : Dev nD) (f : BufG (F := F)) : (bigSep Finset.univ fun s : Fin 8 => GΦ c f s none : sProp 𝕄)
    = iprop((bigSep Finset.univ fun s : Fin 8 => semVal ((c : Thread nD τ), .dma (gSem s)) 0) ∗ (bigSep Finset.univ fun s : Fin 8 => gPart c s Finset.univ f)) := by
  show (bigSep Finset.univ fun s : Fin 8 => iprop(semVal ((c : Thread nD τ), .dma (gSem s)) 0 ∗ gPart c s Finset.univ f)) = _
  exact sep2 _ _
theorem ringG_start (c : Dev nD) (f : BufG (F := F)) :
    iprop((bigSep Finset.univ fun s : Fin 8 => semVal ((c : Thread nD τ), .dma (gSem s)) 0) ∗ (GH.view.loc (c : Thread nD τ) ↦{fullShare} f))
      ⊢ (iprop(AtW (GΦ c f) (rst 8 0 0) ∗ (GH.view.loc (c : Thread nD τ) ↦{Transfers.shareDrop fullShare 8} f)) : sProp 𝕄) := by
  have e : (AtW (GΦ c f) (rst 8 0 0) : sProp 𝕄) = bigSep Finset.univ fun s : Fin 8 => GΦ c f s none :=
    BI.bigSep_congr fun s _ => by rw [rst_zero]
  rw [e, ringG_rest]
  iintro ⟨Hs, Hf⟩
  ihave Hf := (Transfers.pointsTo_toks_split (ℓ := GH.view.loc (c : Thread nD τ)) (S := Finset.univ) (f := f) fullShare 8) $$ Hf
  icases Hf with ⟨Hd, Hf⟩
  isplitr [Hd]
  · skip
    isplitl [Hs]; · iexact Hs
    iexact Hf
  iexact Hd
theorem ringG_stop (c : Dev nD) (f : BufG (F := F)) (n : ℕ) :
    (iprop(AtW (GΦ c f) (rst 8 n n) ∗ (GH.view.loc (c : Thread nD τ) ↦{Transfers.shareDrop fullShare 8} f)) : sProp 𝕄)
      ⊢ iprop((bigSep Finset.univ fun s : Fin 8 => semVal ((c : Thread nD τ), .dma (gSem s)) 0) ∗ (GH.view.loc (c : Thread nD τ) ↦{fullShare} f)) := by
  have e : (AtW (GΦ c f) (rst 8 n n) : sProp 𝕄) ⊢ bigSep Finset.univ fun s : Fin 8 => GΦ c f s none :=
    sep_mono fun s => by
      rcases rst_idle (N := 8) (n := n) s with h | ⟨p, h⟩
      · rw [h]
      · rw [h]; exact .rfl
  iintro ⟨H, Hd⟩
  ihave H := e.trans (Entails.of_eq (ringG_rest c f)) $$ H
  icases H with ⟨Hs, Hf⟩
  skip
  isplitl [Hs]; · iexact Hs
  iapply (Transfers.pointsTo_toks_join (ℓ := GH.view.loc (c : Thread nD τ)) (S := Finset.univ) (f := f) fullShare 8)
  isplitl [Hd]; · iexact Hd
  iexact Hf

/-! ## The slabs of the gradients, the result's ring, the result's rows -/

theorem slabsG_start (c : Dev nD) (fM : S98x1536x256.Idx → Elt F .fp8e5m2) :
    (bigSep Finset.univ fun s : Fin 98 => iprop(∃ f, gSlab c s.val f) : sProp 𝕄) ⊢ AtW (SΦ c fM) (sst 0 0) :=
  sep_mono fun s => by rw [sst_zero]; exact .rfl
theorem slabsG_stop (c : Dev nD) (fM : S98x1536x256.Idx → Elt F .fp8e5m2) :
    AtW (SΦ c fM) (sst 98 98) ⊢ (bigSep Finset.univ fun s : Fin 98 => iprop(∃ f, gSlab c s.val f) : sProp 𝕄) :=
  sep_mono fun s => by
    rw [sst_fin s s.isLt]
    show (gSlab c s.val fM : sProp 𝕄) ⊢ _
    iintro H; iexists fM; iexact H
theorem ringO_rest (c : Dev nD) (f : BufO (F := F)) : (bigSep Finset.univ fun s : Fin 3 => OΦ c f s none : sProp 𝕄)
    = iprop((bigSep Finset.univ fun s : Fin 3 => iprop(∃ f, oSlab c s.val f)) ∗ (bigSep Finset.univ fun s : Fin 3 => semVal ((c : Thread nD τ), .dma (oSem s)) 0)) := by
  show (bigSep Finset.univ fun s : Fin 3 => iprop((∃ f, oSlab c s.val f) ∗ semVal ((c : Thread nD τ), .dma (oSem s)) 0)) = _
  exact sep2 _ _
theorem ringO_start (c : Dev nD) (f : BufO (F := F)) :
    iprop((bigSep Finset.univ fun s : Fin 3 => iprop(∃ f, oSlab c s.val f)) ∗ (bigSep Finset.univ fun s : Fin 3 => semVal ((c : Thread nD τ), .dma (oSem s)) 0))
      ⊢ (AtW (OΦ c f) (rst 3 0 0) : sProp 𝕄) := by
  have e : (AtW (OΦ c f) (rst 3 0 0) : sProp 𝕄) = bigSep Finset.univ fun s : Fin 3 => OΦ c f s none :=
    BI.bigSep_congr fun s _ => by rw [rst_zero]
  rw [e, ringO_rest]
theorem ringO_stop (c : Dev nD) (f : BufO (F := F)) (n : ℕ) :
    (AtW (OΦ c f) (rst 3 n n) : sProp 𝕄)
      ⊢ iprop((bigSep Finset.univ fun s : Fin 3 => iprop(∃ f, oSlab c s.val f)) ∗ (bigSep Finset.univ fun s : Fin 3 => semVal ((c : Thread nD τ), .dma (oSem s)) 0)) := by
  refine BIBase.Entails.trans (sep_mono fun s => ?_) (Entails.of_eq (ringO_rest c f))
  rcases rst_idle (N := 3) (n := n) s with h | ⟨p, h⟩
  · rw [h]
  · rw [h]; exact .rfl
theorem rowsD_start (c : Dev nD) (fD f : BufO (F := F)) :
    (OH.view.loc (c : Thread nD τ) ↦{fullShare} f : sProp 𝕄) ⊢ AtW (DΦ c fD) (sst 0 0) :=
  (Entails.of_eq (pointsTo_blocks (ℓ := OH.view.loc (c : Thread nD τ)) (B := Fin 98) (fun s => rows ((s.val + 43) % 98)) rows_disj rows_cover f)).trans
    (sep_mono fun s => by
      rw [sst_zero]
      show (oRows c ((s.val + 43) % 98) f : sProp 𝕄) ⊢ iprop(∃ f, oRows c ((s.val + 43) % 98) f)
      iintro H; iexists f; iexact H)
theorem rowsD_stop (c : Dev nD) (fD : BufO (F := F)) :
    AtW (DΦ c fD) (sst 98 98) ⊢ (OH.view.loc (c : Thread nD τ) ↦{fullShare} fD : sProp 𝕄) :=
  BIBase.Entails.trans (sep_mono fun s => by rw [sst_fin s s.isLt]; exact .rfl)
    (Entails.of_eq (pointsTo_blocks (ℓ := OH.view.loc (c : Thread nD τ)) (B := Fin 98) (fun s => rows ((s.val + 43) % 98)) rows_disj rows_cover fD).symm)

/-! ## All of it -/

/-- The eight scratch buffers, each at some contents. -/
def scrV (c : Dev nD) : sProp 𝕄 :=
  iprop((∃ f : S55x1536x256.Idx → Elt F .fp8e4m3, XB.view.loc (c : Thread nD τ) ↦{fullShare} f) ∗ (∃ f : S98x1536x256.Idx → Elt F .fp8e5m2, GB.view.loc (c : Thread nD τ) ↦{fullShare} f)
    ∗ (∃ f : S8x1536x256.Idx → Elt F .i8, MB.view.loc (c : Thread nD τ) ↦{fullShare} f) ∗ (∃ f : S3x1536x256.Idx → Elt F .bf16, OB.view.loc (c : Thread nD τ) ↦{fullShare} f)
    ∗ (∃ f, bufN (F := F) c f) ∗ (∃ f, bufA0 (F := F) c f) ∗ (∃ f, bufA1 (F := F) c f) ∗ (∃ f, bufC (F := F) c f))
/-- The semaphores, all at zero. -/
def semV (c : Dev nD) : sProp 𝕄 :=
  iprop((bigSep Finset.univ fun s : Fin 55 => semVal ((c : Thread nD τ), .dma (xSem s)) 0) ∗ (bigSep Finset.univ fun s : Fin 8 => semVal ((c : Thread nD τ), .dma (gSem s)) 0)
    ∗ (bigSep Finset.univ fun s : Fin 8 => semVal ((c : Thread nD τ), .dma (mSem s)) 0) ∗ (bigSep Finset.univ fun s : Fin 3 => semVal ((c : Thread nD τ), .dma (oSem s)) 0))
/-- The three arrays read. -/
def inV (c : Dev nD) (fx : BufX (F := F)) (fg : BufG (F := F)) (fm : BufM (F := F)) : sProp 𝕄 :=
  iprop((XH.view.loc (c : Thread nD τ) ↦{fullShare} fx) ∗ (GH.view.loc (c : Thread nD τ) ↦{fullShare} fg) ∗ (MH.view.loc (c : Thread nD τ) ↦{fullShare} fm))
/-- What no copy borrows of the three arrays read. -/
def dropV (c : Dev nD) (fx : BufX (F := F)) (fg : BufG (F := F)) (fm : BufM (F := F)) : sProp 𝕄 :=
  iprop((XH.view.loc (c : Thread nD τ) ↦{Transfers.shareDrop fullShare 55} fx) ∗ (GH.view.loc (c : Thread nD τ) ↦{Transfers.shareDrop fullShare 8} fg)
    ∗ (MH.view.loc (c : Thread nD τ) ↦{Transfers.shareDrop fullShare 8} fm))

theorem all_start (c : Dev nD) (fx : BufX (F := F)) (fg : BufG (F := F)) (fm : BufM (F := F)) (fD f : BufO (F := F)) :
    iprop(scrV (F := F) c ∗ semV (F := F) c ∗ inV c fx fg fm ∗ (OH.view.loc (c : Thread nD τ) ↦{fullShare} f) ∗ (∃ W, owes (c : Thread nD τ) 0 W))
      ⊢ iprop(allV c fx fg fm fD 0 0 0 0 ∗ dropV c fx fg fm) := by
  unfold scrV semV inV allV dropV
  iintro ⟨⟨HX, HG, HM, HO, HN, H0, H1, HC⟩, ⟨SX, SG, SM, SO⟩, ⟨FX, FG, FM⟩, FO, HW⟩
  ihave HX := (xSlabs_split (F := F) c) $$ HX
  ihave HG := (gSlabs_split (F := F) c) $$ HG
  ihave HM := (mSlabs_split (F := F) c) $$ HM
  ihave HO := (oSlabs_split (F := F) c) $$ HO
  ihave HX := (ringX_start c fx) $$ [HX SX FX]
  · isplitl [HX]; · iexact HX
    isplitl [SX]; · iexact SX
    iexact FX
  icases HX with ⟨HX, DX⟩
  ihave HM := (ringM_start c fm) $$ [HM SM FM]
  · isplitl [HM]; · iexact HM
    isplitl [SM]; · iexact SM
    iexact FM
  icases HM with ⟨HM, DM⟩
  ihave RG := (ringG_start c fg) $$ [SG FG]
  · isplitl [SG]; · iexact SG
    iexact FG
  icases RG with ⟨RG, DG⟩
  ihave HG := (slabsG_start c (slabs (gmF fg fm))) $$ HG
  ihave HO := (ringO_start c fD) $$ [HO SO]
  · isplitl [HO]; · iexact HO
    iexact SO
  ihave FO := (rowsD_start c fD f) $$ FO
  isplitr [DX DG DM]
  · isplitl [HX]; · iexact HX
    isplitl [RG]; · iexact RG
    isplitl [HM]; · iexact HM
    isplitl [HG]; · iexact HG
    isplitl [HO]; · iexact HO
    isplitl [FO]; · iexact FO
    isplitl [HN]; · iexact HN
    isplitl [H0]; · iexact H0
    isplitl [H1]; · iexact H1
    isplitl [HC]; · iexact HC
    iexact HW
  isplitl [DX]; · iexact DX
  isplitl [DG]; · iexact DG
  iexact DM

theorem all_stop (c : Dev nD) (fx : BufX (F := F)) (fg : BufG (F := F)) (fm : BufM (F := F)) (fD : BufO (F := F)) :
    iprop(allV c fx fg fm fD 141 141 98 98 ∗ dropV c fx fg fm)
      ⊢ iprop(scrV (F := F) c ∗ semV (F := F) c ∗ inV c fx fg fm ∗ (OH.view.loc (c : Thread nD τ) ↦{fullShare} fD) ∗ (∃ W, owes (c : Thread nD τ) 0 W)) := by
  unfold scrV semV inV allV dropV
  iintro ⟨⟨HX, RG, HM, HG, HO, FO, HN, H0, H1, HC, HW⟩, DX, DG, DM⟩
  ihave HX := (ringX_stop c fx 141) $$ [HX DX]
  · isplitl [HX]; · iexact HX
    iexact DX
  icases HX with ⟨HX, SX, FX⟩
  ihave HM := (ringM_stop c fm 98) $$ [HM DM]
  · isplitl [HM]; · iexact HM
    iexact DM
  icases HM with ⟨HM, SM, FM⟩
  ihave RG := (ringG_stop c fg 98) $$ [RG DG]
  · isplitl [RG]; · iexact RG
    iexact DG
  icases RG with ⟨SG, FG⟩
  ihave HG := (slabsG_stop c (slabs (gmF fg fm))) $$ HG
  ihave HO := (ringO_stop c fD 98) $$ HO
  icases HO with ⟨HO, SO⟩
  ihave FO := (rowsD_stop c fD) $$ FO
  ihave HX := (xSlabs_join (F := F) c) $$ HX
  ihave HG := (gSlabs_join (F := F) c) $$ HG
  ihave HM := (mSlabs_join (F := F) c) $$ HM
  ihave HO := (oSlabs_join (F := F) c) $$ HO
  isplitl [HX HG HM HO HN H0 H1 HC]
  · isplitl [HX]; · iexact HX
    isplitl [HG]; · iexact HG
    isplitl [HM]; · iexact HM
    isplitl [HO]; · iexact HO
    isplitl [HN]; · iexact HN
    isplitl [H0]; · iexact H0
    isplitl [H1]; · iexact H1
    iexact HC
  isplitl [SX SG SM SO]
  · isplitl [SX]; · iexact SX
    isplitl [SG]; · iexact SG
    isplitl [SM]; · iexact SM
    iexact SO
  isplitl [FX FG FM]
  · isplitl [FX]; · iexact FX
    isplitl [FG]; · iexact FG
    iexact FM
  isplitl [FO]; · iexact FO
  iexact HW

end Cert.KernelIdeal.Hand

end
-- ==== Proof.IRun.lean ====
/-
  The launch: the arrays as the kernel finds them, what each window holds before and after its one point, the
  body's obligation, and the run from the launch to the results.
-/
module

public import proofs.«01_k».proof.Proof.IRings
public import Idealize.ShloMosaic.Lib.Pipeline.FrameBody
public import Idealize.ShloMosaic.Lib.Pipeline.FrameValue
public import proofs.«01_k».proof.Proof.Gen.KernelIdeal.Points
public import Idealize.ShloMosaic.Lib.Ring
public import Idealize.ShloMosaic.Lib.Tactic

@[expose] public section

set_option maxRecDepth 16384

noncomputable section

namespace Cert.KernelIdeal.Hand

open Cert.KernelIdeal Cert.KernelIdeal.Gen Cert.Geo
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The arrays as the kernel finds them -/

/-- Core `c`'s buffers after the reshapes before the kernel. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Window `w`'s block at point `t`, read off the array the kernel finds. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The semaphores and buffers the kernel uses on its own -/

def osem0 : Fin 55 ⊕ Fin 8 ⊕ Fin 8 ⊕ Fin 3 → SemLoc sig :=
  Sum.elim (fun s => .dma (xSem s)) (Sum.elim (fun s => .dma (gSem s)) (Sum.elim (fun s => .dma (mSem s)) (fun s => .dma (oSem s))))
theorem ownSemFacts0 : Pipeline.OwnSemFacts spec0 osem0 := by decide +kernel

theorem ownSems_eq (c : Dev nD) : (Pipeline.ownSems0 (Ix := Unit) (Name := ℕ) (U := Pipeline.UD sig nD τ) (Lvl := ℕ) (Val := Elt F) (τ := τ) osem0 c : sProp 𝕄) = semV (F := F) c := by
  unfold Pipeline.ownSems0 semV
  rw [BI.bigSep_univ_sum, BI.bigSep_univ_sum, BI.bigSep_univ_sum]
  rfl

abbrev H0 : Finset (Ref sig .tc) := {main_v5, main_v6, main_v7}
abbrev R0 : Finset (Ref sig .tc) := {main_v8_0}
theorem H0_sub : H0 ⊆ Pipeline.restRefs sig spec0 := by decide
theorem R0_sub : R0 ⊆ Pipeline.restRefs sig spec0 \ H0 := by decide

/-- The arrays read, by their names. -/
abbrev aX (c : Dev nD) : BufX (F := F) := V m c main_v5
abbrev aG (c : Dev nD) : BufG (F := F) := V m c main_v6
abbrev aM (c : Dev nD) : BufM (F := F) := V m c main_v7
/-- The blocks of the five small operands. -/
abbrev bXs (c : Dev nD) (t : Fin cfg0.N) : S1.Idx → Elt F .f32 := iblk m c 0 t
abbrev bXd (c : Dev nD) (t : Fin cfg0.N) : S1.Idx → Elt F .f32 := iblk m c 1 t
abbrev bMe (c : Dev nD) (t : Fin cfg0.N) : S1x256.Idx → Elt F .f32 := iblk m c 2 t
abbrev bRs (c : Dev nD) (t : Fin cfg0.N) : S1x256.Idx → Elt F .f32 := iblk m c 3 t
abbrev bGa (c : Dev nD) (t : Fin cfg0.N) : S1x256.Idx → Elt F .f32 := iblk m c 4 t

/-- The three results. -/
def rDx (c : Dev nD) (t : Fin cfg0.N) : BufO (F := F) :=
  dxV (bXs m c t (ix1 (0 : Fin 1))) (bXd m c t (ix1 (0 : Fin 1))) (bMe m c t) (bRs m c t) (bGa m c t) (aX m c) (aG m c) (aM m c)
def rDg (c : Dev nD) (t : Fin cfg0.N) : S1x256.Idx → Elt F .f32 :=
  dgV (bXs m c t (ix1 (0 : Fin 1))) (bXd m c t (ix1 (0 : Fin 1))) (bMe m c t) (bRs m c t) (aX m c) (aG m c) (aM m c)
def rDb (c : Dev nD) (t : Fin cfg0.N) : S1x256.Idx → Elt F .f32 := dbV (bXd m c t (ix1 (0 : Fin 1))) (aG m c) (aM m c)

/-- The buffers after the run: the first result written. -/
def G (c : Dev nD) (b : Ref sig .tc) : Buf (Elt F) ((c : Thread nD τ).loc b) := Function.update (V m c) main_v8_0 (rDx m c t0_0) b

theorem PhiG_eq (W : (c : Dev nD) → (b : Ref sig .tc) → Buf (Elt F) ((c : Thread nD τ).loc b)) (c : Dev nD) :
    (Pipeline.ΦDRG osem0 spec0 H0 R0 (V m) W c : sProp 𝕄)
      = iprop(scrV (F := F) c ∗ (∃ r, prngReg c r) ∗ semV (F := F) c ∗ inV c (aX m c) (aG m c) (aM m c) ∗ (OH.view.loc (c : Thread nD τ) ↦{fullShare} (W c main_v8_0 : BufO (F := F)))) := by
  rw [Pipeline.ΦDRG_eq, scopedRest0_eq, ownSems_eq]
  unfold Pipeline.routed
  rw [BI.bigSep_eq_bigSepL_of_eq [main_v5, main_v6, main_v7] (by decide) (by decide), BI.bigSep_eq_bigSepL_of_eq [main_v8_0] (by decide) (by decide)]
  rfl

/-- The proof data: the arrays as found; each window's buffer after the body; the body's own holdings before and after. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => rDg m c t
    | ⟨6, _⟩ => rDb m c t
  Φ k := if k.val = 0 then Pipeline.ΦDRG osem0 spec0 H0 R0 (V m) (V m) c else Pipeline.ΦDRG osem0 spec0 H0 R0 (V m) (G m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = rDg m c t := by dsimp only [dats]
theorem after0_6 (c : Dev nD) (t : Fin cfg0.N) : (dats m 0 c).after 6 t = rDb m c t := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d

theorem Phi_first (c : Dev nD) (t : Fin cfg0.N) : (dats m 0 c).Φ t.castSucc = Pipeline.ΦDRG osem0 spec0 H0 R0 (V m) (V m) c := by
  rw [fin_N0 t]; rfl
theorem Phi_last (c : Dev nD) (t : Fin cfg0.N) : (dats m 0 c).Φ t.succ = Pipeline.ΦDRG osem0 spec0 H0 R0 (V m) (G m) c := by
  rw [fin_N0 t]; rfl
theorem G_dx (c : Dev nD) (t : Fin cfg0.N) : (G m c main_v8_0 : BufO (F := F)) = rDx m c t := by
  rw [fin_N0 t]; unfold G; rw [Function.update_self]

abbrev ms0_0 (t : Fin cfg0.N) := win0_0.stage (cfg0.slots t 0)
abbrev ms0_1 (t : Fin cfg0.N) := win0_1.stage (cfg0.slots t 1)
abbrev ms0_2 (t : Fin cfg0.N) := win0_2.stage (cfg0.slots t 2)
abbrev ms0_3 (t : Fin cfg0.N) := win0_3.stage (cfg0.slots t 3)
abbrev ms0_4 (t : Fin cfg0.N) := win0_4.stage (cfg0.slots t 4)
abbrev ms0_5 (t : Fin cfg0.N) := win0_5.stage (cfg0.slots t 5)
abbrev ms0_6 (t : Fin cfg0.N) := win0_6.stage (cfg0.slots t 6)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [Phi_first, Phi_last, PhiG_eq, PhiG_eq, G_dx m c t]
  simp only [before0_0, before0_1, before0_2, before0_3, before0_4, after0_0, after0_1, after0_2, after0_3, after0_4, after0_5, after0_6]
  unfold Dat.owesAt Pipeline.owesWithin
  rw [show (dats m 0 c).owed t.castSucc = 0 from rfl, show (dats m 0 c).owed t.succ = 0 from rfl]
  iintro ⟨⟨HS, Hr, Hq, HI, HO⟩, ⟨%W, -, HW⟩, ⟨%d0, B0⟩, ⟨%d1, B1⟩, ⟨%d2, B2⟩, ⟨%d3, B3⟩, ⟨%d4, B4⟩, ⟨%d5, B5⟩, ⟨%d6, B6⟩⟩
  ihave HA := (all_start c (aX m c) (aG m c) (aM m c) (rDx m c t) (V m c main_v8_0)) $$ [HS Hq HI HO HW]
  · isplitl [HS]; · iexact HS
    isplitl [Hq]; · iexact Hq
    isplitl [HI]; · iexact HI
    isplitl [HO]; · iexact HO
    iexists W; iexact HW
  icases HA with ⟨HA, HD⟩
  iapply (body_spec (ms0_0 t) (hstage0_0 0) (ms0_1 t) (hstage0_1 0) (ms0_2 t) (hstage0_2 0) (ms0_3 t) (hstage0_3 0) (ms0_4 t) (hstage0_4 0) (ms0_5 t) (hstage0_5 0) (ms0_6 t) (hstage0_6 0)
    c (aX m c) (aG m c) (aM m c) (bXs m c t) (bXd m c t) (bMe m c t) (bRs m c t) (bGa m c t) ((dats m 0 c).before 5 t d5) ((dats m 0 c).before 6 t d6)) $$ [HA B0 B1 B2 B3 B4 B5 B6]
  · isplitl [HA]; · unfold rDx; iexact HA
    isplitl [B0 B1 B2 B3 B4]
    · unfold opsV
      isplitl [B0]; · iexact B0
      isplitl [B1]; · iexact B1
      isplitl [B2]; · iexact B2
      isplitl [B3]; · iexact B3
      iexact B4
    isplitl [B5]; · iexact B5
    iexact B6
  iintro ⟨HA, HV, B5, B6⟩
  unfold opsV
  icases HV with ⟨B0, B1, B2, B3, B4⟩
  ihave HA := (all_stop c (aX m c) (aG m c) (aM m c) (rDx m c t)) $$ [HA HD]
  · isplitl [HA]; · unfold rDx; iexact HA
    iexact HD
  icases HA with ⟨HS, Hq, HI, HO, ⟨%W', HW⟩⟩
  isplitl [HS Hr Hq HI HO]
  · isplitl [HS]; · iexact HS
    isplitl [Hr]; · iexact Hr
    isplitl [Hq]; · iexact Hq
    isplitl [HI]; · iexact HI
    iexact HO
  isplitl [HW]
  · iexists W'; isplitr; · ipureintro; exact fun _ _ => Or.inl trivial
    iexact HW
  isplitl [B0]; · iexact B0
  isplitl [B1]; · iexact B1
  isplitl [B2]; · iexact B2
  isplitl [B3]; · iexact B3
  isplitl [B4]; · iexact B4
  isplitl [B5]; · unfold rDg; iexact B5
  unfold rDb; iexact B6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
theorem run_main : θ_run defs (onTc (τ := τ) (main (F := F))) (s₀ m ρ) (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m) (G := G m)
    (hin := fun _ => .rfl) (hout := fun _ => .rfl)

theorem kept (r : PUnit × MemSt nD τ sig (Elt F)) (h : Pipeline.FramePostRG cfgs (dats m) 0 R0 (V m) (G m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h.1 c).2 main_arg0 (Finset.mem_sdiff.mpr ⟨Pipeline.mem_restRefs_of main_arg0 (by decide) (by decide), by decide⟩)).trans (V_main_arg0 m c),
    ((h.1 c).2 main_arg1 (Finset.mem_sdiff.mpr ⟨Pipeline.mem_restRefs_of main_arg1 (by decide) (by decide), by decide⟩)).trans (V_main_arg1 m c),
    ((h.1 c).2 main_arg2 (Finset.mem_sdiff.mpr ⟨Pipeline.mem_restRefs_of main_arg2 (by decide) (by decide), by decide⟩)).trans (V_main_arg2 m c),
    ((h.1 c).2 main_arg3 (Finset.mem_sdiff.mpr ⟨Pipeline.mem_restRefs_of main_arg3 (by decide) (by decide), by decide⟩)).trans (V_main_arg3 m c),
    ((h.1 c).2 main_arg4 (Finset.mem_sdiff.mpr ⟨Pipeline.mem_restRefs_of main_arg4 (by decide) (by decide), by decide⟩)).trans (V_main_arg4 m c),
    ((h.1 c).2 main_arg5 (Finset.mem_sdiff.mpr ⟨Pipeline.mem_restRefs_of main_arg5 (by decide) (by decide), by decide⟩)).trans (V_main_arg5 m c),
    ((h.1 c).2 main_arg6 (Finset.mem_sdiff.mpr ⟨Pipeline.mem_restRefs_of main_arg6 (by decide) (by decide), by decide⟩)).trans (V_main_arg6 m c),
    ((h.1 c).2 main_arg7 (Finset.mem_sdiff.mpr ⟨Pipeline.mem_restRefs_of main_arg7 (by decide) (by decide), by decide⟩)).trans (V_main_arg7 m c)⟩

/-- The kernel leaves its arguments as it found them and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => kept m r h.1 c, h.2⟩) (run_main m ρ)

/-- What the kernel leaves in its results. -/
theorem run_values : θ_run defs (onTc (τ := τ) (main (F := F))) ⟨m, fun _ => 0, ρ⟩ (fun r => ∀ c : Dev nD,
      r.2.mem ((c.tc : Thread nD τ).loc main_v8_0) = rDx m c t0_0
      ∧ r.2.mem ((c.tc : Thread nD τ).loc main_v8_1) = (dats m 0 c).arrAt 5 cfg0.N
      ∧ r.2.mem ((c.tc : Thread nD τ).loc main_v8_2) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h.1.written c (b := main_v8_0) (by decide)).trans (G_dx m c t0_0), (h.1.1 c).1 5, (h.1.1 c).1 6, kept m r h.1 c⟩) (run_main m ρ)

end Cert.KernelIdeal.Hand

end
-- ==== Proof.Alg.lean ====
/-
  The arithmetic of the claim on one column, over the extended reals: sums cut into blocks, the test that finds a
  column finite, and the problem's formula against the factored one.
-/
module

public import Idealize.ShloMosaic.PureOps.Ideal

@[expose] public section

noncomputable section

namespace Cert.Alg

open Finset
open scoped BigOperators

/-! ## Sums in blocks -/

/-- A sum over `n * b` numbers, block by block. -/
theorem sum_blk (n b : ℕ) (f : ℕ → EReal) : ∑ i ∈ range (n * b), f i = ∑ h ∈ range n, ∑ j ∈ range b, f (h * b + j) := by
  induction n with
  | zero => simp
  | succ n ih => rw [Nat.succ_mul, sum_range_add, ih, sum_range_succ]

/-- The 150528 rows of a column, as the kernel adds them up: 16 running sums, 196 half chunks, 48 groups of 16 rows. -/
theorem sum_rows (f : ℕ → EReal) :
    ∑ s ∈ range 16, ∑ h ∈ range 196, ∑ k ∈ range 48, f (768 * h + (16 * k + s)) = ∑ r : Fin 150528, f r.val := by
  rw [sum_comm, Fin.sum_univ_eq_sum_range f 150528, show (150528 : ℕ) = 196 * 768 from rfl, sum_blk 196 768 f]
  refine sum_congr rfl fun h _ => ?_
  rw [sum_comm, show (768 : ℕ) = 48 * 16 from rfl, sum_blk 48 16 fun j => f (h * (48 * 16) + j)]
  refine sum_congr rfl fun k _ => sum_congr rfl fun s _ => ?_
  congr 1
  omega

/-! ## The test for a finite column -/

/-- The absolute value, as the programs take it. -/
def ab (x : EReal) : EReal := max x (-x)

theorem ab_nonneg (x : EReal) : 0 ≤ ab x := by
  unfold ab
  rcases le_total 0 x with h | h
  · exact le_max_of_le_left h
  · exact le_max_of_le_right (by simpa using EReal.neg_le_neg_iff.mpr h)

theorem real_of_ab {x : EReal} (h : ab x < ⊤) : ∃ r : ℝ, x = (r : EReal) := by
  unfold ab at h
  induction x with
  | bot => simp at h
  | coe r => exact ⟨r, rfl⟩
  | top => simp at h

theorem lt_top_of_add {a b : EReal} (ha : 0 ≤ a) (hb : 0 ≤ b) (h : a + b < ⊤) : a < ⊤ ∧ b < ⊤ :=
  ⟨lt_of_le_of_lt (by simpa using add_le_add_right hb a) h, lt_of_le_of_lt (by simpa using add_le_add_left ha b) h⟩

/-- The greatest absolute value of a column, from `⊥` on. -/
def mx {n : ℕ} (x : Fin n → EReal) : EReal := univ.fold max ⊥ fun r => ab (x r)

theorem le_mx {n : ℕ} (x : Fin n → EReal) (r : Fin n) : ab (x r) ≤ mx x := (Finset.le_fold_max _).mpr (.inr ⟨r, mem_univ r, le_rfl⟩)
theorem mx_nonneg {n : ℕ} (x : Fin (n + 1) → EReal) : 0 ≤ mx x := (ab_nonneg (x 0)).trans (le_mx x 0)

/-- Where the reference's sum of absolute values is below infinity, everything in the column is a real number. -/
theorem reals {n : ℕ} {x d : Fin (n + 1) → EReal} {xs ds me rs ga : EReal}
    (h : mx x + mx d + (ab (xs + 0) + ab (ds + 0)) + ab me + ab rs + ab ga < ⊤) :
    (∃ x' : Fin (n + 1) → ℝ, ∀ r, x r = (x' r : EReal)) ∧ (∃ d' : Fin (n + 1) → ℝ, ∀ r, d r = (d' r : EReal))
      ∧ (∃ r : ℝ, xs = r) ∧ (∃ r : ℝ, ds = r) ∧ (∃ r : ℝ, me = r) ∧ (∃ r : ℝ, rs = r) ∧ (∃ r : ℝ, ga = r) := by
  have n1 := mx_nonneg x
  have n2 := mx_nonneg d
  have n3 := ab_nonneg (xs + 0)
  have n4 := ab_nonneg (ds + 0)
  have n5 := ab_nonneg me
  have n6 := ab_nonneg rs
  have n7 := ab_nonneg ga
  have a2 := add_nonneg n1 n2
  have a4 := add_nonneg n3 n4
  have a5 := add_nonneg a2 a4
  have a6 := add_nonneg a5 n5
  have a7 := add_nonneg a6 n6
  obtain ⟨h7, hg⟩ := lt_top_of_add a7 n7 h
  obtain ⟨h6, hr⟩ := lt_top_of_add a6 n6 h7
  obtain ⟨h5, hm⟩ := lt_top_of_add a5 n5 h6
  obtain ⟨h2, h4⟩ := lt_top_of_add a2 a4 h5
  obtain ⟨hx, hd⟩ := lt_top_of_add n1 n2 h2
  obtain ⟨hxs, hds⟩ := lt_top_of_add n3 n4 h4
  rw [add_zero] at hxs hds
  exact ⟨Classical.axiomOfChoice fun r => real_of_ab ((le_mx x r).trans_lt hx), Classical.axiomOfChoice fun r => real_of_ab ((le_mx d r).trans_lt hd),
    real_of_ab hxs, real_of_ab hds, real_of_ab hm, real_of_ab hr, real_of_ab hg⟩

/-! ## One column -/

variable {ι : Type} [Fintype ι]

/-- `dbeta` of a column as the kernel computes it, from the masked gradients `q`. -/
def kDb (q : ι → EReal) (ds : EReal) : EReal := (∑ r, q r) * ds
/-- `dgamma` of a column as the kernel computes it. -/
def kDg (q x : ι → EReal) (xs ds me rs : EReal) : EReal := ((∑ r, q r * x r) * xs - me * ∑ r, q r) * ds * rs
/-- One element of `dx` as the kernel computes it, from the column's `dbeta` and `dgamma`. -/
def kDx (q x db dg xs ds me rs ga inv : EReal) : EReal :=
  q * (rs * ga * ds) + (x * ((0 - rs * ga * (dg * inv * rs)) * xs) + rs * ga * (dg * inv * rs * me - db * inv))

/-- The normalized input. -/
def xh (x xs me rs : EReal) : EReal := (x * xs - me) * rs
/-- The problem's `dbeta`, from the masked and scaled gradients `g`. -/
def pDb (g : ι → EReal) : EReal := ∑ r, g r
/-- The problem's `dgamma`. -/
def pDg (g x : ι → EReal) (xs me rs : EReal) : EReal := ∑ r, g r * xh (x r) xs me rs
/-- One element of the problem's `dx`. -/
def pDx (g x db dg xs me rs ga inv : EReal) : EReal := rs * ga * (g - db * inv - xh x xs me rs * (dg * inv))

theorem coe_sum (f : ι → ℝ) : ((∑ r, f r : ℝ) : EReal) = ∑ r, (f r : EReal) :=
  map_sum (⟨⟨fun r : ℝ => (r : EReal), EReal.coe_zero⟩, EReal.coe_add⟩ : ℝ →+ EReal) f univ

theorem db_eq (p : ι → ℝ) (ds : ℝ) : pDb (fun r => (p r : EReal) * ds) = kDb (fun r => (p r : EReal)) ds := by
  unfold pDb kDb
  simp only [← EReal.coe_mul, ← coe_sum, sum_mul]

theorem dg_eq (p x : ι → ℝ) (xs ds me rs : ℝ) :
    pDg (fun r => (p r : EReal) * ds) (fun r => (x r : EReal)) xs me rs = kDg (fun r => (p r : EReal)) (fun r => (x r : EReal)) xs ds me rs := by
  unfold pDg kDg xh
  simp only [← EReal.coe_mul, ← EReal.coe_sub, ← coe_sum]
  congr 1
  rw [sum_mul, mul_sum, ← sum_sub_distrib, sum_mul, sum_mul]
  exact sum_congr rfl fun r _ => by ring

theorem dx_eq (p x db dg xs ds me rs ga inv : ℝ) :
    pDx ((p : EReal) * ds) x db dg xs me rs ga inv = kDx p x db dg xs ds me rs ga inv := by
  unfold pDx kDx xh
  simp only [← EReal.coe_mul, ← EReal.coe_sub, ← EReal.coe_add, ← EReal.coe_zero]
  congr 1
  ring

theorem db_real (p : ι → ℝ) (ds : ℝ) : ∃ r : ℝ, kDb (fun r => (p r : EReal)) ds = r :=
  ⟨(∑ r, p r) * ds, by unfold kDb; rw [EReal.coe_mul, coe_sum]⟩
theorem dg_real (p x : ι → ℝ) (xs ds me rs : ℝ) : ∃ r : ℝ, kDg (fun r => (p r : EReal)) (fun r => (x r : EReal)) xs ds me rs = r :=
  ⟨((∑ r, p r * x r) * xs - me * ∑ r, p r) * ds * rs, by
    unfold kDg
    simp only [EReal.coe_mul, EReal.coe_sub, coe_sum]⟩

/-- The three equations of a finite column together: `on` says which elements the mask keeps. -/
theorem finite_col {n : ℕ} {x d : Fin (n + 1) → EReal} {xs ds me rs ga inv : EReal} (on : Fin (n + 1) → Prop) [DecidablePred on]
    (hi : ∃ r : ℝ, inv = r)
    (h : mx x + mx d + (ab (xs + 0) + ab (ds + 0)) + ab me + ab rs + ab ga < ⊤) :
    let q := fun r => if on r then d r else 0
    let g := fun r => if on r then d r * ds else 0
    pDb g = kDb q ds ∧ pDg g x xs me rs = kDg q x xs ds me rs
      ∧ ∀ r, pDx (g r) (x r) (pDb g) (pDg g x xs me rs) xs me rs ga inv = kDx (q r) (x r) (kDb q ds) (kDg q x xs ds me rs) xs ds me rs ga inv := by
  obtain ⟨⟨x', hx⟩, ⟨d', hd⟩, ⟨xs', rfl⟩, ⟨ds', rfl⟩, ⟨me', rfl⟩, ⟨rs', rfl⟩, ⟨ga', rfl⟩⟩ := reals h
  obtain ⟨inv', rfl⟩ := hi
  obtain rfl : x = fun r => (x' r : EReal) := funext hx
  obtain rfl : d = fun r => (d' r : EReal) := funext hd
  intro q g
  have hq : q = fun r => ((if on r then d' r else 0 : ℝ) : EReal) := funext fun r => by
    show (if on r then (d' r : EReal) else 0) = _
    split <;> simp
  have hg : g = fun r => ((if on r then d' r else 0 : ℝ) : EReal) * (ds' : EReal) := funext fun r => by
    show (if on r then (d' r : EReal) * (ds' : EReal) else 0) = _
    split <;> simp
  rw [hq, hg, db_eq, dg_eq]
  refine ⟨rfl, rfl, fun r => ?_⟩
  obtain ⟨b, hb⟩ := db_real (fun r => if on r then d' r else 0) ds'
  obtain ⟨e, he⟩ := dg_real (fun r => if on r then d' r else 0) x' xs' ds' me' rs'
  rw [hb, he]
  exact dx_eq _ _ _ _ _ _ _ _ _ _

end Cert.Alg
-- ==== Proof.KVal.lean ====
/-
  What the kernel computes at the exact instance, element by element: its two running sums are the sums over all rows of
  a column, and its three results are the factored formula of that column.
-/
module

public import proofs.«01_k».proof.Proof.Alg
public import proofs.«01_k».proof.Proof.IBody
public import Idealize.ShloMosaic.Lib.Pointwise

@[expose] public section

set_option maxRecDepth 16384

noncomputable section

namespace Cert.KernelIdeal.Val

open Cert.KernelIdeal Cert.KernelIdeal.Gen Cert.KernelIdeal.Hand Cert.Geo Cert.Alg
open Idealize.ShloMosaic

variable (t : S768x128.Idx → EReal) (u : S768x128.Idx → BitVec 8) (v : S768x128.Idx → EReal) (a : S16x128.Idx → EReal) (s : Fin 16) (l : Fin 128)

/-! ## One half chunk, added -/

/-- Row `s` of group `k` of a half chunk. -/
def grp (k : Fin 48) (s : Fin 16) : Fin 768 := ⟨k.val * 16 + s.val, by omega⟩

theorem add0_at : k0_pay6 (F := Ideal) (k0_pay5 (F := Ideal) (k0_pay15 (F := Ideal)) t u a) (ix2 s l)
    = a (ix2 s l) + ∑ k : Fin 48, gmE (F := Ideal) (t (ix2 (grp k s) l)) (u (ix2 (grp k s) l)) := by
  pointwise [k0_pay6, k0_pay5, k0_pay15, k0_pay3]
  rfl

theorem add0_at' : k0_pay16 (F := Ideal) (k0_pay10 (F := Ideal) t u) a (k0_pay12 (F := Ideal) (k0_pay15 (F := Ideal))) (ix2 s l)
    = a (ix2 s l) + ∑ k : Fin 48, gmE (F := Ideal) (t (ix2 (grp k s) l)) (u (ix2 (grp k s) l)) := by
  pointwise [k0_pay16, k0_pay12, k0_pay15, k0_pay10]
  rfl

theorem add1_at : k0_pay7 (F := Ideal) (k0_pay3 (F := Ideal) t u) (k0_pay4 (F := Ideal) v) a (ix2 s l)
    = a (ix2 s l) + ∑ k : Fin 48, gmE (F := Ideal) (t (ix2 (grp k s) l)) (u (ix2 (grp k s) l)) * v (ix2 (grp k s) l) := by
  pointwise [k0_pay7, k0_pay3, k0_pay4]
  rfl

theorem add1_at' : k0_pay17 (F := Ideal) (k0_pay10 (F := Ideal) t u) (k0_pay11 (F := Ideal) v) a (ix2 s l)
    = a (ix2 s l) + ∑ k : Fin 48, gmE (F := Ideal) (t (ix2 (grp k s) l)) (u (ix2 (grp k s) l)) * v (ix2 (grp k s) l) := by
  pointwise [k0_pay17, k0_pay10, k0_pay11]
  rfl

/-- An accumulator whose two lane columns each grew by `T` grew by `T`. -/
theorem cols_at (A : S16x256.Idx → EReal) (w0 w1 : (S16x128.Idx → EReal) → S16x128.Idx → EReal) (T : Fin 16 → Fin 256 → EReal)
    (h0 : ∀ a s (l : Fin 128), w0 a (ix2 s l) = a (ix2 s l) + T s (colN 0 l.val)) (h1 : ∀ a s (l : Fin 128), w1 a (ix2 s l) = a (ix2 s l) + T s (colN 1 l.val))
    (s : Fin 16) (b : Fin 256) :
    colW 1 (w1 (colR 1 (colW 0 (w0 (colR 0 A)) A))) (colW 0 (w0 (colR 0 A)) A) (ix2 s b) = A (ix2 s b) + T s b := by
  have hb := b.isLt
  have c0 (i : b.val / 128 = 0) : colN 0 (b.val % 128) = b := Fin.ext ((colN_val (by decide) (by omega)).trans (by omega))
  have c1 (i : b.val / 128 = 1) : colN 1 (b.val % 128) = b := Fin.ext ((colN_val (by decide) (by omega)).trans (by omega))
  have e1 : colW 1 (w1 (colR 1 (colW 0 (w0 (colR 0 A)) A))) (colW 0 (w0 (colR 0 A)) A) (ix2 s b)
      = if b.val / 128 = 1 then w1 (colR 1 (colW 0 (w0 (colR 0 A)) A)) (ix2 s ⟨b.val % 128, Nat.mod_lt _ (by decide)⟩) else colW 0 (w0 (colR 0 A)) A (ix2 s b) := rfl
  have e0 (b' : Fin 256) : colW 0 (w0 (colR 0 A)) A (ix2 s b')
      = if b'.val / 128 = 0 then w0 (colR 0 A) (ix2 s ⟨b'.val % 128, Nat.mod_lt _ (by decide)⟩) else A (ix2 s b') := rfl
  rw [e1]
  by_cases hc : b.val / 128 = 1
  · rw [if_pos hc, h1]
    have e : colR 1 (colW 0 (w0 (colR 0 A)) A) (ix2 s ⟨b.val % 128, Nat.mod_lt _ (by decide)⟩) = colW 0 (w0 (colR 0 A)) A (ix2 s (colN 1 (b.val % 128))) := rfl
    rw [e]
    dsimp only
    rw [c1 hc, e0, if_neg (by omega)]
  · have hz : b.val / 128 = 0 := by omega
    rw [if_neg hc, e0, if_pos hz, h0]
    have e : colR 0 A (ix2 s ⟨b.val % 128, Nat.mod_lt _ (by decide)⟩) = A (ix2 s (colN 0 (b.val % 128))) := rfl
    rw [e]
    dsimp only
    rw [c0 hz]

/-! ## The running sums -/

variable (fx : BufX (F := Ideal)) (fg : BufG (F := Ideal)) (fm : BufM (F := Ideal))

/-- The masked gradient in row `r` (any number, taken modulo the height) of column `b`, and the input there. -/
def qN (b : Fin 256) (r : ℕ) : EReal := gmE (F := Ideal) (fg (ix2 (rowH 0 r) b)) (fm (ix2 (rowH 0 r) b))
def xN (b : Fin 256) (r : ℕ) : EReal := fx (ix2 (rowH 0 r) b)

theorem row_grp (h : ℕ) (k : Fin 48) (s : Fin 16) : rowH h (grp k s).val = rowH 0 (768 * h + (16 * k.val + s.val)) := by
  apply Fin.ext
  show (768 * h + (k.val * 16 + s.val)) % 150528 = (768 * 0 + (768 * h + (16 * k.val + s.val))) % 150528
  congr 1
  omega

theorem st0_at (h : ℕ) (A : S16x256.Idx → EReal) (s : Fin 16) (b : Fin 256) :
    st0 (F := Ideal) fg fm h A (ix2 s b) = A (ix2 s b) + ∑ k ∈ Finset.range 48, qN fg fm b (768 * h + (16 * k + s.val)) := by
  rw [← Fin.sum_univ_eq_sum_range fun k => qN fg fm b (768 * h + (16 * k + s.val))]
  refine (cols_at A (fun a => k0_pay6 (F := Ideal) (k0_pay5 (F := Ideal) (k0_pay15 (F := Ideal)) (tile fg h 0) (tile fm h 0) a))
    (fun a => k0_pay16 (F := Ideal) (k0_pay10 (F := Ideal) (tile fg h 1) (tile fm h 1)) a (k0_pay12 (F := Ideal) (k0_pay15 (F := Ideal))))
    (fun s b => ∑ k : Fin 48, gmE (F := Ideal) (fg (ix2 (rowH h (grp k s).val) b)) (fm (ix2 (rowH h (grp k s).val) b)))
    (fun a s l => add0_at _ _ a s l) (fun a s l => add0_at' _ _ a s l) s b).trans ?_
  refine congrArg (A (ix2 s b) + ·) (Finset.sum_congr rfl fun k _ => ?_)
  rw [row_grp]; rfl

theorem st1_at (h : ℕ) (A : S16x256.Idx → EReal) (s : Fin 16) (b : Fin 256) :
    st1 (F := Ideal) fx fg fm h A (ix2 s b)
      = A (ix2 s b) + ∑ k ∈ Finset.range 48, qN fg fm b (768 * h + (16 * k + s.val)) * xN fx b (768 * h + (16 * k + s.val)) := by
  rw [← Fin.sum_univ_eq_sum_range fun k => qN fg fm b (768 * h + (16 * k + s.val)) * xN fx b (768 * h + (16 * k + s.val))]
  refine (cols_at A (fun a => k0_pay7 (F := Ideal) (k0_pay3 (F := Ideal) (tile fg h 0) (tile fm h 0)) (k0_pay4 (F := Ideal) (tile fx h 0)) a)
    (fun a => k0_pay17 (F := Ideal) (k0_pay10 (F := Ideal) (tile fg h 1) (tile fm h 1)) (k0_pay11 (F := Ideal) (tile fx h 1)) a)
    (fun s b => ∑ k : Fin 48, gmE (F := Ideal) (fg (ix2 (rowH h (grp k s).val) b)) (fm (ix2 (rowH h (grp k s).val) b)) * fx (ix2 (rowH h (grp k s).val) b))
    (fun a s l => add1_at _ _ _ a s l) (fun a s l => add1_at' _ _ _ a s l) s b).trans ?_
  refine congrArg (A (ix2 s b) + ·) (Finset.sum_congr rfl fun k _ => ?_)
  rw [row_grp]; rfl

theorem acc0_at (n : ℕ) (s : Fin 16) (b : Fin 256) :
    acc0N (F := Ideal) fg fm n (ix2 s b) = ∑ h ∈ Finset.range n, ∑ k ∈ Finset.range 48, qN fg fm b (768 * h + (16 * k + s.val)) := by
  induction n with
  | zero => rw [Finset.sum_range_zero]; show k0_pay13 (F := Ideal) (ix2 s b) = 0; pointwise [k0_pay13]
  | succ n ih => rw [Finset.sum_range_succ, ← ih]; exact st0_at fg fm n _ s b

theorem acc1_at (n : ℕ) (s : Fin 16) (b : Fin 256) :
    acc1N (F := Ideal) fx fg fm n (ix2 s b)
      = ∑ h ∈ Finset.range n, ∑ k ∈ Finset.range 48, qN fg fm b (768 * h + (16 * k + s.val)) * xN fx b (768 * h + (16 * k + s.val)) := by
  induction n with
  | zero => rw [Finset.sum_range_zero]; show k0_pay14 (F := Ideal) (ix2 s b) = 0; pointwise [k0_pay14]
  | succ n ih => rw [Finset.sum_range_succ, ← ih]; exact st1_at fx fg fm n _ s b

/-- The masked gradients and the inputs of column `b`. -/
def qC (b : Fin 256) (r : Fin 150528) : EReal := gmE (F := Ideal) (fg (ix2 r b)) (fm (ix2 r b))
def xC (b : Fin 256) (r : Fin 150528) : EReal := fx (ix2 r b)

theorem rowH_self (r : Fin 150528) : rowH 0 r.val = r := Fin.ext (by show (768 * 0 + r.val) % 150528 = r.val; omega)

theorem sum0 (b : Fin 256) : ∑ s : Fin 16, acc0N (F := Ideal) fg fm 196 (ix2 s b) = ∑ r, qC fg fm b r := by
  simp only [acc0_at]
  rw [Fin.sum_univ_eq_sum_range (fun s => ∑ h ∈ Finset.range 196, ∑ k ∈ Finset.range 48, qN fg fm b (768 * h + (16 * k + s))) 16, sum_rows (qN fg fm b)]
  refine Finset.sum_congr rfl fun r _ => ?_
  unfold qN qC
  rw [rowH_self]

theorem sum1 (b : Fin 256) : ∑ s : Fin 16, acc1N (F := Ideal) fx fg fm 196 (ix2 s b) = ∑ r, qC fg fm b r * xC fx b r := by
  simp only [acc1_at]
  rw [Fin.sum_univ_eq_sum_range (fun s => ∑ h ∈ Finset.range 196, ∑ k ∈ Finset.range 48, qN fg fm b (768 * h + (16 * k + s)) * xN fx b (768 * h + (16 * k + s))) 16,
    sum_rows fun r => qN fg fm b r * xN fx b r]
  refine Finset.sum_congr rfl fun r _ => ?_
  unfold qN qC xN xC
  rw [rowH_self]

/-! ## The three results -/

variable (xs ds : EReal) (me rs ga : S1x256.Idx → EReal)

/-- The constant the programs hold for one over the number of rows. -/
def inv : EReal := Ideal.ofBits .f32 0x36DEE95C#32

theorem db_at (b : Fin 256) : dbV (F := Ideal) ds fg fm (ix2 0 b) = kDb (qC fg fm b) ds := by
  unfold dbV kDb
  rw [← sum0]
  pointwise [k0_pay22, k0_pay21]

theorem dg_at (b : Fin 256) :
    dgV (F := Ideal) xs ds me rs fx fg fm (ix2 0 b) = kDg (qC fg fm b) (xC fx b) xs ds (me (ix2 0 b)) (rs (ix2 0 b)) := by
  unfold dgV kDg
  rw [← sum0, ← sum1]
  pointwise [k0_pay25, k0_pay19, k0_pay23, k0_pay24, k0_pay18, k0_pay21]

theorem dx_at (r : Fin 150528) (b : Fin 256) :
    dxV (F := Ideal) xs ds me rs ga fx fg fm (ix2 r b)
      = kDx (qC fg fm b r) (xC fx b r) (kDb (qC fg fm b) ds) (kDg (qC fg fm b) (xC fx b) xs ds (me (ix2 0 b)) (rs (ix2 0 b)))
          xs ds (me (ix2 0 b)) (rs (ix2 0 b)) (ga (ix2 0 b)) inv := by
  rw [← db_at, ← dg_at]
  have hr : (rowH (r.val / 768) (r.val % 768)) = r := Fin.ext (by show (768 * (r.val / 768) + r.val % 768) % 150528 = r.val; have := r.isLt; omega)
  unfold dxV fDX
  show k0_pay31 (F := Ideal) _ _ _ (half fx (r.val / 768)) (half (gmF fg fm) (r.val / 768)) (ix3 0 ⟨r.val % 768, Nat.mod_lt _ (by decide)⟩ b) = _
  unfold kDx dgV c0V c1V c2V
  pointwise [k0_pay31, k0_pay30, k0_pay29, k0_pay28, k0_pay27, k0_pay26, k0_pay20, k0_pay19, k0_pay18]
  have e1 : half (gmF (F := Ideal) fg fm) (r.val / 768) (ix3 0 ⟨r.val % 768, Nat.mod_lt _ (by decide)⟩ b) = qC fg fm b r := by
    show gmF (F := Ideal) fg fm (ix2 (rowH (r.val / 768) (r.val % 768)) b) = _
    rw [hr]; rfl
  have e2 : half fx (r.val / 768) (ix3 0 ⟨r.val % 768, Nat.mod_lt _ (by decide)⟩ b) = xC fx b r := by
    show fx (ix2 (rowH (r.val / 768) (r.val % 768)) b) = _
    rw [hr]; rfl
  rw [← e1, ← e2]
  rfl

end Cert.KernelIdeal.Val
-- ==== Proof.RVal.lean ====
/-
  What the reference computes at the exact instance, element by element: in a column its test finds finite the problem's
  formula, in any other the factored one.
-/
module

public import proofs.«01_k».proof.Proof.Alg
public import proofs.«01_k».proof.Proof.Gen.ReferenceIdeal.Value
public import Idealize.ShloMosaic.Lib.Pointwise

@[expose] public section

set_option maxRecDepth 16384

noncomputable section

namespace Cert.ReferenceIdeal.Val

open Cert.ReferenceIdeal Cert.ReferenceIdeal.Gen Cert.Alg
open Idealize.ShloMosaic Idealize.ShloMosaic.TcCoe

variable {F : FTy → Type} [FloatOps F]

theorem hz : (![0, 0] : Fin 2 → Nat) = fun _ => 0 := funext fun a => by fin_cases a <;> rfl

theorem hz1 : (![0] : Fin 1 → Nat) = fun _ => 0 := funext fun a => by fin_cases a; rfl
theorem first_one (h) : (Shape.Idx.first h : S1.Idx) = ix1 0 := funext fun a => match a with
  | ⟨0, _⟩ => Subsingleton.elim (α := Fin 1) _ _

theorem ld_one {t} (v : Vec F S1 t) : View.ld v (Rect.unit ![0] ![1] inb_S1_S1_0) = v := View.ld_unit_zero (S := S1) hz1 _ _

variable (c : Dev nD)
  (a0 : Memref sig .tc .vmem S150528x256 .fp8e4m3) (h0 : a0.IsWhole) (a1 : Memref sig .tc .smem S1 .f32) (h1 : a1.IsWhole)
  (a2 : Memref sig .tc .vmem S150528x256 .fp8e5m2) (h2 : a2.IsWhole) (a3 : Memref sig .tc .smem S1 .f32) (h3 : a3.IsWhole)
  (a4 : Memref sig .tc .vmem S150528x256 .i8) (h4 : a4.IsWhole) (a5 : Memref sig .tc .vmem S1x256 .f32) (h5 : a5.IsWhole)
  (a6 : Memref sig .tc .vmem S1x256 .f32) (h6 : a6.IsWhole) (a7 : Memref sig .tc .vmem S1x256 .f32) (h7 : a7.IsWhole)
  (a8 : Memref sig .tc .vmem S150528x256 .bf16) (h8 : a8.IsWhole) (a9 : Memref sig .tc .vmem S1x256 .f32) (h9 : a9.IsWhole)
  (a10 : Memref sig .tc .vmem S1x256 .f32) (h10 : a10.IsWhole)
  (x : Vec F S150528x256 .fp8e4m3) (xs : Vec F S1 .f32) (d : Vec F S150528x256 .fp8e5m2) (ds : Vec F S1 .f32)
  (mk : Vec F S150528x256 .i8) (me rs ga : Vec F S1x256 .f32)

theorem out_10 : out0_A_10 c a0 h0 a1 h1 a2 h2 a3 h3 a4 h4 a5 h5 a6 h6 a7 h7 a8 h8 a9 h9 a10 h10 x xs d ds mk me rs ga
    = k0_pay4 (k0_pay5 x) (k0_pay6 d) (ds (ix1 0)) (k0_pay8 me) (k0_pay9 rs) (k0_pay10 ga) (k0_pay13 d mk (ds (ix1 0)))
        (k0_pay20 (k0_pay6 d) (k0_pay7 mk) (ds (ix1 0))) (k0_pay23 (xs (ix1 0))) := by
  unfold out0_A_10
  rw [View.read_writes_eq_canon _ _ _ (cover0_A_10 c a0 h0 a1 h1 a2 h2 a3 h3 a4 h4 a5 h5 a6 h6 a7 h7 a8 h8 a9 h9 a10 h10 x xs d ds mk me rs ga)]
  unfold kernelRun0_A
  dsimp only
  rw [View.canon_unit_zero hz]
  sl_unfold_words
  simp only [View.readAt_eq_ld, h0.read_unread, h1.read_unread, h2.read_unread, h3.read_unread, h4.read_unread, h5.read_unread, h6.read_unread,
    h7.read_unread, View.ld_unit_zero (S := S150528x256) hz, View.ld_unit_zero (S := S1x256) hz, first_one, shapeCast_self]
  erw [ld_one, ld_one]

theorem out_9 : out0_A_9 c a0 h0 a1 h1 a2 h2 a3 h3 a4 h4 a5 h5 a6 h6 a7 h7 a8 h8 a9 h9 a10 h10 x xs d ds mk me rs ga
    = k0_pay3 (k0_pay5 x) (k0_pay6 d) (ds (ix1 0)) (k0_pay8 me) (k0_pay9 rs) (k0_pay10 ga) (k0_pay14 x d mk (xs (ix1 0)) (ds (ix1 0)) me rs)
        (k0_pay21 (k0_pay5 x) (k0_pay6 d) (k0_pay7 mk) (xs (ix1 0)) (ds (ix1 0)) (k0_pay8 me) (k0_pay9 rs)) (k0_pay23 (xs (ix1 0))) := by
  unfold out0_A_9
  rw [View.read_writes_eq_canon _ _ _ (cover0_A_9 c a0 h0 a1 h1 a2 h2 a3 h3 a4 h4 a5 h5 a6 h6 a7 h7 a8 h8 a9 h9 a10 h10 x xs d ds mk me rs ga)]
  unfold kernelRun0_A
  dsimp only
  rw [View.canon_unit_zero hz]
  sl_unfold_words
  simp only [View.readAt_eq_ld, h0.read_unread, h1.read_unread, h2.read_unread, h3.read_unread, h4.read_unread, h5.read_unread, h6.read_unread,
    h7.read_unread, View.ld_unit_zero (S := S150528x256) hz, View.ld_unit_zero (S := S1x256) hz, first_one, shapeCast_self]
  erw [ld_one, ld_one]

theorem out_8 : out0_A_8 c a0 h0 a1 h1 a2 h2 a3 h3 a4 h4 a5 h5 a6 h6 a7 h7 a8 h8 a9 h9 a10 h10 x xs d ds mk me rs ga
    = k0_pay2 (k0_pay5 x) (k0_pay6 d) (ds (ix1 0)) (k0_pay8 me) (k0_pay9 rs) (k0_pay10 ga)
        (k0_pay18 (k0_pay11 x (xs (ix1 0)) me rs) (k0_pay15 rs ga) (k0_pay16 d mk (ds (ix1 0))) (k0_pay17 x d mk (xs (ix1 0)) (ds (ix1 0)) me rs))
        (k0_pay22 (k0_pay5 x) (k0_pay6 d) (k0_pay7 mk) (xs (ix1 0)) (ds (ix1 0)) (k0_pay8 me) (k0_pay9 rs) (k0_pay10 ga)) (k0_pay23 (xs (ix1 0))) := by
  unfold out0_A_8
  rw [View.read_writes_eq_canon _ _ _ (cover0_A_8 c a0 h0 a1 h1 a2 h2 a3 h3 a4 h4 a5 h5 a6 h6 a7 h7 a8 h8 a9 h9 a10 h10 x xs d ds mk me rs ga)]
  unfold kernelRun0_A
  dsimp only
  rw [View.canon_unit_zero hz]
  sl_unfold_words
  simp only [View.readAt_eq_ld, h0.read_unread, h1.read_unread, h2.read_unread, h3.read_unread, h4.read_unread, h5.read_unread, h6.read_unread,
    h7.read_unread, View.ld_unit_zero (S := S150528x256) hz, View.ld_unit_zero (S := S1x256) hz, first_one, shapeCast_self]
  erw [ld_one, ld_one]

/-! ## Element by element -/

section Ideal

theorem max_at {n : Nat} (v : FVec Ideal ⟨2, ![n, 256]⟩ .f32) (h : (⟨2, ![n, 256]⟩ : Shape).Reduces [0] S256) (hφ hacc) (b : Fin 256) :
    multiReduction (F := Ideal) .maximumf [0] S256 (absf v) 0xFF800000#32 h hφ hacc (ix1 b) = mx fun r => v (ix2 r b) := by
  have e : FloatOps.ofBits (F := Ideal) .f32 0xFF800000#32 = (⊥ : EReal) := by simp [FloatOps.ofBits, Ideal.ofBits, Ideal.ieee]
  pointwise []
  unfold mx
  exact congrArg (fun z => Finset.fold max z (fun r => ab (v (ix2 r b))) Finset.univ) e

variable (x : Vec Ideal S150528x256 .fp8e4m3) (xs : EReal) (d : Vec Ideal S150528x256 .fp8e5m2) (ds : EReal)
  (mk : Vec Ideal S150528x256 .i8) (me rs ga : Vec Ideal S1x256 .f32) (b : Fin 256)

/-- One over the number of rows, as the programs write it. -/
def inv : EReal := Ideal.ofBits .f32 0x36DEE95C#32
/-- Column `b` of `x`, of `dy` where the mask is on, and of the scaled `dy` where it is on. -/
def xC (r : Fin 150528) : EReal := x (ix2 r b)
def dC (r : Fin 150528) : EReal := d (ix2 r b)
abbrev on (r : Fin 150528) : Prop := mk (ix2 r b) ≠ 0#8
def qC (r : Fin 150528) : EReal := if on mk b r then dC d b r else 0
def gC (r : Fin 150528) : EReal := if on mk b r then dC d b r * ds else 0

theorem sel_ne (m : BitVec 8) (p q : EReal) : Scalar.select (IntOp.cmpi .ne m 0#8) p q = if m ≠ 0#8 then p else q := by
  by_cases h : m = 0#8
  · simp [Scalar.select, IntOp.cmpi, h]
  · have e : (m != 0#8) = true := by simpa using h
    simp [Scalar.select, IntOp.cmpi, h, e]

theorem g_at (r : Fin 150528) : k0_pay12 (F := Ideal) d mk ds (ix2 r b) = gC d ds mk b r := by
  pointwise [k0_pay12, k0_pay6, k0_pay7]
  exact sel_ne _ _ _

theorem q_at (r : Fin 150528) : k0_pay19 (F := Ideal) (k0_pay6 (F := Ideal) d) (k0_pay7 (F := Ideal) mk) (ix2 r b) = qC d mk b r := by
  pointwise [k0_pay19, k0_pay6, k0_pay7]
  exact sel_ne _ _ _

theorem db_at : k0_pay13 (F := Ideal) d mk ds (ix2 0 b) = pDb (gC d ds mk b) := by
  unfold pDb
  simp only [← g_at]
  pointwise [k0_pay13]

theorem dg_at : k0_pay14 (F := Ideal) x d mk xs ds me rs (ix2 0 b) = pDg (gC d ds mk b) (xC x b) xs (me (ix2 0 b)) (rs (ix2 0 b)) := by
  unfold pDg xh xC
  simp only [← g_at]
  pointwise [k0_pay14, k0_pay11, k0_pay5, k0_pay8, k0_pay9]

theorem fdb_at : k0_pay20 (F := Ideal) (k0_pay6 (F := Ideal) d) (k0_pay7 (F := Ideal) mk) ds (ix2 0 b) = kDb (qC d mk b) ds := by
  unfold kDb
  simp only [← q_at]
  pointwise [k0_pay20]

theorem fdg_at : k0_pay21 (F := Ideal) (k0_pay5 (F := Ideal) x) (k0_pay6 (F := Ideal) d) (k0_pay7 (F := Ideal) mk) xs ds (k0_pay8 (F := Ideal) me) (k0_pay9 (F := Ideal) rs) (ix2 0 b)
    = kDg (qC d mk b) (xC x b) xs ds (me (ix2 0 b)) (rs (ix2 0 b)) := by
  unfold kDg xC
  simp only [← q_at]
  rw [mul_assoc]
  pointwise [k0_pay21, k0_pay5, k0_pay8, k0_pay9]

theorem pdx_at (r : Fin 150528) : k0_pay18 (F := Ideal) (k0_pay11 (F := Ideal) x xs me rs) (k0_pay15 (F := Ideal) rs ga) (k0_pay16 (F := Ideal) d mk ds) (k0_pay17 (F := Ideal) x d mk xs ds me rs) (ix2 r b)
    = pDx (gC d ds mk b r) (xC x b r) (pDb (gC d ds mk b)) (pDg (gC d ds mk b) (xC x b) xs (me (ix2 0 b)) (rs (ix2 0 b))) xs (me (ix2 0 b)) (rs (ix2 0 b)) (ga (ix2 0 b)) inv := by
  rw [← db_at, ← dg_at, ← g_at]
  unfold pDx xh xC inv
  generalize e1 : k0_pay13 (F := Ideal) d mk ds = A
  generalize e2 : k0_pay14 (F := Ideal) x d mk xs ds me rs = B
  generalize e3 : k0_pay12 (F := Ideal) d mk ds = C
  simp only [k0_pay16, k0_pay17, e1, e2, e3]
  pointwise [k0_pay18, k0_pay11, k0_pay15, k0_pay5, k0_pay8, k0_pay9, k0_pay10]

theorem fdx_at (r : Fin 150528) : k0_pay22 (F := Ideal) (k0_pay5 (F := Ideal) x) (k0_pay6 (F := Ideal) d) (k0_pay7 (F := Ideal) mk) xs ds (k0_pay8 (F := Ideal) me) (k0_pay9 (F := Ideal) rs) (k0_pay10 (F := Ideal) ga) (ix2 r b)
    = kDx (qC d mk b r) (xC x b r) (kDb (qC d mk b) ds) (kDg (qC d mk b) (xC x b) xs ds (me (ix2 0 b)) (rs (ix2 0 b))) xs ds (me (ix2 0 b)) (rs (ix2 0 b)) (ga (ix2 0 b)) inv := by
  rw [← fdb_at, ← fdg_at, ← q_at]
  unfold kDx xC inv
  unfold k0_pay22
  generalize k0_pay20 (F := Ideal) (k0_pay6 (F := Ideal) d) (k0_pay7 (F := Ideal) mk) ds = A
  generalize k0_pay21 (F := Ideal) (k0_pay5 (F := Ideal) x) (k0_pay6 (F := Ideal) d) (k0_pay7 (F := Ideal) mk) xs ds (k0_pay8 (F := Ideal) me) (k0_pay9 (F := Ideal) rs) = B
  generalize k0_pay19 (F := Ideal) (k0_pay6 (F := Ideal) d) (k0_pay7 (F := Ideal) mk) = C
  pointwise [k0_pay5, k0_pay8, k0_pay9, k0_pay10]

theorem sel_dec (p : Prop) [Decidable p] (u v : EReal) : Scalar.select (BitVec.ofBool (decide p)) u v = if p then u else v := by
  by_cases h : p <;> simp [Scalar.select, h]

/-- The largest magnitude of every column. -/
def colMax (v : FVec Ideal S150528x256 .f32) : FVec Ideal S256 .f32 :=
  multiReduction (F := Ideal) .maximumf [0] S256 (absf v) 0xFF800000#32 reduces_S150528x256_S256 (.inl rfl) rfl

theorem colMax_at (v : FVec Ideal S150528x256 .f32) (b : Fin 256) : colMax v (ix1 b) = mx fun r => v (ix2 r b) :=
  max_at (n := 150528) v reduces_S150528x256_S256 (.inl rfl) rfl b

/-- The reference's test, from the two rows of largest magnitudes. -/
def test (A B : FVec Ideal S256 .f32) (v11 : EReal) (v13 v15 v17 v91 : FVec Ideal S1x256 .f32) : IVec S1x256 1 :=
  cmpf (F := Ideal) .olt (addf (addf (addf (addf (addf (shapeCast S1x256 A shapeCasts_S256_S1x256) (shapeCast S1x256 B shapeCasts_S256_S1x256))
    (addf v91 (absf (addf (broadcast S1x256 v11) (broadcast S1x256 (Scalar.ofBits (F := Ideal) .f32 0x00000000#32)))))) (absf v13)) (absf v15)) (absf v17))
    (broadcast S1x256 (Scalar.ofBits (F := Ideal) .f32 0x7F800000#32))

theorem pay1_eq (v2 v5 : FVec Ideal S150528x256 .f32) (v11 : EReal) (v13 v15 v17 v91 : FVec Ideal S1x256 .f32) :
    k0_pay1 (F := Ideal) v2 v5 v11 v13 v15 v17 v91 = test (colMax v2) (colMax v5) v11 v13 v15 v17 v91 := rfl

theorem test_at (A B : FVec Ideal S256 .f32) : test A B ds (k0_pay8 (F := Ideal) me) (k0_pay9 (F := Ideal) rs) (k0_pay10 (F := Ideal) ga) (k0_pay23 (F := Ideal) xs) (ix2 0 b)
    = BitVec.ofBool (decide (A (ix1 b) + B (ix1 b) + (ab (xs + 0) + ab (ds + 0)) + ab (me (ix2 0 b)) + ab (rs (ix2 0 b)) + ab (ga (ix2 0 b)) < ⊤)) := by
  have e : Ideal.ofBits .f32 0x7F800000#32 = (⊤ : EReal) := by simp [Ideal.ofBits, Ideal.ieee]
  rw [← e, add_zero, add_zero]
  pointwise [test, k0_pay8, k0_pay9, k0_pay10, k0_pay23]
  rfl

theorem inv_real : ∃ r : ℝ, inv = r := by
  refine ⟨14608732 * ((2 ^ 41)⁻¹ : ℝ), ?_⟩
  rw [EReal.coe_mul]
  simp [inv, Ideal.ofBits, Ideal.ieee]

/-- Whether the reference's test finds column `b` finite. -/
def T : Prop := mx (xC x b) + mx (dC d b) + (ab (xs + 0) + ab (ds + 0)) + ab (me (ix2 0 b)) + ab (rs (ix2 0 b)) + ab (ga (ix2 0 b)) < ⊤

instance : Decidable (T x xs d ds me rs ga b) := inferInstanceAs (Decidable (_ < _))

theorem fin_at : k0_pay1 (F := Ideal) (k0_pay5 (F := Ideal) x) (k0_pay6 (F := Ideal) d) ds (k0_pay8 (F := Ideal) me) (k0_pay9 (F := Ideal) rs) (k0_pay10 (F := Ideal) ga) (k0_pay23 (F := Ideal) xs) (ix2 0 b)
    = BitVec.ofBool (decide (T x xs d ds me rs ga b)) := by
  have x1 : (fun r => k0_pay5 (F := Ideal) x (ix2 r b)) = xC x b := funext fun r => by pointwise [k0_pay5]; rfl
  have x2 : (fun r => k0_pay6 (F := Ideal) d (ix2 r b)) = dC d b := funext fun r => by pointwise [k0_pay6]; rfl
  rw [pay1_eq, test_at, colMax_at, colMax_at, x1, x2]
  rfl

theorem pay4_at (v2 v5 : FVec Ideal S150528x256 .f32) (v11 : EReal) (v13 v15 v17 v29 v50 v91 : FVec Ideal S1x256 .f32) :
    k0_pay4 (F := Ideal) v2 v5 v11 v13 v15 v17 v29 v50 v91 (ix2 0 b)
      = Scalar.select (k0_pay1 (F := Ideal) v2 v5 v11 v13 v15 v17 v91 (ix2 0 b)) (v29 (ix2 0 b)) (v50 (ix2 0 b)) := rfl

theorem pay3_at (v2 v5 : FVec Ideal S150528x256 .f32) (v11 : EReal) (v13 v15 v17 v29 v50 v91 : FVec Ideal S1x256 .f32) :
    k0_pay3 (F := Ideal) v2 v5 v11 v13 v15 v17 v29 v50 v91 (ix2 0 b)
      = Scalar.select (k0_pay1 (F := Ideal) v2 v5 v11 v13 v15 v17 v91 (ix2 0 b)) (v29 (ix2 0 b)) (v50 (ix2 0 b)) := rfl

theorem pay2_at (v2 v5 v44 v87 : FVec Ideal S150528x256 .f32) (v11 : EReal) (v13 v15 v17 v91 : FVec Ideal S1x256 .f32) (r : Fin 150528) :
    k0_pay2 (F := Ideal) v2 v5 v11 v13 v15 v17 v44 v87 v91 (ix2 r b)
      = Scalar.select (k0_pay1 (F := Ideal) v2 v5 v11 v13 v15 v17 v91 (ix2 0 b)) (v44 (ix2 r b)) (v87 (ix2 r b)) := by
  unfold k0_pay2
  generalize k0_pay1 (F := Ideal) v2 v5 v11 v13 v15 v17 v91 = A
  pointwise []

/-- In a finite column the problem's formula and the factored one agree. -/
theorem plain_eq (h : T x xs d ds me rs ga b) :
    pDb (gC d ds mk b) = kDb (qC d mk b) ds
    ∧ pDg (gC d ds mk b) (xC x b) xs (me (ix2 0 b)) (rs (ix2 0 b)) = kDg (qC d mk b) (xC x b) xs ds (me (ix2 0 b)) (rs (ix2 0 b))
    ∧ ∀ r, pDx (gC d ds mk b r) (xC x b r) (pDb (gC d ds mk b)) (pDg (gC d ds mk b) (xC x b) xs (me (ix2 0 b)) (rs (ix2 0 b))) xs (me (ix2 0 b)) (rs (ix2 0 b)) (ga (ix2 0 b)) inv
      = kDx (qC d mk b r) (xC x b r) (kDb (qC d mk b) ds) (kDg (qC d mk b) (xC x b) xs ds (me (ix2 0 b)) (rs (ix2 0 b))) xs ds (me (ix2 0 b)) (rs (ix2 0 b)) (ga (ix2 0 b)) inv :=
  finite_col (n := 150527) (x := xC x b) (d := dC d b) (on mk b) inv_real h

theorem val_10 : k0_pay4 (F := Ideal) (k0_pay5 x) (k0_pay6 d) ds (k0_pay8 me) (k0_pay9 rs) (k0_pay10 ga) (k0_pay13 d mk ds)
      (k0_pay20 (k0_pay6 d) (k0_pay7 mk) ds) (k0_pay23 xs) (ix2 0 b)
    = kDb (qC d mk b) ds := by
  rw [pay4_at, fin_at, sel_dec, db_at, fdb_at]
  split_ifs with h
  · exact (plain_eq x xs d ds mk me rs ga b h).1
  · rfl

theorem val_9 : k0_pay3 (F := Ideal) (k0_pay5 x) (k0_pay6 d) ds (k0_pay8 me) (k0_pay9 rs) (k0_pay10 ga)
      (k0_pay14 x d mk xs ds me rs)
      (k0_pay21 (k0_pay5 x) (k0_pay6 d) (k0_pay7 mk) xs ds (k0_pay8 me) (k0_pay9 rs)) (k0_pay23 xs) (ix2 0 b)
    = kDg (qC d mk b) (xC x b) xs ds (me (ix2 0 b)) (rs (ix2 0 b)) := by
  rw [pay3_at, fin_at, sel_dec, dg_at, fdg_at]
  split_ifs with h
  · exact (plain_eq x xs d ds mk me rs ga b h).2.1
  · rfl

theorem val_8 (r : Fin 150528) : k0_pay2 (F := Ideal) (k0_pay5 x) (k0_pay6 d) ds (k0_pay8 me) (k0_pay9 rs) (k0_pay10 ga)
      (k0_pay18 (k0_pay11 x xs me rs) (k0_pay15 rs ga) (k0_pay16 d mk ds) (k0_pay17 x d mk xs ds me rs))
      (k0_pay22 (k0_pay5 x) (k0_pay6 d) (k0_pay7 mk) xs ds (k0_pay8 me) (k0_pay9 rs) (k0_pay10 ga)) (k0_pay23 xs) (ix2 r b)
    = kDx (qC d mk b r) (xC x b r) (kDb (qC d mk b) ds) (kDg (qC d mk b) (xC x b) xs ds (me (ix2 0 b)) (rs (ix2 0 b))) xs ds (me (ix2 0 b)) (rs (ix2 0 b)) (ga (ix2 0 b)) inv := by
  rw [pay2_at, fin_at, sel_dec, pdx_at, fdx_at]
  split_ifs with h
  · exact (plain_eq x xs d ds mk me rs ga b h).2.2 r
  · rfl

end Ideal

end Cert.ReferenceIdeal.Val
-- ==== Proof.KFin.lean ====
/-
  The kernel's operands as its arguments, and what its two small result arrays hold after the run.
-/
module

public import proofs.«01_k».proof.Proof.IRun
public import Idealize.ShloMosaic.Lib.Pipeline.Value
public import Idealize.ShloMosaic.Lib.Claim

@[expose] public section

set_option maxRecDepth 16384

noncomputable section

namespace Cert.KernelIdeal.Fin

open Cert.KernelIdeal Cert.KernelIdeal.Gen Cert.KernelIdeal.Hand Idealize.ShloMosaic Idealize.ShloMosaic.TcCoe
open Idealize.ShloMosaic.Pipeline (Dat)

variable {F : FTy → Type} [FloatOps F]
variable (m : (ℓ : Loc nD τ sig) → Buf (Elt F) ℓ)

/-! ## The operands, as arguments -/

theorem entry_0 (c : Dev nD) : V m c main_v0 = shapeCast S1 (m ((c : Thread nD τ).loc main_arg1)) shapeCasts_S_S1 := by
  entry_read
  rfl
theorem entry_1 (c : Dev nD) : V m c main_v1 = shapeCast S1 (m ((c : Thread nD τ).loc main_arg3)) shapeCasts_S_S1 := by
  entry_read
  rfl
theorem entry_2 (c : Dev nD) : V m c main_v2 = shapeCast S1x256 (m ((c : Thread nD τ).loc main_arg5)) shapeCasts_S256_S1x256 := by
  entry_read
  rfl
theorem entry_3 (c : Dev nD) : V m c main_v3 = shapeCast S1x256 (m ((c : Thread nD τ).loc main_arg6)) shapeCasts_S256_S1x256 := by
  entry_read
  rfl
theorem entry_4 (c : Dev nD) : V m c main_v4 = shapeCast S1x256 (m ((c : Thread nD τ).loc main_arg7)) shapeCasts_S256_S1x256 := by
  entry_read
  rfl
theorem entry_5 (c : Dev nD) : V m c main_v5 = shapeCast S150528x256 (m ((c : Thread nD τ).loc main_arg0)) shapeCasts_S48x3136x256_S150528x256 := by
  entry_read
  rfl
theorem entry_6 (c : Dev nD) : V m c main_v6 = shapeCast S150528x256 (m ((c : Thread nD τ).loc main_arg2)) shapeCasts_S48x3136x256_S150528x256 := by
  entry_read
  rfl
theorem entry_7 (c : Dev nD) : V m c main_v7 = shapeCast S150528x256 (m ((c : Thread nD τ).loc main_arg4)) shapeCasts_S48x3136x256_S150528x256 := by
  entry_read
  rfl

theorem blk_0 (c : Dev nD) : iblk m c 0 t0_0 = V m c main_v0 :=
  Memref.read_access_unit_zero (Elt F) main_v0 (off := fun a => 0 * main_v0.ty.shape.size a) (funext fun a => Nat.zero_mul _) (fun a => by rw [Nat.zero_mul]; omega) _
theorem blk_1 (c : Dev nD) : iblk m c 1 t0_0 = V m c main_v1 :=
  Memref.read_access_unit_zero (Elt F) main_v1 (off := fun a => 0 * main_v1.ty.shape.size a) (funext fun a => Nat.zero_mul _) (fun a => by rw [Nat.zero_mul]; omega) _
theorem blk_2 (c : Dev nD) : iblk m c 2 t0_0 = V m c main_v2 :=
  Memref.read_access_unit_zero (Elt F) main_v2 (off := fun a => 0 * main_v2.ty.shape.size a) (funext fun a => Nat.zero_mul _) (fun a => by rw [Nat.zero_mul]; omega) _
theorem blk_3 (c : Dev nD) : iblk m c 3 t0_0 = V m c main_v3 :=
  Memref.read_access_unit_zero (Elt F) main_v3 (off := fun a => 0 * main_v3.ty.shape.size a) (funext fun a => Nat.zero_mul _) (fun a => by rw [Nat.zero_mul]; omega) _
theorem blk_4 (c : Dev nD) : iblk m c 4 t0_0 = V m c main_v4 :=
  Memref.read_access_unit_zero (Elt F) main_v4 (off := fun a => 0 * main_v4.ty.shape.size a) (funext fun a => Nat.zero_mul _) (fun a => by rw [Nat.zero_mul]; omega) _

/-! ## The result arrays -/

theorem final_5 (c : Dev nD) : (dats m 0 c).arrAt 5 cfg0.N = rDg m c t0_0 := by
  refine (dats m 0 c).arrAt_eq_of_cover 5 (rDg m c t0_0) (fun t hf => ?_) fun i => ⟨t0_0, flush0_5 t0_0, ?_⟩
  · obtain rfl := fin_N0 t
    show (cfg0.win 5).cut (grid0.coords t0_0) ((dats m 0 c).after 5 t0_0) = _
    rw [after0_5]
    exact (Memref.read_access_unit_zero (Elt F) main_v8_1 (off := fun a => 0 * main_v8_1.ty.shape.size a) (funext fun a => Nat.zero_mul _) (fun a => by rw [Nat.zero_mul]; omega) _).symm
  · show i ∈ ((View.whole main_v8_1).slice (win0_5.rect t0_0)).set
    rw [View.set_slice_whole, Rect.mem_set_unit]
    intro a
    have h := (i a).isLt
    show 0 * main_v8_1.ty.shape.size a ≤ (i a : Nat) ∧ (i a : Nat) < 0 * main_v8_1.ty.shape.size a + main_v8_1.ty.shape.size a
    rw [Nat.zero_mul, Nat.zero_add]
    exact ⟨Nat.zero_le _, h⟩

theorem final_6 (c : Dev nD) : (dats m 0 c).arrAt 6 cfg0.N = rDb m c t0_0 := by
  refine (dats m 0 c).arrAt_eq_of_cover 6 (rDb m c t0_0) (fun t hf => ?_) fun i => ⟨t0_0, flush0_6 t0_0, ?_⟩
  · obtain rfl := fin_N0 t
    show (cfg0.win 6).cut (grid0.coords t0_0) ((dats m 0 c).after 6 t0_0) = _
    rw [after0_6]
    exact (Memref.read_access_unit_zero (Elt F) main_v8_2 (off := fun a => 0 * main_v8_2.ty.shape.size a) (funext fun a => Nat.zero_mul _) (fun a => by rw [Nat.zero_mul]; omega) _).symm
  · show i ∈ ((View.whole main_v8_2).slice (win0_6.rect t0_0)).set
    rw [View.set_slice_whole, Rect.mem_set_unit]
    intro a
    have h := (i a).isLt
    show 0 * main_v8_2.ty.shape.size a ≤ (i a : Nat) ∧ (i a : Nat) < 0 * main_v8_2.ty.shape.size a + main_v8_2.ty.shape.size a
    rw [Nat.zero_mul, Nat.zero_add]
    exact ⟨Nat.zero_le _, h⟩

end Cert.KernelIdeal.Fin

end
-- ==== Proof.RFin.lean ====
/-
  The reference's operands as its arguments, and what its result arrays hold after the run.
-/
module

public import proofs.«01_k».proof.Proof.Gen.ReferenceIdeal.Value
public import Idealize.ShloMosaic.Lib.Pipeline.Value
public import Idealize.ShloMosaic.Lib.Claim

@[expose] public section

set_option maxRecDepth 16384

noncomputable section

namespace Cert.ReferenceIdeal.Fin

open Cert.ReferenceIdeal Cert.ReferenceIdeal.Gen Idealize.ShloMosaic Idealize.ShloMosaic.TcCoe
open Idealize.ShloMosaic.Pipeline (Dat)

variable {F : FTy → Type} [FloatOps F]
variable (m : (ℓ : Loc nD τ sig) → Buf (Elt F) ℓ)

/-! ## The operands, as arguments -/

theorem entry_0 (c : Dev nD) : V m c main_v0 = shapeCast S150528x256 (m ((c : Thread nD τ).loc main_arg0)) shapeCasts_S48x3136x256_S150528x256 := by
  entry_read
  rfl
theorem entry_1 (c : Dev nD) : V m c main_v1 = shapeCast S1 (m ((c : Thread nD τ).loc main_arg1)) shapeCasts_S_S1 := by
  entry_read
  rfl
theorem entry_2 (c : Dev nD) : V m c main_v2 = shapeCast S150528x256 (m ((c : Thread nD τ).loc main_arg2)) shapeCasts_S48x3136x256_S150528x256 := by
  entry_read
  rfl
theorem entry_3 (c : Dev nD) : V m c main_v3 = shapeCast S1 (m ((c : Thread nD τ).loc main_arg3)) shapeCasts_S_S1 := by
  entry_read
  rfl
theorem entry_4 (c : Dev nD) : V m c main_v4 = shapeCast S150528x256 (m ((c : Thread nD τ).loc main_arg4)) shapeCasts_S48x3136x256_S150528x256 := by
  entry_read
  rfl
theorem entry_5 (c : Dev nD) : V m c main_v5 = shapeCast S1x256 (m ((c : Thread nD τ).loc main_arg5)) shapeCasts_S256_S1x256 := by
  entry_read
  rfl
theorem entry_6 (c : Dev nD) : V m c main_v6 = shapeCast S1x256 (m ((c : Thread nD τ).loc main_arg6)) shapeCasts_S256_S1x256 := by
  entry_read
  rfl
theorem entry_7 (c : Dev nD) : V m c main_v7 = shapeCast S1x256 (m ((c : Thread nD τ).loc main_arg7)) shapeCasts_S256_S1x256 := by
  entry_read
  rfl

theorem blk_0 (c : Dev nD) : iblk m c 0 t0_0 = V m c main_v0 :=
  Memref.read_access_unit_zero (Elt F) main_v0 (off := fun a => 0 * main_v0.ty.shape.size a) (funext fun a => Nat.zero_mul _) (fun a => by rw [Nat.zero_mul]; omega) _
theorem blk_1 (c : Dev nD) : iblk m c 1 t0_0 = V m c main_v1 :=
  Memref.read_access_unit_zero (Elt F) main_v1 (off := fun a => 0 * main_v1.ty.shape.size a) (funext fun a => Nat.zero_mul _) (fun a => by rw [Nat.zero_mul]; omega) _
theorem blk_2 (c : Dev nD) : iblk m c 2 t0_0 = V m c main_v2 :=
  Memref.read_access_unit_zero (Elt F) main_v2 (off := fun a => 0 * main_v2.ty.shape.size a) (funext fun a => Nat.zero_mul _) (fun a => by rw [Nat.zero_mul]; omega) _
theorem blk_3 (c : Dev nD) : iblk m c 3 t0_0 = V m c main_v3 :=
  Memref.read_access_unit_zero (Elt F) main_v3 (off := fun a => 0 * main_v3.ty.shape.size a) (funext fun a => Nat.zero_mul _) (fun a => by rw [Nat.zero_mul]; omega) _
theorem blk_4 (c : Dev nD) : iblk m c 4 t0_0 = V m c main_v4 :=
  Memref.read_access_unit_zero (Elt F) main_v4 (off := fun a => 0 * main_v4.ty.shape.size a) (funext fun a => Nat.zero_mul _) (fun a => by rw [Nat.zero_mul]; omega) _
theorem blk_5 (c : Dev nD) : iblk m c 5 t0_0 = V m c main_v5 :=
  Memref.read_access_unit_zero (Elt F) main_v5 (off := fun a => 0 * main_v5.ty.shape.size a) (funext fun a => Nat.zero_mul _) (fun a => by rw [Nat.zero_mul]; omega) _
theorem blk_6 (c : Dev nD) : iblk m c 6 t0_0 = V m c main_v6 :=
  Memref.read_access_unit_zero (Elt F) main_v6 (off := fun a => 0 * main_v6.ty.shape.size a) (funext fun a => Nat.zero_mul _) (fun a => by rw [Nat.zero_mul]; omega) _
theorem blk_7 (c : Dev nD) : iblk m c 7 t0_0 = V m c main_v7 :=
  Memref.read_access_unit_zero (Elt F) main_v7 (off := fun a => 0 * main_v7.ty.shape.size a) (funext fun a => Nat.zero_mul _) (fun a => by rw [Nat.zero_mul]; omega) _

/-! ## The result arrays -/

/-- What the body computed for result 0. -/
abbrev res8 (c : Dev nD) := out0_A_8 c (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) (ms0_9 t0_0) (hs0_9 t0_0) (ms0_10 t0_0) (hs0_10 t0_0) (iblk m c 0 t0_0) (iblk m c 1 t0_0) (iblk m c 2 t0_0) (iblk m c 3 t0_0) (iblk m c 4 t0_0) (iblk m c 5 t0_0) (iblk m c 6 t0_0) (iblk m c 7 t0_0)

theorem final_8 (c : Dev nD) : (dats m 0 c).arrAt 8 cfg0.N = res8 m c := by
  refine (dats m 0 c).arrAt_eq_of_cover 8 (res8 m c) (fun t hf => ?_) fun i => ⟨t0_0, flush0_8 t0_0, ?_⟩
  · obtain rfl := fin_N0 t
    rw [Value.flushed8_A]
    exact (Memref.read_access_unit_zero (Elt F) main_v8_0 (off := fun a => 0 * main_v8_0.ty.shape.size a) (funext fun a => Nat.zero_mul _) (fun a => by rw [Nat.zero_mul]; omega) _).symm
  · show i ∈ ((View.whole main_v8_0).slice (win0_8.rect t0_0)).set
    rw [View.set_slice_whole, Rect.mem_set_unit]
    intro a
    have h := (i a).isLt
    show 0 * main_v8_0.ty.shape.size a ≤ (i a : Nat) ∧ (i a : Nat) < 0 * main_v8_0.ty.shape.size a + main_v8_0.ty.shape.size a
    rw [Nat.zero_mul, Nat.zero_add]
    exact ⟨Nat.zero_le _, h⟩

/-- What the body computed for result 1. -/
abbrev res9 (c : Dev nD) := out0_A_9 c (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) (ms0_9 t0_0) (hs0_9 t0_0) (ms0_10 t0_0) (hs0_10 t0_0) (iblk m c 0 t0_0) (iblk m c 1 t0_0) (iblk m c 2 t0_0) (iblk m c 3 t0_0) (iblk m c 4 t0_0) (iblk m c 5 t0_0) (iblk m c 6 t0_0) (iblk m c 7 t0_0)

theorem final_9 (c : Dev nD) : (dats m 0 c).arrAt 9 cfg0.N = res9 m c := by
  refine (dats m 0 c).arrAt_eq_of_cover 9 (res9 m c) (fun t hf => ?_) fun i => ⟨t0_0, flush0_9 t0_0, ?_⟩
  · obtain rfl := fin_N0 t
    rw [Value.flushed9_A]
    exact (Memref.read_access_unit_zero (Elt F) main_v8_1 (off := fun a => 0 * main_v8_1.ty.shape.size a) (funext fun a => Nat.zero_mul _) (fun a => by rw [Nat.zero_mul]; omega) _).symm
  · show i ∈ ((View.whole main_v8_1).slice (win0_9.rect t0_0)).set
    rw [View.set_slice_whole, Rect.mem_set_unit]
    intro a
    have h := (i a).isLt
    show 0 * main_v8_1.ty.shape.size a ≤ (i a : Nat) ∧ (i a : Nat) < 0 * main_v8_1.ty.shape.size a + main_v8_1.ty.shape.size a
    rw [Nat.zero_mul, Nat.zero_add]
    exact ⟨Nat.zero_le _, h⟩

/-- What the body computed for result 2. -/
abbrev res10 (c : Dev nD) := out0_A_10 c (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) (ms0_9 t0_0) (hs0_9 t0_0) (ms0_10 t0_0) (hs0_10 t0_0) (iblk m c 0 t0_0) (iblk m c 1 t0_0) (iblk m c 2 t0_0) (iblk m c 3 t0_0) (iblk m c 4 t0_0) (iblk m c 5 t0_0) (iblk m c 6 t0_0) (iblk m c 7 t0_0)

theorem final_10 (c : Dev nD) : (dats m 0 c).arrAt 10 cfg0.N = res10 m c := by
  refine (dats m 0 c).arrAt_eq_of_cover 10 (res10 m c) (fun t hf => ?_) fun i => ⟨t0_0, flush0_10 t0_0, ?_⟩
  · obtain rfl := fin_N0 t
    rw [Value.flushed10_A]
    exact (Memref.read_access_unit_zero (Elt F) main_v8_2 (off := fun a => 0 * main_v8_2.ty.shape.size a) (funext fun a => Nat.zero_mul _) (fun a => by rw [Nat.zero_mul]; omega) _).symm
  · show i ∈ ((View.whole main_v8_2).slice (win0_10.rect t0_0)).set
    rw [View.set_slice_whole, Rect.mem_set_unit]
    intro a
    have h := (i a).isLt
    show 0 * main_v8_2.ty.shape.size a ≤ (i a : Nat) ∧ (i a : Nat) < 0 * main_v8_2.ty.shape.size a + main_v8_2.ty.shape.size a
    rw [Nat.zero_mul, Nat.zero_add]
    exact ⟨Nat.zero_le _, h⟩

end Cert.ReferenceIdeal.Fin

end
-- ==== Proof.AlgClaim.lean ====
/-
  The kernel's three results are the reference's: element by element both are the factored formula of the element's
  column, on the same operands.
-/
module

public import proofs.«01_k».proof.Defs
public import proofs.«01_k».proof.Proof.KVal
public import proofs.«01_k».proof.Proof.RVal
public import proofs.«01_k».proof.Proof.KFin
public import proofs.«01_k».proof.Proof.RFin

@[expose] public section

set_option maxRecDepth 16384

noncomputable section

namespace Cert.AlgClaim

open Idealize.ShloMosaic Idealize.ShloMosaic.TcCoe Idealize.SL.Sem Cert.Alg

/-- The kernel's mask keeps a gradient where the mask is not zero. -/
theorem gmE_eq (g : EReal) (k : BitVec 8) : Cert.KernelIdeal.Hand.gmE (F := Ideal) g k = if k ≠ 0#8 then g else 0 := by
  unfold Cert.KernelIdeal.Hand.gmE
  pointwise [Cert.KernelIdeal.Gen.k0_pay1]
  rw [show Ideal.ofBits .fp8e5m2 0#8 = 0 from Ideal.ofBits_zero _]
  exact Cert.ReferenceIdeal.Val.sel_ne _ _ _

theorem q_eq (d : Cert.KernelIdeal.S150528x256.Idx → EReal) (k : Cert.KernelIdeal.S150528x256.Idx → BitVec 8) (b : Fin 256) :
    Cert.KernelIdeal.Val.qC d k b = Cert.ReferenceIdeal.Val.qC d k b := funext fun _ => gmE_eq _ _

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two programs are started on the same arguments. -/
def Same : Prop := ∀ c : Dev Cert.KernelIdeal.nD,
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)

/-- The operands both programs read, as arrays. -/
abbrev X (c : Dev Cert.KernelIdeal.nD) : Cert.KernelIdeal.S150528x256.Idx → EReal := Cert.KernelIdeal.Hand.V m c Cert.KernelIdeal.main_v5
abbrev D (c : Dev Cert.KernelIdeal.nD) : Cert.KernelIdeal.S150528x256.Idx → EReal := Cert.KernelIdeal.Hand.V m c Cert.KernelIdeal.main_v6
abbrev M (c : Dev Cert.KernelIdeal.nD) : Cert.KernelIdeal.S150528x256.Idx → BitVec 8 := Cert.KernelIdeal.Hand.V m c Cert.KernelIdeal.main_v7
abbrev Xs (c : Dev Cert.KernelIdeal.nD) : Cert.KernelIdeal.S1.Idx → EReal := Cert.KernelIdeal.Hand.V m c Cert.KernelIdeal.main_v0
abbrev Ds (c : Dev Cert.KernelIdeal.nD) : Cert.KernelIdeal.S1.Idx → EReal := Cert.KernelIdeal.Hand.V m c Cert.KernelIdeal.main_v1
abbrev Me (c : Dev Cert.KernelIdeal.nD) : Cert.KernelIdeal.S1x256.Idx → EReal := Cert.KernelIdeal.Hand.V m c Cert.KernelIdeal.main_v2
abbrev Rs (c : Dev Cert.KernelIdeal.nD) : Cert.KernelIdeal.S1x256.Idx → EReal := Cert.KernelIdeal.Hand.V m c Cert.KernelIdeal.main_v3
abbrev Ga (c : Dev Cert.KernelIdeal.nD) : Cert.KernelIdeal.S1x256.Idx → EReal := Cert.KernelIdeal.Hand.V m c Cert.KernelIdeal.main_v4

section Operands
variable (h : Same m m') (c : Dev Cert.KernelIdeal.nD)
include h

theorem rX : Cert.ReferenceIdeal.Gen.iblk m' c 0 Cert.ReferenceIdeal.Gen.t0_0 = X m c :=
  (Cert.ReferenceIdeal.Fin.blk_0 m' c).trans ((Cert.ReferenceIdeal.Fin.entry_0 m' c).trans
    ((congrArg (fun f => shapeCast Cert.ReferenceIdeal.S150528x256 f Cert.ReferenceIdeal.Gen.shapeCasts_S48x3136x256_S150528x256) (h c).1).trans (Cert.KernelIdeal.Fin.entry_5 m c).symm))
theorem rXs : Cert.ReferenceIdeal.Gen.iblk m' c 1 Cert.ReferenceIdeal.Gen.t0_0 = Xs m c :=
  (Cert.ReferenceIdeal.Fin.blk_1 m' c).trans ((Cert.ReferenceIdeal.Fin.entry_1 m' c).trans
    ((congrArg (fun f => shapeCast Cert.ReferenceIdeal.S1 f Cert.ReferenceIdeal.Gen.shapeCasts_S_S1) (h c).2.1).trans (Cert.KernelIdeal.Fin.entry_0 m c).symm))
theorem rD : Cert.ReferenceIdeal.Gen.iblk m' c 2 Cert.ReferenceIdeal.Gen.t0_0 = D m c :=
  (Cert.ReferenceIdeal.Fin.blk_2 m' c).trans ((Cert.ReferenceIdeal.Fin.entry_2 m' c).trans
    ((congrArg (fun f => shapeCast Cert.ReferenceIdeal.S150528x256 f Cert.ReferenceIdeal.Gen.shapeCasts_S48x3136x256_S150528x256) (h c).2.2.1).trans (Cert.KernelIdeal.Fin.entry_6 m c).symm))
theorem rDs : Cert.ReferenceIdeal.Gen.iblk m' c 3 Cert.ReferenceIdeal.Gen.t0_0 = Ds m c :=
  (Cert.ReferenceIdeal.Fin.blk_3 m' c).trans ((Cert.ReferenceIdeal.Fin.entry_3 m' c).trans
    ((congrArg (fun f => shapeCast Cert.ReferenceIdeal.S1 f Cert.ReferenceIdeal.Gen.shapeCasts_S_S1) (h c).2.2.2.1).trans (Cert.KernelIdeal.Fin.entry_1 m c).symm))
theorem rM : Cert.ReferenceIdeal.Gen.iblk m' c 4 Cert.ReferenceIdeal.Gen.t0_0 = M m c :=
  (Cert.ReferenceIdeal.Fin.blk_4 m' c).trans ((Cert.ReferenceIdeal.Fin.entry_4 m' c).trans
    ((congrArg (fun f => shapeCast Cert.ReferenceIdeal.S150528x256 f Cert.ReferenceIdeal.Gen.shapeCasts_S48x3136x256_S150528x256) (h c).2.2.2.2.1).trans (Cert.KernelIdeal.Fin.entry_7 m c).symm))
theorem rMe : Cert.ReferenceIdeal.Gen.iblk m' c 5 Cert.ReferenceIdeal.Gen.t0_0 = Me m c :=
  (Cert.ReferenceIdeal.Fin.blk_5 m' c).trans ((Cert.ReferenceIdeal.Fin.entry_5 m' c).trans
    ((congrArg (fun f => shapeCast Cert.ReferenceIdeal.S1x256 f Cert.ReferenceIdeal.Gen.shapeCasts_S256_S1x256) (h c).2.2.2.2.2.1).trans (Cert.KernelIdeal.Fin.entry_2 m c).symm))
theorem rRs : Cert.ReferenceIdeal.Gen.iblk m' c 6 Cert.ReferenceIdeal.Gen.t0_0 = Rs m c :=
  (Cert.ReferenceIdeal.Fin.blk_6 m' c).trans ((Cert.ReferenceIdeal.Fin.entry_6 m' c).trans
    ((congrArg (fun f => shapeCast Cert.ReferenceIdeal.S1x256 f Cert.ReferenceIdeal.Gen.shapeCasts_S256_S1x256) (h c).2.2.2.2.2.2.1).trans (Cert.KernelIdeal.Fin.entry_3 m c).symm))
theorem rGa : Cert.ReferenceIdeal.Gen.iblk m' c 7 Cert.ReferenceIdeal.Gen.t0_0 = Ga m c :=
  (Cert.ReferenceIdeal.Fin.blk_7 m' c).trans ((Cert.ReferenceIdeal.Fin.entry_7 m' c).trans
    ((congrArg (fun f => shapeCast Cert.ReferenceIdeal.S1x256 f Cert.ReferenceIdeal.Gen.shapeCasts_S256_S1x256) (h c).2.2.2.2.2.2.2).trans (Cert.KernelIdeal.Fin.entry_4 m c).symm))

/-- The reference's `dbeta` is the kernel's. -/
theorem db_eq : Cert.ReferenceIdeal.Fin.res10 m' c = Cert.KernelIdeal.Hand.rDb m c Cert.KernelIdeal.Gen.t0_0 := by
  unfold Cert.ReferenceIdeal.Fin.res10
  rw [Cert.ReferenceIdeal.Val.out_10, rX m m' h c, rXs m m' h c, rD m m' h c, rDs m m' h c, rM m m' h c, rMe m m' h c, rRs m m' h c, rGa m m' h c]
  unfold Cert.KernelIdeal.Hand.rDb
  rw [show Cert.KernelIdeal.Hand.bXd m c Cert.KernelIdeal.Gen.t0_0 = Ds m c from Cert.KernelIdeal.Fin.blk_1 m c]
  funext i
  obtain ⟨z, b, rfl⟩ : ∃ (z : Fin 1) (b : Fin 256), i = ix2 z b := ⟨_, _, eq_ix2 i⟩
  obtain rfl : z = 0 := Subsingleton.elim _ _
  refine (Cert.ReferenceIdeal.Val.val_10 (X m c) (Xs m c (ix1 0)) (D m c) (Ds m c (ix1 0)) (M m c) (Me m c) (Rs m c) (Ga m c) b).trans ?_
  rw [← q_eq]
  exact (Cert.KernelIdeal.Val.db_at (D m c) (M m c) (Ds m c (ix1 0)) b).symm

/-- The reference's `dgamma` is the kernel's. -/
theorem dg_eq : Cert.ReferenceIdeal.Fin.res9 m' c = Cert.KernelIdeal.Hand.rDg m c Cert.KernelIdeal.Gen.t0_0 := by
  unfold Cert.ReferenceIdeal.Fin.res9
  rw [Cert.ReferenceIdeal.Val.out_9, rX m m' h c, rXs m m' h c, rD m m' h c, rDs m m' h c, rM m m' h c, rMe m m' h c, rRs m m' h c, rGa m m' h c]
  unfold Cert.KernelIdeal.Hand.rDg
  rw [show Cert.KernelIdeal.Hand.bXd m c Cert.KernelIdeal.Gen.t0_0 = Ds m c from Cert.KernelIdeal.Fin.blk_1 m c,
    show Cert.KernelIdeal.Hand.bXs m c Cert.KernelIdeal.Gen.t0_0 = Xs m c from Cert.KernelIdeal.Fin.blk_0 m c,
    show Cert.KernelIdeal.Hand.bMe m c Cert.KernelIdeal.Gen.t0_0 = Me m c from Cert.KernelIdeal.Fin.blk_2 m c,
    show Cert.KernelIdeal.Hand.bRs m c Cert.KernelIdeal.Gen.t0_0 = Rs m c from Cert.KernelIdeal.Fin.blk_3 m c]
  funext i
  obtain ⟨z, b, rfl⟩ : ∃ (z : Fin 1) (b : Fin 256), i = ix2 z b := ⟨_, _, eq_ix2 i⟩
  obtain rfl : z = 0 := Subsingleton.elim _ _
  refine (Cert.ReferenceIdeal.Val.val_9 (X m c) (Xs m c (ix1 0)) (D m c) (Ds m c (ix1 0)) (M m c) (Me m c) (Rs m c) (Ga m c) b).trans ?_
  rw [← q_eq]
  exact (Cert.KernelIdeal.Val.dg_at (X m c) (D m c) (M m c) (Xs m c (ix1 0)) (Ds m c (ix1 0)) (Me m c) (Rs m c) b).symm

/-- The reference's `dx` is the kernel's. -/
theorem dx_eq : Cert.ReferenceIdeal.Fin.res8 m' c = Cert.KernelIdeal.Hand.rDx m c Cert.KernelIdeal.Gen.t0_0 := by
  unfold Cert.ReferenceIdeal.Fin.res8
  rw [Cert.ReferenceIdeal.Val.out_8, rX m m' h c, rXs m m' h c, rD m m' h c, rDs m m' h c, rM m m' h c, rMe m m' h c, rRs m m' h c, rGa m m' h c]
  unfold Cert.KernelIdeal.Hand.rDx
  rw [show Cert.KernelIdeal.Hand.bXd m c Cert.KernelIdeal.Gen.t0_0 = Ds m c from Cert.KernelIdeal.Fin.blk_1 m c,
    show Cert.KernelIdeal.Hand.bXs m c Cert.KernelIdeal.Gen.t0_0 = Xs m c from Cert.KernelIdeal.Fin.blk_0 m c,
    show Cert.KernelIdeal.Hand.bMe m c Cert.KernelIdeal.Gen.t0_0 = Me m c from Cert.KernelIdeal.Fin.blk_2 m c,
    show Cert.KernelIdeal.Hand.bRs m c Cert.KernelIdeal.Gen.t0_0 = Rs m c from Cert.KernelIdeal.Fin.blk_3 m c,
    show Cert.KernelIdeal.Hand.bGa m c Cert.KernelIdeal.Gen.t0_0 = Ga m c from Cert.KernelIdeal.Fin.blk_4 m c]
  funext i
  obtain ⟨r, b, rfl⟩ : ∃ (r : Fin 150528) (b : Fin 256), i = ix2 r b := ⟨_, _, eq_ix2 i⟩
  refine (Cert.ReferenceIdeal.Val.val_8 (X m c) (Xs m c (ix1 0)) (D m c) (Ds m c (ix1 0)) (M m c) (Me m c) (Rs m c) (Ga m c) b r).trans ?_
  rw [← q_eq]
  exact (Cert.KernelIdeal.Val.dx_at (X m c) (D m c) (M m c) (Xs m c (ix1 0)) (Ds m c (ix1 0)) (Me m c) (Rs m c) (Ga m c) r b).symm

end Operands

theorem algebraic : Cert.algebraic_KernelIdeal_ReferenceIdeal := by
  intro m g m' g' _ h
  refine ⟨fun c => Cert.KernelIdeal.Hand.rDx m c Cert.KernelIdeal.Gen.t0_0, fun c => Cert.KernelIdeal.Hand.rDg m c Cert.KernelIdeal.Gen.t0_0,
    fun c => Cert.KernelIdeal.Hand.rDb m c Cert.KernelIdeal.Gen.t0_0, ?_, ?_⟩
  · exact (θ_run _ _ _).mono (fun r H c => ⟨(H c).1, (H c).2.1.trans (Cert.KernelIdeal.Fin.final_5 m c), (H c).2.2.1.trans (Cert.KernelIdeal.Fin.final_6 m c), (H c).2.2.2⟩)
      (Cert.KernelIdeal.Hand.run_values m g)
  · exact (θ_run _ _ _).mono (fun r H c => ⟨(H c).1.trans ((Cert.ReferenceIdeal.Fin.final_8 m' c).trans (dx_eq m m' h c)),
      (H c).2.1.trans ((Cert.ReferenceIdeal.Fin.final_9 m' c).trans (dg_eq m m' h c)),
      (H c).2.2.1.trans ((Cert.ReferenceIdeal.Fin.final_10 m' c).trans (db_eq m m' h c)), (H c).2.2.2⟩)
      (Cert.ReferenceIdeal.Value.run_blocks m' g')

end Cert.AlgClaim

end
-- ==== Proof.lean ====
module

public import proofs.«01_k».proof.Defs
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal.Frame
public import proofs.«01_k».proof.Proof.Gen.ReferenceIdeal.Value
public import proofs.«01_k».proof.Proof.KRun
public import proofs.«01_k».proof.Proof.IRun
public import proofs.«01_k».proof.Proof.AlgClaim
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    fun m g _ => Cert.Kernel.Hand.frame m g,
    fun m g _ => Cert.KernelIdeal.Hand.frame m g,
    fun m g _ => Cert.ReferenceIdeal.Gen.frame m g,
    trivial,
    Cert.AlgClaim.algebraic⟩

end Cert.Proof

end
